-- ==== Defs.lean ====
def Pre_Kernel [hPre_tables : Cert.Pre_tables.Facts] (m : (ℓ : Loc Cert.Kernel.nD Cert.Kernel.τ Cert.Kernel.sig) → Buf (Elt Bits) ℓ) : Prop :=
  ∀ c : Dev Cert.Kernel.nD,
    (Cert.Pre_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_tables : Cert.Pre_tables.Facts] (m : (ℓ : Loc Cert.KernelIdeal.nD Cert.KernelIdeal.τ Cert.KernelIdeal.sig) → Buf (Elt Ideal) ℓ) : Prop :=
  ∀ c : Dev Cert.KernelIdeal.nD,
    (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_prepared [hPre_prepared : Cert.Pre_prepared.Facts] (m : (ℓ : Loc Cert.KernelIdeal.nD Cert.KernelIdeal.τ Cert.KernelIdeal.sig) → Buf (Elt Ideal) ℓ) : Prop :=
  ∀ c : Dev Cert.KernelIdeal.nD,
    (Cert.Pre_prepared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_prepared [hPre_prepared : Cert.Pre_prepared.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_prepared.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Premix [hPre_tiles : Cert.Pre_tiles.Facts] (m : (ℓ : Loc Cert.Premix.nD Cert.Premix.τ Cert.Premix.sig) → Buf (Elt Bits) ℓ) : Prop :=
  ∀ c : Dev Cert.Premix.nD,
    (Cert.Pre_tiles.fn (F := Bits) (m ((c.tc : Thread Cert.Premix.nD Cert.Premix.τ).loc Cert.Premix.main_arg0)) (m ((c.tc : Thread Cert.Premix.nD Cert.Premix.τ).loc Cert.Premix.main_arg1)) (m ((c.tc : Thread Cert.Premix.nD Cert.Premix.τ).loc Cert.Premix.main_arg2)) (m ((c.tc : Thread Cert.Premix.nD Cert.Premix.τ).loc Cert.Premix.main_arg3)) (m ((c.tc : Thread Cert.Premix.nD Cert.Premix.τ).loc Cert.Premix.main_arg4)) (m ((c.tc : Thread Cert.Premix.nD Cert.Premix.τ).loc Cert.Premix.main_arg5)) (m ((c.tc : Thread Cert.Premix.nD Cert.Premix.τ).loc Cert.Premix.main_arg6)) (m ((c.tc : Thread Cert.Premix.nD Cert.Premix.τ).loc Cert.Premix.main_arg7)) (m ((c.tc : Thread Cert.Premix.nD Cert.Premix.τ).loc Cert.Premix.main_arg8)) (m ((c.tc : Thread Cert.Premix.nD Cert.Premix.τ).loc Cert.Premix.main_arg9)) (m ((c.tc : Thread Cert.Premix.nD Cert.Premix.τ).loc Cert.Premix.main_arg10)) (m ((c.tc : Thread Cert.Premix.nD Cert.Premix.τ).loc Cert.Premix.main_arg11)) (m ((c.tc : Thread Cert.Premix.nD Cert.Premix.τ).loc Cert.Premix.main_arg12))) = (fun _ => 1#1)

def Pre_PremixIdeal [hPre_tiles : Cert.Pre_tiles.Facts] (m : (ℓ : Loc Cert.PremixIdeal.nD Cert.PremixIdeal.τ Cert.PremixIdeal.sig) → Buf (Elt Ideal) ℓ) : Prop :=
  ∀ c : Dev Cert.PremixIdeal.nD,
    (Cert.Pre_tiles.fn (F := Ideal) (m ((c.tc : Thread Cert.PremixIdeal.nD Cert.PremixIdeal.τ).loc Cert.PremixIdeal.main_arg0)) (m ((c.tc : Thread Cert.PremixIdeal.nD Cert.PremixIdeal.τ).loc Cert.PremixIdeal.main_arg1)) (m ((c.tc : Thread Cert.PremixIdeal.nD Cert.PremixIdeal.τ).loc Cert.PremixIdeal.main_arg2)) (m ((c.tc : Thread Cert.PremixIdeal.nD Cert.PremixIdeal.τ).loc Cert.PremixIdeal.main_arg3)) (m ((c.tc : Thread Cert.PremixIdeal.nD Cert.PremixIdeal.τ).loc Cert.PremixIdeal.main_arg4)) (m ((c.tc : Thread Cert.PremixIdeal.nD Cert.PremixIdeal.τ).loc Cert.PremixIdeal.main_arg5)) (m ((c.tc : Thread Cert.PremixIdeal.nD Cert.PremixIdeal.τ).loc Cert.PremixIdeal.main_arg6)) (m ((c.tc : Thread Cert.PremixIdeal.nD Cert.PremixIdeal.τ).loc Cert.PremixIdeal.main_arg7)) (m ((c.tc : Thread Cert.PremixIdeal.nD Cert.PremixIdeal.τ).loc Cert.PremixIdeal.main_arg8)) (m ((c.tc : Thread Cert.PremixIdeal.nD Cert.PremixIdeal.τ).loc Cert.PremixIdeal.main_arg9)) (m ((c.tc : Thread Cert.PremixIdeal.nD Cert.PremixIdeal.τ).loc Cert.PremixIdeal.main_arg10)) (m ((c.tc : Thread Cert.PremixIdeal.nD Cert.PremixIdeal.τ).loc Cert.PremixIdeal.main_arg11)) (m ((c.tc : Thread Cert.PremixIdeal.nD Cert.PremixIdeal.τ).loc Cert.PremixIdeal.main_arg12))) = (fun _ => 1#1)

def Pre_ProjectionsIdeal (m : (ℓ : Loc Cert.ProjectionsIdeal.nD Cert.ProjectionsIdeal.τ Cert.ProjectionsIdeal.sig) → Buf (Elt Ideal) ℓ) : Prop :=
  True

def Pre_ProjectionsIdeal_tiles [hPre_tiles : Cert.Pre_tiles.Facts] (m : (ℓ : Loc Cert.ProjectionsIdeal.nD Cert.ProjectionsIdeal.τ Cert.ProjectionsIdeal.sig) → Buf (Elt Ideal) ℓ) : Prop :=
  ∀ c : Dev Cert.ProjectionsIdeal.nD,
    (Cert.Pre_tiles.fn (F := Ideal) (m ((c.tc : Thread Cert.ProjectionsIdeal.nD Cert.ProjectionsIdeal.τ).loc Cert.ProjectionsIdeal.main_arg0)) (m ((c.tc : Thread Cert.ProjectionsIdeal.nD Cert.ProjectionsIdeal.τ).loc Cert.ProjectionsIdeal.main_arg1)) (m ((c.tc : Thread Cert.ProjectionsIdeal.nD Cert.ProjectionsIdeal.τ).loc Cert.ProjectionsIdeal.main_arg2)) (m ((c.tc : Thread Cert.ProjectionsIdeal.nD Cert.ProjectionsIdeal.τ).loc Cert.ProjectionsIdeal.main_arg3)) (m ((c.tc : Thread Cert.ProjectionsIdeal.nD Cert.ProjectionsIdeal.τ).loc Cert.ProjectionsIdeal.main_arg4)) (m ((c.tc : Thread Cert.ProjectionsIdeal.nD Cert.ProjectionsIdeal.τ).loc Cert.ProjectionsIdeal.main_arg5)) (m ((c.tc : Thread Cert.ProjectionsIdeal.nD Cert.ProjectionsIdeal.τ).loc Cert.ProjectionsIdeal.main_arg6)) (m ((c.tc : Thread Cert.ProjectionsIdeal.nD Cert.ProjectionsIdeal.τ).loc Cert.ProjectionsIdeal.main_arg7)) (m ((c.tc : Thread Cert.ProjectionsIdeal.nD Cert.ProjectionsIdeal.τ).loc Cert.ProjectionsIdeal.main_arg8)) (m ((c.tc : Thread Cert.ProjectionsIdeal.nD Cert.ProjectionsIdeal.τ).loc Cert.ProjectionsIdeal.main_arg9)) (m ((c.tc : Thread Cert.ProjectionsIdeal.nD Cert.ProjectionsIdeal.τ).loc Cert.ProjectionsIdeal.main_arg10)) (m ((c.tc : Thread Cert.ProjectionsIdeal.nD Cert.ProjectionsIdeal.τ).loc Cert.ProjectionsIdeal.main_arg11)) (m ((c.tc : Thread Cert.ProjectionsIdeal.nD Cert.ProjectionsIdeal.τ).loc Cert.ProjectionsIdeal.main_arg12))) = (fun _ => 1#1)

def Pre_Postmix [hPre_moderate : Cert.Pre_moderate.Facts] (m : (ℓ : Loc Cert.Postmix.nD Cert.Postmix.τ Cert.Postmix.sig) → Buf (Elt Bits) ℓ) : Prop :=
  ∀ c : Dev Cert.Postmix.nD,
    (Cert.Pre_moderate.fn (F := Bits) (m ((c.tc : Thread Cert.Postmix.nD Cert.Postmix.τ).loc Cert.Postmix.main_arg0)) (m ((c.tc : Thread Cert.Postmix.nD Cert.Postmix.τ).loc Cert.Postmix.main_arg1)) (m ((c.tc : Thread Cert.Postmix.nD Cert.Postmix.τ).loc Cert.Postmix.main_arg2)) (m ((c.tc : Thread Cert.Postmix.nD Cert.Postmix.τ).loc Cert.Postmix.main_arg3)) (m ((c.tc : Thread Cert.Postmix.nD Cert.Postmix.τ).loc Cert.Postmix.main_arg4)) (m ((c.tc : Thread Cert.Postmix.nD Cert.Postmix.τ).loc Cert.Postmix.main_arg5)) (m ((c.tc : Thread Cert.Postmix.nD Cert.Postmix.τ).loc Cert.Postmix.main_arg6)) (m ((c.tc : Thread Cert.Postmix.nD Cert.Postmix.τ).loc Cert.Postmix.main_arg7)) (m ((c.tc : Thread Cert.Postmix.nD Cert.Postmix.τ).loc Cert.Postmix.main_arg8)) (m ((c.tc : Thread Cert.Postmix.nD Cert.Postmix.τ).loc Cert.Postmix.main_arg9)) (m ((c.tc : Thread Cert.Postmix.nD Cert.Postmix.τ).loc Cert.Postmix.main_arg10)) (m ((c.tc : Thread Cert.Postmix.nD Cert.Postmix.τ).loc Cert.Postmix.main_arg11)) (m ((c.tc : Thread Cert.Postmix.nD Cert.Postmix.τ).loc Cert.Postmix.main_arg12))) = (fun _ => 1#1)

def Pre_PostmixIdeal [hPre_moderate : Cert.Pre_moderate.Facts] (m : (ℓ : Loc Cert.PostmixIdeal.nD Cert.PostmixIdeal.τ Cert.PostmixIdeal.sig) → Buf (Elt Ideal) ℓ) : Prop :=
  ∀ c : Dev Cert.PostmixIdeal.nD,
    (Cert.Pre_moderate.fn (F := Ideal) (m ((c.tc : Thread Cert.PostmixIdeal.nD Cert.PostmixIdeal.τ).loc Cert.PostmixIdeal.main_arg0)) (m ((c.tc : Thread Cert.PostmixIdeal.nD Cert.PostmixIdeal.τ).loc Cert.PostmixIdeal.main_arg1)) (m ((c.tc : Thread Cert.PostmixIdeal.nD Cert.PostmixIdeal.τ).loc Cert.PostmixIdeal.main_arg2)) (m ((c.tc : Thread Cert.PostmixIdeal.nD Cert.PostmixIdeal.τ).loc Cert.PostmixIdeal.main_arg3)) (m ((c.tc : Thread Cert.PostmixIdeal.nD Cert.PostmixIdeal.τ).loc Cert.PostmixIdeal.main_arg4)) (m ((c.tc : Thread Cert.PostmixIdeal.nD Cert.PostmixIdeal.τ).loc Cert.PostmixIdeal.main_arg5)) (m ((c.tc : Thread Cert.PostmixIdeal.nD Cert.PostmixIdeal.τ).loc Cert.PostmixIdeal.main_arg6)) (m ((c.tc : Thread Cert.PostmixIdeal.nD Cert.PostmixIdeal.τ).loc Cert.PostmixIdeal.main_arg7)) (m ((c.tc : Thread Cert.PostmixIdeal.nD Cert.PostmixIdeal.τ).loc Cert.PostmixIdeal.main_arg8)) (m ((c.tc : Thread Cert.PostmixIdeal.nD Cert.PostmixIdeal.τ).loc Cert.PostmixIdeal.main_arg9)) (m ((c.tc : Thread Cert.PostmixIdeal.nD Cert.PostmixIdeal.τ).loc Cert.PostmixIdeal.main_arg10)) (m ((c.tc : Thread Cert.PostmixIdeal.nD Cert.PostmixIdeal.τ).loc Cert.PostmixIdeal.main_arg11)) (m ((c.tc : Thread Cert.PostmixIdeal.nD Cert.PostmixIdeal.τ).loc Cert.PostmixIdeal.main_arg12))) = (fun _ => 1#1)

def Pre_MergeIdeal (m : (ℓ : Loc Cert.MergeIdeal.nD Cert.MergeIdeal.τ Cert.MergeIdeal.sig) → Buf (Elt Ideal) ℓ) : Prop :=
  True

def Pre_MergeIdeal_moderate [hPre_moderate : Cert.Pre_moderate.Facts] (m : (ℓ : Loc Cert.MergeIdeal.nD Cert.MergeIdeal.τ Cert.MergeIdeal.sig) → Buf (Elt Ideal) ℓ) : Prop :=
  ∀ c : Dev Cert.MergeIdeal.nD,
    (Cert.Pre_moderate.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12))) = (fun _ => 1#1)

def Pre_Combine [hPre_spans : Cert.Pre_spans.Facts] (m : (ℓ : Loc Cert.Combine.nD Cert.Combine.τ Cert.Combine.sig) → Buf (Elt Bits) ℓ) : Prop :=
  ∀ c : Dev Cert.Combine.nD,
    (Cert.Pre_spans.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3)) (m ((c.tc : Thread Cert.Combine.nD Cert.Combine.τ).loc Cert.Combine.main_arg4)) (m ((c.tc : Thread Cert.Combine.nD Cert.Combine.τ).loc Cert.Combine.main_arg5))) = (fun _ => 1#1)

def Pre_CombineIdeal [hPre_spans : Cert.Pre_spans.Facts] (m : (ℓ : Loc Cert.CombineIdeal.nD Cert.CombineIdeal.τ Cert.CombineIdeal.sig) → Buf (Elt Ideal) ℓ) : Prop :=
  ∀ c : Dev Cert.CombineIdeal.nD,
    (Cert.Pre_spans.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4)) (m ((c.tc : Thread Cert.CombineIdeal.nD Cert.CombineIdeal.τ).loc Cert.CombineIdeal.main_arg5))) = (fun _ => 1#1)

def Pre_TotalIdeal (m : (ℓ : Loc Cert.TotalIdeal.nD Cert.TotalIdeal.τ Cert.TotalIdeal.sig) → Buf (Elt Ideal) ℓ) : Prop :=
  True

def Pre_TotalIdeal_spans [hPre_spans : Cert.Pre_spans.Facts] (m : (ℓ : Loc Cert.TotalIdeal.nD Cert.TotalIdeal.τ Cert.TotalIdeal.sig) → Buf (Elt Ideal) ℓ) : Prop :=
  ∀ c : Dev Cert.TotalIdeal.nD,
    (Cert.Pre_spans.fn (F := Ideal) (m ((c.tc : Thread Cert.TotalIdeal.nD Cert.TotalIdeal.τ).loc Cert.TotalIdeal.main_arg0)) (m ((c.tc : Thread Cert.TotalIdeal.nD Cert.TotalIdeal.τ).loc Cert.TotalIdeal.main_arg1)) (m ((c.tc : Thread Cert.TotalIdeal.nD Cert.TotalIdeal.τ).loc Cert.TotalIdeal.main_arg2)) (m ((c.tc : Thread Cert.TotalIdeal.nD Cert.TotalIdeal.τ).loc Cert.TotalIdeal.main_arg3)) (m ((c.tc : Thread Cert.TotalIdeal.nD Cert.TotalIdeal.τ).loc Cert.TotalIdeal.main_arg4)) (m ((c.tc : Thread Cert.TotalIdeal.nD Cert.TotalIdeal.τ).loc Cert.TotalIdeal.main_arg5))) = (fun _ => 1#1)

def Pre_Finish [hPre_spans : Cert.Pre_spans.Facts] (m : (ℓ : Loc Cert.Finish.nD Cert.Finish.τ Cert.Finish.sig) → Buf (Elt Bits) ℓ) : Prop :=
  ∀ c : Dev Cert.Finish.nD,
    (Cert.Pre_spans.fn (F := Bits) (m ((c.tc : Thread Cert.Finish.nD Cert.Finish.τ).loc Cert.Finish.main_arg0)) (m ((c.tc : Thread Cert.Finish.nD Cert.Finish.τ).loc Cert.Finish.main_arg1)) (m ((c.tc : Thread Cert.Finish.nD Cert.Finish.τ).loc Cert.Finish.main_arg2)) (m ((c.tc : Thread Cert.Finish.nD Cert.Finish.τ).loc Cert.Finish.main_arg3)) (m ((c.tc : Thread Cert.Finish.nD Cert.Finish.τ).loc Cert.Finish.main_arg4)) (m ((c.tc : Thread Cert.Finish.nD Cert.Finish.τ).loc Cert.Finish.main_arg5))) = (fun _ => 1#1)

def Pre_FinishIdeal [hPre_spans : Cert.Pre_spans.Facts] (m : (ℓ : Loc Cert.FinishIdeal.nD Cert.FinishIdeal.τ Cert.FinishIdeal.sig) → Buf (Elt Ideal) ℓ) : Prop :=
  ∀ c : Dev Cert.FinishIdeal.nD,
    (Cert.Pre_spans.fn (F := Ideal) (m ((c.tc : Thread Cert.FinishIdeal.nD Cert.FinishIdeal.τ).loc Cert.FinishIdeal.main_arg0)) (m ((c.tc : Thread Cert.FinishIdeal.nD Cert.FinishIdeal.τ).loc Cert.FinishIdeal.main_arg1)) (m ((c.tc : Thread Cert.FinishIdeal.nD Cert.FinishIdeal.τ).loc Cert.FinishIdeal.main_arg2)) (m ((c.tc : Thread Cert.FinishIdeal.nD Cert.FinishIdeal.τ).loc Cert.FinishIdeal.main_arg3)) (m ((c.tc : Thread Cert.FinishIdeal.nD Cert.FinishIdeal.τ).loc Cert.FinishIdeal.main_arg4)) (m ((c.tc : Thread Cert.FinishIdeal.nD Cert.FinishIdeal.τ).loc Cert.FinishIdeal.main_arg5))) = (fun _ => 1#1)

def Pre_EndingIdeal (m : (ℓ : Loc Cert.EndingIdeal.nD Cert.EndingIdeal.τ Cert.EndingIdeal.sig) → Buf (Elt Ideal) ℓ) : Prop :=
  True

def Pre_EndingIdeal_spans [hPre_spans : Cert.Pre_spans.Facts] (m : (ℓ : Loc Cert.EndingIdeal.nD Cert.EndingIdeal.τ Cert.EndingIdeal.sig) → Buf (Elt Ideal) ℓ) : Prop :=
  ∀ c : Dev Cert.EndingIdeal.nD,
    (Cert.Pre_spans.fn (F := Ideal) (m ((c.tc : Thread Cert.EndingIdeal.nD Cert.EndingIdeal.τ).loc Cert.EndingIdeal.main_arg0)) (m ((c.tc : Thread Cert.EndingIdeal.nD Cert.EndingIdeal.τ).loc Cert.EndingIdeal.main_arg1)) (m ((c.tc : Thread Cert.EndingIdeal.nD Cert.EndingIdeal.τ).loc Cert.EndingIdeal.main_arg2)) (m ((c.tc : Thread Cert.EndingIdeal.nD Cert.EndingIdeal.τ).loc Cert.EndingIdeal.main_arg3)) (m ((c.tc : Thread Cert.EndingIdeal.nD Cert.EndingIdeal.τ).loc Cert.EndingIdeal.main_arg4)) (m ((c.tc : Thread Cert.EndingIdeal.nD Cert.EndingIdeal.τ).loc Cert.EndingIdeal.main_arg5))) = (fun _ => 1#1)

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_LinearIdeal (m : (ℓ : Loc Cert.LinearIdeal.nD Cert.LinearIdeal.τ Cert.LinearIdeal.sig) → Buf (Elt Ideal) ℓ) : Prop :=
  True

def quiescent_Kernel [hKernel : Cert.Kernel.Facts] [hPre_tables : Cert.Pre_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_prepared [hKernelIdeal : Cert.KernelIdeal.Facts] [hPre_prepared : Cert.Pre_prepared.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_prepared m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_prepared [hReferenceIdeal : Cert.ReferenceIdeal.Facts] [hPre_prepared : Cert.Pre_prepared.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_prepared m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Premix [hPremix : Cert.Premix.Facts] [hPre_tiles : Cert.Pre_tiles.Facts] : Prop :=
  ∀ (m : (ℓ : Loc Cert.Premix.nD Cert.Premix.τ Cert.Premix.sig) → Buf (Elt Bits) ℓ) (g : Dev Cert.Premix.nD → PrngReg), Pre_Premix m →
    θ_run (Cert.Premix.defs (F := Bits)) (onTc (τ := Cert.Premix.τ) (Cert.Premix.main (F := Bits))) ⟨m, fun _ => 0, g⟩ (fun r => (∀ c : Dev Cert.Premix.nD,
      r.2.mem ((c.tc : Thread Cert.Premix.nD Cert.Premix.τ).loc Cert.Premix.main_arg0) = m ((c.tc : Thread Cert.Premix.nD Cert.Premix.τ).loc Cert.Premix.main_arg0)
      ∧ r.2.mem ((c.tc : Thread Cert.Premix.nD Cert.Premix.τ).loc Cert.Premix.main_arg1) = m ((c.tc : Thread Cert.Premix.nD Cert.Premix.τ).loc Cert.Premix.main_arg1)
      ∧ r.2.mem ((c.tc : Thread Cert.Premix.nD Cert.Premix.τ).loc Cert.Premix.main_arg2) = m ((c.tc : Thread Cert.Premix.nD Cert.Premix.τ).loc Cert.Premix.main_arg2)
      ∧ r.2.mem ((c.tc : Thread Cert.Premix.nD Cert.Premix.τ).loc Cert.Premix.main_arg3) = m ((c.tc : Thread Cert.Premix.nD Cert.Premix.τ).loc Cert.Premix.main_arg3)
      ∧ r.2.mem ((c.tc : Thread Cert.Premix.nD Cert.Premix.τ).loc Cert.Premix.main_arg4) = m ((c.tc : Thread Cert.Premix.nD Cert.Premix.τ).loc Cert.Premix.main_arg4)
      ∧ r.2.mem ((c.tc : Thread Cert.Premix.nD Cert.Premix.τ).loc Cert.Premix.main_arg5) = m ((c.tc : Thread Cert.Premix.nD Cert.Premix.τ).loc Cert.Premix.main_arg5)
      ∧ r.2.mem ((c.tc : Thread Cert.Premix.nD Cert.Premix.τ).loc Cert.Premix.main_arg6) = m ((c.tc : Thread Cert.Premix.nD Cert.Premix.τ).loc Cert.Premix.main_arg6)
      ∧ r.2.mem ((c.tc : Thread Cert.Premix.nD Cert.Premix.τ).loc Cert.Premix.main_arg7) = m ((c.tc : Thread Cert.Premix.nD Cert.Premix.τ).loc Cert.Premix.main_arg7)
      ∧ r.2.mem ((c.tc : Thread Cert.Premix.nD Cert.Premix.τ).loc Cert.Premix.main_arg8) = m ((c.tc : Thread Cert.Premix.nD Cert.Premix.τ).loc Cert.Premix.main_arg8)
      ∧ r.2.mem ((c.tc : Thread Cert.Premix.nD Cert.Premix.τ).loc Cert.Premix.main_arg9) = m ((c.tc : Thread Cert.Premix.nD Cert.Premix.τ).loc Cert.Premix.main_arg9)
      ∧ r.2.mem ((c.tc : Thread Cert.Premix.nD Cert.Premix.τ).loc Cert.Premix.main_arg10) = m ((c.tc : Thread Cert.Premix.nD Cert.Premix.τ).loc Cert.Premix.main_arg10)
      ∧ r.2.mem ((c.tc : Thread Cert.Premix.nD Cert.Premix.τ).loc Cert.Premix.main_arg11) = m ((c.tc : Thread Cert.Premix.nD Cert.Premix.τ).loc Cert.Premix.main_arg11)
      ∧ r.2.mem ((c.tc : Thread Cert.Premix.nD Cert.Premix.τ).loc Cert.Premix.main_arg12) = m ((c.tc : Thread Cert.Premix.nD Cert.Premix.τ).loc Cert.Premix.main_arg12))
      ∧ r.2.sem = fun _ => 0)

def quiescent_PremixIdeal [hPremixIdeal : Cert.PremixIdeal.Facts] [hPre_tiles : Cert.Pre_tiles.Facts] : Prop :=
  ∀ (m : (ℓ : Loc Cert.PremixIdeal.nD Cert.PremixIdeal.τ Cert.PremixIdeal.sig) → Buf (Elt Ideal) ℓ) (g : Dev Cert.PremixIdeal.nD → PrngReg), Pre_PremixIdeal m →
    θ_run (Cert.PremixIdeal.defs (F := Ideal)) (onTc (τ := Cert.PremixIdeal.τ) (Cert.PremixIdeal.main (F := Ideal))) ⟨m, fun _ => 0, g⟩ (fun r => (∀ c : Dev Cert.PremixIdeal.nD,
      r.2.mem ((c.tc : Thread Cert.PremixIdeal.nD Cert.PremixIdeal.τ).loc Cert.PremixIdeal.main_arg0) = m ((c.tc : Thread Cert.PremixIdeal.nD Cert.PremixIdeal.τ).loc Cert.PremixIdeal.main_arg0)
      ∧ r.2.mem ((c.tc : Thread Cert.PremixIdeal.nD Cert.PremixIdeal.τ).loc Cert.PremixIdeal.main_arg1) = m ((c.tc : Thread Cert.PremixIdeal.nD Cert.PremixIdeal.τ).loc Cert.PremixIdeal.main_arg1)
      ∧ r.2.mem ((c.tc : Thread Cert.PremixIdeal.nD Cert.PremixIdeal.τ).loc Cert.PremixIdeal.main_arg2) = m ((c.tc : Thread Cert.PremixIdeal.nD Cert.PremixIdeal.τ).loc Cert.PremixIdeal.main_arg2)
      ∧ r.2.mem ((c.tc : Thread Cert.PremixIdeal.nD Cert.PremixIdeal.τ).loc Cert.PremixIdeal.main_arg3) = m ((c.tc : Thread Cert.PremixIdeal.nD Cert.PremixIdeal.τ).loc Cert.PremixIdeal.main_arg3)
      ∧ r.2.mem ((c.tc : Thread Cert.PremixIdeal.nD Cert.PremixIdeal.τ).loc Cert.PremixIdeal.main_arg4) = m ((c.tc : Thread Cert.PremixIdeal.nD Cert.PremixIdeal.τ).loc Cert.PremixIdeal.main_arg4)
      ∧ r.2.mem ((c.tc : Thread Cert.PremixIdeal.nD Cert.PremixIdeal.τ).loc Cert.PremixIdeal.main_arg5) = m ((c.tc : Thread Cert.PremixIdeal.nD Cert.PremixIdeal.τ).loc Cert.PremixIdeal.main_arg5)
      ∧ r.2.mem ((c.tc : Thread Cert.PremixIdeal.nD Cert.PremixIdeal.τ).loc Cert.PremixIdeal.main_arg6) = m ((c.tc : Thread Cert.PremixIdeal.nD Cert.PremixIdeal.τ).loc Cert.PremixIdeal.main_arg6)
      ∧ r.2.mem ((c.tc : Thread Cert.PremixIdeal.nD Cert.PremixIdeal.τ).loc Cert.PremixIdeal.main_arg7) = m ((c.tc : Thread Cert.PremixIdeal.nD Cert.PremixIdeal.τ).loc Cert.PremixIdeal.main_arg7)
      ∧ r.2.mem ((c.tc : Thread Cert.PremixIdeal.nD Cert.PremixIdeal.τ).loc Cert.PremixIdeal.main_arg8) = m ((c.tc : Thread Cert.PremixIdeal.nD Cert.PremixIdeal.τ).loc Cert.PremixIdeal.main_arg8)
      ∧ r.2.mem ((c.tc : Thread Cert.PremixIdeal.nD Cert.PremixIdeal.τ).loc Cert.PremixIdeal.main_arg9) = m ((c.tc : Thread Cert.PremixIdeal.nD Cert.PremixIdeal.τ).loc Cert.PremixIdeal.main_arg9)
      ∧ r.2.mem ((c.tc : Thread Cert.PremixIdeal.nD Cert.PremixIdeal.τ).loc Cert.PremixIdeal.main_arg10) = m ((c.tc : Thread Cert.PremixIdeal.nD Cert.PremixIdeal.τ).loc Cert.PremixIdeal.main_arg10)
      ∧ r.2.mem ((c.tc : Thread Cert.PremixIdeal.nD Cert.PremixIdeal.τ).loc Cert.PremixIdeal.main_arg11) = m ((c.tc : Thread Cert.PremixIdeal.nD Cert.PremixIdeal.τ).loc Cert.PremixIdeal.main_arg11)
      ∧ r.2.mem ((c.tc : Thread Cert.PremixIdeal.nD Cert.PremixIdeal.τ).loc Cert.PremixIdeal.main_arg12) = m ((c.tc : Thread Cert.PremixIdeal.nD Cert.PremixIdeal.τ).loc Cert.PremixIdeal.main_arg12))
      ∧ r.2.sem = fun _ => 0)

def quiescent_ProjectionsIdeal [hProjectionsIdeal : Cert.ProjectionsIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
      ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
      ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
      ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6)
      ∧ r.2.mem ((c.tc : Thread Cert.ProjectionsIdeal.nD Cert.ProjectionsIdeal.τ).loc Cert.ProjectionsIdeal.main_arg7) = m ((c.tc : Thread Cert.ProjectionsIdeal.nD Cert.ProjectionsIdeal.τ).loc Cert.ProjectionsIdeal.main_arg7)
      ∧ r.2.mem ((c.tc : Thread Cert.ProjectionsIdeal.nD Cert.ProjectionsIdeal.τ).loc Cert.ProjectionsIdeal.main_arg8) = m ((c.tc : Thread Cert.ProjectionsIdeal.nD Cert.ProjectionsIdeal.τ).loc Cert.ProjectionsIdeal.main_arg8)
      ∧ r.2.mem ((c.tc : Thread Cert.ProjectionsIdeal.nD Cert.ProjectionsIdeal.τ).loc Cert.ProjectionsIdeal.main_arg9) = m ((c.tc : Thread Cert.ProjectionsIdeal.nD Cert.ProjectionsIdeal.τ).loc Cert.ProjectionsIdeal.main_arg9)
      ∧ r.2.mem ((c.tc : Thread Cert.ProjectionsIdeal.nD Cert.ProjectionsIdeal.τ).loc Cert.ProjectionsIdeal.main_arg10) = m ((c.tc : Thread Cert.ProjectionsIdeal.nD Cert.ProjectionsIdeal.τ).loc Cert.ProjectionsIdeal.main_arg10)
      ∧ r.2.mem ((c.tc : Thread Cert.ProjectionsIdeal.nD Cert.ProjectionsIdeal.τ).loc Cert.ProjectionsIdeal.main_arg11) = m ((c.tc : Thread Cert.ProjectionsIdeal.nD Cert.ProjectionsIdeal.τ).loc Cert.ProjectionsIdeal.main_arg11)
      ∧ r.2.mem ((c.tc : Thread Cert.ProjectionsIdeal.nD Cert.ProjectionsIdeal.τ).loc Cert.ProjectionsIdeal.main_arg12) = m ((c.tc : Thread Cert.ProjectionsIdeal.nD Cert.ProjectionsIdeal.τ).loc Cert.ProjectionsIdeal.main_arg12))
      ∧ r.2.sem = fun _ => 0)

def quiescent_ProjectionsIdeal_pre_tiles [hProjectionsIdeal : Cert.ProjectionsIdeal.Facts] [hPre_tiles : Cert.Pre_tiles.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal_tiles m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
      ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
      ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
      ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6)
      ∧ r.2.mem ((c.tc : Thread Cert.ProjectionsIdeal.nD Cert.ProjectionsIdeal.τ).loc Cert.ProjectionsIdeal.main_arg7) = m ((c.tc : Thread Cert.ProjectionsIdeal.nD Cert.ProjectionsIdeal.τ).loc Cert.ProjectionsIdeal.main_arg7)
      ∧ r.2.mem ((c.tc : Thread Cert.ProjectionsIdeal.nD Cert.ProjectionsIdeal.τ).loc Cert.ProjectionsIdeal.main_arg8) = m ((c.tc : Thread Cert.ProjectionsIdeal.nD Cert.ProjectionsIdeal.τ).loc Cert.ProjectionsIdeal.main_arg8)
      ∧ r.2.mem ((c.tc : Thread Cert.ProjectionsIdeal.nD Cert.ProjectionsIdeal.τ).loc Cert.ProjectionsIdeal.main_arg9) = m ((c.tc : Thread Cert.ProjectionsIdeal.nD Cert.ProjectionsIdeal.τ).loc Cert.ProjectionsIdeal.main_arg9)
      ∧ r.2.mem ((c.tc : Thread Cert.ProjectionsIdeal.nD Cert.ProjectionsIdeal.τ).loc Cert.ProjectionsIdeal.main_arg10) = m ((c.tc : Thread Cert.ProjectionsIdeal.nD Cert.ProjectionsIdeal.τ).loc Cert.ProjectionsIdeal.main_arg10)
      ∧ r.2.mem ((c.tc : Thread Cert.ProjectionsIdeal.nD Cert.ProjectionsIdeal.τ).loc Cert.ProjectionsIdeal.main_arg11) = m ((c.tc : Thread Cert.ProjectionsIdeal.nD Cert.ProjectionsIdeal.τ).loc Cert.ProjectionsIdeal.main_arg11)
      ∧ r.2.mem ((c.tc : Thread Cert.ProjectionsIdeal.nD Cert.ProjectionsIdeal.τ).loc Cert.ProjectionsIdeal.main_arg12) = m ((c.tc : Thread Cert.ProjectionsIdeal.nD Cert.ProjectionsIdeal.τ).loc Cert.ProjectionsIdeal.main_arg12))
      ∧ r.2.sem = fun _ => 0)

def quiescent_Postmix [hPostmix : Cert.Postmix.Facts] [hPre_moderate : Cert.Pre_moderate.Facts] : Prop :=
  ∀ (m : (ℓ : Loc Cert.Postmix.nD Cert.Postmix.τ Cert.Postmix.sig) → Buf (Elt Bits) ℓ) (g : Dev Cert.Postmix.nD → PrngReg), Pre_Postmix m →
    θ_run (Cert.Postmix.defs (F := Bits)) (onTc (τ := Cert.Postmix.τ) (Cert.Postmix.main (F := Bits))) ⟨m, fun _ => 0, g⟩ (fun r => (∀ c : Dev Cert.Postmix.nD,
      r.2.mem ((c.tc : Thread Cert.Postmix.nD Cert.Postmix.τ).loc Cert.Postmix.main_arg0) = m ((c.tc : Thread Cert.Postmix.nD Cert.Postmix.τ).loc Cert.Postmix.main_arg0)
      ∧ r.2.mem ((c.tc : Thread Cert.Postmix.nD Cert.Postmix.τ).loc Cert.Postmix.main_arg1) = m ((c.tc : Thread Cert.Postmix.nD Cert.Postmix.τ).loc Cert.Postmix.main_arg1)
      ∧ r.2.mem ((c.tc : Thread Cert.Postmix.nD Cert.Postmix.τ).loc Cert.Postmix.main_arg2) = m ((c.tc : Thread Cert.Postmix.nD Cert.Postmix.τ).loc Cert.Postmix.main_arg2)
      ∧ r.2.mem ((c.tc : Thread Cert.Postmix.nD Cert.Postmix.τ).loc Cert.Postmix.main_arg3) = m ((c.tc : Thread Cert.Postmix.nD Cert.Postmix.τ).loc Cert.Postmix.main_arg3)
      ∧ r.2.mem ((c.tc : Thread Cert.Postmix.nD Cert.Postmix.τ).loc Cert.Postmix.main_arg4) = m ((c.tc : Thread Cert.Postmix.nD Cert.Postmix.τ).loc Cert.Postmix.main_arg4)
      ∧ r.2.mem ((c.tc : Thread Cert.Postmix.nD Cert.Postmix.τ).loc Cert.Postmix.main_arg5) = m ((c.tc : Thread Cert.Postmix.nD Cert.Postmix.τ).loc Cert.Postmix.main_arg5)
      ∧ r.2.mem ((c.tc : Thread Cert.Postmix.nD Cert.Postmix.τ).loc Cert.Postmix.main_arg6) = m ((c.tc : Thread Cert.Postmix.nD Cert.Postmix.τ).loc Cert.Postmix.main_arg6)
      ∧ r.2.mem ((c.tc : Thread Cert.Postmix.nD Cert.Postmix.τ).loc Cert.Postmix.main_arg7) = m ((c.tc : Thread Cert.Postmix.nD Cert.Postmix.τ).loc Cert.Postmix.main_arg7)
      ∧ r.2.mem ((c.tc : Thread Cert.Postmix.nD Cert.Postmix.τ).loc Cert.Postmix.main_arg8) = m ((c.tc : Thread Cert.Postmix.nD Cert.Postmix.τ).loc Cert.Postmix.main_arg8)
      ∧ r.2.mem ((c.tc : Thread Cert.Postmix.nD Cert.Postmix.τ).loc Cert.Postmix.main_arg9) = m ((c.tc : Thread Cert.Postmix.nD Cert.Postmix.τ).loc Cert.Postmix.main_arg9)
      ∧ r.2.mem ((c.tc : Thread Cert.Postmix.nD Cert.Postmix.τ).loc Cert.Postmix.main_arg10) = m ((c.tc : Thread Cert.Postmix.nD Cert.Postmix.τ).loc Cert.Postmix.main_arg10)
      ∧ r.2.mem ((c.tc : Thread Cert.Postmix.nD Cert.Postmix.τ).loc Cert.Postmix.main_arg11) = m ((c.tc : Thread Cert.Postmix.nD Cert.Postmix.τ).loc Cert.Postmix.main_arg11)
      ∧ r.2.mem ((c.tc : Thread Cert.Postmix.nD Cert.Postmix.τ).loc Cert.Postmix.main_arg12) = m ((c.tc : Thread Cert.Postmix.nD Cert.Postmix.τ).loc Cert.Postmix.main_arg12))
      ∧ r.2.sem = fun _ => 0)

def quiescent_PostmixIdeal [hPostmixIdeal : Cert.PostmixIdeal.Facts] [hPre_moderate : Cert.Pre_moderate.Facts] : Prop :=
  ∀ (m : (ℓ : Loc Cert.PostmixIdeal.nD Cert.PostmixIdeal.τ Cert.PostmixIdeal.sig) → Buf (Elt Ideal) ℓ) (g : Dev Cert.PostmixIdeal.nD → PrngReg), Pre_PostmixIdeal m →
    θ_run (Cert.PostmixIdeal.defs (F := Ideal)) (onTc (τ := Cert.PostmixIdeal.τ) (Cert.PostmixIdeal.main (F := Ideal))) ⟨m, fun _ => 0, g⟩ (fun r => (∀ c : Dev Cert.PostmixIdeal.nD,
      r.2.mem ((c.tc : Thread Cert.PostmixIdeal.nD Cert.PostmixIdeal.τ).loc Cert.PostmixIdeal.main_arg0) = m ((c.tc : Thread Cert.PostmixIdeal.nD Cert.PostmixIdeal.τ).loc Cert.PostmixIdeal.main_arg0)
      ∧ r.2.mem ((c.tc : Thread Cert.PostmixIdeal.nD Cert.PostmixIdeal.τ).loc Cert.PostmixIdeal.main_arg1) = m ((c.tc : Thread Cert.PostmixIdeal.nD Cert.PostmixIdeal.τ).loc Cert.PostmixIdeal.main_arg1)
      ∧ r.2.mem ((c.tc : Thread Cert.PostmixIdeal.nD Cert.PostmixIdeal.τ).loc Cert.PostmixIdeal.main_arg2) = m ((c.tc : Thread Cert.PostmixIdeal.nD Cert.PostmixIdeal.τ).loc Cert.PostmixIdeal.main_arg2)
      ∧ r.2.mem ((c.tc : Thread Cert.PostmixIdeal.nD Cert.PostmixIdeal.τ).loc Cert.PostmixIdeal.main_arg3) = m ((c.tc : Thread Cert.PostmixIdeal.nD Cert.PostmixIdeal.τ).loc Cert.PostmixIdeal.main_arg3)
      ∧ r.2.mem ((c.tc : Thread Cert.PostmixIdeal.nD Cert.PostmixIdeal.τ).loc Cert.PostmixIdeal.main_arg4) = m ((c.tc : Thread Cert.PostmixIdeal.nD Cert.PostmixIdeal.τ).loc Cert.PostmixIdeal.main_arg4)
      ∧ r.2.mem ((c.tc : Thread Cert.PostmixIdeal.nD Cert.PostmixIdeal.τ).loc Cert.PostmixIdeal.main_arg5) = m ((c.tc : Thread Cert.PostmixIdeal.nD Cert.PostmixIdeal.τ).loc Cert.PostmixIdeal.main_arg5)
      ∧ r.2.mem ((c.tc : Thread Cert.PostmixIdeal.nD Cert.PostmixIdeal.τ).loc Cert.PostmixIdeal.main_arg6) = m ((c.tc : Thread Cert.PostmixIdeal.nD Cert.PostmixIdeal.τ).loc Cert.PostmixIdeal.main_arg6)
      ∧ r.2.mem ((c.tc : Thread Cert.PostmixIdeal.nD Cert.PostmixIdeal.τ).loc Cert.PostmixIdeal.main_arg7) = m ((c.tc : Thread Cert.PostmixIdeal.nD Cert.PostmixIdeal.τ).loc Cert.PostmixIdeal.main_arg7)
      ∧ r.2.mem ((c.tc : Thread Cert.PostmixIdeal.nD Cert.PostmixIdeal.τ).loc Cert.PostmixIdeal.main_arg8) = m ((c.tc : Thread Cert.PostmixIdeal.nD Cert.PostmixIdeal.τ).loc Cert.PostmixIdeal.main_arg8)
      ∧ r.2.mem ((c.tc : Thread Cert.PostmixIdeal.nD Cert.PostmixIdeal.τ).loc Cert.PostmixIdeal.main_arg9) = m ((c.tc : Thread Cert.PostmixIdeal.nD Cert.PostmixIdeal.τ).loc Cert.PostmixIdeal.main_arg9)
      ∧ r.2.mem ((c.tc : Thread Cert.PostmixIdeal.nD Cert.PostmixIdeal.τ).loc Cert.PostmixIdeal.main_arg10) = m ((c.tc : Thread Cert.PostmixIdeal.nD Cert.PostmixIdeal.τ).loc Cert.PostmixIdeal.main_arg10)
      ∧ r.2.mem ((c.tc : Thread Cert.PostmixIdeal.nD Cert.PostmixIdeal.τ).loc Cert.PostmixIdeal.main_arg11) = m ((c.tc : Thread Cert.PostmixIdeal.nD Cert.PostmixIdeal.τ).loc Cert.PostmixIdeal.main_arg11)
      ∧ r.2.mem ((c.tc : Thread Cert.PostmixIdeal.nD Cert.PostmixIdeal.τ).loc Cert.PostmixIdeal.main_arg12) = m ((c.tc : Thread Cert.PostmixIdeal.nD Cert.PostmixIdeal.τ).loc Cert.PostmixIdeal.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeIdeal_pre_moderate [hMergeIdeal : Cert.MergeIdeal.Facts] [hPre_moderate : Cert.Pre_moderate.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_moderate m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_Combine [hCombine : Cert.Combine.Facts] [hPre_spans : Cert.Pre_spans.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5))
      ∧ r.2.sem = fun _ => 0)

def quiescent_CombineIdeal [hCombineIdeal : Cert.CombineIdeal.Facts] [hPre_spans : Cert.Pre_spans.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ r.2.sem = fun _ => 0)

def quiescent_TotalIdeal [hTotalIdeal : Cert.TotalIdeal.Facts] : Prop :=
  ∀ (m : (ℓ : Loc Cert.TotalIdeal.nD Cert.TotalIdeal.τ Cert.TotalIdeal.sig) → Buf (Elt Ideal) ℓ) (g : Dev Cert.TotalIdeal.nD → PrngReg), Pre_TotalIdeal m →
    θ_run (Cert.TotalIdeal.defs (F := Ideal)) (onTc (τ := Cert.TotalIdeal.τ) (Cert.TotalIdeal.main (F := Ideal))) ⟨m, fun _ => 0, g⟩ (fun r => (∀ c : Dev Cert.TotalIdeal.nD,
      r.2.mem ((c.tc : Thread Cert.TotalIdeal.nD Cert.TotalIdeal.τ).loc Cert.TotalIdeal.main_arg0) = m ((c.tc : Thread Cert.TotalIdeal.nD Cert.TotalIdeal.τ).loc Cert.TotalIdeal.main_arg0)
      ∧ r.2.mem ((c.tc : Thread Cert.TotalIdeal.nD Cert.TotalIdeal.τ).loc Cert.TotalIdeal.main_arg1) = m ((c.tc : Thread Cert.TotalIdeal.nD Cert.TotalIdeal.τ).loc Cert.TotalIdeal.main_arg1)
      ∧ r.2.mem ((c.tc : Thread Cert.TotalIdeal.nD Cert.TotalIdeal.τ).loc Cert.TotalIdeal.main_arg2) = m ((c.tc : Thread Cert.TotalIdeal.nD Cert.TotalIdeal.τ).loc Cert.TotalIdeal.main_arg2)
      ∧ r.2.mem ((c.tc : Thread Cert.TotalIdeal.nD Cert.TotalIdeal.τ).loc Cert.TotalIdeal.main_arg3) = m ((c.tc : Thread Cert.TotalIdeal.nD Cert.TotalIdeal.τ).loc Cert.TotalIdeal.main_arg3)
      ∧ r.2.mem ((c.tc : Thread Cert.TotalIdeal.nD Cert.TotalIdeal.τ).loc Cert.TotalIdeal.main_arg4) = m ((c.tc : Thread Cert.TotalIdeal.nD Cert.TotalIdeal.τ).loc Cert.TotalIdeal.main_arg4)
      ∧ r.2.mem ((c.tc : Thread Cert.TotalIdeal.nD Cert.TotalIdeal.τ).loc Cert.TotalIdeal.main_arg5) = m ((c.tc : Thread Cert.TotalIdeal.nD Cert.TotalIdeal.τ).loc Cert.TotalIdeal.main_arg5))
      ∧ r.2.sem = fun _ => 0)

def quiescent_TotalIdeal_pre_spans [hTotalIdeal : Cert.TotalIdeal.Facts] [hPre_spans : Cert.Pre_spans.Facts] : Prop :=
  ∀ (m : (ℓ : Loc Cert.TotalIdeal.nD Cert.TotalIdeal.τ Cert.TotalIdeal.sig) → Buf (Elt Ideal) ℓ) (g : Dev Cert.TotalIdeal.nD → PrngReg), Pre_TotalIdeal_spans m →
    θ_run (Cert.TotalIdeal.defs (F := Ideal)) (onTc (τ := Cert.TotalIdeal.τ) (Cert.TotalIdeal.main (F := Ideal))) ⟨m, fun _ => 0, g⟩ (fun r => (∀ c : Dev Cert.TotalIdeal.nD,
      r.2.mem ((c.tc : Thread Cert.TotalIdeal.nD Cert.TotalIdeal.τ).loc Cert.TotalIdeal.main_arg0) = m ((c.tc : Thread Cert.TotalIdeal.nD Cert.TotalIdeal.τ).loc Cert.TotalIdeal.main_arg0)
      ∧ r.2.mem ((c.tc : Thread Cert.TotalIdeal.nD Cert.TotalIdeal.τ).loc Cert.TotalIdeal.main_arg1) = m ((c.tc : Thread Cert.TotalIdeal.nD Cert.TotalIdeal.τ).loc Cert.TotalIdeal.main_arg1)
      ∧ r.2.mem ((c.tc : Thread Cert.TotalIdeal.nD Cert.TotalIdeal.τ).loc Cert.TotalIdeal.main_arg2) = m ((c.tc : Thread Cert.TotalIdeal.nD Cert.TotalIdeal.τ).loc Cert.TotalIdeal.main_arg2)
      ∧ r.2.mem ((c.tc : Thread Cert.TotalIdeal.nD Cert.TotalIdeal.τ).loc Cert.TotalIdeal.main_arg3) = m ((c.tc : Thread Cert.TotalIdeal.nD Cert.TotalIdeal.τ).loc Cert.TotalIdeal.main_arg3)
      ∧ r.2.mem ((c.tc : Thread Cert.TotalIdeal.nD Cert.TotalIdeal.τ).loc Cert.TotalIdeal.main_arg4) = m ((c.tc : Thread Cert.TotalIdeal.nD Cert.TotalIdeal.τ).loc Cert.TotalIdeal.main_arg4)
      ∧ r.2.mem ((c.tc : Thread Cert.TotalIdeal.nD Cert.TotalIdeal.τ).loc Cert.TotalIdeal.main_arg5) = m ((c.tc : Thread Cert.TotalIdeal.nD Cert.TotalIdeal.τ).loc Cert.TotalIdeal.main_arg5))
      ∧ r.2.sem = fun _ => 0)

def quiescent_Finish [hFinish : Cert.Finish.Facts] [hPre_spans : Cert.Pre_spans.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3)
      ∧ r.2.mem ((c.tc : Thread Cert.Finish.nD Cert.Finish.τ).loc Cert.Finish.main_arg4) = m ((c.tc : Thread Cert.Finish.nD Cert.Finish.τ).loc Cert.Finish.main_arg4)
      ∧ r.2.mem ((c.tc : Thread Cert.Finish.nD Cert.Finish.τ).loc Cert.Finish.main_arg5) = m ((c.tc : Thread Cert.Finish.nD Cert.Finish.τ).loc Cert.Finish.main_arg5))
      ∧ r.2.sem = fun _ => 0)

def quiescent_FinishIdeal [hFinishIdeal : Cert.FinishIdeal.Facts] [hPre_spans : Cert.Pre_spans.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
      ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5))
      ∧ r.2.sem = fun _ => 0)

def quiescent_EndingIdeal [hEndingIdeal : Cert.EndingIdeal.Facts] : Prop :=
  ∀ (m : (ℓ : Loc Cert.EndingIdeal.nD Cert.EndingIdeal.τ Cert.EndingIdeal.sig) → Buf (Elt Ideal) ℓ) (g : Dev Cert.EndingIdeal.nD → PrngReg), Pre_EndingIdeal m →
    θ_run (Cert.EndingIdeal.defs (F := Ideal)) (onTc (τ := Cert.EndingIdeal.τ) (Cert.EndingIdeal.main (F := Ideal))) ⟨m, fun _ => 0, g⟩ (fun r => (∀ c : Dev Cert.EndingIdeal.nD,
      r.2.mem ((c.tc : Thread Cert.EndingIdeal.nD Cert.EndingIdeal.τ).loc Cert.EndingIdeal.main_arg0) = m ((c.tc : Thread Cert.EndingIdeal.nD Cert.EndingIdeal.τ).loc Cert.EndingIdeal.main_arg0)
      ∧ r.2.mem ((c.tc : Thread Cert.EndingIdeal.nD Cert.EndingIdeal.τ).loc Cert.EndingIdeal.main_arg1) = m ((c.tc : Thread Cert.EndingIdeal.nD Cert.EndingIdeal.τ).loc Cert.EndingIdeal.main_arg1)
      ∧ r.2.mem ((c.tc : Thread Cert.EndingIdeal.nD Cert.EndingIdeal.τ).loc Cert.EndingIdeal.main_arg2) = m ((c.tc : Thread Cert.EndingIdeal.nD Cert.EndingIdeal.τ).loc Cert.EndingIdeal.main_arg2)
      ∧ r.2.mem ((c.tc : Thread Cert.EndingIdeal.nD Cert.EndingIdeal.τ).loc Cert.EndingIdeal.main_arg3) = m ((c.tc : Thread Cert.EndingIdeal.nD Cert.EndingIdeal.τ).loc Cert.EndingIdeal.main_arg3)
      ∧ r.2.mem ((c.tc : Thread Cert.EndingIdeal.nD Cert.EndingIdeal.τ).loc Cert.EndingIdeal.main_arg4) = m ((c.tc : Thread Cert.EndingIdeal.nD Cert.EndingIdeal.τ).loc Cert.EndingIdeal.main_arg4)
      ∧ r.2.mem ((c.tc : Thread Cert.EndingIdeal.nD Cert.EndingIdeal.τ).loc Cert.EndingIdeal.main_arg5) = m ((c.tc : Thread Cert.EndingIdeal.nD Cert.EndingIdeal.τ).loc Cert.EndingIdeal.main_arg5))
      ∧ r.2.sem = fun _ => 0)

def quiescent_EndingIdeal_pre_spans [hEndingIdeal : Cert.EndingIdeal.Facts] [hPre_spans : Cert.Pre_spans.Facts] : Prop :=
  ∀ (m : (ℓ : Loc Cert.EndingIdeal.nD Cert.EndingIdeal.τ Cert.EndingIdeal.sig) → Buf (Elt Ideal) ℓ) (g : Dev Cert.EndingIdeal.nD → PrngReg), Pre_EndingIdeal_spans m →
    θ_run (Cert.EndingIdeal.defs (F := Ideal)) (onTc (τ := Cert.EndingIdeal.τ) (Cert.EndingIdeal.main (F := Ideal))) ⟨m, fun _ => 0, g⟩ (fun r => (∀ c : Dev Cert.EndingIdeal.nD,
      r.2.mem ((c.tc : Thread Cert.EndingIdeal.nD Cert.EndingIdeal.τ).loc Cert.EndingIdeal.main_arg0) = m ((c.tc : Thread Cert.EndingIdeal.nD Cert.EndingIdeal.τ).loc Cert.EndingIdeal.main_arg0)
      ∧ r.2.mem ((c.tc : Thread Cert.EndingIdeal.nD Cert.EndingIdeal.τ).loc Cert.EndingIdeal.main_arg1) = m ((c.tc : Thread Cert.EndingIdeal.nD Cert.EndingIdeal.τ).loc Cert.EndingIdeal.main_arg1)
      ∧ r.2.mem ((c.tc : Thread Cert.EndingIdeal.nD Cert.EndingIdeal.τ).loc Cert.EndingIdeal.main_arg2) = m ((c.tc : Thread Cert.EndingIdeal.nD Cert.EndingIdeal.τ).loc Cert.EndingIdeal.main_arg2)
      ∧ r.2.mem ((c.tc : Thread Cert.EndingIdeal.nD Cert.EndingIdeal.τ).loc Cert.EndingIdeal.main_arg3) = m ((c.tc : Thread Cert.EndingIdeal.nD Cert.EndingIdeal.τ).loc Cert.EndingIdeal.main_arg3)
      ∧ r.2.mem ((c.tc : Thread Cert.EndingIdeal.nD Cert.EndingIdeal.τ).loc Cert.EndingIdeal.main_arg4) = m ((c.tc : Thread Cert.EndingIdeal.nD Cert.EndingIdeal.τ).loc Cert.EndingIdeal.main_arg4)
      ∧ r.2.mem ((c.tc : Thread Cert.EndingIdeal.nD Cert.EndingIdeal.τ).loc Cert.EndingIdeal.main_arg5) = m ((c.tc : Thread Cert.EndingIdeal.nD Cert.EndingIdeal.τ).loc Cert.EndingIdeal.main_arg5))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_LinearIdeal [hLinearIdeal : Cert.LinearIdeal.Facts] : Prop :=
  ∀ (m : (ℓ : Loc Cert.LinearIdeal.nD Cert.LinearIdeal.τ Cert.LinearIdeal.sig) → Buf (Elt Ideal) ℓ) (g : Dev Cert.LinearIdeal.nD → PrngReg), Pre_LinearIdeal m →
    θ_run (Cert.LinearIdeal.defs (F := Ideal)) (onTc (τ := Cert.LinearIdeal.τ) (Cert.LinearIdeal.main (F := Ideal))) ⟨m, fun _ => 0, g⟩ (fun r => (∀ c : Dev Cert.LinearIdeal.nD,
      r.2.mem ((c.tc : Thread Cert.LinearIdeal.nD Cert.LinearIdeal.τ).loc Cert.LinearIdeal.main_arg0) = m ((c.tc : Thread Cert.LinearIdeal.nD Cert.LinearIdeal.τ).loc Cert.LinearIdeal.main_arg0)
      ∧ r.2.mem ((c.tc : Thread Cert.LinearIdeal.nD Cert.LinearIdeal.τ).loc Cert.LinearIdeal.main_arg1) = m ((c.tc : Thread Cert.LinearIdeal.nD Cert.LinearIdeal.τ).loc Cert.LinearIdeal.main_arg1)
      ∧ r.2.mem ((c.tc : Thread Cert.LinearIdeal.nD Cert.LinearIdeal.τ).loc Cert.LinearIdeal.main_arg2) = m ((c.tc : Thread Cert.LinearIdeal.nD Cert.LinearIdeal.τ).loc Cert.LinearIdeal.main_arg2))
      ∧ r.2.sem = fun _ => 0)

def preserves_Kernel_KernelIdeal : Prop :=
  True

def algebraic_KernelIdeal_ReferenceIdeal_pre_prepared [hKernelIdeal : Cert.KernelIdeal.Facts] [hReferenceIdeal : Cert.ReferenceIdeal.Facts] [hPre_prepared : Cert.Pre_prepared.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_prepared m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Premix_PremixIdeal : Prop :=
  IdealRules.named_const.Statement Cert.PremixIdeal.κ "qscale" .f32 0x3E16C740#32 (((Real.sqrt 96)⁻¹ * (Real.log 2)⁻¹ : ℝ) : EReal)

def algebraic_PremixIdeal_ProjectionsIdeal [hPremixIdeal : Cert.PremixIdeal.Facts] [hProjectionsIdeal : Cert.ProjectionsIdeal.Facts] [hPre_tiles : Cert.Pre_tiles.Facts] : Prop :=
  ∀ (m : (ℓ : Loc Cert.PremixIdeal.nD Cert.PremixIdeal.τ Cert.PremixIdeal.sig) → Buf (Elt Ideal) ℓ) (g : Dev Cert.PremixIdeal.nD → PrngReg)
    (m' : (ℓ : Loc Cert.ProjectionsIdeal.nD Cert.ProjectionsIdeal.τ Cert.ProjectionsIdeal.sig) → Buf (Elt Ideal) ℓ) (g' : Dev Cert.ProjectionsIdeal.nD → PrngReg), Pre_PremixIdeal m →
    (∀ c : Dev Cert.PremixIdeal.nD,
      m' ((c.tc : Thread Cert.ProjectionsIdeal.nD Cert.ProjectionsIdeal.τ).loc Cert.ProjectionsIdeal.main_arg0) = m ((c.tc : Thread Cert.PremixIdeal.nD Cert.PremixIdeal.τ).loc Cert.PremixIdeal.main_arg0)
      ∧ m' ((c.tc : Thread Cert.ProjectionsIdeal.nD Cert.ProjectionsIdeal.τ).loc Cert.ProjectionsIdeal.main_arg1) = m ((c.tc : Thread Cert.PremixIdeal.nD Cert.PremixIdeal.τ).loc Cert.PremixIdeal.main_arg1)
      ∧ m' ((c.tc : Thread Cert.ProjectionsIdeal.nD Cert.ProjectionsIdeal.τ).loc Cert.ProjectionsIdeal.main_arg2) = m ((c.tc : Thread Cert.PremixIdeal.nD Cert.PremixIdeal.τ).loc Cert.PremixIdeal.main_arg2)
      ∧ m' ((c.tc : Thread Cert.ProjectionsIdeal.nD Cert.ProjectionsIdeal.τ).loc Cert.ProjectionsIdeal.main_arg3) = m ((c.tc : Thread Cert.PremixIdeal.nD Cert.PremixIdeal.τ).loc Cert.PremixIdeal.main_arg3)
      ∧ m' ((c.tc : Thread Cert.ProjectionsIdeal.nD Cert.ProjectionsIdeal.τ).loc Cert.ProjectionsIdeal.main_arg4) = m ((c.tc : Thread Cert.PremixIdeal.nD Cert.PremixIdeal.τ).loc Cert.PremixIdeal.main_arg4)
      ∧ m' ((c.tc : Thread Cert.ProjectionsIdeal.nD Cert.ProjectionsIdeal.τ).loc Cert.ProjectionsIdeal.main_arg5) = m ((c.tc : Thread Cert.PremixIdeal.nD Cert.PremixIdeal.τ).loc Cert.PremixIdeal.main_arg5)
      ∧ m' ((c.tc : Thread Cert.ProjectionsIdeal.nD Cert.ProjectionsIdeal.τ).loc Cert.ProjectionsIdeal.main_arg6) = m ((c.tc : Thread Cert.PremixIdeal.nD Cert.PremixIdeal.τ).loc Cert.PremixIdeal.main_arg6)
      ∧ m' ((c.tc : Thread Cert.ProjectionsIdeal.nD Cert.ProjectionsIdeal.τ).loc Cert.ProjectionsIdeal.main_arg7) = m ((c.tc : Thread Cert.PremixIdeal.nD Cert.PremixIdeal.τ).loc Cert.PremixIdeal.main_arg7)
      ∧ m' ((c.tc : Thread Cert.ProjectionsIdeal.nD Cert.ProjectionsIdeal.τ).loc Cert.ProjectionsIdeal.main_arg8) = m ((c.tc : Thread Cert.PremixIdeal.nD Cert.PremixIdeal.τ).loc Cert.PremixIdeal.main_arg8)
      ∧ m' ((c.tc : Thread Cert.ProjectionsIdeal.nD Cert.ProjectionsIdeal.τ).loc Cert.ProjectionsIdeal.main_arg9) = m ((c.tc : Thread Cert.PremixIdeal.nD Cert.PremixIdeal.τ).loc Cert.PremixIdeal.main_arg9)
      ∧ m' ((c.tc : Thread Cert.ProjectionsIdeal.nD Cert.ProjectionsIdeal.τ).loc Cert.ProjectionsIdeal.main_arg10) = m ((c.tc : Thread Cert.PremixIdeal.nD Cert.PremixIdeal.τ).loc Cert.PremixIdeal.main_arg10)
      ∧ m' ((c.tc : Thread Cert.ProjectionsIdeal.nD Cert.ProjectionsIdeal.τ).loc Cert.ProjectionsIdeal.main_arg11) = m ((c.tc : Thread Cert.PremixIdeal.nD Cert.PremixIdeal.τ).loc Cert.PremixIdeal.main_arg11)
      ∧ m' ((c.tc : Thread Cert.ProjectionsIdeal.nD Cert.ProjectionsIdeal.τ).loc Cert.ProjectionsIdeal.main_arg12) = m ((c.tc : Thread Cert.PremixIdeal.nD Cert.PremixIdeal.τ).loc Cert.PremixIdeal.main_arg12)) →
    ∃ (v0 : (c : Dev Cert.PremixIdeal.nD) → Buf (Elt Ideal) ((c.tc : Thread Cert.PremixIdeal.nD Cert.PremixIdeal.τ).loc Cert.PremixIdeal.main_v0_0)) (v1 : (c : Dev Cert.PremixIdeal.nD) → Buf (Elt Ideal) ((c.tc : Thread Cert.PremixIdeal.nD Cert.PremixIdeal.τ).loc Cert.PremixIdeal.main_v0_1)) (v2 : (c : Dev Cert.PremixIdeal.nD) → Buf (Elt Ideal) ((c.tc : Thread Cert.PremixIdeal.nD Cert.PremixIdeal.τ).loc Cert.PremixIdeal.main_v0_2)) (v3 : (c : Dev Cert.PremixIdeal.nD) → Buf (Elt Ideal) ((c.tc : Thread Cert.PremixIdeal.nD Cert.PremixIdeal.τ).loc Cert.PremixIdeal.main_v0_3)) (v4 : (c : Dev Cert.PremixIdeal.nD) → Buf (Elt Ideal) ((c.tc : Thread Cert.PremixIdeal.nD Cert.PremixIdeal.τ).loc Cert.PremixIdeal.main_v0_4)) (v5 : (c : Dev Cert.PremixIdeal.nD) → Buf (Elt Ideal) ((c.tc : Thread Cert.PremixIdeal.nD Cert.PremixIdeal.τ).loc Cert.PremixIdeal.main_v0_5)) (v6 : (c : Dev Cert.PremixIdeal.nD) → Buf (Elt Ideal) ((c.tc : Thread Cert.PremixIdeal.nD Cert.PremixIdeal.τ).loc Cert.PremixIdeal.main_v0_6)),
      θ_run (Cert.PremixIdeal.defs (F := Ideal)) (onTc (τ := Cert.PremixIdeal.τ) (Cert.PremixIdeal.main (F := Ideal))) ⟨m, fun _ => 0, g⟩ (fun r => ∀ c : Dev Cert.PremixIdeal.nD,
          r.2.mem ((c.tc : Thread Cert.PremixIdeal.nD Cert.PremixIdeal.τ).loc Cert.PremixIdeal.main_v0_0) = v0 c
          ∧ r.2.mem ((c.tc : Thread Cert.PremixIdeal.nD Cert.PremixIdeal.τ).loc Cert.PremixIdeal.main_v0_1) = v1 c
          ∧ r.2.mem ((c.tc : Thread Cert.PremixIdeal.nD Cert.PremixIdeal.τ).loc Cert.PremixIdeal.main_v0_2) = v2 c
          ∧ r.2.mem ((c.tc : Thread Cert.PremixIdeal.nD Cert.PremixIdeal.τ).loc Cert.PremixIdeal.main_v0_3) = v3 c
          ∧ r.2.mem ((c.tc : Thread Cert.PremixIdeal.nD Cert.PremixIdeal.τ).loc Cert.PremixIdeal.main_v0_4) = v4 c
          ∧ r.2.mem ((c.tc : Thread Cert.PremixIdeal.nD Cert.PremixIdeal.τ).loc Cert.PremixIdeal.main_v0_5) = v5 c
          ∧ r.2.mem ((c.tc : Thread Cert.PremixIdeal.nD Cert.PremixIdeal.τ).loc Cert.PremixIdeal.main_v0_6) = v6 c
          ∧ r.2.mem ((c.tc : Thread Cert.PremixIdeal.nD Cert.PremixIdeal.τ).loc Cert.PremixIdeal.main_arg0) = m ((c.tc : Thread Cert.PremixIdeal.nD Cert.PremixIdeal.τ).loc Cert.PremixIdeal.main_arg0)
          ∧ r.2.mem ((c.tc : Thread Cert.PremixIdeal.nD Cert.PremixIdeal.τ).loc Cert.PremixIdeal.main_arg1) = m ((c.tc : Thread Cert.PremixIdeal.nD Cert.PremixIdeal.τ).loc Cert.PremixIdeal.main_arg1)
          ∧ r.2.mem ((c.tc : Thread Cert.PremixIdeal.nD Cert.PremixIdeal.τ).loc Cert.PremixIdeal.main_arg2) = m ((c.tc : Thread Cert.PremixIdeal.nD Cert.PremixIdeal.τ).loc Cert.PremixIdeal.main_arg2)
          ∧ r.2.mem ((c.tc : Thread Cert.PremixIdeal.nD Cert.PremixIdeal.τ).loc Cert.PremixIdeal.main_arg3) = m ((c.tc : Thread Cert.PremixIdeal.nD Cert.PremixIdeal.τ).loc Cert.PremixIdeal.main_arg3)
          ∧ r.2.mem ((c.tc : Thread Cert.PremixIdeal.nD Cert.PremixIdeal.τ).loc Cert.PremixIdeal.main_arg4) = m ((c.tc : Thread Cert.PremixIdeal.nD Cert.PremixIdeal.τ).loc Cert.PremixIdeal.main_arg4)
          ∧ r.2.mem ((c.tc : Thread Cert.PremixIdeal.nD Cert.PremixIdeal.τ).loc Cert.PremixIdeal.main_arg5) = m ((c.tc : Thread Cert.PremixIdeal.nD Cert.PremixIdeal.τ).loc Cert.PremixIdeal.main_arg5)
          ∧ r.2.mem ((c.tc : Thread Cert.PremixIdeal.nD Cert.PremixIdeal.τ).loc Cert.PremixIdeal.main_arg6) = m ((c.tc : Thread Cert.PremixIdeal.nD Cert.PremixIdeal.τ).loc Cert.PremixIdeal.main_arg6)
          ∧ r.2.mem ((c.tc : Thread Cert.PremixIdeal.nD Cert.PremixIdeal.τ).loc Cert.PremixIdeal.main_arg7) = m ((c.tc : Thread Cert.PremixIdeal.nD Cert.PremixIdeal.τ).loc Cert.PremixIdeal.main_arg7)
          ∧ r.2.mem ((c.tc : Thread Cert.PremixIdeal.nD Cert.PremixIdeal.τ).loc Cert.PremixIdeal.main_arg8) = m ((c.tc : Thread Cert.PremixIdeal.nD Cert.PremixIdeal.τ).loc Cert.PremixIdeal.main_arg8)
          ∧ r.2.mem ((c.tc : Thread Cert.PremixIdeal.nD Cert.PremixIdeal.τ).loc Cert.PremixIdeal.main_arg9) = m ((c.tc : Thread Cert.PremixIdeal.nD Cert.PremixIdeal.τ).loc Cert.PremixIdeal.main_arg9)
          ∧ r.2.mem ((c.tc : Thread Cert.PremixIdeal.nD Cert.PremixIdeal.τ).loc Cert.PremixIdeal.main_arg10) = m ((c.tc : Thread Cert.PremixIdeal.nD Cert.PremixIdeal.τ).loc Cert.PremixIdeal.main_arg10)
          ∧ r.2.mem ((c.tc : Thread Cert.PremixIdeal.nD Cert.PremixIdeal.τ).loc Cert.PremixIdeal.main_arg11) = m ((c.tc : Thread Cert.PremixIdeal.nD Cert.PremixIdeal.τ).loc Cert.PremixIdeal.main_arg11)
          ∧ r.2.mem ((c.tc : Thread Cert.PremixIdeal.nD Cert.PremixIdeal.τ).loc Cert.PremixIdeal.main_arg12) = m ((c.tc : Thread Cert.PremixIdeal.nD Cert.PremixIdeal.τ).loc Cert.PremixIdeal.main_arg12))
      ∧ θ_run (Cert.ProjectionsIdeal.defs (F := Ideal)) (onTc (τ := Cert.ProjectionsIdeal.τ) (Cert.ProjectionsIdeal.main (F := Ideal))) ⟨m', fun _ => 0, g'⟩ (fun r => ∀ c : Dev Cert.ProjectionsIdeal.nD,
          r.2.mem ((c.tc : Thread Cert.ProjectionsIdeal.nD Cert.ProjectionsIdeal.τ).loc Cert.ProjectionsIdeal.main_v116) = v0 c
          ∧ r.2.mem ((c.tc : Thread Cert.ProjectionsIdeal.nD Cert.ProjectionsIdeal.τ).loc Cert.ProjectionsIdeal.main_v117) = v1 c
          ∧ r.2.mem ((c.tc : Thread Cert.ProjectionsIdeal.nD Cert.ProjectionsIdeal.τ).loc Cert.ProjectionsIdeal.main_v118) = v2 c
          ∧ r.2.mem ((c.tc : Thread Cert.ProjectionsIdeal.nD Cert.ProjectionsIdeal.τ).loc Cert.ProjectionsIdeal.main_v120) = v3 c
          ∧ r.2.mem ((c.tc : Thread Cert.ProjectionsIdeal.nD Cert.ProjectionsIdeal.τ).loc Cert.ProjectionsIdeal.main_v122) = v4 c
          ∧ r.2.mem ((c.tc : Thread Cert.ProjectionsIdeal.nD Cert.ProjectionsIdeal.τ).loc Cert.ProjectionsIdeal.main_v123) = v5 c
          ∧ r.2.mem ((c.tc : Thread Cert.ProjectionsIdeal.nD Cert.ProjectionsIdeal.τ).loc Cert.ProjectionsIdeal.main_v130) = v6 c
          ∧ r.2.mem ((c.tc : Thread Cert.ProjectionsIdeal.nD Cert.ProjectionsIdeal.τ).loc Cert.ProjectionsIdeal.main_arg0) = m' ((c.tc : Thread Cert.ProjectionsIdeal.nD Cert.ProjectionsIdeal.τ).loc Cert.ProjectionsIdeal.main_arg0)
          ∧ r.2.mem ((c.tc : Thread Cert.ProjectionsIdeal.nD Cert.ProjectionsIdeal.τ).loc Cert.ProjectionsIdeal.main_arg1) = m' ((c.tc : Thread Cert.ProjectionsIdeal.nD Cert.ProjectionsIdeal.τ).loc Cert.ProjectionsIdeal.main_arg1)
          ∧ r.2.mem ((c.tc : Thread Cert.ProjectionsIdeal.nD Cert.ProjectionsIdeal.τ).loc Cert.ProjectionsIdeal.main_arg2) = m' ((c.tc : Thread Cert.ProjectionsIdeal.nD Cert.ProjectionsIdeal.τ).loc Cert.ProjectionsIdeal.main_arg2)
          ∧ r.2.mem ((c.tc : Thread Cert.ProjectionsIdeal.nD Cert.ProjectionsIdeal.τ).loc Cert.ProjectionsIdeal.main_arg3) = m' ((c.tc : Thread Cert.ProjectionsIdeal.nD Cert.ProjectionsIdeal.τ).loc Cert.ProjectionsIdeal.main_arg3)
          ∧ r.2.mem ((c.tc : Thread Cert.ProjectionsIdeal.nD Cert.ProjectionsIdeal.τ).loc Cert.ProjectionsIdeal.main_arg4) = m' ((c.tc : Thread Cert.ProjectionsIdeal.nD Cert.ProjectionsIdeal.τ).loc Cert.ProjectionsIdeal.main_arg4)
          ∧ r.2.mem ((c.tc : Thread Cert.ProjectionsIdeal.nD Cert.ProjectionsIdeal.τ).loc Cert.ProjectionsIdeal.main_arg5) = m' ((c.tc : Thread Cert.ProjectionsIdeal.nD Cert.ProjectionsIdeal.τ).loc Cert.ProjectionsIdeal.main_arg5)
          ∧ r.2.mem ((c.tc : Thread Cert.ProjectionsIdeal.nD Cert.ProjectionsIdeal.τ).loc Cert.ProjectionsIdeal.main_arg6) = m' ((c.tc : Thread Cert.ProjectionsIdeal.nD Cert.ProjectionsIdeal.τ).loc Cert.ProjectionsIdeal.main_arg6)
          ∧ r.2.mem ((c.tc : Thread Cert.ProjectionsIdeal.nD Cert.ProjectionsIdeal.τ).loc Cert.ProjectionsIdeal.main_arg7) = m' ((c.tc : Thread Cert.ProjectionsIdeal.nD Cert.ProjectionsIdeal.τ).loc Cert.ProjectionsIdeal.main_arg7)
          ∧ r.2.mem ((c.tc : Thread Cert.ProjectionsIdeal.nD Cert.ProjectionsIdeal.τ).loc Cert.ProjectionsIdeal.main_arg8) = m' ((c.tc : Thread Cert.ProjectionsIdeal.nD Cert.ProjectionsIdeal.τ).loc Cert.ProjectionsIdeal.main_arg8)
          ∧ r.2.mem ((c.tc : Thread Cert.ProjectionsIdeal.nD Cert.ProjectionsIdeal.τ).loc Cert.ProjectionsIdeal.main_arg9) = m' ((c.tc : Thread Cert.ProjectionsIdeal.nD Cert.ProjectionsIdeal.τ).loc Cert.ProjectionsIdeal.main_arg9)
          ∧ r.2.mem ((c.tc : Thread Cert.ProjectionsIdeal.nD Cert.ProjectionsIdeal.τ).loc Cert.ProjectionsIdeal.main_arg10) = m' ((c.tc : Thread Cert.ProjectionsIdeal.nD Cert.ProjectionsIdeal.τ).loc Cert.ProjectionsIdeal.main_arg10)
          ∧ r.2.mem ((c.tc : Thread Cert.ProjectionsIdeal.nD Cert.ProjectionsIdeal.τ).loc Cert.ProjectionsIdeal.main_arg11) = m' ((c.tc : Thread Cert.ProjectionsIdeal.nD Cert.ProjectionsIdeal.τ).loc Cert.ProjectionsIdeal.main_arg11)
          ∧ r.2.mem ((c.tc : Thread Cert.ProjectionsIdeal.nD Cert.ProjectionsIdeal.τ).loc Cert.ProjectionsIdeal.main_arg12) = m' ((c.tc : Thread Cert.ProjectionsIdeal.nD Cert.ProjectionsIdeal.τ).loc Cert.ProjectionsIdeal.main_arg12))

def preserves_Postmix_PostmixIdeal : Prop :=
  True

def algebraic_PostmixIdeal_MergeIdeal [hPostmixIdeal : Cert.PostmixIdeal.Facts] [hMergeIdeal : Cert.MergeIdeal.Facts] [hPre_moderate : Cert.Pre_moderate.Facts] : Prop :=
  ∀ (m : (ℓ : Loc Cert.PostmixIdeal.nD Cert.PostmixIdeal.τ Cert.PostmixIdeal.sig) → Buf (Elt Ideal) ℓ) (g : Dev Cert.PostmixIdeal.nD → PrngReg)
    (m' : (ℓ : Loc Cert.MergeIdeal.nD Cert.MergeIdeal.τ Cert.MergeIdeal.sig) → Buf (Elt Ideal) ℓ) (g' : Dev Cert.MergeIdeal.nD → PrngReg), Pre_PostmixIdeal m →
    (∀ c : Dev Cert.PostmixIdeal.nD,
      m' ((c.tc : Thread Cert.MergeIdeal.nD Cert.MergeIdeal.τ).loc Cert.MergeIdeal.main_arg0) = m ((c.tc : Thread Cert.PostmixIdeal.nD Cert.PostmixIdeal.τ).loc Cert.PostmixIdeal.main_arg0)
      ∧ m' ((c.tc : Thread Cert.MergeIdeal.nD Cert.MergeIdeal.τ).loc Cert.MergeIdeal.main_arg1) = m ((c.tc : Thread Cert.PostmixIdeal.nD Cert.PostmixIdeal.τ).loc Cert.PostmixIdeal.main_arg1)
      ∧ m' ((c.tc : Thread Cert.MergeIdeal.nD Cert.MergeIdeal.τ).loc Cert.MergeIdeal.main_arg2) = m ((c.tc : Thread Cert.PostmixIdeal.nD Cert.PostmixIdeal.τ).loc Cert.PostmixIdeal.main_arg2)
      ∧ m' ((c.tc : Thread Cert.MergeIdeal.nD Cert.MergeIdeal.τ).loc Cert.MergeIdeal.main_arg3) = m ((c.tc : Thread Cert.PostmixIdeal.nD Cert.PostmixIdeal.τ).loc Cert.PostmixIdeal.main_arg3)
      ∧ m' ((c.tc : Thread Cert.MergeIdeal.nD Cert.MergeIdeal.τ).loc Cert.MergeIdeal.main_arg4) = m ((c.tc : Thread Cert.PostmixIdeal.nD Cert.PostmixIdeal.τ).loc Cert.PostmixIdeal.main_arg4)
      ∧ m' ((c.tc : Thread Cert.MergeIdeal.nD Cert.MergeIdeal.τ).loc Cert.MergeIdeal.main_arg5) = m ((c.tc : Thread Cert.PostmixIdeal.nD Cert.PostmixIdeal.τ).loc Cert.PostmixIdeal.main_arg5)
      ∧ m' ((c.tc : Thread Cert.MergeIdeal.nD Cert.MergeIdeal.τ).loc Cert.MergeIdeal.main_arg6) = m ((c.tc : Thread Cert.PostmixIdeal.nD Cert.PostmixIdeal.τ).loc Cert.PostmixIdeal.main_arg6)
      ∧ m' ((c.tc : Thread Cert.MergeIdeal.nD Cert.MergeIdeal.τ).loc Cert.MergeIdeal.main_arg7) = m ((c.tc : Thread Cert.PostmixIdeal.nD Cert.PostmixIdeal.τ).loc Cert.PostmixIdeal.main_arg7)
      ∧ m' ((c.tc : Thread Cert.MergeIdeal.nD Cert.MergeIdeal.τ).loc Cert.MergeIdeal.main_arg8) = m ((c.tc : Thread Cert.PostmixIdeal.nD Cert.PostmixIdeal.τ).loc Cert.PostmixIdeal.main_arg8)
      ∧ m' ((c.tc : Thread Cert.MergeIdeal.nD Cert.MergeIdeal.τ).loc Cert.MergeIdeal.main_arg9) = m ((c.tc : Thread Cert.PostmixIdeal.nD Cert.PostmixIdeal.τ).loc Cert.PostmixIdeal.main_arg9)
      ∧ m' ((c.tc : Thread Cert.MergeIdeal.nD Cert.MergeIdeal.τ).loc Cert.MergeIdeal.main_arg10) = m ((c.tc : Thread Cert.PostmixIdeal.nD Cert.PostmixIdeal.τ).loc Cert.PostmixIdeal.main_arg10)
      ∧ m' ((c.tc : Thread Cert.MergeIdeal.nD Cert.MergeIdeal.τ).loc Cert.MergeIdeal.main_arg11) = m ((c.tc : Thread Cert.PostmixIdeal.nD Cert.PostmixIdeal.τ).loc Cert.PostmixIdeal.main_arg11)
      ∧ m' ((c.tc : Thread Cert.MergeIdeal.nD Cert.MergeIdeal.τ).loc Cert.MergeIdeal.main_arg12) = m ((c.tc : Thread Cert.PostmixIdeal.nD Cert.PostmixIdeal.τ).loc Cert.PostmixIdeal.main_arg12)) →
    ∃ (v0 : (c : Dev Cert.PostmixIdeal.nD) → Buf (Elt Ideal) ((c.tc : Thread Cert.PostmixIdeal.nD Cert.PostmixIdeal.τ).loc Cert.PostmixIdeal.main_v0_0)) (v1 : (c : Dev Cert.PostmixIdeal.nD) → Buf (Elt Ideal) ((c.tc : Thread Cert.PostmixIdeal.nD Cert.PostmixIdeal.τ).loc Cert.PostmixIdeal.main_v0_1)) (v2 : (c : Dev Cert.PostmixIdeal.nD) → Buf (Elt Ideal) ((c.tc : Thread Cert.PostmixIdeal.nD Cert.PostmixIdeal.τ).loc Cert.PostmixIdeal.main_v0_2)) (v3 : (c : Dev Cert.PostmixIdeal.nD) → Buf (Elt Ideal) ((c.tc : Thread Cert.PostmixIdeal.nD Cert.PostmixIdeal.τ).loc Cert.PostmixIdeal.main_v0_3)),
      θ_run (Cert.PostmixIdeal.defs (F := Ideal)) (onTc (τ := Cert.PostmixIdeal.τ) (Cert.PostmixIdeal.main (F := Ideal))) ⟨m, fun _ => 0, g⟩ (fun r => ∀ c : Dev Cert.PostmixIdeal.nD,
          r.2.mem ((c.tc : Thread Cert.PostmixIdeal.nD Cert.PostmixIdeal.τ).loc Cert.PostmixIdeal.main_v0_0) = v0 c
          ∧ r.2.mem ((c.tc : Thread Cert.PostmixIdeal.nD Cert.PostmixIdeal.τ).loc Cert.PostmixIdeal.main_v0_1) = v1 c
          ∧ r.2.mem ((c.tc : Thread Cert.PostmixIdeal.nD Cert.PostmixIdeal.τ).loc Cert.PostmixIdeal.main_v0_2) = v2 c
          ∧ r.2.mem ((c.tc : Thread Cert.PostmixIdeal.nD Cert.PostmixIdeal.τ).loc Cert.PostmixIdeal.main_v0_3) = v3 c
          ∧ r.2.mem ((c.tc : Thread Cert.PostmixIdeal.nD Cert.PostmixIdeal.τ).loc Cert.PostmixIdeal.main_arg0) = m ((c.tc : Thread Cert.PostmixIdeal.nD Cert.PostmixIdeal.τ).loc Cert.PostmixIdeal.main_arg0)
          ∧ r.2.mem ((c.tc : Thread Cert.PostmixIdeal.nD Cert.PostmixIdeal.τ).loc Cert.PostmixIdeal.main_arg1) = m ((c.tc : Thread Cert.PostmixIdeal.nD Cert.PostmixIdeal.τ).loc Cert.PostmixIdeal.main_arg1)
          ∧ r.2.mem ((c.tc : Thread Cert.PostmixIdeal.nD Cert.PostmixIdeal.τ).loc Cert.PostmixIdeal.main_arg2) = m ((c.tc : Thread Cert.PostmixIdeal.nD Cert.PostmixIdeal.τ).loc Cert.PostmixIdeal.main_arg2)
          ∧ r.2.mem ((c.tc : Thread Cert.PostmixIdeal.nD Cert.PostmixIdeal.τ).loc Cert.PostmixIdeal.main_arg3) = m ((c.tc : Thread Cert.PostmixIdeal.nD Cert.PostmixIdeal.τ).loc Cert.PostmixIdeal.main_arg3)
          ∧ r.2.mem ((c.tc : Thread Cert.PostmixIdeal.nD Cert.PostmixIdeal.τ).loc Cert.PostmixIdeal.main_arg4) = m ((c.tc : Thread Cert.PostmixIdeal.nD Cert.PostmixIdeal.τ).loc Cert.PostmixIdeal.main_arg4)
          ∧ r.2.mem ((c.tc : Thread Cert.PostmixIdeal.nD Cert.PostmixIdeal.τ).loc Cert.PostmixIdeal.main_arg5) = m ((c.tc : Thread Cert.PostmixIdeal.nD Cert.PostmixIdeal.τ).loc Cert.PostmixIdeal.main_arg5)
          ∧ r.2.mem ((c.tc : Thread Cert.PostmixIdeal.nD Cert.PostmixIdeal.τ).loc Cert.PostmixIdeal.main_arg6) = m ((c.tc : Thread Cert.PostmixIdeal.nD Cert.PostmixIdeal.τ).loc Cert.PostmixIdeal.main_arg6)
          ∧ r.2.mem ((c.tc : Thread Cert.PostmixIdeal.nD Cert.PostmixIdeal.τ).loc Cert.PostmixIdeal.main_arg7) = m ((c.tc : Thread Cert.PostmixIdeal.nD Cert.PostmixIdeal.τ).loc Cert.PostmixIdeal.main_arg7)
          ∧ r.2.mem ((c.tc : Thread Cert.PostmixIdeal.nD Cert.PostmixIdeal.τ).loc Cert.PostmixIdeal.main_arg8) = m ((c.tc : Thread Cert.PostmixIdeal.nD Cert.PostmixIdeal.τ).loc Cert.PostmixIdeal.main_arg8)
          ∧ r.2.mem ((c.tc : Thread Cert.PostmixIdeal.nD Cert.PostmixIdeal.τ).loc Cert.PostmixIdeal.main_arg9) = m ((c.tc : Thread Cert.PostmixIdeal.nD Cert.PostmixIdeal.τ).loc Cert.PostmixIdeal.main_arg9)
          ∧ r.2.mem ((c.tc : Thread Cert.PostmixIdeal.nD Cert.PostmixIdeal.τ).loc Cert.PostmixIdeal.main_arg10) = m ((c.tc : Thread Cert.PostmixIdeal.nD Cert.PostmixIdeal.τ).loc Cert.PostmixIdeal.main_arg10)
          ∧ r.2.mem ((c.tc : Thread Cert.PostmixIdeal.nD Cert.PostmixIdeal.τ).loc Cert.PostmixIdeal.main_arg11) = m ((c.tc : Thread Cert.PostmixIdeal.nD Cert.PostmixIdeal.τ).loc Cert.PostmixIdeal.main_arg11)
          ∧ r.2.mem ((c.tc : Thread Cert.PostmixIdeal.nD Cert.PostmixIdeal.τ).loc Cert.PostmixIdeal.main_arg12) = m ((c.tc : Thread Cert.PostmixIdeal.nD Cert.PostmixIdeal.τ).loc Cert.PostmixIdeal.main_arg12))
      ∧ θ_run (Cert.MergeIdeal.defs (F := Ideal)) (onTc (τ := Cert.MergeIdeal.τ) (Cert.MergeIdeal.main (F := Ideal))) ⟨m', fun _ => 0, g'⟩ (fun r => ∀ c : Dev Cert.MergeIdeal.nD,
          r.2.mem ((c.tc : Thread Cert.MergeIdeal.nD Cert.MergeIdeal.τ).loc Cert.MergeIdeal.main_v42) = v0 c
          ∧ r.2.mem ((c.tc : Thread Cert.MergeIdeal.nD Cert.MergeIdeal.τ).loc Cert.MergeIdeal.main_v58) = v1 c
          ∧ r.2.mem ((c.tc : Thread Cert.MergeIdeal.nD Cert.MergeIdeal.τ).loc Cert.MergeIdeal.main_v103) = v2 c
          ∧ r.2.mem ((c.tc : Thread Cert.MergeIdeal.nD Cert.MergeIdeal.τ).loc Cert.MergeIdeal.main_v104) = v3 c
          ∧ r.2.mem ((c.tc : Thread Cert.MergeIdeal.nD Cert.MergeIdeal.τ).loc Cert.MergeIdeal.main_arg0) = m' ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m' ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m' ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m' ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m' ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m' ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m' ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m' ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m' ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m' ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m' ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m' ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m' ((c.tc : Thread Cert.MergeIdeal.nD Cert.MergeIdeal.τ).loc Cert.MergeIdeal.main_arg12))

def preserves_Combine_CombineIdeal : Prop :=
  True

def algebraic_CombineIdeal_TotalIdeal [hCombineIdeal : Cert.CombineIdeal.Facts] [hTotalIdeal : Cert.TotalIdeal.Facts] [hPre_spans : Cert.Pre_spans.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.TotalIdeal.nD Cert.TotalIdeal.τ Cert.TotalIdeal.sig) → Buf (Elt Ideal) ℓ) (g' : Dev Cert.TotalIdeal.nD → PrngReg), Pre_CombineIdeal m →
    (∀ c : Dev Cert.CombineIdeal.nD,
      m' ((c.tc : Thread Cert.TotalIdeal.nD Cert.TotalIdeal.τ).loc Cert.TotalIdeal.main_arg0) = m ((c.tc : Thread Cert.CombineIdeal.nD Cert.CombineIdeal.τ).loc Cert.CombineIdeal.main_arg0)
      ∧ m' ((c.tc : Thread Cert.TotalIdeal.nD Cert.TotalIdeal.τ).loc Cert.TotalIdeal.main_arg1) = m ((c.tc : Thread Cert.CombineIdeal.nD Cert.CombineIdeal.τ).loc Cert.CombineIdeal.main_arg1)
      ∧ m' ((c.tc : Thread Cert.TotalIdeal.nD Cert.TotalIdeal.τ).loc Cert.TotalIdeal.main_arg2) = m ((c.tc : Thread Cert.CombineIdeal.nD Cert.CombineIdeal.τ).loc Cert.CombineIdeal.main_arg2)
      ∧ m' ((c.tc : Thread Cert.TotalIdeal.nD Cert.TotalIdeal.τ).loc Cert.TotalIdeal.main_arg3) = m ((c.tc : Thread Cert.CombineIdeal.nD Cert.CombineIdeal.τ).loc Cert.CombineIdeal.main_arg3)
      ∧ m' ((c.tc : Thread Cert.TotalIdeal.nD Cert.TotalIdeal.τ).loc Cert.TotalIdeal.main_arg4) = m ((c.tc : Thread Cert.CombineIdeal.nD Cert.CombineIdeal.τ).loc Cert.CombineIdeal.main_arg4)
      ∧ m' ((c.tc : Thread Cert.TotalIdeal.nD Cert.TotalIdeal.τ).loc Cert.TotalIdeal.main_arg5) = m ((c.tc : Thread Cert.CombineIdeal.nD Cert.CombineIdeal.τ).loc Cert.CombineIdeal.main_arg5)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ θ_run (Cert.TotalIdeal.defs (F := Ideal)) (onTc (τ := Cert.TotalIdeal.τ) (Cert.TotalIdeal.main (F := Ideal))) ⟨m', fun _ => 0, g'⟩ (fun r => ∀ c : Dev Cert.TotalIdeal.nD,
          r.2.mem ((c.tc : Thread Cert.TotalIdeal.nD Cert.TotalIdeal.τ).loc Cert.TotalIdeal.main_v20) = v0 c
          ∧ r.2.mem ((c.tc : Thread Cert.TotalIdeal.nD Cert.TotalIdeal.τ).loc Cert.TotalIdeal.main_arg0) = m' ((c.tc : Thread Cert.TotalIdeal.nD Cert.TotalIdeal.τ).loc Cert.TotalIdeal.main_arg0)
          ∧ r.2.mem ((c.tc : Thread Cert.TotalIdeal.nD Cert.TotalIdeal.τ).loc Cert.TotalIdeal.main_arg1) = m' ((c.tc : Thread Cert.TotalIdeal.nD Cert.TotalIdeal.τ).loc Cert.TotalIdeal.main_arg1)
          ∧ r.2.mem ((c.tc : Thread Cert.TotalIdeal.nD Cert.TotalIdeal.τ).loc Cert.TotalIdeal.main_arg2) = m' ((c.tc : Thread Cert.TotalIdeal.nD Cert.TotalIdeal.τ).loc Cert.TotalIdeal.main_arg2)
          ∧ r.2.mem ((c.tc : Thread Cert.TotalIdeal.nD Cert.TotalIdeal.τ).loc Cert.TotalIdeal.main_arg3) = m' ((c.tc : Thread Cert.TotalIdeal.nD Cert.TotalIdeal.τ).loc Cert.TotalIdeal.main_arg3)
          ∧ r.2.mem ((c.tc : Thread Cert.TotalIdeal.nD Cert.TotalIdeal.τ).loc Cert.TotalIdeal.main_arg4) = m' ((c.tc : Thread Cert.TotalIdeal.nD Cert.TotalIdeal.τ).loc Cert.TotalIdeal.main_arg4)
          ∧ r.2.mem ((c.tc : Thread Cert.TotalIdeal.nD Cert.TotalIdeal.τ).loc Cert.TotalIdeal.main_arg5) = m' ((c.tc : Thread Cert.TotalIdeal.nD Cert.TotalIdeal.τ).loc Cert.TotalIdeal.main_arg5))

def preserves_Finish_FinishIdeal : Prop :=
  True

def algebraic_FinishIdeal_EndingIdeal [hFinishIdeal : Cert.FinishIdeal.Facts] [hEndingIdeal : Cert.EndingIdeal.Facts] [hPre_spans : Cert.Pre_spans.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.EndingIdeal.nD Cert.EndingIdeal.τ Cert.EndingIdeal.sig) → Buf (Elt Ideal) ℓ) (g' : Dev Cert.EndingIdeal.nD → PrngReg), Pre_FinishIdeal m →
    (∀ c : Dev Cert.FinishIdeal.nD,
      m' ((c.tc : Thread Cert.EndingIdeal.nD Cert.EndingIdeal.τ).loc Cert.EndingIdeal.main_arg0) = m ((c.tc : Thread Cert.FinishIdeal.nD Cert.FinishIdeal.τ).loc Cert.FinishIdeal.main_arg0)
      ∧ m' ((c.tc : Thread Cert.EndingIdeal.nD Cert.EndingIdeal.τ).loc Cert.EndingIdeal.main_arg1) = m ((c.tc : Thread Cert.FinishIdeal.nD Cert.FinishIdeal.τ).loc Cert.FinishIdeal.main_arg1)
      ∧ m' ((c.tc : Thread Cert.EndingIdeal.nD Cert.EndingIdeal.τ).loc Cert.EndingIdeal.main_arg2) = m ((c.tc : Thread Cert.FinishIdeal.nD Cert.FinishIdeal.τ).loc Cert.FinishIdeal.main_arg2)
      ∧ m' ((c.tc : Thread Cert.EndingIdeal.nD Cert.EndingIdeal.τ).loc Cert.EndingIdeal.main_arg3) = m ((c.tc : Thread Cert.FinishIdeal.nD Cert.FinishIdeal.τ).loc Cert.FinishIdeal.main_arg3)
      ∧ m' ((c.tc : Thread Cert.EndingIdeal.nD Cert.EndingIdeal.τ).loc Cert.EndingIdeal.main_arg4) = m ((c.tc : Thread Cert.FinishIdeal.nD Cert.FinishIdeal.τ).loc Cert.FinishIdeal.main_arg4)
      ∧ m' ((c.tc : Thread Cert.EndingIdeal.nD Cert.EndingIdeal.τ).loc Cert.EndingIdeal.main_arg5) = m ((c.tc : Thread Cert.FinishIdeal.nD Cert.FinishIdeal.τ).loc Cert.FinishIdeal.main_arg5)) →
    ∃ (v0 : (c : Dev Cert.FinishIdeal.nD) → Buf (Elt Ideal) ((c.tc : Thread Cert.FinishIdeal.nD Cert.FinishIdeal.τ).loc Cert.FinishIdeal.main_v0)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v0) = v0 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
          ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
          ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5))
      ∧ θ_run (Cert.EndingIdeal.defs (F := Ideal)) (onTc (τ := Cert.EndingIdeal.τ) (Cert.EndingIdeal.main (F := Ideal))) ⟨m', fun _ => 0, g'⟩ (fun r => ∀ c : Dev Cert.EndingIdeal.nD,
          r.2.mem ((c.tc : Thread Cert.EndingIdeal.nD Cert.EndingIdeal.τ).loc Cert.EndingIdeal.main_v32) = v0 c
          ∧ r.2.mem ((c.tc : Thread Cert.EndingIdeal.nD Cert.EndingIdeal.τ).loc Cert.EndingIdeal.main_arg0) = m' ((c.tc : Thread Cert.EndingIdeal.nD Cert.EndingIdeal.τ).loc Cert.EndingIdeal.main_arg0)
          ∧ r.2.mem ((c.tc : Thread Cert.EndingIdeal.nD Cert.EndingIdeal.τ).loc Cert.EndingIdeal.main_arg1) = m' ((c.tc : Thread Cert.EndingIdeal.nD Cert.EndingIdeal.τ).loc Cert.EndingIdeal.main_arg1)
          ∧ r.2.mem ((c.tc : Thread Cert.EndingIdeal.nD Cert.EndingIdeal.τ).loc Cert.EndingIdeal.main_arg2) = m' ((c.tc : Thread Cert.EndingIdeal.nD Cert.EndingIdeal.τ).loc Cert.EndingIdeal.main_arg2)
          ∧ r.2.mem ((c.tc : Thread Cert.EndingIdeal.nD Cert.EndingIdeal.τ).loc Cert.EndingIdeal.main_arg3) = m' ((c.tc : Thread Cert.EndingIdeal.nD Cert.EndingIdeal.τ).loc Cert.EndingIdeal.main_arg3)
          ∧ r.2.mem ((c.tc : Thread Cert.EndingIdeal.nD Cert.EndingIdeal.τ).loc Cert.EndingIdeal.main_arg4) = m' ((c.tc : Thread Cert.EndingIdeal.nD Cert.EndingIdeal.τ).loc Cert.EndingIdeal.main_arg4)
          ∧ r.2.mem ((c.tc : Thread Cert.EndingIdeal.nD Cert.EndingIdeal.τ).loc Cert.EndingIdeal.main_arg5) = m' ((c.tc : Thread Cert.EndingIdeal.nD Cert.EndingIdeal.τ).loc Cert.EndingIdeal.main_arg5))

def preserves_Modulation_ModulationIdeal : Prop :=
  True

def algebraic_ModulationIdeal_LinearIdeal [hModulationIdeal : Cert.ModulationIdeal.Facts] [hLinearIdeal : Cert.LinearIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.LinearIdeal.nD Cert.LinearIdeal.τ Cert.LinearIdeal.sig) → Buf (Elt Ideal) ℓ) (g' : Dev Cert.LinearIdeal.nD → PrngReg), Pre_ModulationIdeal m →
    (∀ c : Dev Cert.ModulationIdeal.nD,
      m' ((c.tc : Thread Cert.LinearIdeal.nD Cert.LinearIdeal.τ).loc Cert.LinearIdeal.main_arg0) = m ((c.tc : Thread Cert.ModulationIdeal.nD Cert.ModulationIdeal.τ).loc Cert.ModulationIdeal.main_arg0)
      ∧ m' ((c.tc : Thread Cert.LinearIdeal.nD Cert.LinearIdeal.τ).loc Cert.LinearIdeal.main_arg1) = m ((c.tc : Thread Cert.ModulationIdeal.nD Cert.ModulationIdeal.τ).loc Cert.ModulationIdeal.main_arg1)
      ∧ m' ((c.tc : Thread Cert.LinearIdeal.nD Cert.LinearIdeal.τ).loc Cert.LinearIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v0)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v0) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.LinearIdeal.defs (F := Ideal)) (onTc (τ := Cert.LinearIdeal.τ) (Cert.LinearIdeal.main (F := Ideal))) ⟨m', fun _ => 0, g'⟩ (fun r => ∀ c : Dev Cert.LinearIdeal.nD,
          r.2.mem ((c.tc : Thread Cert.LinearIdeal.nD Cert.LinearIdeal.τ).loc Cert.LinearIdeal.main_v4) = v0 c
          ∧ r.2.mem ((c.tc : Thread Cert.LinearIdeal.nD Cert.LinearIdeal.τ).loc Cert.LinearIdeal.main_arg0) = m' ((c.tc : Thread Cert.LinearIdeal.nD Cert.LinearIdeal.τ).loc Cert.LinearIdeal.main_arg0)
          ∧ r.2.mem ((c.tc : Thread Cert.LinearIdeal.nD Cert.LinearIdeal.τ).loc Cert.LinearIdeal.main_arg1) = m' ((c.tc : Thread Cert.LinearIdeal.nD Cert.LinearIdeal.τ).loc Cert.LinearIdeal.main_arg1)
          ∧ r.2.mem ((c.tc : Thread Cert.LinearIdeal.nD Cert.LinearIdeal.τ).loc Cert.LinearIdeal.main_arg2) = m' ((c.tc : Thread Cert.LinearIdeal.nD Cert.LinearIdeal.τ).loc Cert.LinearIdeal.main_arg2))

def Claim : Prop :=
  ∃ (hKernel : Cert.Kernel.Facts) (hKernelIdeal : Cert.KernelIdeal.Facts) (hReferenceIdeal : Cert.ReferenceIdeal.Facts) (hPremix : Cert.Premix.Facts) (hPremixIdeal : Cert.PremixIdeal.Facts) (hProjectionsIdeal : Cert.ProjectionsIdeal.Facts) (hPostmix : Cert.Postmix.Facts) (hPostmixIdeal : Cert.PostmixIdeal.Facts) (hMergeIdeal : Cert.MergeIdeal.Facts) (hCombine : Cert.Combine.Facts) (hCombineIdeal : Cert.CombineIdeal.Facts) (hTotalIdeal : Cert.TotalIdeal.Facts) (hFinish : Cert.Finish.Facts) (hFinishIdeal : Cert.FinishIdeal.Facts) (hEndingIdeal : Cert.EndingIdeal.Facts) (hModulation : Cert.Modulation.Facts) (hModulationIdeal : Cert.ModulationIdeal.Facts) (hLinearIdeal : Cert.LinearIdeal.Facts) (hPre_tables : Cert.Pre_tables.Facts) (hPre_prepared : Cert.Pre_prepared.Facts) (hPre_tiles : Cert.Pre_tiles.Facts) (hPre_moderate : Cert.Pre_moderate.Facts) (hPre_spans : Cert.Pre_spans.Facts),
    quiescent_Kernel (hKernel := hKernel) (hPre_tables := hPre_tables)
    ∧ quiescent_KernelIdeal (hKernelIdeal := hKernelIdeal) (hPre_tables := hPre_tables)
    ∧ quiescent_KernelIdeal_pre_prepared (hKernelIdeal := hKernelIdeal) (hPre_prepared := hPre_prepared)
    ∧ quiescent_ReferenceIdeal (hReferenceIdeal := hReferenceIdeal)
    ∧ quiescent_ReferenceIdeal_pre_prepared (hReferenceIdeal := hReferenceIdeal) (hPre_prepared := hPre_prepared)
    ∧ quiescent_Premix (hPremix := hPremix) (hPre_tiles := hPre_tiles)
    ∧ quiescent_PremixIdeal (hPremixIdeal := hPremixIdeal) (hPre_tiles := hPre_tiles)
    ∧ quiescent_ProjectionsIdeal (hProjectionsIdeal := hProjectionsIdeal)
    ∧ quiescent_ProjectionsIdeal_pre_tiles (hProjectionsIdeal := hProjectionsIdeal) (hPre_tiles := hPre_tiles)
    ∧ quiescent_Postmix (hPostmix := hPostmix) (hPre_moderate := hPre_moderate)
    ∧ quiescent_PostmixIdeal (hPostmixIdeal := hPostmixIdeal) (hPre_moderate := hPre_moderate)
    ∧ quiescent_MergeIdeal (hMergeIdeal := hMergeIdeal)
    ∧ quiescent_MergeIdeal_pre_moderate (hMergeIdeal := hMergeIdeal) (hPre_moderate := hPre_moderate)
    ∧ quiescent_Combine (hCombine := hCombine) (hPre_spans := hPre_spans)
    ∧ quiescent_CombineIdeal (hCombineIdeal := hCombineIdeal) (hPre_spans := hPre_spans)
    ∧ quiescent_TotalIdeal (hTotalIdeal := hTotalIdeal)
    ∧ quiescent_TotalIdeal_pre_spans (hTotalIdeal := hTotalIdeal) (hPre_spans := hPre_spans)
    ∧ quiescent_Finish (hFinish := hFinish) (hPre_spans := hPre_spans)
    ∧ quiescent_FinishIdeal (hFinishIdeal := hFinishIdeal) (hPre_spans := hPre_spans)
    ∧ quiescent_EndingIdeal (hEndingIdeal := hEndingIdeal)
    ∧ quiescent_EndingIdeal_pre_spans (hEndingIdeal := hEndingIdeal) (hPre_spans := hPre_spans)
    ∧ quiescent_Modulation (hModulation := hModulation)
    ∧ quiescent_ModulationIdeal (hModulationIdeal := hModulationIdeal)
    ∧ quiescent_LinearIdeal (hLinearIdeal := hLinearIdeal)
    ∧ preserves_Kernel_KernelIdeal
    ∧ algebraic_KernelIdeal_ReferenceIdeal_pre_prepared (hKernelIdeal := hKernelIdeal) (hReferenceIdeal := hReferenceIdeal) (hPre_prepared := hPre_prepared)
    ∧ preserves_Premix_PremixIdeal
    ∧ algebraic_PremixIdeal_ProjectionsIdeal (hPremixIdeal := hPremixIdeal) (hProjectionsIdeal := hProjectionsIdeal) (hPre_tiles := hPre_tiles)
    ∧ preserves_Postmix_PostmixIdeal
    ∧ algebraic_PostmixIdeal_MergeIdeal (hPostmixIdeal := hPostmixIdeal) (hMergeIdeal := hMergeIdeal) (hPre_moderate := hPre_moderate)
    ∧ preserves_Combine_CombineIdeal
    ∧ algebraic_CombineIdeal_TotalIdeal (hCombineIdeal := hCombineIdeal) (hTotalIdeal := hTotalIdeal) (hPre_spans := hPre_spans)
    ∧ preserves_Finish_FinishIdeal
    ∧ algebraic_FinishIdeal_EndingIdeal (hFinishIdeal := hFinishIdeal) (hEndingIdeal := hEndingIdeal) (hPre_spans := hPre_spans)
    ∧ preserves_Modulation_ModulationIdeal
    ∧ algebraic_ModulationIdeal_LinearIdeal (hModulationIdeal := hModulationIdeal) (hLinearIdeal := hLinearIdeal)
-- ==== Pre_moderate.lean ====
abbrev S192 : Shape := ⟨1, ![192]⟩
abbrev S49152x1024 : Shape := ⟨2, ![49152, 1024]⟩
abbrev S49152x512 : Shape := ⟨2, ![49152, 512]⟩
abbrev S49152x2048 : Shape := ⟨2, ![49152, 2048]⟩
abbrev S16x6144 : Shape := ⟨2, ![16, 6144]⟩
abbrev S512x1024 : Shape := ⟨2, ![512, 1024]⟩
abbrev S1024x1024 : Shape := ⟨2, ![1024, 1024]⟩
abbrev S1x1024 : Shape := ⟨2, ![1, 1024]⟩
abbrev S1024x128 : Shape := ⟨2, ![1024, 128]⟩
abbrev S1x128 : Shape := ⟨2, ![1, 128]⟩
abbrev S_ : Shape := ⟨0, ![]⟩
abbrev S12x2048 : Shape := ⟨2, ![12, 2048]⟩
abbrev S1024x36 : Shape := ⟨2, ![1024, 36]⟩
abbrev S1x36 : Shape := ⟨2, ![1, 36]⟩

class Facts : Prop where
  bcast_S_S192 : S_.BroadcastsInDim S192 (![] : Fin 0 → Fin S192.rank)
  reducesTo_S192_S_d0 : S192.ReducesTo [0] S_
  h_S_ : 0 < S_.numel
  slices_S16x6144_S12x2048_0_3072 : S16x6144.Slices ![0, 3072] S12x2048
  bcast_S_S12x2048 : S_.BroadcastsInDim S12x2048 (![] : Fin 0 → Fin S12x2048.rank)
  reducesTo_S12x2048_S_d0_1 : S12x2048.ReducesTo [0, 1] S_
  bcast_S_S1x1024 : S_.BroadcastsInDim S1x1024 (![] : Fin 0 → Fin S1x1024.rank)
  reducesTo_S1x1024_S_d0_1 : S1x1024.ReducesTo [0, 1] S_
  slices_S1024x128_S1024x36_0_0 : S1024x128.Slices ![0, 0] S1024x36
  bcast_S_S1024x36 : S_.BroadcastsInDim S1024x36 (![] : Fin 0 → Fin S1024x36.rank)
  reducesTo_S1024x36_S_d0_1 : S1024x36.ReducesTo [0, 1] S_
  slices_S1x128_S1x36_0_0 : S1x128.Slices ![0, 0] S1x36
  bcast_S_S1x36 : S_.BroadcastsInDim S1x36 (![] : Fin 0 → Fin S1x36.rank)
  reducesTo_S1x36_S_d0_1 : S1x36.ReducesTo [0, 1] S_

variable [Facts]

def fn_where {F : FTy → Type} [FloatOps F] (arg0 : IVec S192 1) (arg1 : IVec S192 32) (arg2 : IVec S192 32) : IVec S192 32 :=
  let v0 : IVec S192 32 := select arg0 arg1 arg2
  v0

def fn_part2 {F : FTy → Type} [FloatOps F] (main_arg11 : FVec F S1024x128 .bf16) (main_arg12 : FVec F S1x128 .f32) (main_v26 : IVec S_ 1) (main_v33 : IVec S_ 1) : IVec S_ 1 :=
  let main_v34 : IVec S_ 1 := andi main_v26 main_v33
  let main_v35 : FVec F S1024x36 .bf16 := (extractStridedSlice S1024x36 ![0, 0] · slices_S1024x128_S1024x36_0_0) main_arg11
  let main_cst_12 : FVec F S_ .bf16 := constant S_ .bf16 0x4780#16
  let main_v36 : FVec F S1024x36 .bf16 := broadcastInDim S1024x36 ![] bcast_S_S1024x36 main_cst_12
  let main_v37 : IVec S1024x36 1 := cmpf .ole main_v35 main_v36
  let main_cst_13 : FVec F S_ .bf16 := constant S_ .bf16 0xC780#16
  let main_v38 : FVec F S1024x36 .bf16 := broadcastInDim S1024x36 ![] bcast_S_S1024x36 main_cst_13
  let main_v39 : IVec S1024x36 1 := cmpf .oge main_v35 main_v38
  let main_v40 : IVec S1024x36 1 := andi main_v37 main_v39
  let main_c_14 : IVec S_ 1 := constantI S_ 1 1#1
  let main_v41 : IVec S_ 1 := (fun x v => Host.reduce IntOp.andi x v reducesTo_S1024x36_S_d0_1 h_S_) main_v40 main_c_14
  let main_v42 : IVec S_ 1 := andi main_v34 main_v41
  let main_v43 : FVec F S1x36 .f32 := (extractStridedSlice S1x36 ![0, 0] · slices_S1x128_S1x36_0_0) main_arg12
  let main_cst_15 : FVec F S_ .f32 := constant S_ .f32 0x47800000#32
  let main_v44 : FVec F S1x36 .f32 := broadcastInDim S1x36 ![] bcast_S_S1x36 main_cst_15
  let main_v45 : IVec S1x36 1 := cmpf .ole main_v43 main_v44
  let main_cst_16 : FVec F S_ .f32 := constant S_ .f32 0xC7800000#32
  let main_v46 : FVec F S1x36 .f32 := broadcastInDim S1x36 ![] bcast_S_S1x36 main_cst_16
  let main_v47 : IVec S1x36 1 := cmpf .oge main_v43 main_v46
  let main_v48 : IVec S1x36 1 := andi main_v45 main_v47
  let main_c_17 : IVec S_ 1 := constantI S_ 1 1#1
  let main_v49 : IVec S_ 1 := (fun x v => Host.reduce IntOp.andi x v reducesTo_S1x36_S_d0_1 h_S_) main_v48 main_c_17
  let main_v50 : IVec S_ 1 := andi main_v42 main_v49
  main_v50

def fn_part1 {F : FTy → Type} [FloatOps F] (main_arg9 : FVec F S1x1024 .f32) (main_arg10 : FVec F S1024x128 .bf16) (main_arg11 : FVec F S1024x128 .bf16) (main_arg12 : FVec F S1x128 .f32) (main_v11 : IVec S_ 1) (main_v14 : IVec S12x2048 1) (main_v16 : IVec S12x2048 1) : IVec S_ 1 :=
  let main_v17 : IVec S12x2048 1 := andi main_v14 main_v16
  let main_c_5 : IVec S_ 1 := constantI S_ 1 1#1
  let main_v18 : IVec S_ 1 := (fun x v => Host.reduce IntOp.andi x v reducesTo_S12x2048_S_d0_1 h_S_) main_v17 main_c_5
  let main_v19 : IVec S_ 1 := andi main_v11 main_v18
  let main_cst_6 : FVec F S_ .f32 := constant S_ .f32 0x47800000#32
  let main_v20 : FVec F S1x1024 .f32 := broadcastInDim S1x1024 ![] bcast_S_S1x1024 main_cst_6
  let main_v21 : IVec S1x1024 1 := cmpf .ole main_arg9 main_v20
  let main_cst_7 : FVec F S_ .f32 := constant S_ .f32 0xC7800000#32
  let main_v22 : FVec F S1x1024 .f32 := broadcastInDim S1x1024 ![] bcast_S_S1x1024 main_cst_7
  let main_v23 : IVec S1x1024 1 := cmpf .oge main_arg9 main_v22
  let main_v24 : IVec S1x1024 1 := andi main_v21 main_v23
  let main_c_8 : IVec S_ 1 := constantI S_ 1 1#1
  let main_v25 : IVec S_ 1 := (fun x v => Host.reduce IntOp.andi x v reducesTo_S1x1024_S_d0_1 h_S_) main_v24 main_c_8
  let main_v26 : IVec S_ 1 := andi main_v19 main_v25
  let main_v27 : FVec F S1024x36 .bf16 := (extractStridedSlice S1024x36 ![0, 0] · slices_S1024x128_S1024x36_0_0) main_arg10
  let main_cst_9 : FVec F S_ .bf16 := constant S_ .bf16 0x4780#16
  let main_v28 : FVec F S1024x36 .bf16 := broadcastInDim S1024x36 ![] bcast_S_S1024x36 main_cst_9
  let main_v29 : IVec S1024x36 1 := cmpf .ole main_v27 main_v28
  let main_cst_10 : FVec F S_ .bf16 := constant S_ .bf16 0xC780#16
  let main_v30 : FVec F S1024x36 .bf16 := broadcastInDim S1024x36 ![] bcast_S_S1024x36 main_cst_10
  let main_v31 : IVec S1024x36 1 := cmpf .oge main_v27 main_v30
  let main_v32 : IVec S1024x36 1 := andi main_v29 main_v31
  let main_c_11 : IVec S_ 1 := constantI S_ 1 1#1
  let main_v33 : IVec S_ 1 := (fun x v => Host.reduce IntOp.andi x v reducesTo_S1024x36_S_d0_1 h_S_) main_v32 main_c_11
  fn_part2 (F := F) main_arg11 main_arg12 main_v26 main_v33

def fn {F : FTy → Type} [FloatOps F] (main_arg0 : IVec S192 32) (main_arg1 : FVec F S49152x1024 .f32) (main_arg2 : FVec F S49152x512 .bf16) (main_arg3 : FVec F S49152x1024 .bf16) (main_arg4 : FVec F S49152x2048 .bf16) (main_arg5 : FVec F S16x6144 .f32) (main_arg6 : FVec F S512x1024 .bf16) (main_arg7 : FVec F S1024x1024 .bf16) (main_arg8 : FVec F S1024x1024 .bf16) (main_arg9 : FVec F S1x1024 .f32) (main_arg10 : FVec F S1024x128 .bf16) (main_arg11 : FVec F S1024x128 .bf16) (main_arg12 : FVec F S1x128 .f32) : IVec S_ 1 :=
  let main_v0 : IVec S192 32 := iotaInDim S192 32 0
  let main_c : IVec S_ 32 := constantI S_ 32 128#32
  let main_v1 : IVec S192 32 := broadcastInDim S192 ![] bcast_S_S192 main_c
  let main_v2 : IVec S192 1 := cmpi .slt main_v0 main_v1
  let main_c_0 : IVec S_ 32 := constantI S_ 32 5#32
  let main_v3 : IVec S192 32 := broadcastInDim S192 ![] bcast_S_S192 main_c_0
  let main_v4 : IVec S192 32 := Host.shrsi main_v0 main_v3
  let main_c_1 : IVec S_ 32 := constantI S_ 32 3#32
  let main_v5 : IVec S192 32 := broadcastInDim S192 ![] bcast_S_S192 main_c_1
  let main_v6 : IVec S192 32 := Host.shrsi main_v0 main_v5
  let main_c_2 : IVec S_ 32 := constantI S_ 32 12#32
  let main_v7 : IVec S192 32 := broadcastInDim S192 ![] bcast_S_S192 main_c_2
  let main_v8 : IVec S192 32 := subi main_v6 main_v7
  let main_v9 : IVec S192 32 := fn_where (F := F) main_v2 main_v4 main_v8
  let main_v10 : IVec S192 1 := cmpi .eq main_arg0 main_v9
  let main_c_3 : IVec S_ 1 := constantI S_ 1 1#1
  let main_v11 : IVec S_ 1 := (fun x v => Host.reduce IntOp.andi x v reducesTo_S192_S_d0 h_S_) main_v10 main_c_3
  let main_v12 : FVec F S12x2048 .f32 := (extractStridedSlice S12x2048 ![0, 3072] · slices_S16x6144_S12x2048_0_3072) main_arg5
  let main_cst : FVec F S_ .f32 := constant S_ .f32 0x47800000#32
  let main_v13 : FVec F S12x2048 .f32 := broadcastInDim S12x2048 ![] bcast_S_S12x2048 main_cst
  let main_v14 : IVec S12x2048 1 := cmpf .ole main_v12 main_v13
  let main_cst_4 : FVec F S_ .f32 := constant S_ .f32 0xC7800000#32
  let main_v15 : FVec F S12x2048 .f32 := broadcastInDim S12x2048 ![] bcast_S_S12x2048 main_cst_4
  let main_v16 : IVec S12x2048 1 := cmpf .oge main_v12 main_v15
  fn_part1 (F := F) main_arg9 main_arg10 main_arg11 main_arg12 main_v11 main_v14 main_v16
-- ==== Pre_prepared.lean ====
abbrev S288 : Shape := ⟨1, ![288]⟩
abbrev S49152x1024 : Shape := ⟨2, ![49152, 1024]⟩
abbrev S_ : Shape := ⟨0, ![]⟩

class Facts : Prop where
  bcast_S_S288 : S_.BroadcastsInDim S288 (![] : Fin 0 → Fin S288.rank)
  natLt_1_32 : 1 < 32
  reducesTo_S288_S_d0 : S288.ReducesTo [0] S_
  h_S_ : 0 < S_.numel
  bcast_S_S49152x1024 : S_.BroadcastsInDim S49152x1024 (![] : Fin 0 → Fin S49152x1024.rank)
  reducesTo_S49152x1024_S_d0_1 : S49152x1024.ReducesTo [0, 1] S_

variable [Facts]

def fn_where {F : FTy → Type} [FloatOps F] (arg0 : IVec S288 1) (arg1 : IVec S288 32) (arg2 : IVec S288 32) : IVec S288 32 :=
  let v0 : IVec S288 32 := select arg0 arg1 arg2
  v0

def fn_part4 {F : FTy → Type} [FloatOps F] (main_arg6 : FVec F S49152x1024 .bf16) (main_v52 : IVec S_ 1) (main_v64 : IVec S49152x1024 1) (main_v68 : IVec S49152x1024 1) (main_v69 : FVec F S49152x1024 .bf16) : IVec S_ 1 :=
  let main_v70 : IVec S49152x1024 1 := cmpf .oeq main_arg6 main_v69
  let main_v71 : IVec S49152x1024 1 := ori main_v68 main_v70
  let main_v72 : IVec S49152x1024 1 := andi main_v64 main_v71
  let main_c_24 : IVec S_ 1 := constantI S_ 1 1#1
  let main_v73 : IVec S_ 1 := (fun x v => Host.reduce IntOp.andi x v reducesTo_S49152x1024_S_d0_1 h_S_) main_v72 main_c_24
  let main_v74 : IVec S_ 1 := andi main_v52 main_v73
  main_v74

def fn_part3 {F : FTy → Type} [FloatOps F] (main_arg4 : FVec F S49152x1024 .bf16) (main_arg5 : FVec F S49152x1024 .bf16) (main_arg6 : FVec F S49152x1024 .bf16) (main_v52 : IVec S_ 1) : IVec S_ 1 :=
  let main_v53 : IVec S49152x1024 32 := iotaInDim S49152x1024 32 1
  let main_cst : FVec F S_ .bf16 := constant S_ .bf16 0x7F80#16
  let main_v54 : FVec F S49152x1024 .bf16 := broadcastInDim S49152x1024 ![] bcast_S_S49152x1024 main_cst
  let main_v55 : IVec S49152x1024 1 := cmpf .olt main_arg4 main_v54
  let main_cst_18 : FVec F S_ .bf16 := constant S_ .bf16 0xFF80#16
  let main_v56 : FVec F S49152x1024 .bf16 := broadcastInDim S49152x1024 ![] bcast_S_S49152x1024 main_cst_18
  let main_v57 : IVec S49152x1024 1 := cmpf .ogt main_arg4 main_v56
  let main_v58 : IVec S49152x1024 1 := andi main_v55 main_v57
  let main_cst_19 : FVec F S_ .bf16 := constant S_ .bf16 0x7F80#16
  let main_v59 : FVec F S49152x1024 .bf16 := broadcastInDim S49152x1024 ![] bcast_S_S49152x1024 main_cst_19
  let main_v60 : IVec S49152x1024 1 := cmpf .olt main_arg5 main_v59
  let main_v61 : IVec S49152x1024 1 := andi main_v58 main_v60
  let main_cst_20 : FVec F S_ .bf16 := constant S_ .bf16 0xFF80#16
  let main_v62 : FVec F S49152x1024 .bf16 := broadcastInDim S49152x1024 ![] bcast_S_S49152x1024 main_cst_20
  let main_v63 : IVec S49152x1024 1 := cmpf .ogt main_arg5 main_v62
  let main_v64 : IVec S49152x1024 1 := andi main_v61 main_v63
  let main_c_21 : IVec S_ 32 := constantI S_ 32 127#32
  let main_v65 : IVec S49152x1024 32 := broadcastInDim S49152x1024 ![] bcast_S_S49152x1024 main_c_21
  let main_v66 : IVec S49152x1024 32 := andi main_v53 main_v65
  let main_c_22 : IVec S_ 32 := constantI S_ 32 64#32
  let main_v67 : IVec S49152x1024 32 := broadcastInDim S49152x1024 ![] bcast_S_S49152x1024 main_c_22
  let main_v68 : IVec S49152x1024 1 := cmpi .ne main_v66 main_v67
  let main_cst_23 : FVec F S_ .bf16 := constant S_ .bf16 0x3F80#16
  let main_v69 : FVec F S49152x1024 .bf16 := broadcastInDim S49152x1024 ![] bcast_S_S49152x1024 main_cst_23
  fn_part4 (F := F) main_arg6 main_v52 main_v64 main_v68 main_v69

def fn_part2 {F : FTy → Type} [FloatOps F] (main_arg0 : IVec S288 32) (main_arg1 : IVec S288 32) (main_arg2 : IVec S288 32) (main_arg3 : IVec S288 32) (main_arg4 : FVec F S49152x1024 .bf16) (main_arg5 : FVec F S49152x1024 .bf16) (main_arg6 : FVec F S49152x1024 .bf16) (main_v0 : IVec S288 32) (main_v2 : IVec S288 1) (main_v9 : IVec S288 32) (main_v26 : IVec S288 32) (main_v33 : IVec S288 1) : IVec S_ 1 :=
  let main_c_13 : IVec S_ 32 := constantI S_ 32 7#32
  let main_v34 : IVec S288 32 := broadcastInDim S288 ![] bcast_S_S288 main_c_13
  let main_v35 : IVec S288 32 := andi main_v0 main_v34
  let main_c_14 : IVec S_ 32 := constantI S_ 32 1#32
  let main_v36 : IVec S288 32 := broadcastInDim S288 ![] bcast_S_S288 main_c_14
  let main_v37 : IVec S288 32 := andi main_v0 main_v36
  let main_c_15 : IVec S_ 32 := constantI S_ 32 6#32
  let main_v38 : IVec S288 32 := broadcastInDim S288 ![] bcast_S_S288 main_c_15
  let main_v39 : IVec S288 32 := addi main_v37 main_v38
  let main_v40 : IVec S288 32 := fn_where (F := F) main_v2 main_v35 main_v39
  let main_c_16 : IVec S_ 32 := constantI S_ 32 7#32
  let main_v41 : IVec S288 32 := broadcastInDim S288 ![] bcast_S_S288 main_c_16
  let main_v42 : IVec S288 1 := cmpi .eq main_v40 main_v41
  let main_v43 : IVec S288 1 := cmpi .eq main_arg0 main_v9
  let main_v44 : IVec S288 1 := cmpi .eq main_arg1 main_v26
  let main_v45 : IVec S288 1 := andi main_v43 main_v44
  let main_v46 : IVec S288 32 := (extui 32 · natLt_1_32) main_v33
  let main_v47 : IVec S288 1 := cmpi .eq main_arg2 main_v46
  let main_v48 : IVec S288 1 := andi main_v45 main_v47
  let main_v49 : IVec S288 32 := (extui 32 · natLt_1_32) main_v42
  let main_v50 : IVec S288 1 := cmpi .eq main_arg3 main_v49
  let main_v51 : IVec S288 1 := andi main_v48 main_v50
  let main_c_17 : IVec S_ 1 := constantI S_ 1 1#1
  let main_v52 : IVec S_ 1 := (fun x v => Host.reduce IntOp.andi x v reducesTo_S288_S_d0 h_S_) main_v51 main_c_17
  fn_part3 (F := F) main_arg4 main_arg5 main_arg6 main_v52

def fn_part1 {F : FTy → Type} [FloatOps F] (main_arg0 : IVec S288 32) (main_arg1 : IVec S288 32) (main_arg2 : IVec S288 32) (main_arg3 : IVec S288 32) (main_arg4 : FVec F S49152x1024 .bf16) (main_arg5 : FVec F S49152x1024 .bf16) (main_arg6 : FVec F S49152x1024 .bf16) (main_v0 : IVec S288 32) (main_v2 : IVec S288 1) (main_v9 : IVec S288 32) (main_v16 : IVec S288 32) : IVec S_ 1 :=
  let main_c_6 : IVec S_ 32 := constantI S_ 32 2#32
  let main_v17 : IVec S288 32 := broadcastInDim S288 ![] bcast_S_S288 main_c_6
  let main_v18 : IVec S288 32 := Host.shrsi main_v0 main_v17
  let main_c_7 : IVec S_ 32 := constantI S_ 32 1#32
  let main_v19 : IVec S288 32 := broadcastInDim S288 ![] bcast_S_S288 main_c_7
  let main_v20 : IVec S288 32 := Host.shli main_v18 main_v19
  let main_c_8 : IVec S_ 32 := constantI S_ 32 1#32
  let main_v21 : IVec S288 32 := broadcastInDim S288 ![] bcast_S_S288 main_c_8
  let main_v22 : IVec S288 32 := andi main_v0 main_v21
  let main_v23 : IVec S288 32 := addi main_v20 main_v22
  let main_c_9 : IVec S_ 32 := constantI S_ 32 96#32
  let main_v24 : IVec S288 32 := broadcastInDim S288 ![] bcast_S_S288 main_c_9
  let main_v25 : IVec S288 32 := subi main_v23 main_v24
  let main_v26 : IVec S288 32 := fn_where (F := F) main_v2 main_v16 main_v25
  let main_c_10 : IVec S_ 32 := constantI S_ 32 7#32
  let main_v27 : IVec S288 32 := broadcastInDim S288 ![] bcast_S_S288 main_c_10
  let main_v28 : IVec S288 32 := andi main_v0 main_v27
  let main_c_11 : IVec S_ 32 := constantI S_ 32 1#32
  let main_v29 : IVec S288 32 := broadcastInDim S288 ![] bcast_S_S288 main_c_11
  let main_v30 : IVec S288 32 := andi main_v0 main_v29
  let main_v31 : IVec S288 32 := fn_where (F := F) main_v2 main_v28 main_v30
  let main_c_12 : IVec S_ 32 := constantI S_ 32 0#32
  let main_v32 : IVec S288 32 := broadcastInDim S288 ![] bcast_S_S288 main_c_12
  let main_v33 : IVec S288 1 := cmpi .eq main_v31 main_v32
  fn_part2 (F := F) main_arg0 main_arg1 main_arg2 main_arg3 main_arg4 main_arg5 main_arg6 main_v0 main_v2 main_v9 main_v26 main_v33

def fn {F : FTy → Type} [FloatOps F] (main_arg0 : IVec S288 32) (main_arg1 : IVec S288 32) (main_arg2 : IVec S288 32) (main_arg3 : IVec S288 32) (main_arg4 : FVec F S49152x1024 .bf16) (main_arg5 : FVec F S49152x1024 .bf16) (main_arg6 : FVec F S49152x1024 .bf16) : IVec S_ 1 :=
  let main_v0 : IVec S288 32 := iotaInDim S288 32 0
  let main_c : IVec S_ 32 := constantI S_ 32 256#32
  let main_v1 : IVec S288 32 := broadcastInDim S288 ![] bcast_S_S288 main_c
  let main_v2 : IVec S288 1 := cmpi .slt main_v0 main_v1
  let main_c_0 : IVec S_ 32 := constantI S_ 32 3#32
  let main_v3 : IVec S288 32 := broadcastInDim S288 ![] bcast_S_S288 main_c_0
  let main_v4 : IVec S288 32 := Host.shrsi main_v0 main_v3
  let main_c_1 : IVec S_ 32 := constantI S_ 32 1#32
  let main_v5 : IVec S288 32 := broadcastInDim S288 ![] bcast_S_S288 main_c_1
  let main_v6 : IVec S288 32 := Host.shrsi main_v0 main_v5
  let main_c_2 : IVec S_ 32 := constantI S_ 32 96#32
  let main_v7 : IVec S288 32 := broadcastInDim S288 ![] bcast_S_S288 main_c_2
  let main_v8 : IVec S288 32 := subi main_v6 main_v7
  let main_v9 : IVec S288 32 := fn_where (F := F) main_v2 main_v4 main_v8
  let main_c_3 : IVec S_ 32 := constantI S_ 32 6#32
  let main_v10 : IVec S288 32 := broadcastInDim S288 ![] bcast_S_S288 main_c_3
  let main_v11 : IVec S288 32 := Host.shrsi main_v0 main_v10
  let main_c_4 : IVec S_ 32 := constantI S_ 32 3#32
  let main_v12 : IVec S288 32 := broadcastInDim S288 ![] bcast_S_S288 main_c_4
  let main_v13 : IVec S288 32 := Host.shli main_v11 main_v12
  let main_c_5 : IVec S_ 32 := constantI S_ 32 7#32
  let main_v14 : IVec S288 32 := broadcastInDim S288 ![] bcast_S_S288 main_c_5
  let main_v15 : IVec S288 32 := andi main_v0 main_v14
  let main_v16 : IVec S288 32 := addi main_v13 main_v15
  fn_part1 (F := F) main_arg0 main_arg1 main_arg2 main_arg3 main_arg4 main_arg5 main_arg6 main_v0 main_v2 main_v9 main_v16
-- ==== Pre_spans.lean ====
abbrev S192 : Shape := ⟨1, ![192]⟩
abbrev S49152x1024 : Shape := ⟨2, ![49152, 1024]⟩
abbrev S49664x2048 : Shape := ⟨2, ![49664, 2048]⟩
abbrev S49152x128 : Shape := ⟨2, ![49152, 128]⟩
abbrev S16x6144 : Shape := ⟨2, ![16, 6144]⟩
abbrev S1x1024 : Shape := ⟨2, ![1, 1024]⟩
abbrev S_ : Shape := ⟨0, ![]⟩

class Facts : Prop where
  bcast_S_S192 : S_.BroadcastsInDim S192 (![] : Fin 0 → Fin S192.rank)
  reducesTo_S192_S_d0 : S192.ReducesTo [0] S_
  h_S_ : 0 < S_.numel

variable [Facts]

def fn_where {F : FTy → Type} [FloatOps F] (arg0 : IVec S192 1) (arg1 : IVec S192 32) (arg2 : IVec S192 32) : IVec S192 32 :=
  let v0 : IVec S192 32 := select arg0 arg1 arg2
  v0

def fn {F : FTy → Type} [FloatOps F] (main_arg0 : IVec S192 32) (main_arg1 : FVec F S49152x1024 .f32) (main_arg2 : FVec F S49664x2048 .f32) (main_arg3 : FVec F S49152x128 .f32) (main_arg4 : FVec F S16x6144 .f32) (main_arg5 : FVec F S1x1024 .f32) : IVec S_ 1 :=
  let main_v0 : IVec S192 32 := iotaInDim S192 32 0
  let main_c : IVec S_ 32 := constantI S_ 32 128#32
  let main_v1 : IVec S192 32 := broadcastInDim S192 ![] bcast_S_S192 main_c
  let main_v2 : IVec S192 1 := cmpi .slt main_v0 main_v1
  let main_c_0 : IVec S_ 32 := constantI S_ 32 5#32
  let main_v3 : IVec S192 32 := broadcastInDim S192 ![] bcast_S_S192 main_c_0
  let main_v4 : IVec S192 32 := Host.shrsi main_v0 main_v3
  let main_c_1 : IVec S_ 32 := constantI S_ 32 3#32
  let main_v5 : IVec S192 32 := broadcastInDim S192 ![] bcast_S_S192 main_c_1
  let main_v6 : IVec S192 32 := Host.shrsi main_v0 main_v5
  let main_c_2 : IVec S_ 32 := constantI S_ 32 12#32
  let main_v7 : IVec S192 32 := broadcastInDim S192 ![] bcast_S_S192 main_c_2
  let main_v8 : IVec S192 32 := subi main_v6 main_v7
  let main_v9 : IVec S192 32 := fn_where (F := F) main_v2 main_v4 main_v8
  let main_v10 : IVec S192 1 := cmpi .eq main_arg0 main_v9
  let main_c_3 : IVec S_ 1 := constantI S_ 1 1#1
  let main_v11 : IVec S_ 1 := (fun x v => Host.reduce IntOp.andi x v reducesTo_S192_S_d0 h_S_) main_v10 main_c_3
  main_v11
-- ==== Pre_tables.lean ====
abbrev S288 : Shape := ⟨1, ![288]⟩
abbrev S49152x1024 : Shape := ⟨2, ![49152, 1024]⟩
abbrev S_ : Shape := ⟨0, ![]⟩

class Facts : Prop where
  bcast_S_S288 : S_.BroadcastsInDim S288 (![] : Fin 0 → Fin S288.rank)
  natLt_1_32 : 1 < 32
  reducesTo_S288_S_d0 : S288.ReducesTo [0] S_
  h_S_ : 0 < S_.numel

variable [Facts]

def fn_where {F : FTy → Type} [FloatOps F] (arg0 : IVec S288 1) (arg1 : IVec S288 32) (arg2 : IVec S288 32) : IVec S288 32 :=
  let v0 : IVec S288 32 := select arg0 arg1 arg2
  v0

def fn_part2 {F : FTy → Type} [FloatOps F] (main_arg0 : IVec S288 32) (main_arg1 : IVec S288 32) (main_arg2 : IVec S288 32) (main_arg3 : IVec S288 32) (main_v0 : IVec S288 32) (main_v2 : IVec S288 1) (main_v9 : IVec S288 32) (main_v26 : IVec S288 32) (main_v33 : IVec S288 1) : IVec S_ 1 :=
  let main_c_13 : IVec S_ 32 := constantI S_ 32 7#32
  let main_v34 : IVec S288 32 := broadcastInDim S288 ![] bcast_S_S288 main_c_13
  let main_v35 : IVec S288 32 := andi main_v0 main_v34
  let main_c_14 : IVec S_ 32 := constantI S_ 32 1#32
  let main_v36 : IVec S288 32 := broadcastInDim S288 ![] bcast_S_S288 main_c_14
  let main_v37 : IVec S288 32 := andi main_v0 main_v36
  let main_c_15 : IVec S_ 32 := constantI S_ 32 6#32
  let main_v38 : IVec S288 32 := broadcastInDim S288 ![] bcast_S_S288 main_c_15
  let main_v39 : IVec S288 32 := addi main_v37 main_v38
  let main_v40 : IVec S288 32 := fn_where (F := F) main_v2 main_v35 main_v39
  let main_c_16 : IVec S_ 32 := constantI S_ 32 7#32
  let main_v41 : IVec S288 32 := broadcastInDim S288 ![] bcast_S_S288 main_c_16
  let main_v42 : IVec S288 1 := cmpi .eq main_v40 main_v41
  let main_v43 : IVec S288 1 := cmpi .eq main_arg0 main_v9
  let main_v44 : IVec S288 1 := cmpi .eq main_arg1 main_v26
  let main_v45 : IVec S288 1 := andi main_v43 main_v44
  let main_v46 : IVec S288 32 := (extui 32 · natLt_1_32) main_v33
  let main_v47 : IVec S288 1 := cmpi .eq main_arg2 main_v46
  let main_v48 : IVec S288 1 := andi main_v45 main_v47
  let main_v49 : IVec S288 32 := (extui 32 · natLt_1_32) main_v42
  let main_v50 : IVec S288 1 := cmpi .eq main_arg3 main_v49
  let main_v51 : IVec S288 1 := andi main_v48 main_v50
  let main_c_17 : IVec S_ 1 := constantI S_ 1 1#1
  let main_v52 : IVec S_ 1 := (fun x v => Host.reduce IntOp.andi x v reducesTo_S288_S_d0 h_S_) main_v51 main_c_17
  main_v52

def fn_part1 {F : FTy → Type} [FloatOps F] (main_arg0 : IVec S288 32) (main_arg1 : IVec S288 32) (main_arg2 : IVec S288 32) (main_arg3 : IVec S288 32) (main_v0 : IVec S288 32) (main_v2 : IVec S288 1) (main_v9 : IVec S288 32) (main_v16 : IVec S288 32) : IVec S_ 1 :=
  let main_c_6 : IVec S_ 32 := constantI S_ 32 2#32
  let main_v17 : IVec S288 32 := broadcastInDim S288 ![] bcast_S_S288 main_c_6
  let main_v18 : IVec S288 32 := Host.shrsi main_v0 main_v17
  let main_c_7 : IVec S_ 32 := constantI S_ 32 1#32
  let main_v19 : IVec S288 32 := broadcastInDim S288 ![] bcast_S_S288 main_c_7
  let main_v20 : IVec S288 32 := Host.shli main_v18 main_v19
  let main_c_8 : IVec S_ 32 := constantI S_ 32 1#32
  let main_v21 : IVec S288 32 := broadcastInDim S288 ![] bcast_S_S288 main_c_8
  let main_v22 : IVec S288 32 := andi main_v0 main_v21
  let main_v23 : IVec S288 32 := addi main_v20 main_v22
  let main_c_9 : IVec S_ 32 := constantI S_ 32 96#32
  let main_v24 : IVec S288 32 := broadcastInDim S288 ![] bcast_S_S288 main_c_9
  let main_v25 : IVec S288 32 := subi main_v23 main_v24
  let main_v26 : IVec S288 32 := fn_where (F := F) main_v2 main_v16 main_v25
  let main_c_10 : IVec S_ 32 := constantI S_ 32 7#32
  let main_v27 : IVec S288 32 := broadcastInDim S288 ![] bcast_S_S288 main_c_10
  let main_v28 : IVec S288 32 := andi main_v0 main_v27
  let main_c_11 : IVec S_ 32 := constantI S_ 32 1#32
  let main_v29 : IVec S288 32 := broadcastInDim S288 ![] bcast_S_S288 main_c_11
  let main_v30 : IVec S288 32 := andi main_v0 main_v29
  let main_v31 : IVec S288 32 := fn_where (F := F) main_v2 main_v28 main_v30
  let main_c_12 : IVec S_ 32 := constantI S_ 32 0#32
  let main_v32 : IVec S288 32 := broadcastInDim S288 ![] bcast_S_S288 main_c_12
  let main_v33 : IVec S288 1 := cmpi .eq main_v31 main_v32
  fn_part2 (F := F) main_arg0 main_arg1 main_arg2 main_arg3 main_v0 main_v2 main_v9 main_v26 main_v33

def fn {F : FTy → Type} [FloatOps F] (main_arg0 : IVec S288 32) (main_arg1 : IVec S288 32) (main_arg2 : IVec S288 32) (main_arg3 : IVec S288 32) (main_arg4 : FVec F S49152x1024 .bf16) (main_arg5 : FVec F S49152x1024 .bf16) (main_arg6 : FVec F S49152x1024 .bf16) : IVec S_ 1 :=
  let main_v0 : IVec S288 32 := iotaInDim S288 32 0
  let main_c : IVec S_ 32 := constantI S_ 32 256#32
  let main_v1 : IVec S288 32 := broadcastInDim S288 ![] bcast_S_S288 main_c
  let main_v2 : IVec S288 1 := cmpi .slt main_v0 main_v1
  let main_c_0 : IVec S_ 32 := constantI S_ 32 3#32
  let main_v3 : IVec S288 32 := broadcastInDim S288 ![] bcast_S_S288 main_c_0
  let main_v4 : IVec S288 32 := Host.shrsi main_v0 main_v3
  let main_c_1 : IVec S_ 32 := constantI S_ 32 1#32
  let main_v5 : IVec S288 32 := broadcastInDim S288 ![] bcast_S_S288 main_c_1
  let main_v6 : IVec S288 32 := Host.shrsi main_v0 main_v5
  let main_c_2 : IVec S_ 32 := constantI S_ 32 96#32
  let main_v7 : IVec S288 32 := broadcastInDim S288 ![] bcast_S_S288 main_c_2
  let main_v8 : IVec S288 32 := subi main_v6 main_v7
  let main_v9 : IVec S288 32 := fn_where (F := F) main_v2 main_v4 main_v8
  let main_c_3 : IVec S_ 32 := constantI S_ 32 6#32
  let main_v10 : IVec S288 32 := broadcastInDim S288 ![] bcast_S_S288 main_c_3
  let main_v11 : IVec S288 32 := Host.shrsi main_v0 main_v10
  let main_c_4 : IVec S_ 32 := constantI S_ 32 3#32
  let main_v12 : IVec S288 32 := broadcastInDim S288 ![] bcast_S_S288 main_c_4
  let main_v13 : IVec S288 32 := Host.shli main_v11 main_v12
  let main_c_5 : IVec S_ 32 := constantI S_ 32 7#32
  let main_v14 : IVec S288 32 := broadcastInDim S288 ![] bcast_S_S288 main_c_5
  let main_v15 : IVec S288 32 := andi main_v0 main_v14
  let main_v16 : IVec S288 32 := addi main_v13 main_v15
  fn_part1 (F := F) main_arg0 main_arg1 main_arg2 main_arg3 main_v0 main_v2 main_v9 main_v16
-- ==== Pre_tiles.lean ====
abbrev S192 : Shape := ⟨1, ![192]⟩
abbrev S49152x1024 : Shape := ⟨2, ![49152, 1024]⟩
abbrev S16x6144 : Shape := ⟨2, ![16, 6144]⟩
abbrev S1x1024 : Shape := ⟨2, ![1, 1024]⟩
abbrev S1024x4224 : Shape := ⟨2, ![1024, 4224]⟩
abbrev S1x256 : Shape := ⟨2, ![1, 256]⟩
abbrev S256x2048 : Shape := ⟨2, ![256, 2048]⟩
abbrev S1x128 : Shape := ⟨2, ![1, 128]⟩
abbrev S128x2048 : Shape := ⟨2, ![128, 2048]⟩
abbrev S8192x128 : Shape := ⟨2, ![8192, 128]⟩
abbrev S_ : Shape := ⟨0, ![]⟩

class Facts : Prop where
  bcast_S_S192 : S_.BroadcastsInDim S192 (![] : Fin 0 → Fin S192.rank)
  reducesTo_S192_S_d0 : S192.ReducesTo [0] S_
  h_S_ : 0 < S_.numel

variable [Facts]

def fn_where {F : FTy → Type} [FloatOps F] (arg0 : IVec S192 1) (arg1 : IVec S192 32) (arg2 : IVec S192 32) : IVec S192 32 :=
  let v0 : IVec S192 32 := select arg0 arg1 arg2
  v0

def fn_part1 {F : FTy → Type} [FloatOps F] (main_v17 : IVec S192 1) : IVec S_ 1 :=
  let main_c_5 : IVec S_ 1 := constantI S_ 1 1#1
  let main_v18 : IVec S_ 1 := (fun x v => Host.reduce IntOp.andi x v reducesTo_S192_S_d0 h_S_) main_v17 main_c_5
  main_v18

def fn {F : FTy → Type} [FloatOps F] (main_arg0 : IVec S192 32) (main_arg1 : IVec S192 32) (main_arg2 : FVec F S49152x1024 .f32) (main_arg3 : FVec F S16x6144 .f32) (main_arg4 : FVec F S1x1024 .f32) (main_arg5 : FVec F S1024x4224 .bf16) (main_arg6 : FVec F S1x256 .f32) (main_arg7 : FVec F S256x2048 .bf16) (main_arg8 : FVec F S1x128 .f32) (main_arg9 : FVec F S128x2048 .bf16) (main_arg10 : FVec F S8192x128 .f32) (main_arg11 : FVec F S8192x128 .f32) (main_arg12 : FVec F S1x1024 .f32) : IVec S_ 1 :=
  let main_v0 : IVec S192 32 := iotaInDim S192 32 0
  let main_c : IVec S_ 32 := constantI S_ 32 128#32
  let main_v1 : IVec S192 32 := broadcastInDim S192 ![] bcast_S_S192 main_c
  let main_v2 : IVec S192 1 := cmpi .slt main_v0 main_v1
  let main_c_0 : IVec S_ 32 := constantI S_ 32 5#32
  let main_v3 : IVec S192 32 := broadcastInDim S192 ![] bcast_S_S192 main_c_0
  let main_v4 : IVec S192 32 := Host.shrsi main_v0 main_v3
  let main_c_1 : IVec S_ 32 := constantI S_ 32 3#32
  let main_v5 : IVec S192 32 := broadcastInDim S192 ![] bcast_S_S192 main_c_1
  let main_v6 : IVec S192 32 := Host.shrsi main_v0 main_v5
  let main_c_2 : IVec S_ 32 := constantI S_ 32 12#32
  let main_v7 : IVec S192 32 := broadcastInDim S192 ![] bcast_S_S192 main_c_2
  let main_v8 : IVec S192 32 := subi main_v6 main_v7
  let main_v9 : IVec S192 32 := fn_where (F := F) main_v2 main_v4 main_v8
  let main_c_3 : IVec S_ 32 := constantI S_ 32 31#32
  let main_v10 : IVec S192 32 := broadcastInDim S192 ![] bcast_S_S192 main_c_3
  let main_v11 : IVec S192 32 := andi main_v0 main_v10
  let main_c_4 : IVec S_ 32 := constantI S_ 32 7#32
  let main_v12 : IVec S192 32 := broadcastInDim S192 ![] bcast_S_S192 main_c_4
  let main_v13 : IVec S192 32 := andi main_v0 main_v12
  let main_v14 : IVec S192 32 := fn_where (F := F) main_v2 main_v11 main_v13
  let main_v15 : IVec S192 1 := cmpi .eq main_arg0 main_v9
  let main_v16 : IVec S192 1 := cmpi .eq main_arg1 main_v14
  let main_v17 : IVec S192 1 := andi main_v15 main_v16
  fn_part1 (F := F) main_v17
-- ==== Kernel.lean ====
abbrev S288 : Shape := ⟨1, ![288]⟩
abbrev S49152x1024 : Shape := ⟨2, ![49152, 1024]⟩
abbrev S1024x1024 : Shape := ⟨2, ![1024, 1024]⟩
abbrev S1 : Shape := ⟨1, ![1]⟩
abbrev S8x1024x128 : Shape := ⟨3, ![8, 1024, 128]⟩
abbrev S1024x128 : Shape := ⟨2, ![1024, 128]⟩
abbrev S1x1024x128 : Shape := ⟨3, ![1, 1024, 128]⟩
abbrev S1024 : Shape := ⟨1, ![1024]⟩
abbrev S1024x1 : Shape := ⟨2, ![1024, 1]⟩

abbrev nBuf : Space → Nat
  | .hbm => 4
  | .vmem => 10
  | .smem => 4
  | _ => 0

abbrev bufTy : (tb : Table) → Fin (tcTables nBuf tb) → BufTy
  | .hbm, ⟨0, _⟩ => ⟨S49152x1024, .bf16⟩
  | .hbm, ⟨1, _⟩ => ⟨S49152x1024, .bf16⟩
  | .hbm, ⟨2, _⟩ => ⟨S49152x1024, .bf16⟩
  | .hbm, ⟨3, _⟩ => ⟨S49152x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x1024x128, .f32⟩
  | .local _ .vmem, ⟨9, _⟩ => ⟨S8x1024x128, .f32⟩
  | .local _ .smem, ⟨0, _⟩ => ⟨S288, .i32⟩
  | .local _ .smem, ⟨1, _⟩ => ⟨S288, .i32⟩
  | .local _ .smem, ⟨2, _⟩ => ⟨S288, .i32⟩
  | .local _ .smem, ⟨3, _⟩ => ⟨S288, .i32⟩
  | _, _ => ⟨S49152x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![288], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v229 : Index := Scalar.indexCast arg0
  ![v229.toNat]
def k0_cond2 (v230 : BitVec 32) : BitVec 1 :=
  let c1_i32_152 : BitVec 32 := 1#32
  let v231 : BitVec 1 := Scalar.cmpi .eq v230 c1_i32_152
  let v232 : BitVec 32 := Scalar.extui v231
  let c0_i32_153 : BitVec 32 := 0#32
  let v233 : BitVec 1 := Scalar.cmpi .ne v232 c0_i32_153
  v233

def cc0_transform_0 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S288) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S288) ![v0.toNat] S1.size (k0_off1_inb i)) numel1_S1
  let c0_i32 : BitVec 32 := 0#32
  let c0_i32_0 : BitVec 32 := 0#32
  ![v1.toNat, c0_i32.toNat]

def cc0_transform_3 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S288 : Shape := ⟨1, ![288]⟩
abbrev S49152x1024 : Shape := ⟨2, ![49152, 1024]⟩
abbrev S32768x1024 : Shape := ⟨2, ![32768, 1024]⟩
abbrev S4x8192x8x128 : Shape := ⟨4, ![4, 8192, 8, 128]⟩
abbrev S4x8x8192x8192 : Shape := ⟨4, ![4, 8, 8192, 8192]⟩
abbrev S_ : Shape := ⟨0, ![]⟩
abbrev S4x8x8192 : Shape := ⟨3, ![4, 8, 8192]⟩
abbrev S4x8x8192x1 : Shape := ⟨4, ![4, 8, 8192, 1]⟩
abbrev S4x8x128x8192 : Shape := ⟨4, ![4, 8, 128, 8192]⟩
abbrev S16384x1024 : Shape := ⟨2, ![16384, 1024]⟩
abbrev S8x2048x8x128 : Shape := ⟨4, ![8, 2048, 8, 128]⟩
abbrev S8x8x2048x2048 : Shape := ⟨4, ![8, 8, 2048, 2048]⟩
abbrev S8x8x2048 : Shape := ⟨3, ![8, 8, 2048]⟩
abbrev S8x8x2048x1 : Shape := ⟨4, ![8, 8, 2048, 1]⟩
abbrev S8x8x128x2048 : Shape := ⟨4, ![8, 8, 128, 2048]⟩

abbrev nBuf : Space → Nat
  | .hbm => 69
  | .vmem => 0
  | .smem => 0
  | _ => 0

abbrev bufTy : (tb : Table) → Fin (tcTables nBuf tb) → BufTy
  | .hbm, ⟨0, _⟩ => ⟨S288, .i32⟩
  | .hbm, ⟨1, _⟩ => ⟨S288, .i32⟩
  | .hbm, ⟨2, _⟩ => ⟨S288, .i32⟩
  | .hbm, ⟨3, _⟩ => ⟨S288, .i32⟩
  | .hbm, ⟨4, _⟩ => ⟨S49152x1024, .bf16⟩
  | .hbm, ⟨5, _⟩ => ⟨S49152x1024, .bf16⟩
  | .hbm, ⟨6, _⟩ => ⟨S49152x1024, .bf16⟩
  | .hbm, ⟨7, _⟩ => ⟨S32768x1024, .bf16⟩
  | .hbm, ⟨8, _⟩ => ⟨S32768x1024, .bf16⟩
  | .hbm, ⟨9, _⟩ => ⟨S32768x1024, .bf16⟩
  | .hbm, ⟨10, _⟩ => ⟨S4x8192x8x128, .bf16⟩
  | .hbm, ⟨11, _⟩ => ⟨S4x8192x8x128, .bf16⟩
  | .hbm, ⟨12, _⟩ => ⟨S4x8192x8x128, .bf16⟩
  | .hbm, ⟨13, _⟩ => ⟨S4x8x8192x8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4x8x8192x8192, .f32⟩
  | .hbm, ⟨18, _⟩ => ⟨S4x8x8192x8192, .f32⟩
  | .hbm, ⟨19, _⟩ => ⟨S_, .f32⟩
  | .hbm, ⟨20, _⟩ => ⟨S4x8x8192, .f32⟩
  | .hbm, ⟨21, _⟩ => ⟨S_, .f32⟩
  | .hbm, ⟨22, _⟩ => ⟨S4x8x8192, .f32⟩
  | .hbm, ⟨23, _⟩ => ⟨S4x8x8192, .f32⟩
  | .hbm, ⟨24, _⟩ => ⟨S4x8x8192x1, .f32⟩
  | .hbm, ⟨25, _⟩ => ⟨S4x8x8192x8192, .f32⟩
  | .hbm, ⟨26, _⟩ => ⟨S4x8x8192x8192, .f32⟩
  | .hbm, ⟨27, _⟩ => ⟨S4x8x8192x8192, .f32⟩
  | .hbm, ⟨28, _⟩ => ⟨S_, .f32⟩
  | .hbm, ⟨29, _⟩ => ⟨S4x8x8192, .f32⟩
  | .hbm, ⟨30, _⟩ => ⟨S4x8x8192x1, .f32⟩
  | .hbm, ⟨31, _⟩ => ⟨S4x8x8192x8192, .f32⟩
  | .hbm, ⟨32, _⟩ => ⟨S4x8x8192x8192, .f32⟩
  | .hbm, ⟨33, _⟩ => ⟨S4x8192x8x128, .f32⟩
  | .hbm, ⟨34, _⟩ => ⟨S4x8x128x8192, .f32⟩
  | .hbm, ⟨35, _⟩ => ⟨S4x8192x8x128, .f32⟩
  | .hbm, ⟨36, _⟩ => ⟨S32768x1024, .f32⟩
  | .hbm, ⟨37, _⟩ => ⟨S16384x1024, .bf16⟩
  | .hbm, ⟨38, _⟩ => ⟨S16384x1024, .bf16⟩
  | .hbm, ⟨39, _⟩ => ⟨S16384x1024, .bf16⟩
  | .hbm, ⟨40, _⟩ => ⟨S8x2048x8x128, .bf16⟩
  | .hbm, ⟨41, _⟩ => ⟨S8x2048x8x128, .bf16⟩
  | .hbm, ⟨42, _⟩ => ⟨S8x2048x8x128, .bf16⟩
  | .hbm, ⟨43, _⟩ => ⟨S8x8x2048x2048, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8x8x2048x2048, .f32⟩
  | .hbm, ⟨48, _⟩ => ⟨S8x8x2048x2048, .f32⟩
  | .hbm, ⟨49, _⟩ => ⟨S_, .f32⟩
  | .hbm, ⟨50, _⟩ => ⟨S8x8x2048, .f32⟩
  | .hbm, ⟨51, _⟩ => ⟨S_, .f32⟩
  | .hbm, ⟨52, _⟩ => ⟨S8x8x2048, .f32⟩
  | .hbm, ⟨53, _⟩ => ⟨S8x8x2048, .f32⟩
  | .hbm, ⟨54, _⟩ => ⟨S8x8x2048x1, .f32⟩
  | .hbm, ⟨55, _⟩ => ⟨S8x8x2048x2048, .f32⟩
  | .hbm, ⟨56, _⟩ => ⟨S8x8x2048x2048, .f32⟩
  | .hbm, ⟨57, _⟩ => ⟨S8x8x2048x2048, .f32⟩
  | .hbm, ⟨58, _⟩ => ⟨S_, .f32⟩
  | .hbm, ⟨59, _⟩ => ⟨S8x8x2048, .f32⟩
  | .hbm, ⟨60, _⟩ => ⟨S8x8x2048x1, .f32⟩
  | .hbm, ⟨61, _⟩ => ⟨S8x8x2048x2048, .f32⟩
  | .hbm, ⟨62, _⟩ => ⟨S8x8x2048x2048, .f32⟩
  | .hbm, ⟨63, _⟩ => ⟨S8x2048x8x128, .f32⟩
  | .hbm, ⟨64, _⟩ => ⟨S8x8x128x2048, .f32⟩
  | .hbm, ⟨65, _⟩ => ⟨S8x2048x8x128, .f32⟩
  | .hbm, ⟨66, _⟩ => ⟨S16384x1024, .f32⟩
  | .hbm, ⟨67, _⟩ => ⟨S49152x1024, .f32⟩
  | .hbm, ⟨68, _⟩ => ⟨S49152x1024, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== Premix.lean ====
abbrev S192 : Shape := ⟨1, ![192]⟩
abbrev S49152x1024 : Shape := ⟨2, ![49152, 1024]⟩
abbrev S16x6144 : Shape := ⟨2, ![16, 6144]⟩
abbrev S1x1024 : Shape := ⟨2, ![1, 1024]⟩
abbrev S1024x4224 : Shape := ⟨2, ![1024, 4224]⟩
abbrev S1x256 : Shape := ⟨2, ![1, 256]⟩
abbrev S256x2048 : Shape := ⟨2, ![256, 2048]⟩
abbrev S1x128 : Shape := ⟨2, ![1, 128]⟩
abbrev S128x2048 : Shape := ⟨2, ![128, 2048]⟩
abbrev S8192x128 : Shape := ⟨2, ![8192, 128]⟩
abbrev S49152x512 : Shape := ⟨2, ![49152, 512]⟩
abbrev S49152x2048 : Shape := ⟨2, ![49152, 2048]⟩
abbrev S256x1024 : Shape := ⟨2, ![256, 1024]⟩
abbrev S256x128 : Shape := ⟨2, ![256, 128]⟩
abbrev S1 : Shape := ⟨1, ![1]⟩
abbrev S256x512 : Shape := ⟨2, ![256, 512]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S1024x2048 : Shape := ⟨2, ![1024, 2048]⟩
abbrev S1024x640 : Shape := ⟨2, ![1024, 640]⟩
abbrev S256x640 : Shape := ⟨2, ![256, 640]⟩
abbrev S256x256 : Shape := ⟨2, ![256, 256]⟩

abbrev nBuf : Space → Nat
  | .hbm => 18
  | .vmem => 28
  | .smem => 2
  | _ => 0

abbrev bufTy : (tb : Table) → Fin (tcTables nBuf tb) → BufTy
  | .hbm, ⟨0, _⟩ => ⟨S49152x1024, .f32⟩
  | .hbm, ⟨1, _⟩ => ⟨S16x6144, .f32⟩
  | .hbm, ⟨2, _⟩ => ⟨S1x1024, .f32⟩
  | .hbm, ⟨3, _⟩ => ⟨S1024x4224, .bf16⟩
  | .hbm, ⟨4, _⟩ => ⟨S1x256, .f32⟩
  | .hbm, ⟨5, _⟩ => ⟨S256x2048, .bf16⟩
  | .hbm, ⟨6, _⟩ => ⟨S1x128, .f32⟩
  | .hbm, ⟨7, _⟩ => ⟨S128x2048, .bf16⟩
  | .hbm, ⟨8, _⟩ => ⟨S8192x128, .f32⟩
  | .hbm, ⟨9, _⟩ => ⟨S8192x128, .f32⟩
  | .hbm, ⟨10, _⟩ => ⟨S1x1024, .f32⟩
  | .hbm, ⟨11, _⟩ => ⟨S49152x512, .bf16⟩
  | .hbm, ⟨12, _⟩ => ⟨S49152x512, .bf16⟩
  | .hbm, ⟨13, _⟩ => ⟨S49152x512, .bf16⟩
  | .hbm, ⟨14, _⟩ => ⟨S49152x1024, .bf16⟩
  | .hbm, ⟨15, _⟩ => ⟨S49152x1024, .bf16⟩
  | .hbm, ⟨16, _⟩ => ⟨S49152x1024, .bf16⟩
  | .hbm, ⟨17, _⟩ => ⟨S49152x2048, .bf16⟩
  | .local _ .vmem, ⟨0, _⟩ => ⟨S256x1024, .f32⟩
  | .local _ .vmem, ⟨1, _⟩ => ⟨S256x1024, .f32⟩
  | .local _ .vmem, ⟨2, _⟩ => ⟨S16x6144, .f32⟩
  | .local _ .vmem, ⟨3, _⟩ => ⟨S1x1024, .f32⟩
  | .local _ .vmem, ⟨4, _⟩ => ⟨S1024x4224, .bf16⟩
  | .local _ .vmem, ⟨5, _⟩ => ⟨S1x256, .f32⟩
  | .local _ .vmem, ⟨6, _⟩ => ⟨S256x2048, .bf16⟩
  | .local _ .vmem, ⟨7, _⟩ => ⟨S1x128, .f32⟩
  | .local _ .vmem, ⟨8, _⟩ => ⟨S128x2048, .bf16⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S1x1024, .f32⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x2048, .bf16⟩
  | .local _ .vmem, ⟨27, _⟩ => ⟨S256x2048, .bf16⟩
  | .local _ .smem, ⟨0, _⟩ => ⟨S192, .i32⟩
  | .local _ .smem, ⟨1, _⟩ => ⟨S192, .i32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_arg9 : Ref sig .tc := ⟨.hbm, 7, rfl⟩
abbrev main_arg10 : Ref sig .tc := ⟨.hbm, 8, rfl⟩
abbrev main_arg11 : Ref sig .tc := ⟨.hbm, 9, rfl⟩
abbrev main_arg12 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![192], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 2 → Nat :=
  let v2 : Index := Scalar.indexCast v1
  let c0 : Index := 0#32
  ![v2.toNat, 0]

def k0_off3 (v1 : BitVec 32) : Fin 2 → Nat :=
  let v4 : Index := Scalar.indexCast v1
  let c1024 : Index := 1024#32
  ![v4.toNat, 1024]

def k0_chk1 (v1 : BitVec 32) : Prop :=
  (∀ a, (k0_off2 v1) a + S1x1024.size a ≤ S16x6144.size a) ∧
  (∀ a, (k0_off3 v1) a + S1x1024.size a ≤ S16x6144.size a)
theorem k0_off2_inb : ∀ (v1 : BitVec 32) (k0_hw1 : k0_chk1 v1), ∀ a, (k0_off2 v1) a + S1x1024.size a ≤ S16x6144.size a := fun v1 k0_hw1 => k0_hw1.1
theorem k0_off3_inb : ∀ (v1 : BitVec 32) (k0_hw1 : k0_chk1 v1), ∀ a, (k0_off3 v1) a + S1x1024.size a ≤ S16x6144.size a := fun v1 k0_hw1 => k0_hw1.2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (k0_off1_inb : ∀ i : grid0.Coords, ∀ a, (k0_off1 i) a + S1.size a ≤ S192.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S192) ![v0.toNat] S1.size (k0_off1_inb i)) numel1_S1
  let c0_i32 : BitVec 32 := 0#32
  let c0_i32_0 : BitVec 32 := 0#32
  ![v1.toNat, c0_i32.toNat]

def cc0_transform_9 (k0_off1_inb : ∀ i : grid0.Coords, ∀ a, (k0_off1 i) a + S1.size a ≤ S192.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S192) ![v0.toNat] S1.size (k0_off1_inb i)) numel1_S1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4224 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== PremixIdeal.lean ====
variable {F : FTy → Type} [FloatOps F] [Named F]
def κ : String → Option EReal := fun
  | "qscale" => some (((Real.sqrt 96)⁻¹ * (Real.log 2)⁻¹ : ℝ) : EReal)
  | _ => none
-- ==== ProjectionsIdeal.lean ====
abbrev S192 : Shape := ⟨1, ![192]⟩
abbrev S49152x1024 : Shape := ⟨2, ![49152, 1024]⟩
abbrev S16x6144 : Shape := ⟨2, ![16, 6144]⟩
abbrev S1x1024 : Shape := ⟨2, ![1, 1024]⟩
abbrev S1024x4224 : Shape := ⟨2, ![1024, 4224]⟩
abbrev S1x256 : Shape := ⟨2, ![1, 256]⟩
abbrev S256x2048 : Shape := ⟨2, ![256, 2048]⟩
abbrev S1x128 : Shape := ⟨2, ![1, 128]⟩
abbrev S128x2048 : Shape := ⟨2, ![128, 2048]⟩
abbrev S8192x128 : Shape := ⟨2, ![8192, 128]⟩
abbrev S4x1024 : Shape := ⟨2, ![4, 1024]⟩
abbrev S4x1x1024 : Shape := ⟨3, ![4, 1, 1024]⟩
abbrev S8x1024 : Shape := ⟨2, ![8, 1024]⟩
abbrev S8x1x1024 : Shape := ⟨3, ![8, 1, 1024]⟩
abbrev S4x8192x1024 : Shape := ⟨3, ![4, 8192, 1024]⟩
abbrev S32768x1024 : Shape := ⟨2, ![32768, 1024]⟩
abbrev S8x2048x1024 : Shape := ⟨3, ![8, 2048, 1024]⟩
abbrev S16384x1024 : Shape := ⟨2, ![16384, 1024]⟩
abbrev S1x8192x128 : Shape := ⟨3, ![1, 8192, 128]⟩
abbrev S2048x128 : Shape := ⟨2, ![2048, 128]⟩
abbrev S1x2048x128 : Shape := ⟨3, ![1, 2048, 128]⟩
abbrev S4x8192x128 : Shape := ⟨3, ![4, 8192, 128]⟩
abbrev S32768x128 : Shape := ⟨2, ![32768, 128]⟩
abbrev S8x2048x128 : Shape := ⟨3, ![8, 2048, 128]⟩
abbrev S16384x128 : Shape := ⟨2, ![16384, 128]⟩
abbrev S49152x128 : Shape := ⟨2, ![49152, 128]⟩
abbrev S_ : Shape := ⟨0, ![]⟩
abbrev S49152 : Shape := ⟨1, ![49152]⟩
abbrev S49152x1 : Shape := ⟨2, ![49152, 1]⟩
abbrev S49152x4224 : Shape := ⟨2, ![49152, 4224]⟩
abbrev S49152x512 : Shape := ⟨2, ![49152, 512]⟩
abbrev S49152x256 : Shape := ⟨2, ![49152, 256]⟩
abbrev S49152x2048 : Shape := ⟨2, ![49152, 2048]⟩
abbrev S49152x8x128 : Shape := ⟨3, ![49152, 8, 128]⟩
abbrev S49152x1x128 : Shape := ⟨3, ![49152, 1, 128]⟩

abbrev nBuf : Space → Nat
  | .hbm => 158
  | .vmem => 0
  | .smem => 0
  | _ => 0

abbrev hbmTy0_0 (i : Nat) : BufTy := match i % 128 with
  | 0 => ⟨S192, .i32⟩
  | 1 => ⟨S192, .i32⟩
  | 2 => ⟨S49152x1024, .f32⟩
  | 3 => ⟨S16x6144, .f32⟩
  | 4 => ⟨S1x1024, .f32⟩
  | 5 => ⟨S1024x4224, .bf16⟩
  | 6 => ⟨S1x256, .f32⟩
  | 7 => ⟨S256x2048, .bf16⟩
  | 8 => ⟨S1x128, .f32⟩
  | 9 => ⟨S128x2048, .bf16⟩
  | 10 => ⟨S8192x128, .f32⟩
  | 11 => ⟨S8192x128, .f32⟩
  | 12 => ⟨S1x1024, .f32⟩
  | 13 => ⟨S4x1024, .f32⟩
  | 14 => ⟨S4x1x1024, .f32⟩
  | 15 => ⟨S8x1024, .f32⟩
  | 16 => ⟨S8x1x1024, .f32⟩
  | 17 => ⟨S4x8192x1024, .f32⟩
  | 18 => ⟨S32768x1024, .f32⟩
  | 19 => ⟨S8x2048x1024, .f32⟩
  | 20 => ⟨S16384x1024, .f32⟩
  | 21 => ⟨S49152x1024, .f32⟩
  | 22 => ⟨S4x1024, .f32⟩
  | 23 => ⟨S4x1x1024, .f32⟩
  | 24 => ⟨S8x1024, .f32⟩
  | 25 => ⟨S8x1x1024, .f32⟩
  | 26 => ⟨S4x8192x1024, .f32⟩
  | 27 => ⟨S32768x1024, .f32⟩
  | 28 => ⟨S8x2048x1024, .f32⟩
  | 29 => ⟨S16384x1024, .f32⟩
  | 30 => ⟨S49152x1024, .f32⟩
  | 31 => ⟨S1x8192x128, .f32⟩
  | 32 => ⟨S2048x128, .f32⟩
  | 33 => ⟨S1x2048x128, .f32⟩
  | 34 => ⟨S4x8192x128, .f32⟩
  | 35 => ⟨S32768x128, .f32⟩
  | 36 => ⟨S8x2048x128, .f32⟩
  | 37 => ⟨S16384x128, .f32⟩
  | 38 => ⟨S49152x128, .f32⟩
  | 39 => ⟨S1x8192x128, .f32⟩
  | 40 => ⟨S2048x128, .f32⟩
  | 41 => ⟨S1x2048x128, .f32⟩
  | 42 => ⟨S4x8192x128, .f32⟩
  | 43 => ⟨S32768x128, .f32⟩
  | 44 => ⟨S8x2048x128, .f32⟩
  | 45 => ⟨S16384x128, .f32⟩
  | 46 => ⟨S49152x128, .f32⟩
  | 47 => ⟨S49152x1024, .f32⟩
  | 48 => ⟨S_, .f32⟩
  | 49 => ⟨S49152, .f32⟩
  | 50 => ⟨S49152x1, .f32⟩
  | 51 => ⟨S_, .f32⟩
  | 52 => ⟨S49152x1, .f32⟩
  | 53 => ⟨S49152x1, .f32⟩
  | 54 => ⟨S_, .f32⟩
  | 55 => ⟨S49152x1, .f32⟩
  | 56 => ⟨S49152x1, .f32⟩
  | 57 => ⟨S49152x1, .f32⟩
  | 58 => ⟨S49152x1024, .f32⟩
  | 59 => ⟨S49152x1024, .f32⟩
  | 60 => ⟨S49152x1024, .f32⟩
  | 61 => ⟨S49152x1024, .f32⟩
  | 62 => ⟨S_, .f32⟩
  | 63 => ⟨S49152x1024, .f32⟩
  | 64 => ⟨S49152x1024, .f32⟩
  | 65 => ⟨S49152x1024, .f32⟩
  | 66 => ⟨S49152x1024, .f32⟩
  | 67 => ⟨S1024x4224, .f32⟩
  | 68 => ⟨S49152x4224, .f32⟩
  | 69 => ⟨S49152x512, .f32⟩
  | 70 => ⟨S49152x512, .f32⟩
  | 71 => ⟨S49152x512, .f32⟩
  | 72 => ⟨S49152x256, .f32⟩
  | 73 => ⟨S49152x128, .f32⟩
  | 74 => ⟨S49152x128, .f32⟩
  | 75 => ⟨S49152x128, .f32⟩
  | 76 => ⟨S49152x2048, .f32⟩
  | 77 => ⟨S49152x256, .f32⟩
  | 78 => ⟨S_, .f32⟩
  | 79 => ⟨S49152, .f32⟩
  | 80 => ⟨S49152x1, .f32⟩
  | 81 => ⟨S_, .f32⟩
  | 82 => ⟨S49152x1, .f32⟩
  | 83 => ⟨S49152x1, .f32⟩
  | 84 => ⟨S_, .f32⟩
  | 85 => ⟨S49152x1, .f32⟩
  | 86 => ⟨S49152x1, .f32⟩
  | 87 => ⟨S49152x1, .f32⟩
  | 88 => ⟨S49152x256, .f32⟩
  | 89 => ⟨S49152x256, .f32⟩
  | 90 => ⟨S49152x256, .f32⟩
  | 91 => ⟨S49152x256, .f32⟩
  | 92 => ⟨S256x2048, .f32⟩
  | 93 => ⟨S49152x2048, .f32⟩
  | 94 => ⟨S49152x128, .f32⟩
  | 95 => ⟨S_, .f32⟩
  | 96 => ⟨S49152, .f32⟩
  | 97 => ⟨S49152x1, .f32⟩
  | 98 => ⟨S_, .f32⟩
  | 99 => ⟨S49152x1, .f32⟩
  | 100 => ⟨S49152x1, .f32⟩
  | 101 => ⟨S_, .f32⟩
  | 102 => ⟨S49152x1, .f32⟩
  | 103 => ⟨S49152x1, .f32⟩
  | 104 => ⟨S49152x1, .f32⟩
  | 105 => ⟨S49152x128, .f32⟩
  | 106 => ⟨S49152x128, .f32⟩
  | 107 => ⟨S49152x128, .f32⟩
  | 108 => ⟨S49152x128, .f32⟩
  | 109 => ⟨S128x2048, .f32⟩
  | 110 => ⟨S49152x2048, .f32⟩
  | 111 => ⟨S49152x1024, .f32⟩
  | 112 => ⟨S49152x8x128, .f32⟩
  | 113 => ⟨S49152x1x128, .f32⟩
  | 114 => ⟨S49152x8x128, .f32⟩
  | 115 => ⟨S49152x8x128, .f32⟩
  | 116 => ⟨S49152x1024, .f32⟩
  | 117 => ⟨S49152x8x128, .f32⟩
  | 118 => ⟨S49152x1x128, .f32⟩
  | 119 => ⟨S49152x8x128, .f32⟩
  | 120 => ⟨S49152x8x128, .f32⟩
  | 121 => ⟨S49152x8x128, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S192, .i32⟩

abbrev hbmTy0_1 (i : Nat) : BufTy := match i % 128 with
  | 0 => ⟨S49152x8x128, .f32⟩
  | 1 => ⟨S49152x8x128, .f32⟩
  | 2 => ⟨S49152x1024, .f32⟩
  | 3 => ⟨S49152x8x128, .f32⟩
  | 4 => ⟨S49152x128, .f32⟩
  | 5 => ⟨S49152x128, .f32⟩
  | 6 => ⟨S49152x128, .f32⟩
  | 7 => ⟨S49152x1x128, .f32⟩
  | 8 => ⟨S49152x8x128, .f32⟩
  | 9 => ⟨S49152x8x128, .f32⟩
  | 10 => ⟨S49152x1024, .f32⟩
  | 11 => ⟨S49152x1024, .f32⟩
  | 12 => ⟨S49152x1024, .f32⟩
  | 13 => ⟨S49152x512, .bf16⟩
  | 14 => ⟨S49152x512, .bf16⟩
  | 15 => ⟨S49152x512, .bf16⟩
  | 16 => ⟨S49152x1024, .f32⟩
  | 17 => ⟨S49152x1024, .bf16⟩
  | 18 => ⟨S49152x1024, .f32⟩
  | 19 => ⟨S49152x1024, .bf16⟩
  | 20 => ⟨S49152x1024, .bf16⟩
  | 21 => ⟨S49152x2048, .f32⟩
  | 22 => ⟨S49152x2048, .f32⟩
  | 23 => ⟨S_, .f32⟩
  | 24 => ⟨S49152x2048, .f32⟩
  | 25 => ⟨S49152x2048, .f32⟩
  | 26 => ⟨S_, .f32⟩
  | 27 => ⟨S49152x2048, .f32⟩
  | 28 => ⟨S49152x2048, .f32⟩
  | 29 => ⟨S49152x2048, .bf16⟩
  | _ => ⟨S192, .i32⟩

abbrev hbmTy (i : Nat) : BufTy := match i / 128 with
  | 0 => hbmTy0_0 i
  | 1 => hbmTy0_1 i
  | _ => ⟨S192, .i32⟩

abbrev bufTy : (tb : Table) → Fin (tcTables nBuf tb) → BufTy
  | .hbm, ⟨i, _⟩ => hbmTy i
  | _, _ => ⟨S192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst : Ref sig .tc := ⟨.hbm, 48, rfl⟩
abbrev main_v35 : Ref sig .tc := ⟨.hbm, 49, rfl⟩
abbrev main_v36 : Ref sig .tc := ⟨.hbm, 50, rfl⟩
abbrev main_cst_0 : Ref sig .tc := ⟨.hbm, 51, rfl⟩
abbrev main_v37 : Ref sig .tc := ⟨.hbm, 52, rfl⟩
abbrev main_v38 : Ref sig .tc := ⟨.hbm, 53, rfl⟩
abbrev main_cst_1 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_2 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_3 : Ref sig .tc := ⟨.hbm, 78, rfl⟩
abbrev main_v61 : Ref sig .tc := ⟨.hbm, 79, rfl⟩
abbrev main_v62 : Ref sig .tc := ⟨.hbm, 80, rfl⟩
abbrev main_cst_4 : Ref sig .tc := ⟨.hbm, 81, rfl⟩
abbrev main_v63 : Ref sig .tc := ⟨.hbm, 82, rfl⟩
abbrev main_v64 : Ref sig .tc := ⟨.hbm, 83, rfl⟩
abbrev main_cst_5 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_6 : Ref sig .tc := ⟨.hbm, 95, rfl⟩
abbrev main_v75 : Ref sig .tc := ⟨.hbm, 96, rfl⟩
abbrev main_v76 : Ref sig .tc := ⟨.hbm, 97, rfl⟩
abbrev main_cst_7 : Ref sig .tc := ⟨.hbm, 98, rfl⟩
abbrev main_v77 : Ref sig .tc := ⟨.hbm, 99, rfl⟩
abbrev main_v78 : Ref sig .tc := ⟨.hbm, 100, rfl⟩
abbrev main_cst_8 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_cst_9 : Ref sig .tc := ⟨.hbm, 122, rfl⟩
abbrev main_v99 : Ref sig .tc := ⟨.hbm, 123, rfl⟩
abbrev main_cst_10 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_cst_11 : Ref sig .tc := ⟨.hbm, 151, rfl⟩
abbrev main_v126 : Ref sig .tc := ⟨.hbm, 152, rfl⟩
abbrev main_v127 : Ref sig .tc := ⟨.hbm, 153, rfl⟩
abbrev main_cst_12 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩

abbrev nD : Nat := 1
abbrev τ : Topo := Topo.v7x

variable {F : FTy → Type} [FloatOps F]
-- ==== Postmix.lean ====
abbrev S192 : Shape := ⟨1, ![192]⟩
abbrev S49152x1024 : Shape := ⟨2, ![49152, 1024]⟩
abbrev S49152x512 : Shape := ⟨2, ![49152, 512]⟩
abbrev S49152x2048 : Shape := ⟨2, ![49152, 2048]⟩
abbrev S16x6144 : Shape := ⟨2, ![16, 6144]⟩
abbrev S512x1024 : Shape := ⟨2, ![512, 1024]⟩
abbrev S1024x1024 : Shape := ⟨2, ![1024, 1024]⟩
abbrev S1x1024 : Shape := ⟨2, ![1, 1024]⟩
abbrev S1024x128 : Shape := ⟨2, ![1024, 128]⟩
abbrev S1x128 : Shape := ⟨2, ![1, 128]⟩
abbrev S49152x128 : Shape := ⟨2, ![49152, 128]⟩
abbrev S256x1024 : Shape := ⟨2, ![256, 1024]⟩
abbrev S256x512 : Shape := ⟨2, ![256, 512]⟩
abbrev S256x2048 : Shape := ⟨2, ![256, 2048]⟩
abbrev S256x128 : Shape := ⟨2, ![256, 128]⟩
abbrev S1 : Shape := ⟨1, ![1]⟩
abbrev S256 : Shape := ⟨1, ![256]⟩
abbrev S256x1 : Shape := ⟨2, ![256, 1]⟩

abbrev nBuf : Space → Nat
  | .hbm => 16
  | .vmem => 24
  | .smem => 1
  | _ => 0

abbrev bufTy : (tb : Table) → Fin (tcTables nBuf tb) → BufTy
  | .hbm, ⟨0, _⟩ => ⟨S49152x1024, .f32⟩
  | .hbm, ⟨1, _⟩ => ⟨S49152x512, .bf16⟩
  | .hbm, ⟨2, _⟩ => ⟨S49152x1024, .bf16⟩
  | .hbm, ⟨3, _⟩ => ⟨S49152x2048, .bf16⟩
  | .hbm, ⟨4, _⟩ => ⟨S16x6144, .f32⟩
  | .hbm, ⟨5, _⟩ => ⟨S512x1024, .bf16⟩
  | .hbm, ⟨6, _⟩ => ⟨S1024x1024, .bf16⟩
  | .hbm, ⟨7, _⟩ => ⟨S1024x1024, .bf16⟩
  | .hbm, ⟨8, _⟩ => ⟨S1x1024, .f32⟩
  | .hbm, ⟨9, _⟩ => ⟨S1024x128, .bf16⟩
  | .hbm, ⟨10, _⟩ => ⟨S1024x128, .bf16⟩
  | .hbm, ⟨11, _⟩ => ⟨S1x128, .f32⟩
  | .hbm, ⟨12, _⟩ => ⟨S49152x1024, .f32⟩
  | .hbm, ⟨13, _⟩ => ⟨S49152x1024, .f32⟩
  | .hbm, ⟨14, _⟩ => ⟨S49152x128, .i32⟩
  | .hbm, ⟨15, _⟩ => ⟨S49152x128, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .bf16⟩
  | .local _ .vmem, ⟨7, _⟩ => ⟨S256x2048, .bf16⟩
  | .local _ .vmem, ⟨8, _⟩ => ⟨S16x6144, .f32⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x128, .bf16⟩
  | .local _ .vmem, ⟨14, _⟩ => ⟨S1024x128, .bf16⟩
  | .local _ .vmem, ⟨15, _⟩ => ⟨S1x128, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x128, .i32⟩
  | .local _ .vmem, ⟨21, _⟩ => ⟨S256x128, .i32⟩
  | .local _ .vmem, ⟨22, _⟩ => ⟨S256x128, .f32⟩
  | .local _ .vmem, ⟨23, _⟩ => ⟨S256x128, .f32⟩
  | .local _ .smem, ⟨0, _⟩ => ⟨S192, .i32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![192], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 2 → Nat :=
  let v2 : Index := Scalar.indexCast v1
  let c2048 : Index := 2048#32
  ![v2.toNat, 2048]

def k0_off3 (v1 : BitVec 32) : Fin 2 → Nat :=
  let v4 : Index := Scalar.indexCast v1
  let c3072 : Index := 3072#32
  ![v4.toNat, 3072]
def k0_off4 (v1 : BitVec 32) : Fin 2 → Nat :=
  let v6 : Index := Scalar.indexCast v1
  let c4096 : Index := 4096#32
  ![v6.toNat, 4096]

def k0_chk1 (v1 : BitVec 32) : Prop :=
  (∀ a, (k0_off2 v1) a + S1x1024.size a ≤ S16x6144.size a) ∧
  (∀ a, (k0_off3 v1) a + S1x1024.size a ≤ S16x6144.size a) ∧
  (∀ a, (k0_off4 v1) a + S1x1024.size a ≤ S16x6144.size a)
theorem k0_off2_inb : ∀ (v1 : BitVec 32) (k0_hw1 : k0_chk1 v1), ∀ a, (k0_off2 v1) a + S1x1024.size a ≤ S16x6144.size a := fun v1 k0_hw1 => k0_hw1.1
theorem k0_off3_inb : ∀ (v1 : BitVec 32) (k0_hw1 : k0_chk1 v1), ∀ a, (k0_off3 v1) a + S1x1024.size a ≤ S16x6144.size a := fun v1 k0_hw1 => k0_hw1.2.1
theorem k0_off4_inb : ∀ (v1 : BitVec 32) (k0_hw1 : k0_chk1 v1), ∀ a, (k0_off4 v1) a + S1x1024.size a ≤ S16x6144.size a := fun v1 k0_hw1 => k0_hw1.2.2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MergeIdeal.lean ====
abbrev S192 : Shape := ⟨1, ![192]⟩
abbrev S49152x1024 : Shape := ⟨2, ![49152, 1024]⟩
abbrev S49152x512 : Shape := ⟨2, ![49152, 512]⟩
abbrev S49152x2048 : Shape := ⟨2, ![49152, 2048]⟩
abbrev S16x6144 : Shape := ⟨2, ![16, 6144]⟩
abbrev S512x1024 : Shape := ⟨2, ![512, 1024]⟩
abbrev S1024x1024 : Shape := ⟨2, ![1024, 1024]⟩
abbrev S1x1024 : Shape := ⟨2, ![1, 1024]⟩
abbrev S1024x128 : Shape := ⟨2, ![1024, 128]⟩
abbrev S1x128 : Shape := ⟨2, ![1, 128]⟩
abbrev S4x1024 : Shape := ⟨2, ![4, 1024]⟩
abbrev S4x1x1024 : Shape := ⟨3, ![4, 1, 1024]⟩
abbrev S8x1024 : Shape := ⟨2, ![8, 1024]⟩
abbrev S8x1x1024 : Shape := ⟨3, ![8, 1, 1024]⟩
abbrev S4x8192x1024 : Shape := ⟨3, ![4, 8192, 1024]⟩
abbrev S32768x1024 : Shape := ⟨2, ![32768, 1024]⟩
abbrev S8x2048x1024 : Shape := ⟨3, ![8, 2048, 1024]⟩
abbrev S16384x1024 : Shape := ⟨2, ![16384, 1024]⟩
abbrev S_ : Shape := ⟨0, ![]⟩
abbrev S49152 : Shape := ⟨1, ![49152]⟩
abbrev S49152x1 : Shape := ⟨2, ![49152, 1]⟩
abbrev S49152x128 : Shape := ⟨2, ![49152, 128]⟩
abbrev S49152x4 : Shape := ⟨2, ![49152, 4]⟩
abbrev S49152x32 : Shape := ⟨2, ![49152, 32]⟩
abbrev S49152x4x8 : Shape := ⟨3, ![49152, 4, 8]⟩
abbrev S49152x1x1 : Shape := ⟨3, ![49152, 1, 1]⟩
abbrev S1 : Shape := ⟨1, ![1]⟩
abbrev S1x1x1 : Shape := ⟨3, ![1, 1, 1]⟩
abbrev S49152x1x8 : Shape := ⟨3, ![49152, 1, 8]⟩
abbrev S49152x8 : Shape := ⟨2, ![49152, 8]⟩
abbrev S49152x2 : Shape := ⟨2, ![49152, 2]⟩

abbrev nBuf : Space → Nat
  | .hbm => 159
  | .vmem => 0
  | .smem => 0
  | _ => 0

abbrev hbmTy0_0 (i : Nat) : BufTy := match i % 128 with
  | 0 => ⟨S192, .i32⟩
  | 1 => ⟨S49152x1024, .f32⟩
  | 2 => ⟨S49152x512, .bf16⟩
  | 3 => ⟨S49152x1024, .bf16⟩
  | 4 => ⟨S49152x2048, .bf16⟩
  | 5 => ⟨S16x6144, .f32⟩
  | 6 => ⟨S512x1024, .bf16⟩
  | 7 => ⟨S1024x1024, .bf16⟩
  | 8 => ⟨S1024x1024, .bf16⟩
  | 9 => ⟨S1x1024, .f32⟩
  | 10 => ⟨S1024x128, .bf16⟩
  | 11 => ⟨S1024x128, .bf16⟩
  | 12 => ⟨S1x128, .f32⟩
  | 13 => ⟨S4x1024, .f32⟩
  | 14 => ⟨S4x1x1024, .f32⟩
  | 15 => ⟨S8x1024, .f32⟩
  | 16 => ⟨S8x1x1024, .f32⟩
  | 17 => ⟨S4x8192x1024, .f32⟩
  | 18 => ⟨S32768x1024, .f32⟩
  | 19 => ⟨S8x2048x1024, .f32⟩
  | 20 => ⟨S16384x1024, .f32⟩
  | 21 => ⟨S49152x1024, .f32⟩
  | 22 => ⟨S4x1024, .f32⟩
  | 23 => ⟨S4x1x1024, .f32⟩
  | 24 => ⟨S8x1024, .f32⟩
  | 25 => ⟨S8x1x1024, .f32⟩
  | 26 => ⟨S4x8192x1024, .f32⟩
  | 27 => ⟨S32768x1024, .f32⟩
  | 28 => ⟨S8x2048x1024, .f32⟩
  | 29 => ⟨S16384x1024, .f32⟩
  | 30 => ⟨S49152x1024, .f32⟩
  | 31 => ⟨S4x1024, .f32⟩
  | 32 => ⟨S4x1x1024, .f32⟩
  | 33 => ⟨S8x1024, .f32⟩
  | 34 => ⟨S8x1x1024, .f32⟩
  | 35 => ⟨S4x8192x1024, .f32⟩
  | 36 => ⟨S32768x1024, .f32⟩
  | 37 => ⟨S8x2048x1024, .f32⟩
  | 38 => ⟨S16384x1024, .f32⟩
  | 39 => ⟨S49152x1024, .f32⟩
  | 40 => ⟨S49152x512, .f32⟩
  | 41 => ⟨S512x1024, .f32⟩
  | 42 => ⟨S49152x1024, .f32⟩
  | 43 => ⟨S49152x1024, .f32⟩
  | 44 => ⟨S1024x1024, .f32⟩
  | 45 => ⟨S49152x1024, .f32⟩
  | 46 => ⟨S49152x2048, .f32⟩
  | 47 => ⟨S49152x1024, .f32⟩
  | 48 => ⟨S49152x1024, .f32⟩
  | 49 => ⟨S49152x1024, .f32⟩
  | 50 => ⟨S49152x1024, .f32⟩
  | 51 => ⟨S49152x1024, .f32⟩
  | 52 => ⟨S1024x1024, .f32⟩
  | 53 => ⟨S49152x1024, .f32⟩
  | 54 => ⟨S49152x1024, .f32⟩
  | 55 => ⟨S49152x1024, .f32⟩
  | 56 => ⟨S49152x1024, .f32⟩
  | 57 => ⟨S_, .f32⟩
  | 58 => ⟨S49152, .f32⟩
  | 59 => ⟨S49152x1, .f32⟩
  | 60 => ⟨S_, .f32⟩
  | 61 => ⟨S49152x1, .f32⟩
  | 62 => ⟨S49152x1, .f32⟩
  | 63 => ⟨S_, .f32⟩
  | 64 => ⟨S49152x1, .f32⟩
  | 65 => ⟨S49152x1, .f32⟩
  | 66 => ⟨S49152x1, .f32⟩
  | 67 => ⟨S49152x1024, .f32⟩
  | 68 => ⟨S49152x1024, .f32⟩
  | 69 => ⟨S49152x1024, .f32⟩
  | 70 => ⟨S49152x1024, .f32⟩
  | 71 => ⟨S_, .f32⟩
  | 72 => ⟨S49152x1024, .f32⟩
  | 73 => ⟨S49152x1024, .f32⟩
  | 74 => ⟨S49152x1024, .f32⟩
  | 75 => ⟨S49152x1024, .f32⟩
  | 76 => ⟨S1024x128, .f32⟩
  | 77 => ⟨S1024x128, .f32⟩
  | 78 => ⟨S1024x128, .f32⟩
  | 79 => ⟨S49152x128, .f32⟩
  | 80 => ⟨S49152x128, .f32⟩
  | 81 => ⟨S49152x128, .f32⟩
  | 82 => ⟨S49152x4, .f32⟩
  | 83 => ⟨S_, .f32⟩
  | 84 => ⟨S49152, .f32⟩
  | 85 => ⟨S_, .f32⟩
  | 86 => ⟨S49152, .f32⟩
  | 87 => ⟨S49152, .f32⟩
  | 88 => ⟨S49152x1, .f32⟩
  | 89 => ⟨S49152x4, .f32⟩
  | 90 => ⟨S49152x4, .f32⟩
  | 91 => ⟨S49152x4, .f32⟩
  | 92 => ⟨S_, .f32⟩
  | 93 => ⟨S49152, .f32⟩
  | 94 => ⟨S49152x1, .f32⟩
  | 95 => ⟨S49152x4, .f32⟩
  | 96 => ⟨S49152x4, .f32⟩
  | 97 => ⟨S49152x1, .f32⟩
  | 98 => ⟨S49152x1, .i32⟩
  | 99 => ⟨S49152x32, .f32⟩
  | 100 => ⟨S49152x4x8, .f32⟩
  | 101 => ⟨S49152x1x1, .i32⟩
  | 102 => ⟨S_, .i32⟩
  | 103 => ⟨S49152x1x1, .i32⟩
  | 104 => ⟨S49152x1x1, .i1⟩
  | 105 => ⟨S_, .i32⟩
  | 106 => ⟨S49152x1x1, .i32⟩
  | 107 => ⟨S49152x1x1, .i32⟩
  | 108 => ⟨S49152x1x1, .i32⟩
  | 109 => ⟨S1, .i32⟩
  | 110 => ⟨S_, .i32⟩
  | 111 => ⟨S49152x1x1, .i32⟩
  | 112 => ⟨S49152x1x1, .i1⟩
  | 113 => ⟨S1x1x1, .i32⟩
  | 114 => ⟨S49152x1x1, .i32⟩
  | 115 => ⟨S49152x1x1, .i1⟩
  | 116 => ⟨S49152x1x1, .i1⟩
  | 117 => ⟨S_, .i1⟩
  | 118 => ⟨S49152x1, .i1⟩
  | 119 => ⟨S49152x1x8, .f32⟩
  | 120 => ⟨S49152x1x8, .i1⟩
  | 121 => ⟨S_, .f32⟩
  | 122 => ⟨S49152x1x8, .f32⟩
  | 123 => ⟨S49152x1x8, .f32⟩
  | 124 => ⟨S49152x8, .f32⟩
  | 125 => ⟨S_, .f32⟩
  | 126 => ⟨S49152, .f32⟩
  | 127 => ⟨S_, .f32⟩
  | _ => ⟨S192, .i32⟩

abbrev hbmTy0_1 (i : Nat) : BufTy := match i % 128 with
  | 0 => ⟨S49152, .f32⟩
  | 1 => ⟨S49152, .f32⟩
  | 2 => ⟨S49152x1, .f32⟩
  | 3 => ⟨S49152x8, .f32⟩
  | 4 => ⟨S49152x8, .f32⟩
  | 5 => ⟨S49152x8, .f32⟩
  | 6 => ⟨S_, .f32⟩
  | 7 => ⟨S49152, .f32⟩
  | 8 => ⟨S49152x1, .f32⟩
  | 9 => ⟨S49152x8, .f32⟩
  | 10 => ⟨S49152x8, .f32⟩
  | 11 => ⟨S49152x2, .f32⟩
  | 12 => ⟨S49152x2, .i32⟩
  | 13 => ⟨S49152x2, .f32⟩
  | 14 => ⟨S49152x2, .f32⟩
  | 15 => ⟨S_, .f32⟩
  | 16 => ⟨S49152, .f32⟩
  | 17 => ⟨S49152x1, .f32⟩
  | 18 => ⟨S49152x2, .f32⟩
  | 19 => ⟨S49152x2, .f32⟩
  | 20 => ⟨S_, .i32⟩
  | 21 => ⟨S49152x1, .i32⟩
  | 22 => ⟨S49152x1, .i32⟩
  | 23 => ⟨S49152x2, .i32⟩
  | 24 => ⟨S49152x2, .i32⟩
  | 25 => ⟨S_, .i32⟩
  | 26 => ⟨S_, .i32⟩
  | 27 => ⟨S49152x128, .i32⟩
  | 28 => ⟨S_, .i32⟩
  | 29 => ⟨S_, .f32⟩
  | 30 => ⟨S49152x128, .f32⟩
  | _ => ⟨S192, .i32⟩

abbrev hbmTy (i : Nat) : BufTy := match i / 128 with
  | 0 => hbmTy0_0 i
  | 1 => hbmTy0_1 i
  | _ => ⟨S192, .i32⟩

abbrev bufTy : (tb : Table) → Fin (tcTables nBuf tb) → BufTy
  | .hbm, ⟨i, _⟩ => hbmTy i
  | _, _ => ⟨S192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst : Ref sig .tc := ⟨.hbm, 57, rfl⟩
abbrev main_v44 : Ref sig .tc := ⟨.hbm, 58, rfl⟩
abbrev main_v45 : Ref sig .tc := ⟨.hbm, 59, rfl⟩
abbrev main_cst_0 : Ref sig .tc := ⟨.hbm, 60, rfl⟩
abbrev main_v46 : Ref sig .tc := ⟨.hbm, 61, rfl⟩
abbrev main_v47 : Ref sig .tc := ⟨.hbm, 62, rfl⟩
abbrev main_cst_1 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_2 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_3 : Ref sig .tc := ⟨.hbm, 83, rfl⟩
abbrev main_v66 : Ref sig .tc := ⟨.hbm, 84, rfl⟩
abbrev main_cst_4 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_5 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_values : Ref sig .tc := ⟨.hbm, 97, rfl⟩
abbrev main_indices : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_call0_c : Ref sig .tc := ⟨.hbm, 102, rfl⟩
abbrev main_call0_v0 : Ref sig .tc := ⟨.hbm, 103, rfl⟩
abbrev main_call0_v1 : Ref sig .tc := ⟨.hbm, 104, rfl⟩
abbrev main_call0_c_0 : Ref sig .tc := ⟨.hbm, 105, rfl⟩
abbrev main_call0_v2 : Ref sig .tc := ⟨.hbm, 106, rfl⟩
abbrev main_call0_v3 : Ref sig .tc := ⟨.hbm, 107, rfl⟩
abbrev main_call0_v4 : Ref sig .tc := ⟨.hbm, 108, rfl⟩
abbrev main_call0_c_1 : Ref sig .tc := ⟨.hbm, 109, rfl⟩
abbrev main_call0_c_2 : Ref sig .tc := ⟨.hbm, 110, rfl⟩
abbrev main_call0_v5 : Ref sig .tc := ⟨.hbm, 111, rfl⟩
abbrev main_call0_v6 : Ref sig .tc := ⟨.hbm, 112, rfl⟩
abbrev main_call0_v7 : Ref sig .tc := ⟨.hbm, 113, rfl⟩
abbrev main_call0_v8 : Ref sig .tc := ⟨.hbm, 114, rfl⟩
abbrev main_call0_v9 : Ref sig .tc := ⟨.hbm, 115, rfl⟩
abbrev main_call0_v10 : Ref sig .tc := ⟨.hbm, 116, rfl⟩
abbrev main_call0_c_3 : Ref sig .tc := ⟨.hbm, 117, rfl⟩
abbrev main_call0_v11 : Ref sig .tc := ⟨.hbm, 118, rfl⟩
abbrev main_call0_v12 : Ref sig .tc := ⟨.hbm, 119, rfl⟩
abbrev main_call0_v13 : Ref sig .tc := ⟨.hbm, 120, rfl⟩
abbrev main_call0_cst : Ref sig .tc := ⟨.hbm, 121, rfl⟩
abbrev main_call0_v14 : Ref sig .tc := ⟨.hbm, 122, rfl⟩
abbrev main_v80 : Ref sig .tc := ⟨.hbm, 123, rfl⟩
abbrev main_v81 : Ref sig .tc := ⟨.hbm, 124, rfl⟩
abbrev main_cst_6 : Ref sig .tc := ⟨.hbm, 125, rfl⟩
abbrev main_v82 : Ref sig .tc := ⟨.hbm, 126, rfl⟩
abbrev main_cst_7 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_8 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_values_9 : Ref sig .tc := ⟨.hbm, 139, rfl⟩
abbrev main_indices_10 : Ref sig .tc := ⟨.hbm, 140, rfl⟩
abbrev main_v93 : Ref sig .tc := ⟨.hbm, 141, rfl⟩
abbrev main_v94 : Ref sig .tc := ⟨.hbm, 142, rfl⟩
abbrev main_cst_11 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_c : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_c_12 : Ref sig .tc := ⟨.hbm, 153, rfl⟩
abbrev main_call1_v0 : Ref sig .tc := ⟨.hbm, 154, rfl⟩
abbrev main_v103 : Ref sig .tc := ⟨.hbm, 155, rfl⟩
abbrev main_c_13 : Ref sig .tc := ⟨.hbm, 156, rfl⟩
abbrev main_call2_v0 : Ref sig .tc := ⟨.hbm, 157, rfl⟩
abbrev main_v104 : Ref sig .tc := ⟨.hbm, 158, rfl⟩

abbrev nD : Nat := 1
abbrev τ : Topo := Topo.v7x

variable {F : FTy → Type} [FloatOps F]
-- ==== Combine.lean ====
abbrev S192 : Shape := ⟨1, ![192]⟩
abbrev S49152x1024 : Shape := ⟨2, ![49152, 1024]⟩
abbrev S49664x2048 : Shape := ⟨2, ![49664, 2048]⟩
abbrev S49152x128 : Shape := ⟨2, ![49152, 128]⟩
abbrev S16x6144 : Shape := ⟨2, ![16, 6144]⟩
abbrev S1x1024 : Shape := ⟨2, ![1, 1024]⟩
abbrev S256x1024 : Shape := ⟨2, ![256, 1024]⟩
abbrev S256x2048 : Shape := ⟨2, ![256, 2048]⟩
abbrev S256x128 : Shape := ⟨2, ![256, 128]⟩
abbrev S1 : Shape := ⟨1, ![1]⟩
abbrev S256x1 : Shape := ⟨2, ![256, 1]⟩

abbrev nBuf : Space → Nat
  | .hbm => 6
  | .vmem => 10
  | .smem => 1
  | _ => 0

abbrev bufTy : (tb : Table) → Fin (tcTables nBuf tb) → BufTy
  | .hbm, ⟨0, _⟩ => ⟨S49152x1024, .f32⟩
  | .hbm, ⟨1, _⟩ => ⟨S49664x2048, .f32⟩
  | .hbm, ⟨2, _⟩ => ⟨S49152x128, .f32⟩
  | .hbm, ⟨3, _⟩ => ⟨S16x6144, .f32⟩
  | .hbm, ⟨4, _⟩ => ⟨S1x1024, .f32⟩
  | .hbm, ⟨5, _⟩ => ⟨S49152x1024, .f32⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S256x128, .f32⟩
  | .local _ .vmem, ⟨5, _⟩ => ⟨S256x128, .f32⟩
  | .local _ .vmem, ⟨6, _⟩ => ⟨S16x6144, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .smem, ⟨0, _⟩ => ⟨S192, .i32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![192], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 2 → Nat :=
  let v2 : Index := Scalar.indexCast v1
  let c5120 : Index := 5120#32
  ![v2.toNat, 5120]

def k0_chk1 (v1 : BitVec 32) : Prop :=
  (∀ a, (k0_off2 v1) a + S1x1024.size a ≤ S16x6144.size a)
theorem k0_off2_inb : ∀ (v1 : BitVec 32) (k0_hw1 : k0_chk1 v1), ∀ a, (k0_off2 v1) a + S1x1024.size a ≤ S16x6144.size a := fun v1 k0_hw1 => k0_hw1

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== TotalIdeal.lean ====
abbrev S192 : Shape := ⟨1, ![192]⟩
abbrev S49152x1024 : Shape := ⟨2, ![49152, 1024]⟩
abbrev S49664x2048 : Shape := ⟨2, ![49664, 2048]⟩
abbrev S49152x128 : Shape := ⟨2, ![49152, 128]⟩
abbrev S16x6144 : Shape := ⟨2, ![16, 6144]⟩
abbrev S1x1024 : Shape := ⟨2, ![1, 1024]⟩
abbrev S4x1024 : Shape := ⟨2, ![4, 1024]⟩
abbrev S4x1x1024 : Shape := ⟨3, ![4, 1, 1024]⟩
abbrev S8x1024 : Shape := ⟨2, ![8, 1024]⟩
abbrev S8x1x1024 : Shape := ⟨3, ![8, 1, 1024]⟩
abbrev S4x8192x1024 : Shape := ⟨3, ![4, 8192, 1024]⟩
abbrev S32768x1024 : Shape := ⟨2, ![32768, 1024]⟩
abbrev S8x2048x1024 : Shape := ⟨3, ![8, 2048, 1024]⟩
abbrev S16384x1024 : Shape := ⟨2, ![16384, 1024]⟩
abbrev S49152x2048 : Shape := ⟨2, ![49152, 2048]⟩
abbrev S49152x1 : Shape := ⟨2, ![49152, 1]⟩

abbrev nBuf : Space → Nat
  | .hbm => 27
  | .vmem => 0
  | .smem => 0
  | _ => 0

abbrev bufTy : (tb : Table) → Fin (tcTables nBuf tb) → BufTy
  | .hbm, ⟨0, _⟩ => ⟨S192, .i32⟩
  | .hbm, ⟨1, _⟩ => ⟨S49152x1024, .f32⟩
  | .hbm, ⟨2, _⟩ => ⟨S49664x2048, .f32⟩
  | .hbm, ⟨3, _⟩ => ⟨S49152x128, .f32⟩
  | .hbm, ⟨4, _⟩ => ⟨S16x6144, .f32⟩
  | .hbm, ⟨5, _⟩ => ⟨S1x1024, .f32⟩
  | .hbm, ⟨6, _⟩ => ⟨S4x1024, .f32⟩
  | .hbm, ⟨7, _⟩ => ⟨S4x1x1024, .f32⟩
  | .hbm, ⟨8, _⟩ => ⟨S8x1024, .f32⟩
  | .hbm, ⟨9, _⟩ => ⟨S8x1x1024, .f32⟩
  | .hbm, ⟨10, _⟩ => ⟨S4x8192x1024, .f32⟩
  | .hbm, ⟨11, _⟩ => ⟨S32768x1024, .f32⟩
  | .hbm, ⟨12, _⟩ => ⟨S8x2048x1024, .f32⟩
  | .hbm, ⟨13, _⟩ => ⟨S16384x1024, .f32⟩
  | .hbm, ⟨14, _⟩ => ⟨S49152x1024, .f32⟩
  | .hbm, ⟨15, _⟩ => ⟨S49152x2048, .f32⟩
  | .hbm, ⟨16, _⟩ => ⟨S49152x1024, .f32⟩
  | .hbm, ⟨17, _⟩ => ⟨S49152x1024, .f32⟩
  | .hbm, ⟨18, _⟩ => ⟨S49152x1, .f32⟩
  | .hbm, ⟨19, _⟩ => ⟨S49152x1024, .f32⟩
  | .hbm, ⟨20, _⟩ => ⟨S49152x1024, .f32⟩
  | .hbm, ⟨21, _⟩ => ⟨S49152x1, .f32⟩
  | .hbm, ⟨22, _⟩ => ⟨S49152x1024, .f32⟩
  | .hbm, ⟨23, _⟩ => ⟨S49152x1024, .f32⟩
  | .hbm, ⟨24, _⟩ => ⟨S49152x1024, .f32⟩
  | .hbm, ⟨25, _⟩ => ⟨S49152x1024, .f32⟩
  | .hbm, ⟨26, _⟩ => ⟨S49152x1024, .f32⟩
  | _, _ => ⟨S192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Finish.lean ====
abbrev S192 : Shape := ⟨1, ![192]⟩
abbrev S49152x1024 : Shape := ⟨2, ![49152, 1024]⟩
abbrev S49664x2048 : Shape := ⟨2, ![49664, 2048]⟩
abbrev S49152x128 : Shape := ⟨2, ![49152, 128]⟩
abbrev S16x6144 : Shape := ⟨2, ![16, 6144]⟩
abbrev S1x1024 : Shape := ⟨2, ![1, 1024]⟩
abbrev S256x1024 : Shape := ⟨2, ![256, 1024]⟩
abbrev S256x2048 : Shape := ⟨2, ![256, 2048]⟩
abbrev S256x128 : Shape := ⟨2, ![256, 128]⟩
abbrev S1 : Shape := ⟨1, ![1]⟩
abbrev S256x1 : Shape := ⟨2, ![256, 1]⟩
abbrev S256 : Shape := ⟨1, ![256]⟩

abbrev nBuf : Space → Nat
  | .hbm => 6
  | .vmem => 10
  | .smem => 1
  | _ => 0

abbrev bufTy : (tb : Table) → Fin (tcTables nBuf tb) → BufTy
  | .hbm, ⟨0, _⟩ => ⟨S49152x1024, .f32⟩
  | .hbm, ⟨1, _⟩ => ⟨S49664x2048, .f32⟩
  | .hbm, ⟨2, _⟩ => ⟨S49152x128, .f32⟩
  | .hbm, ⟨3, _⟩ => ⟨S16x6144, .f32⟩
  | .hbm, ⟨4, _⟩ => ⟨S1x1024, .f32⟩
  | .hbm, ⟨5, _⟩ => ⟨S49152x1024, .f32⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S256x128, .f32⟩
  | .local _ .vmem, ⟨5, _⟩ => ⟨S256x128, .f32⟩
  | .local _ .vmem, ⟨6, _⟩ => ⟨S16x6144, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .smem, ⟨0, _⟩ => ⟨S192, .i32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![192], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 2 → Nat :=
  let v2 : Index := Scalar.indexCast v1
  let c5120 : Index := 5120#32
  ![v2.toNat, 5120]

def k0_chk1 (v1 : BitVec 32) : Prop :=
  (∀ a, (k0_off2 v1) a + S1x1024.size a ≤ S16x6144.size a)
theorem k0_off2_inb : ∀ (v1 : BitVec 32) (k0_hw1 : k0_chk1 v1), ∀ a, (k0_off2 v1) a + S1x1024.size a ≤ S16x6144.size a := fun v1 k0_hw1 => k0_hw1

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== EndingIdeal.lean ====
abbrev S192 : Shape := ⟨1, ![192]⟩
abbrev S49152x1024 : Shape := ⟨2, ![49152, 1024]⟩
abbrev S49664x2048 : Shape := ⟨2, ![49664, 2048]⟩
abbrev S49152x128 : Shape := ⟨2, ![49152, 128]⟩
abbrev S16x6144 : Shape := ⟨2, ![16, 6144]⟩
abbrev S1x1024 : Shape := ⟨2, ![1, 1024]⟩
abbrev S4x1024 : Shape := ⟨2, ![4, 1024]⟩
abbrev S4x1x1024 : Shape := ⟨3, ![4, 1, 1024]⟩
abbrev S8x1024 : Shape := ⟨2, ![8, 1024]⟩
abbrev S8x1x1024 : Shape := ⟨3, ![8, 1, 1024]⟩
abbrev S4x8192x1024 : Shape := ⟨3, ![4, 8192, 1024]⟩
abbrev S32768x1024 : Shape := ⟨2, ![32768, 1024]⟩
abbrev S8x2048x1024 : Shape := ⟨3, ![8, 2048, 1024]⟩
abbrev S16384x1024 : Shape := ⟨2, ![16384, 1024]⟩
abbrev S49152x2048 : Shape := ⟨2, ![49152, 2048]⟩
abbrev S49152x1 : Shape := ⟨2, ![49152, 1]⟩
abbrev S_ : Shape := ⟨0, ![]⟩
abbrev S49152 : Shape := ⟨1, ![49152]⟩

abbrev nBuf : Space → Nat
  | .hbm => 42
  | .vmem => 0
  | .smem => 0
  | _ => 0

abbrev bufTy : (tb : Table) → Fin (tcTables nBuf tb) → BufTy
  | .hbm, ⟨0, _⟩ => ⟨S192, .i32⟩
  | .hbm, ⟨1, _⟩ => ⟨S49152x1024, .f32⟩
  | .hbm, ⟨2, _⟩ => ⟨S49664x2048, .f32⟩
  | .hbm, ⟨3, _⟩ => ⟨S49152x128, .f32⟩
  | .hbm, ⟨4, _⟩ => ⟨S16x6144, .f32⟩
  | .hbm, ⟨5, _⟩ => ⟨S1x1024, .f32⟩
  | .hbm, ⟨6, _⟩ => ⟨S4x1024, .f32⟩
  | .hbm, ⟨7, _⟩ => ⟨S4x1x1024, .f32⟩
  | .hbm, ⟨8, _⟩ => ⟨S8x1024, .f32⟩
  | .hbm, ⟨9, _⟩ => ⟨S8x1x1024, .f32⟩
  | .hbm, ⟨10, _⟩ => ⟨S4x8192x1024, .f32⟩
  | .hbm, ⟨11, _⟩ => ⟨S32768x1024, .f32⟩
  | .hbm, ⟨12, _⟩ => ⟨S8x2048x1024, .f32⟩
  | .hbm, ⟨13, _⟩ => ⟨S16384x1024, .f32⟩
  | .hbm, ⟨14, _⟩ => ⟨S49152x1024, .f32⟩
  | .hbm, ⟨15, _⟩ => ⟨S49152x2048, .f32⟩
  | .hbm, ⟨16, _⟩ => ⟨S49152x1024, .f32⟩
  | .hbm, ⟨17, _⟩ => ⟨S49152x1024, .f32⟩
  | .hbm, ⟨18, _⟩ => ⟨S49152x1, .f32⟩
  | .hbm, ⟨19, _⟩ => ⟨S49152x1024, .f32⟩
  | .hbm, ⟨20, _⟩ => ⟨S49152x1024, .f32⟩
  | .hbm, ⟨21, _⟩ => ⟨S49152x1, .f32⟩
  | .hbm, ⟨22, _⟩ => ⟨S49152x1024, .f32⟩
  | .hbm, ⟨23, _⟩ => ⟨S49152x1024, .f32⟩
  | .hbm, ⟨24, _⟩ => ⟨S49152x1024, .f32⟩
  | .hbm, ⟨25, _⟩ => ⟨S49152x1024, .f32⟩
  | .hbm, ⟨26, _⟩ => ⟨S49152x1024, .f32⟩
  | .hbm, ⟨27, _⟩ => ⟨S49152x1024, .f32⟩
  | .hbm, ⟨28, _⟩ => ⟨S_, .f32⟩
  | .hbm, ⟨29, _⟩ => ⟨S49152, .f32⟩
  | .hbm, ⟨30, _⟩ => ⟨S49152x1, .f32⟩
  | .hbm, ⟨31, _⟩ => ⟨S_, .f32⟩
  | .hbm, ⟨32, _⟩ => ⟨S49152x1, .f32⟩
  | .hbm, ⟨33, _⟩ => ⟨S49152x1, .f32⟩
  | .hbm, ⟨34, _⟩ => ⟨S_, .f32⟩
  | .hbm, ⟨35, _⟩ => ⟨S49152x1, .f32⟩
  | .hbm, ⟨36, _⟩ => ⟨S49152x1, .f32⟩
  | .hbm, ⟨37, _⟩ => ⟨S49152x1, .f32⟩
  | .hbm, ⟨38, _⟩ => ⟨S49152x1024, .f32⟩
  | .hbm, ⟨39, _⟩ => ⟨S49152x1024, .f32⟩
  | .hbm, ⟨40, _⟩ => ⟨S49152x1024, .f32⟩
  | .hbm, ⟨41, _⟩ => ⟨S49152x1024, .f32⟩
  | _, _ => ⟨S192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Modulation.lean ====
abbrev S16x1024 : Shape := ⟨2, ![16, 1024]⟩
abbrev S4x1024x6144 : Shape := ⟨3, ![4, 1024, 6144]⟩
abbrev S4x1x6144 : Shape := ⟨3, ![4, 1, 6144]⟩
abbrev S4x16x6144 : Shape := ⟨3, ![4, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 4
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x1x6144, .f32⟩
  | .hbm, ⟨3, _⟩ => ⟨S4x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LinearIdeal.lean ====
abbrev S16x1024 : Shape := ⟨2, ![16, 1024]⟩
abbrev S4x1024x6144 : Shape := ⟨3, ![4, 1024, 6144]⟩
abbrev S4x1x6144 : Shape := ⟨3, ![4, 1, 6144]⟩
abbrev S_ : Shape := ⟨0, ![]⟩
abbrev S4x6144x16 : Shape := ⟨3, ![4, 6144, 16]⟩
abbrev S4x16x6144 : Shape := ⟨3, ![4, 16, 6144]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x1x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S4x6144x16, .f32⟩
  | .hbm, ⟨13, _⟩ => ⟨S4x16x6144, .f32⟩
  | .hbm, ⟨14, _⟩ => ⟨S4x16x6144, .f32⟩
  | .hbm, ⟨15, _⟩ => ⟨S4x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.PremixIdealRun.lean ====
module

public import proofs.«01_k».proof.Proof.Gen.PremixIdeal.Flash.Runs
public import proofs.«01_k».proof.Proof.Gen.PremixIdeal.Flash.Facts0
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-! The frame of this call, written out from its generated parts: what each step leaves in the seven output blocks, the
    pipeline's proof data, the body's obligation and the launch. -/

@[expose] public section

set_option maxRecDepth 16384
set_option Elab.async false

noncomputable section

namespace Cert.PremixIdeal.Gen

open Cert.PremixIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

/-- The proof's resource algebra: the rounds library's, for the pipeline's staging cells, embedded whole. -/
abbrev EP : Emb (UR sig nD τ) 𝕄 := emb₁

variable (ch : Fin 1)
variable (m : (ℓ : Loc nD τ sig) → Buf (Elt Ideal) ℓ) (ρ : Dev nD → PrngReg)

/-- The facts at every point of every member (decided member by member in slices of points, Flash/FactsJ.lean). -/
theorem allFacts : ∀ (ch : Fin 1) (t : Fin (cfgA ch).N), FactsAt ch t := fun ch => match ch with
  | ⟨0, _⟩ => allFacts_0
  | ⟨_ + 1, h⟩ => absurd h (by omega)

/-! ## The named facts — the freshness tables' steps, each path's hypotheses and schedule —: its projections -/

theorem frTab0_11_step : ∀ (ch : Fin 1) (t : Fin (cfgA ch).N),
    frTab0_11 ch (t.val + 1) = (((cfgA ch).win (11 : Fin 18)).flush t || ((cfgA ch).idle (11 : Fin 18) ((cfgA ch).grid.coords t) && frTab0_11 ch t.val)) := fun ch t => (allFacts ch t).1
theorem freshF0_11 (t : Fin (cfgA ch).N) : (cfgA ch).fresh (11 : Fin 18) t.val = frTab0_11 ch t.val :=
  Pipeline.Cfg.fresh_tab (cfgA ch) (11 : Fin 18) (frTab0_11 ch) rfl (frTab0_11_step ch) t.val (Nat.le_of_lt t.isLt)

theorem frTab0_12_step : ∀ (ch : Fin 1) (t : Fin (cfgA ch).N),
    frTab0_12 ch (t.val + 1) = (((cfgA ch).win (12 : Fin 18)).flush t || ((cfgA ch).idle (12 : Fin 18) ((cfgA ch).grid.coords t) && frTab0_12 ch t.val)) := fun ch t => (allFacts ch t).2.1
theorem freshF0_12 (t : Fin (cfgA ch).N) : (cfgA ch).fresh (12 : Fin 18) t.val = frTab0_12 ch t.val :=
  Pipeline.Cfg.fresh_tab (cfgA ch) (12 : Fin 18) (frTab0_12 ch) rfl (frTab0_12_step ch) t.val (Nat.le_of_lt t.isLt)

theorem frTab0_13_step : ∀ (ch : Fin 1) (t : Fin (cfgA ch).N),
    frTab0_13 ch (t.val + 1) = (((cfgA ch).win (13 : Fin 18)).flush t || ((cfgA ch).idle (13 : Fin 18) ((cfgA ch).grid.coords t) && frTab0_13 ch t.val)) := fun ch t => (allFacts ch t).2.2.1
theorem freshF0_13 (t : Fin (cfgA ch).N) : (cfgA ch).fresh (13 : Fin 18) t.val = frTab0_13 ch t.val :=
  Pipeline.Cfg.fresh_tab (cfgA ch) (13 : Fin 18) (frTab0_13 ch) rfl (frTab0_13_step ch) t.val (Nat.le_of_lt t.isLt)

theorem frTab0_14_step : ∀ (ch : Fin 1) (t : Fin (cfgA ch).N),
    frTab0_14 ch (t.val + 1) = (((cfgA ch).win (14 : Fin 18)).flush t || ((cfgA ch).idle (14 : Fin 18) ((cfgA ch).grid.coords t) && frTab0_14 ch t.val)) := fun ch t => (allFacts ch t).2.2.2.1
theorem freshF0_14 (t : Fin (cfgA ch).N) : (cfgA ch).fresh (14 : Fin 18) t.val = frTab0_14 ch t.val :=
  Pipeline.Cfg.fresh_tab (cfgA ch) (14 : Fin 18) (frTab0_14 ch) rfl (frTab0_14_step ch) t.val (Nat.le_of_lt t.isLt)

theorem frTab0_15_step : ∀ (ch : Fin 1) (t : Fin (cfgA ch).N),
    frTab0_15 ch (t.val + 1) = (((cfgA ch).win (15 : Fin 18)).flush t || ((cfgA ch).idle (15 : Fin 18) ((cfgA ch).grid.coords t) && frTab0_15 ch t.val)) := fun ch t => (allFacts ch t).2.2.2.2.1
theorem freshF0_15 (t : Fin (cfgA ch).N) : (cfgA ch).fresh (15 : Fin 18) t.val = frTab0_15 ch t.val :=
  Pipeline.Cfg.fresh_tab (cfgA ch) (15 : Fin 18) (frTab0_15 ch) rfl (frTab0_15_step ch) t.val (Nat.le_of_lt t.isLt)

theorem frTab0_16_step : ∀ (ch : Fin 1) (t : Fin (cfgA ch).N),
    frTab0_16 ch (t.val + 1) = (((cfgA ch).win (16 : Fin 18)).flush t || ((cfgA ch).idle (16 : Fin 18) ((cfgA ch).grid.coords t) && frTab0_16 ch t.val)) := fun ch t => (allFacts ch t).2.2.2.2.2.1
theorem freshF0_16 (t : Fin (cfgA ch).N) : (cfgA ch).fresh (16 : Fin 18) t.val = frTab0_16 ch t.val :=
  Pipeline.Cfg.fresh_tab (cfgA ch) (16 : Fin 18) (frTab0_16 ch) rfl (frTab0_16_step ch) t.val (Nat.le_of_lt t.isLt)

theorem frTab0_17_step : ∀ (ch : Fin 1) (t : Fin (cfgA ch).N),
    frTab0_17 ch (t.val + 1) = (((cfgA ch).win (17 : Fin 18)).flush t || ((cfgA ch).idle (17 : Fin 18) ((cfgA ch).grid.coords t) && frTab0_17 ch t.val)) := fun ch t => (allFacts ch t).2.2.2.2.2.2.1
theorem freshF0_17 (t : Fin (cfgA ch).N) : (cfgA ch).fresh (17 : Fin 18) t.val = frTab0_17 ch t.val :=
  Pipeline.Cfg.fresh_tab (cfgA ch) (17 : Fin 18) (frTab0_17 ch) rfl (frTab0_17_step ch) t.val (Nat.le_of_lt t.isLt)

/-- At a point of path A, the path's hypotheses hold of the words the body reads there (the pinned tables read,
    a pinned window's word AS the word `pinBlk ch t (r.idx x)`; the checks among them cited from `ChecksAt`). -/
theorem hyps0_A : ∀ (ch : Fin 1) (t : Fin (cfgA ch).N),
    (k0_chk1 (View.readAt (Elt Ideal) (tbM0_0).view (Rect.unit (s := S192) (k0_off1 (crd ch t)) S1.size (k0_off1_inb (crd ch t))).toLoadRect (pinT_0 ch) (Shape.Idx.first (numel1_S1.symm ▸ Nat.one_pos)))) ∧ ∀ (k0_hw1 : k0_chk1 (View.readAt (Elt Ideal) (tbM0_0).view (Rect.unit (s := S192) (k0_off1 (crd ch t)) S1.size (k0_off1_inb (crd ch t))).toLoadRect (pinT_0 ch) (Shape.Idx.first (numel1_S1.symm ▸ Nat.one_pos)))), (True) := fun ch t  =>
  ⟨hchk0_k0_hw1 ch t, fun k0_hw1 => trivial⟩

theorem hypsR0_A : ∀ (ch : Fin 1) (t : Fin (cfgA ch).N),
    (k0_chk1 (View.readAt (Elt Ideal) (tbM0_0).view (Rect.unit (s := S192) (k0_off1 (crd ch t)) S1.size (k0_off1_inb (crd ch t))).toLoadRect (pinT_0 ch) (Shape.Idx.first (numel1_S1.symm ▸ Nat.one_pos)))) ∧ ∀ (k0_hw1 : k0_chk1 (View.readAt (Elt Ideal) (tbM0_0).view (Rect.unit (s := S192) (k0_off1 (crd ch t)) S1.size (k0_off1_inb (crd ch t))).toLoadRect (pinT_0 ch) (Shape.Idx.first (numel1_S1.symm ▸ Nat.one_pos)))), (True) := hyps0_A

/-! Path A's hypotheses that the body's accesses or later hypotheses may cite by name (a check, a trip count),
    one theorem each, numbered by the hypothesis' place in the conjunction and proved off `hypsR0_A`; the step
    (`step0`, `step0_A`) cites these where it projects that conjunction, instead of spelling its spine again. -/
theorem hyp0_A_0 (ch : Fin 1) (t : Fin (cfgA ch).N) :
    k0_chk1 (View.readAt (Elt Ideal) (tbM0_0).view (Rect.unit (s := S192) (k0_off1 (crd ch t)) S1.size (k0_off1_inb (crd ch t))).toLoadRect (pinT_0 ch) (Shape.Idx.first (numel1_S1.symm ▸ Nat.one_pos))) := (hypsR0_A ch t).1

/-- At a point of path A: the idle table, the write-backs and which buffers hold junk (decided over the
    freshness tables `frTab`/`sfrTab`, restated over `Cfg.fresh`/`sfresh` by their agreement). -/
theorem sched0_A : ∀ (ch : Fin 1) (t : Fin (cfgA ch).N),
    (cfgA ch).idle (11 : Fin 18) ((cfgA ch).grid.coords t) = false ∧ ((cfgA ch).win (11 : Fin 18)).flush t = true ∧ (cfgA ch).fresh (11 : Fin 18) t.val = true ∧ (cfgA ch).idle (12 : Fin 18) ((cfgA ch).grid.coords t) = false ∧ ((cfgA ch).win (12 : Fin 18)).flush t = true ∧ (cfgA ch).fresh (12 : Fin 18) t.val = true ∧ (cfgA ch).idle (13 : Fin 18) ((cfgA ch).grid.coords t) = false ∧ ((cfgA ch).win (13 : Fin 18)).flush t = true ∧ (cfgA ch).fresh (13 : Fin 18) t.val = true ∧ (cfgA ch).idle (14 : Fin 18) ((cfgA ch).grid.coords t) = false ∧ ((cfgA ch).win (14 : Fin 18)).flush t = true ∧ (cfgA ch).fresh (14 : Fin 18) t.val = true ∧ (cfgA ch).idle (15 : Fin 18) ((cfgA ch).grid.coords t) = false ∧ ((cfgA ch).win (15 : Fin 18)).flush t = true ∧ (cfgA ch).fresh (15 : Fin 18) t.val = true ∧ (cfgA ch).idle (16 : Fin 18) ((cfgA ch).grid.coords t) = false ∧ ((cfgA ch).win (16 : Fin 18)).flush t = true ∧ (cfgA ch).fresh (16 : Fin 18) t.val = true ∧ (cfgA ch).idle (17 : Fin 18) ((cfgA ch).grid.coords t) = false ∧ ((cfgA ch).win (17 : Fin 18)).flush t = true ∧ (cfgA ch).fresh (17 : Fin 18) t.val = true := by
  intro ch t; rw [freshF0_11 ch t, freshF0_12 ch t, freshF0_13 ch t, freshF0_14 ch t, freshF0_15 ch t, freshF0_16 ch t, freshF0_17 ch t]; exact (fun ch t => (allFacts ch t).2.2.2.2.2.2.2.2) ch t

/-! ## What the outputs and scratches hold after each point -/

/-- ONE STEP of the trajectory: what the outputs' current buffers and the scratches hold after the body at point `t`
    (output 11, output 12, output 13, output 14, output 15, output 16, output 17), from what they held before (`prev`): the path the decisions select at `t`, its
    run's contents; an output the path leaves idle keeps what it held (junk — `default`, named by nothing — where fresh). -/
def step0 (c : Dev nD) (t : Fin (cfgA ch).N) (prev : (S256x512.Idx → Elt Ideal .bf16) × (S256x512.Idx → Elt Ideal .bf16) × (S256x512.Idx → Elt Ideal .bf16) × (S256x1024.Idx → Elt Ideal .bf16) × (S256x1024.Idx → Elt Ideal .bf16) × (S256x1024.Idx → Elt Ideal .bf16) × (S256x2048.Idx → Elt Ideal .bf16)) : (S256x512.Idx → Elt Ideal .bf16) × (S256x512.Idx → Elt Ideal .bf16) × (S256x512.Idx → Elt Ideal .bf16) × (S256x1024.Idx → Elt Ideal .bf16) × (S256x1024.Idx → Elt Ideal .bf16) × (S256x1024.Idx → Elt Ideal .bf16) × (S256x2048.Idx → Elt Ideal .bf16) :=
  (out0_A_11 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (ms0_15 ch t) (hs0_15 ch t) (ms0_16 ch t) (hs0_16 ch t) (ms0_17 ch t) (hs0_17 ch t) (pinT_0 ch) (pinT_1 ch) (iblk ch m ρ c (0 : Fin 18) t) (iblk ch m ρ c (1 : Fin 18) t) (iblk ch m ρ c (2 : Fin 18) t) (iblk ch m ρ c (3 : Fin 18) t) (iblk ch m ρ c (4 : Fin 18) t) (iblk ch m ρ c (5 : Fin 18) t) (iblk ch m ρ c (6 : Fin 18) t) (iblk ch m ρ c (7 : Fin 18) t) (iblk ch m ρ c (8 : Fin 18) t) (iblk ch m ρ c (9 : Fin 18) t) (iblk ch m ρ c (10 : Fin 18) t) (hyp0_A_0 ch t), out0_A_12 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (ms0_15 ch t) (hs0_15 ch t) (ms0_16 ch t) (hs0_16 ch t) (ms0_17 ch t) (hs0_17 ch t) (pinT_0 ch) (pinT_1 ch) (iblk ch m ρ c (0 : Fin 18) t) (iblk ch m ρ c (1 : Fin 18) t) (iblk ch m ρ c (2 : Fin 18) t) (iblk ch m ρ c (3 : Fin 18) t) (iblk ch m ρ c (4 : Fin 18) t) (iblk ch m ρ c (5 : Fin 18) t) (iblk ch m ρ c (6 : Fin 18) t) (iblk ch m ρ c (7 : Fin 18) t) (iblk ch m ρ c (8 : Fin 18) t) (iblk ch m ρ c (9 : Fin 18) t) (iblk ch m ρ c (10 : Fin 18) t) (hyp0_A_0 ch t), out0_A_13 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (ms0_15 ch t) (hs0_15 ch t) (ms0_16 ch t) (hs0_16 ch t) (ms0_17 ch t) (hs0_17 ch t) (pinT_0 ch) (pinT_1 ch) (iblk ch m ρ c (0 : Fin 18) t) (iblk ch m ρ c (1 : Fin 18) t) (iblk ch m ρ c (2 : Fin 18) t) (iblk ch m ρ c (3 : Fin 18) t) (iblk ch m ρ c (4 : Fin 18) t) (iblk ch m ρ c (5 : Fin 18) t) (iblk ch m ρ c (6 : Fin 18) t) (iblk ch m ρ c (7 : Fin 18) t) (iblk ch m ρ c (8 : Fin 18) t) (iblk ch m ρ c (9 : Fin 18) t) (iblk ch m ρ c (10 : Fin 18) t) (hyp0_A_0 ch t), out0_A_14 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (ms0_15 ch t) (hs0_15 ch t) (ms0_16 ch t) (hs0_16 ch t) (ms0_17 ch t) (hs0_17 ch t) (pinT_0 ch) (pinT_1 ch) (iblk ch m ρ c (0 : Fin 18) t) (iblk ch m ρ c (1 : Fin 18) t) (iblk ch m ρ c (2 : Fin 18) t) (iblk ch m ρ c (3 : Fin 18) t) (iblk ch m ρ c (4 : Fin 18) t) (iblk ch m ρ c (5 : Fin 18) t) (iblk ch m ρ c (6 : Fin 18) t) (iblk ch m ρ c (7 : Fin 18) t) (iblk ch m ρ c (8 : Fin 18) t) (iblk ch m ρ c (9 : Fin 18) t) (iblk ch m ρ c (10 : Fin 18) t) (hyp0_A_0 ch t), out0_A_15 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (ms0_15 ch t) (hs0_15 ch t) (ms0_16 ch t) (hs0_16 ch t) (ms0_17 ch t) (hs0_17 ch t) (pinT_0 ch) (pinT_1 ch) (iblk ch m ρ c (0 : Fin 18) t) (iblk ch m ρ c (1 : Fin 18) t) (iblk ch m ρ c (2 : Fin 18) t) (iblk ch m ρ c (3 : Fin 18) t) (iblk ch m ρ c (4 : Fin 18) t) (iblk ch m ρ c (5 : Fin 18) t) (iblk ch m ρ c (6 : Fin 18) t) (iblk ch m ρ c (7 : Fin 18) t) (iblk ch m ρ c (8 : Fin 18) t) (iblk ch m ρ c (9 : Fin 18) t) (iblk ch m ρ c (10 : Fin 18) t) (hyp0_A_0 ch t), out0_A_16 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (ms0_15 ch t) (hs0_15 ch t) (ms0_16 ch t) (hs0_16 ch t) (ms0_17 ch t) (hs0_17 ch t) (pinT_0 ch) (pinT_1 ch) (iblk ch m ρ c (0 : Fin 18) t) (iblk ch m ρ c (1 : Fin 18) t) (iblk ch m ρ c (2 : Fin 18) t) (iblk ch m ρ c (3 : Fin 18) t) (iblk ch m ρ c (4 : Fin 18) t) (iblk ch m ρ c (5 : Fin 18) t) (iblk ch m ρ c (6 : Fin 18) t) (iblk ch m ρ c (7 : Fin 18) t) (iblk ch m ρ c (8 : Fin 18) t) (iblk ch m ρ c (9 : Fin 18) t) (iblk ch m ρ c (10 : Fin 18) t) (hyp0_A_0 ch t), out0_A_17 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (ms0_15 ch t) (hs0_15 ch t) (ms0_16 ch t) (hs0_16 ch t) (ms0_17 ch t) (hs0_17 ch t) (pinT_0 ch) (pinT_1 ch) (iblk ch m ρ c (0 : Fin 18) t) (iblk ch m ρ c (1 : Fin 18) t) (iblk ch m ρ c (2 : Fin 18) t) (iblk ch m ρ c (3 : Fin 18) t) (iblk ch m ρ c (4 : Fin 18) t) (iblk ch m ρ c (5 : Fin 18) t) (iblk ch m ρ c (6 : Fin 18) t) (iblk ch m ρ c (7 : Fin 18) t) (iblk ch m ρ c (8 : Fin 18) t) (iblk ch m ρ c (9 : Fin 18) t) (iblk ch m ρ c (10 : Fin 18) t) (hyp0_A_0 ch t))

/-- THE TRAJECTORY: after position `n`. -/
def traj0 (c : Dev nD) : (n : ℕ) → n < (cfgA ch).N → (S256x512.Idx → Elt Ideal .bf16) × (S256x512.Idx → Elt Ideal .bf16) × (S256x512.Idx → Elt Ideal .bf16) × (S256x1024.Idx → Elt Ideal .bf16) × (S256x1024.Idx → Elt Ideal .bf16) × (S256x1024.Idx → Elt Ideal .bf16) × (S256x2048.Idx → Elt Ideal .bf16)
  | 0, h => step0 ch m ρ c ⟨0, h⟩ (default, default, default, default, default, default, default)
  | n + 1, h => step0 ch m ρ c ⟨n + 1, h⟩ (traj0 c n (Nat.lt_of_succ_lt h))

/-- What they held BEFORE point `t` (junk before the first). -/
def prev0 (c : Dev nD) (t : Fin (cfgA ch).N) : (S256x512.Idx → Elt Ideal .bf16) × (S256x512.Idx → Elt Ideal .bf16) × (S256x512.Idx → Elt Ideal .bf16) × (S256x1024.Idx → Elt Ideal .bf16) × (S256x1024.Idx → Elt Ideal .bf16) × (S256x1024.Idx → Elt Ideal .bf16) × (S256x2048.Idx → Elt Ideal .bf16) :=
  if h : t.val = 0 then (default, default, default, default, default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S256x512.Idx → Elt Ideal .bf16) × (S256x512.Idx → Elt Ideal .bf16) × (S256x512.Idx → Elt Ideal .bf16) × (S256x1024.Idx → Elt Ideal .bf16) × (S256x1024.Idx → Elt Ideal .bf16) × (S256x1024.Idx → Elt Ideal .bf16) × (S256x2048.Idx → Elt Ideal .bf16)) :
    step0 ch m ρ c t prev = (out0_A_11 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (ms0_15 ch t) (hs0_15 ch t) (ms0_16 ch t) (hs0_16 ch t) (ms0_17 ch t) (hs0_17 ch t) (pinT_0 ch) (pinT_1 ch) (iblk ch m ρ c (0 : Fin 18) t) (iblk ch m ρ c (1 : Fin 18) t) (iblk ch m ρ c (2 : Fin 18) t) (iblk ch m ρ c (3 : Fin 18) t) (iblk ch m ρ c (4 : Fin 18) t) (iblk ch m ρ c (5 : Fin 18) t) (iblk ch m ρ c (6 : Fin 18) t) (iblk ch m ρ c (7 : Fin 18) t) (iblk ch m ρ c (8 : Fin 18) t) (iblk ch m ρ c (9 : Fin 18) t) (iblk ch m ρ c (10 : Fin 18) t) (hyp0_A_0 ch t), out0_A_12 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (ms0_15 ch t) (hs0_15 ch t) (ms0_16 ch t) (hs0_16 ch t) (ms0_17 ch t) (hs0_17 ch t) (pinT_0 ch) (pinT_1 ch) (iblk ch m ρ c (0 : Fin 18) t) (iblk ch m ρ c (1 : Fin 18) t) (iblk ch m ρ c (2 : Fin 18) t) (iblk ch m ρ c (3 : Fin 18) t) (iblk ch m ρ c (4 : Fin 18) t) (iblk ch m ρ c (5 : Fin 18) t) (iblk ch m ρ c (6 : Fin 18) t) (iblk ch m ρ c (7 : Fin 18) t) (iblk ch m ρ c (8 : Fin 18) t) (iblk ch m ρ c (9 : Fin 18) t) (iblk ch m ρ c (10 : Fin 18) t) (hyp0_A_0 ch t), out0_A_13 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (ms0_15 ch t) (hs0_15 ch t) (ms0_16 ch t) (hs0_16 ch t) (ms0_17 ch t) (hs0_17 ch t) (pinT_0 ch) (pinT_1 ch) (iblk ch m ρ c (0 : Fin 18) t) (iblk ch m ρ c (1 : Fin 18) t) (iblk ch m ρ c (2 : Fin 18) t) (iblk ch m ρ c (3 : Fin 18) t) (iblk ch m ρ c (4 : Fin 18) t) (iblk ch m ρ c (5 : Fin 18) t) (iblk ch m ρ c (6 : Fin 18) t) (iblk ch m ρ c (7 : Fin 18) t) (iblk ch m ρ c (8 : Fin 18) t) (iblk ch m ρ c (9 : Fin 18) t) (iblk ch m ρ c (10 : Fin 18) t) (hyp0_A_0 ch t), out0_A_14 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (ms0_15 ch t) (hs0_15 ch t) (ms0_16 ch t) (hs0_16 ch t) (ms0_17 ch t) (hs0_17 ch t) (pinT_0 ch) (pinT_1 ch) (iblk ch m ρ c (0 : Fin 18) t) (iblk ch m ρ c (1 : Fin 18) t) (iblk ch m ρ c (2 : Fin 18) t) (iblk ch m ρ c (3 : Fin 18) t) (iblk ch m ρ c (4 : Fin 18) t) (iblk ch m ρ c (5 : Fin 18) t) (iblk ch m ρ c (6 : Fin 18) t) (iblk ch m ρ c (7 : Fin 18) t) (iblk ch m ρ c (8 : Fin 18) t) (iblk ch m ρ c (9 : Fin 18) t) (iblk ch m ρ c (10 : Fin 18) t) (hyp0_A_0 ch t), out0_A_15 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (ms0_15 ch t) (hs0_15 ch t) (ms0_16 ch t) (hs0_16 ch t) (ms0_17 ch t) (hs0_17 ch t) (pinT_0 ch) (pinT_1 ch) (iblk ch m ρ c (0 : Fin 18) t) (iblk ch m ρ c (1 : Fin 18) t) (iblk ch m ρ c (2 : Fin 18) t) (iblk ch m ρ c (3 : Fin 18) t) (iblk ch m ρ c (4 : Fin 18) t) (iblk ch m ρ c (5 : Fin 18) t) (iblk ch m ρ c (6 : Fin 18) t) (iblk ch m ρ c (7 : Fin 18) t) (iblk ch m ρ c (8 : Fin 18) t) (iblk ch m ρ c (9 : Fin 18) t) (iblk ch m ρ c (10 : Fin 18) t) (hyp0_A_0 ch t), out0_A_16 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (ms0_15 ch t) (hs0_15 ch t) (ms0_16 ch t) (hs0_16 ch t) (ms0_17 ch t) (hs0_17 ch t) (pinT_0 ch) (pinT_1 ch) (iblk ch m ρ c (0 : Fin 18) t) (iblk ch m ρ c (1 : Fin 18) t) (iblk ch m ρ c (2 : Fin 18) t) (iblk ch m ρ c (3 : Fin 18) t) (iblk ch m ρ c (4 : Fin 18) t) (iblk ch m ρ c (5 : Fin 18) t) (iblk ch m ρ c (6 : Fin 18) t) (iblk ch m ρ c (7 : Fin 18) t) (iblk ch m ρ c (8 : Fin 18) t) (iblk ch m ρ c (9 : Fin 18) t) (iblk ch m ρ c (10 : Fin 18) t) (hyp0_A_0 ch t), out0_A_17 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (ms0_15 ch t) (hs0_15 ch t) (ms0_16 ch t) (hs0_16 ch t) (ms0_17 ch t) (hs0_17 ch t) (pinT_0 ch) (pinT_1 ch) (iblk ch m ρ c (0 : Fin 18) t) (iblk ch m ρ c (1 : Fin 18) t) (iblk ch m ρ c (2 : Fin 18) t) (iblk ch m ρ c (3 : Fin 18) t) (iblk ch m ρ c (4 : Fin 18) t) (iblk ch m ρ c (5 : Fin 18) t) (iblk ch m ρ c (6 : Fin 18) t) (iblk ch m ρ c (7 : Fin 18) t) (iblk ch m ρ c (8 : Fin 18) t) (iblk ch m ρ c (9 : Fin 18) t) (iblk ch m ρ c (10 : Fin 18) t) (hyp0_A_0 ch t)) := by
  unfold step0; simp only [dite_true]

/-! ## The pipeline's proof data -/

/-- What the tracked buffers held before position `t` of `Fin (N+1)` (the invariant's index). -/
def prev0T (c : Dev nD) (t : Fin ((cfgA ch).N + 1)) : (S256x512.Idx → Elt Ideal .bf16) × (S256x512.Idx → Elt Ideal .bf16) × (S256x512.Idx → Elt Ideal .bf16) × (S256x1024.Idx → Elt Ideal .bf16) × (S256x1024.Idx → Elt Ideal .bf16) × (S256x1024.Idx → Elt Ideal .bf16) × (S256x2048.Idx → Elt Ideal .bf16) :=
  if h : t.val = 0 then (default, default, default, default, default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA ch).N + 1)) : sProp 𝕄 :=
  iprop((tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨11, _⟩ => (traj0 ch m ρ c t.val t.isLt).1
    | ⟨12, _⟩ => (traj0 ch m ρ c t.val t.isLt).2.1
    | ⟨13, _⟩ => (traj0 ch m ρ c t.val t.isLt).2.2.1
    | ⟨14, _⟩ => (traj0 ch m ρ c t.val t.isLt).2.2.2.1
    | ⟨15, _⟩ => (traj0 ch m ρ c t.val t.isLt).2.2.2.2.1
    | ⟨16, _⟩ => (traj0 ch m ρ c t.val t.isLt).2.2.2.2.2.1
    | ⟨17, _⟩ => (traj0 ch m ρ c t.val t.isLt).2.2.2.2.2.2
    | w => iblk ch m ρ c w t
  Φ t := Phi ch m ρ c t
  q _ := fullShare
  owed _ := 0

theorem after0_0 (c : Dev nD) (t : Fin (cfgA ch).N) : (dats ch m ρ 0 c).after (0 : Fin 18) t = iblk ch m ρ c (0 : Fin 18) t := rfl
theorem after0_1 (c : Dev nD) (t : Fin (cfgA ch).N) : (dats ch m ρ 0 c).after (1 : Fin 18) t = iblk ch m ρ c (1 : Fin 18) t := rfl
theorem after0_2 (c : Dev nD) (t : Fin (cfgA ch).N) : (dats ch m ρ 0 c).after (2 : Fin 18) t = iblk ch m ρ c (2 : Fin 18) t := rfl
theorem after0_3 (c : Dev nD) (t : Fin (cfgA ch).N) : (dats ch m ρ 0 c).after (3 : Fin 18) t = iblk ch m ρ c (3 : Fin 18) t := rfl
theorem after0_4 (c : Dev nD) (t : Fin (cfgA ch).N) : (dats ch m ρ 0 c).after (4 : Fin 18) t = iblk ch m ρ c (4 : Fin 18) t := rfl
theorem after0_5 (c : Dev nD) (t : Fin (cfgA ch).N) : (dats ch m ρ 0 c).after (5 : Fin 18) t = iblk ch m ρ c (5 : Fin 18) t := rfl
theorem after0_6 (c : Dev nD) (t : Fin (cfgA ch).N) : (dats ch m ρ 0 c).after (6 : Fin 18) t = iblk ch m ρ c (6 : Fin 18) t := rfl
theorem after0_7 (c : Dev nD) (t : Fin (cfgA ch).N) : (dats ch m ρ 0 c).after (7 : Fin 18) t = iblk ch m ρ c (7 : Fin 18) t := rfl
theorem after0_8 (c : Dev nD) (t : Fin (cfgA ch).N) : (dats ch m ρ 0 c).after (8 : Fin 18) t = iblk ch m ρ c (8 : Fin 18) t := rfl
theorem after0_9 (c : Dev nD) (t : Fin (cfgA ch).N) : (dats ch m ρ 0 c).after (9 : Fin 18) t = iblk ch m ρ c (9 : Fin 18) t := rfl
theorem after0_10 (c : Dev nD) (t : Fin (cfgA ch).N) : (dats ch m ρ 0 c).after (10 : Fin 18) t = iblk ch m ρ c (10 : Fin 18) t := rfl
theorem after0_11 (c : Dev nD) (t : Fin (cfgA ch).N) : (dats ch m ρ 0 c).after (11 : Fin 18) t = (traj0 ch m ρ c t.val t.isLt).1 := rfl
theorem after0_12 (c : Dev nD) (t : Fin (cfgA ch).N) : (dats ch m ρ 0 c).after (12 : Fin 18) t = (traj0 ch m ρ c t.val t.isLt).2.1 := rfl
theorem after0_13 (c : Dev nD) (t : Fin (cfgA ch).N) : (dats ch m ρ 0 c).after (13 : Fin 18) t = (traj0 ch m ρ c t.val t.isLt).2.2.1 := rfl
theorem after0_14 (c : Dev nD) (t : Fin (cfgA ch).N) : (dats ch m ρ 0 c).after (14 : Fin 18) t = (traj0 ch m ρ c t.val t.isLt).2.2.2.1 := rfl
theorem after0_15 (c : Dev nD) (t : Fin (cfgA ch).N) : (dats ch m ρ 0 c).after (15 : Fin 18) t = (traj0 ch m ρ c t.val t.isLt).2.2.2.2.1 := rfl
theorem after0_16 (c : Dev nD) (t : Fin (cfgA ch).N) : (dats ch m ρ 0 c).after (16 : Fin 18) t = (traj0 ch m ρ c t.val t.isLt).2.2.2.2.2.1 := rfl
theorem after0_17 (c : Dev nD) (t : Fin (cfgA ch).N) : (dats ch m ρ 0 c).after (17 : Fin 18) t = (traj0 ch m ρ c t.val t.isLt).2.2.2.2.2.2 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 18) t d = iblk ch m ρ c (0 : Fin 18) t :=
  ((dats ch m ρ 0 c).before_in_eq_fetched (0 : Fin 18) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 18) t d = iblk ch m ρ c (1 : Fin 18) t :=
  ((dats ch m ρ 0 c).before_in_eq_fetched (1 : Fin 18) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 18) t d = iblk ch m ρ c (2 : Fin 18) t :=
  ((dats ch m ρ 0 c).before_in_eq_fetched (2 : Fin 18) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 18) t d = iblk ch m ρ c (3 : Fin 18) t :=
  ((dats ch m ρ 0 c).before_in_eq_fetched (3 : Fin 18) rfl (fun _ => rfl) (fun _ _ _ => rfl) (fun t => by rw [after0_3]; unfold Dat.blockOf iblk; rfl) t d).trans
    (by unfold Dat.fetched Dat.blockOf iblk; rfl)

/-- Input window 4 holds its block, fetched there or not (Lib/Pipeline/FrameBody.lean `Dat.before_in_eq_fetched`). -/
theorem before0_4 (c : Dev nD) (t : Fin (cfgA ch).N) (d) : (dats ch m ρ 0 c).before (4 : Fin 18) t d = iblk ch m ρ c (4 : Fin 18) t :=
  ((dats ch m ρ 0 c).before_in_eq_fetched (4 : Fin 18) rfl (fun _ => rfl) (fun _ _ _ => rfl) (fun t => by rw [after0_4]; unfold Dat.blockOf iblk; rfl) t d).trans
    (by unfold Dat.fetched Dat.blockOf iblk; rfl)

/-- Input window 5 holds its block, fetched there or not (Lib/Pipeline/FrameBody.lean `Dat.before_in_eq_fetched`). -/
theorem before0_5 (c : Dev nD) (t : Fin (cfgA ch).N) (d) : (dats ch m ρ 0 c).before (5 : Fin 18) t d = iblk ch m ρ c (5 : Fin 18) t :=
  ((dats ch m ρ 0 c).before_in_eq_fetched (5 : Fin 18) rfl (fun _ => rfl) (fun _ _ _ => rfl) (fun t => by rw [after0_5]; unfold Dat.blockOf iblk; rfl) t d).trans
    (by unfold Dat.fetched Dat.blockOf iblk; rfl)

/-- Input window 6 holds its block, fetched there or not (Lib/Pipeline/FrameBody.lean `Dat.before_in_eq_fetched`). -/
theorem before0_6 (c : Dev nD) (t : Fin (cfgA ch).N) (d) : (dats ch m ρ 0 c).before (6 : Fin 18) t d = iblk ch m ρ c (6 : Fin 18) t :=
  ((dats ch m ρ 0 c).before_in_eq_fetched (6 : Fin 18) rfl (fun _ => rfl) (fun _ _ _ => rfl) (fun t => by rw [after0_6]; unfold Dat.blockOf iblk; rfl) t d).trans
    (by unfold Dat.fetched Dat.blockOf iblk; rfl)

/-- Input window 7 holds its block, fetched there or not (Lib/Pipeline/FrameBody.lean `Dat.before_in_eq_fetched`). -/
theorem before0_7 (c : Dev nD) (t : Fin (cfgA ch).N) (d) : (dats ch m ρ 0 c).before (7 : Fin 18) t d = iblk ch m ρ c (7 : Fin 18) t :=
  ((dats ch m ρ 0 c).before_in_eq_fetched (7 : Fin 18) rfl (fun _ => rfl) (fun _ _ _ => rfl) (fun t => by rw [after0_7]; unfold Dat.blockOf iblk; rfl) t d).trans
    (by unfold Dat.fetched Dat.blockOf iblk; rfl)

/-- Input window 8 holds its block, fetched there or not (Lib/Pipeline/FrameBody.lean `Dat.before_in_eq_fetched`). -/
theorem before0_8 (c : Dev nD) (t : Fin (cfgA ch).N) (d) : (dats ch m ρ 0 c).before (8 : Fin 18) t d = iblk ch m ρ c (8 : Fin 18) t :=
  ((dats ch m ρ 0 c).before_in_eq_fetched (8 : Fin 18) rfl (fun _ => rfl) (fun _ _ _ => rfl) (fun t => by rw [after0_8]; unfold Dat.blockOf iblk; rfl) t d).trans
    (by unfold Dat.fetched Dat.blockOf iblk; rfl)

/-- Input window 9 holds its block, fetched there or not (Lib/Pipeline/FrameBody.lean `Dat.before_in_eq_fetched`). -/
theorem before0_9 (c : Dev nD) (t : Fin (cfgA ch).N) (d) : (dats ch m ρ 0 c).before (9 : Fin 18) t d = iblk ch m ρ c (9 : Fin 18) t :=
  ((dats ch m ρ 0 c).before_in_eq_fetched (9 : Fin 18) rfl (fun _ => rfl) (fun _ _ _ => rfl) (fun t => by rw [after0_9]; unfold Dat.blockOf iblk; rfl) t d).trans
    (by unfold Dat.fetched Dat.blockOf iblk; rfl)

/-- Input window 10 holds its block, fetched there or not (Lib/Pipeline/FrameBody.lean `Dat.before_in_eq_fetched`). -/
theorem before0_10 (c : Dev nD) (t : Fin (cfgA ch).N) (d) : (dats ch m ρ 0 c).before (10 : Fin 18) t d = iblk ch m ρ c (10 : Fin 18) t :=
  ((dats ch m ρ 0 c).before_in_eq_fetched (10 : Fin 18) rfl (fun _ => rfl) (fun _ _ _ => rfl) (fun t => by rw [after0_10]; unfold Dat.blockOf iblk; rfl) t d).trans
    (by unfold Dat.fetched Dat.blockOf iblk; rfl)

/-- Output 11's `after` carries through the points that leave it idle. -/
theorem hcarry0_11 (c : Dev nD) : ∀ (t : Fin (cfgA ch).N) (ht : t.val ≠ 0), (cfgA ch).idle (11 : Fin 18) ((cfgA ch).grid.coords t) = true → (cfgA ch).fresh (11 : Fin 18) t.val = false →
    (dats ch m ρ 0 c).after (11 : Fin 18) t = (dats ch m ρ 0 c).after (11 : Fin 18) ⟨t.val - 1, by omega⟩ := by
  intro t ht hi hf
  rw [after0_11, after0_11, traj0_eq]
  obtain ⟨i11, -, -, -, -, -, -, -, -, -, -, -, -, -, -, -, -, -, -, -, -⟩ := sched0_A ch t
  rw [i11] at hi; exact absurd hi (by decide)

/-- Output window 11 holds, when the body runs at `t`: junk if nothing was stored since its last write-back (`Cfg.fresh`),
    else what the point before left (TableIdle.lean `Dat.before_out_traj`). -/
theorem before0_11 (c : Dev nD) (t : Fin (cfgA ch).N) (d) :
    (dats ch m ρ 0 c).before (11 : Fin 18) t d = if (cfgA ch).fresh (11 : Fin 18) t.val then d else (prev0 ch m ρ c t).1 := by
  rw [(dats ch m ρ 0 c).before_out_traj (11 : Fin 18) rfl (fun _ _ => rfl) (hcarry0_11 ch m ρ c) t.val t rfl d]
  by_cases hf : (cfgA ch).fresh (11 : Fin 18) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_11]; unfold prev0; rw [dif_neg h0]

/-- Output 12's `after` carries through the points that leave it idle. -/
theorem hcarry0_12 (c : Dev nD) : ∀ (t : Fin (cfgA ch).N) (ht : t.val ≠ 0), (cfgA ch).idle (12 : Fin 18) ((cfgA ch).grid.coords t) = true → (cfgA ch).fresh (12 : Fin 18) t.val = false →
    (dats ch m ρ 0 c).after (12 : Fin 18) t = (dats ch m ρ 0 c).after (12 : Fin 18) ⟨t.val - 1, by omega⟩ := by
  intro t ht hi hf
  rw [after0_12, after0_12, traj0_eq]
  obtain ⟨-, -, -, i12, -, -, -, -, -, -, -, -, -, -, -, -, -, -, -, -, -⟩ := sched0_A ch t
  rw [i12] at hi; exact absurd hi (by decide)

/-- Output window 12 holds, when the body runs at `t`: junk if nothing was stored since its last write-back (`Cfg.fresh`),
    else what the point before left (TableIdle.lean `Dat.before_out_traj`). -/
theorem before0_12 (c : Dev nD) (t : Fin (cfgA ch).N) (d) :
    (dats ch m ρ 0 c).before (12 : Fin 18) t d = if (cfgA ch).fresh (12 : Fin 18) t.val then d else (prev0 ch m ρ c t).2.1 := by
  rw [(dats ch m ρ 0 c).before_out_traj (12 : Fin 18) rfl (fun _ _ => rfl) (hcarry0_12 ch m ρ c) t.val t rfl d]
  by_cases hf : (cfgA ch).fresh (12 : Fin 18) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_12]; unfold prev0; rw [dif_neg h0]

/-- Output 13's `after` carries through the points that leave it idle. -/
theorem hcarry0_13 (c : Dev nD) : ∀ (t : Fin (cfgA ch).N) (ht : t.val ≠ 0), (cfgA ch).idle (13 : Fin 18) ((cfgA ch).grid.coords t) = true → (cfgA ch).fresh (13 : Fin 18) t.val = false →
    (dats ch m ρ 0 c).after (13 : Fin 18) t = (dats ch m ρ 0 c).after (13 : Fin 18) ⟨t.val - 1, by omega⟩ := by
  intro t ht hi hf
  rw [after0_13, after0_13, traj0_eq]
  obtain ⟨-, -, -, -, -, -, i13, -, -, -, -, -, -, -, -, -, -, -, -, -, -⟩ := sched0_A ch t
  rw [i13] at hi; exact absurd hi (by decide)

/-- Output window 13 holds, when the body runs at `t`: junk if nothing was stored since its last write-back (`Cfg.fresh`),
    else what the point before left (TableIdle.lean `Dat.before_out_traj`). -/
theorem before0_13 (c : Dev nD) (t : Fin (cfgA ch).N) (d) :
    (dats ch m ρ 0 c).before (13 : Fin 18) t d = if (cfgA ch).fresh (13 : Fin 18) t.val then d else (prev0 ch m ρ c t).2.2.1 := by
  rw [(dats ch m ρ 0 c).before_out_traj (13 : Fin 18) rfl (fun _ _ => rfl) (hcarry0_13 ch m ρ c) t.val t rfl d]
  by_cases hf : (cfgA ch).fresh (13 : Fin 18) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_13]; unfold prev0; rw [dif_neg h0]

/-- Output 14's `after` carries through the points that leave it idle. -/
theorem hcarry0_14 (c : Dev nD) : ∀ (t : Fin (cfgA ch).N) (ht : t.val ≠ 0), (cfgA ch).idle (14 : Fin 18) ((cfgA ch).grid.coords t) = true → (cfgA ch).fresh (14 : Fin 18) t.val = false →
    (dats ch m ρ 0 c).after (14 : Fin 18) t = (dats ch m ρ 0 c).after (14 : Fin 18) ⟨t.val - 1, by omega⟩ := by
  intro t ht hi hf
  rw [after0_14, after0_14, traj0_eq]
  obtain ⟨-, -, -, -, -, -, -, -, -, i14, -, -, -, -, -, -, -, -, -, -, -⟩ := sched0_A ch t
  rw [i14] at hi; exact absurd hi (by decide)

/-- Output window 14 holds, when the body runs at `t`: junk if nothing was stored since its last write-back (`Cfg.fresh`),
    else what the point before left (TableIdle.lean `Dat.before_out_traj`). -/
theorem before0_14 (c : Dev nD) (t : Fin (cfgA ch).N) (d) :
    (dats ch m ρ 0 c).before (14 : Fin 18) t d = if (cfgA ch).fresh (14 : Fin 18) t.val then d else (prev0 ch m ρ c t).2.2.2.1 := by
  rw [(dats ch m ρ 0 c).before_out_traj (14 : Fin 18) rfl (fun _ _ => rfl) (hcarry0_14 ch m ρ c) t.val t rfl d]
  by_cases hf : (cfgA ch).fresh (14 : Fin 18) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_14]; unfold prev0; rw [dif_neg h0]

/-- Output 15's `after` carries through the points that leave it idle. -/
theorem hcarry0_15 (c : Dev nD) : ∀ (t : Fin (cfgA ch).N) (ht : t.val ≠ 0), (cfgA ch).idle (15 : Fin 18) ((cfgA ch).grid.coords t) = true → (cfgA ch).fresh (15 : Fin 18) t.val = false →
    (dats ch m ρ 0 c).after (15 : Fin 18) t = (dats ch m ρ 0 c).after (15 : Fin 18) ⟨t.val - 1, by omega⟩ := by
  intro t ht hi hf
  rw [after0_15, after0_15, traj0_eq]
  obtain ⟨-, -, -, -, -, -, -, -, -, -, -, -, i15, -, -, -, -, -, -, -, -⟩ := sched0_A ch t
  rw [i15] at hi; exact absurd hi (by decide)

/-- Output window 15 holds, when the body runs at `t`: junk if nothing was stored since its last write-back (`Cfg.fresh`),
    else what the point before left (TableIdle.lean `Dat.before_out_traj`). -/
theorem before0_15 (c : Dev nD) (t : Fin (cfgA ch).N) (d) :
    (dats ch m ρ 0 c).before (15 : Fin 18) t d = if (cfgA ch).fresh (15 : Fin 18) t.val then d else (prev0 ch m ρ c t).2.2.2.2.1 := by
  rw [(dats ch m ρ 0 c).before_out_traj (15 : Fin 18) rfl (fun _ _ => rfl) (hcarry0_15 ch m ρ c) t.val t rfl d]
  by_cases hf : (cfgA ch).fresh (15 : Fin 18) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_15]; unfold prev0; rw [dif_neg h0]

/-- Output 16's `after` carries through the points that leave it idle. -/
theorem hcarry0_16 (c : Dev nD) : ∀ (t : Fin (cfgA ch).N) (ht : t.val ≠ 0), (cfgA ch).idle (16 : Fin 18) ((cfgA ch).grid.coords t) = true → (cfgA ch).fresh (16 : Fin 18) t.val = false →
    (dats ch m ρ 0 c).after (16 : Fin 18) t = (dats ch m ρ 0 c).after (16 : Fin 18) ⟨t.val - 1, by omega⟩ := by
  intro t ht hi hf
  rw [after0_16, after0_16, traj0_eq]
  obtain ⟨-, -, -, -, -, -, -, -, -, -, -, -, -, -, -, i16, -, -, -, -, -⟩ := sched0_A ch t
  rw [i16] at hi; exact absurd hi (by decide)

/-- Output window 16 holds, when the body runs at `t`: junk if nothing was stored since its last write-back (`Cfg.fresh`),
    else what the point before left (TableIdle.lean `Dat.before_out_traj`). -/
theorem before0_16 (c : Dev nD) (t : Fin (cfgA ch).N) (d) :
    (dats ch m ρ 0 c).before (16 : Fin 18) t d = if (cfgA ch).fresh (16 : Fin 18) t.val then d else (prev0 ch m ρ c t).2.2.2.2.2.1 := by
  rw [(dats ch m ρ 0 c).before_out_traj (16 : Fin 18) rfl (fun _ _ => rfl) (hcarry0_16 ch m ρ c) t.val t rfl d]
  by_cases hf : (cfgA ch).fresh (16 : Fin 18) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_16]; unfold prev0; rw [dif_neg h0]

/-- Output 17's `after` carries through the points that leave it idle. -/
theorem hcarry0_17 (c : Dev nD) : ∀ (t : Fin (cfgA ch).N) (ht : t.val ≠ 0), (cfgA ch).idle (17 : Fin 18) ((cfgA ch).grid.coords t) = true → (cfgA ch).fresh (17 : Fin 18) t.val = false →
    (dats ch m ρ 0 c).after (17 : Fin 18) t = (dats ch m ρ 0 c).after (17 : Fin 18) ⟨t.val - 1, by omega⟩ := by
  intro t ht hi hf
  rw [after0_17, after0_17, traj0_eq]
  obtain ⟨-, -, -, -, -, -, -, -, -, -, -, -, -, -, -, -, -, -, i17, -, -⟩ := sched0_A ch t
  rw [i17] at hi; exact absurd hi (by decide)

/-- Output window 17 holds, when the body runs at `t`: junk if nothing was stored since its last write-back (`Cfg.fresh`),
    else what the point before left (TableIdle.lean `Dat.before_out_traj`). -/
theorem before0_17 (c : Dev nD) (t : Fin (cfgA ch).N) (d) :
    (dats ch m ρ 0 c).before (17 : Fin 18) t d = if (cfgA ch).fresh (17 : Fin 18) t.val then d else (prev0 ch m ρ c t).2.2.2.2.2.2 := by
  rw [(dats ch m ρ 0 c).before_out_traj (17 : Fin 18) rfl (fun _ _ => rfl) (hcarry0_17 ch m ρ c) t.val t rfl d]
  by_cases hf : (cfgA ch).fresh (17 : Fin 18) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_17]; unfold prev0; rw [dif_neg h0]

/-! ## The body obligation, at a generic point, by path -/

/-- The body at point `t` on its staging memrefs, as the pipeline calls it. -/
abbrev bodyAt0 (t : Fin (cfgA ch).N) : Prog (TpuEff nD τ sig (Elt Ideal) Λ₀ .tc) PUnit :=
  cc0_premix (crd ch t) (Memref.whole main_arg0) (Memref.isWhole_whole _) (Memref.whole main_arg1) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (ms0_15 ch t) (hs0_15 ch t) (ms0_16 ch t) (hs0_16 ch t) (ms0_17 ch t) (hs0_17 ch t)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 18) t d))
        ∗ (∃ d, owns (c : Thread nD τ) (ms0_1 ch t) fullShare ((dats ch m ρ 0 c).before (1 : Fin 18) t d))
        ∗ (∃ d, owns (c : Thread nD τ) (ms0_2 ch t) fullShare ((dats ch m ρ 0 c).before (2 : Fin 18) t d))
        ∗ (∃ d, owns (c : Thread nD τ) (ms0_3 ch t) fullShare ((dats ch m ρ 0 c).before (3 : Fin 18) t d))
        ∗ (∃ d, owns (c : Thread nD τ) (ms0_4 ch t) fullShare ((dats ch m ρ 0 c).before (4 : Fin 18) t d))
        ∗ (∃ d, owns (c : Thread nD τ) (ms0_5 ch t) fullShare ((dats ch m ρ 0 c).before (5 : Fin 18) t d))
        ∗ (∃ d, owns (c : Thread nD τ) (ms0_6 ch t) fullShare ((dats ch m ρ 0 c).before (6 : Fin 18) t d))
        ∗ (∃ d, owns (c : Thread nD τ) (ms0_7 ch t) fullShare ((dats ch m ρ 0 c).before (7 : Fin 18) t d))
        ∗ (∃ d, owns (c : Thread nD τ) (ms0_8 ch t) fullShare ((dats ch m ρ 0 c).before (8 : Fin 18) t d))
        ∗ (∃ d, owns (c : Thread nD τ) (ms0_9 ch t) fullShare ((dats ch m ρ 0 c).before (9 : Fin 18) t d))
        ∗ (∃ d, owns (c : Thread nD τ) (ms0_10 ch t) fullShare ((dats ch m ρ 0 c).before (10 : Fin 18) t d))
        ∗ (∃ d, owns (c : Thread nD τ) (ms0_11 ch t) fullShare ((dats ch m ρ 0 c).before (11 : Fin 18) t d))
        ∗ (∃ d, owns (c : Thread nD τ) (ms0_12 ch t) fullShare ((dats ch m ρ 0 c).before (12 : Fin 18) t d))
        ∗ (∃ d, owns (c : Thread nD τ) (ms0_13 ch t) fullShare ((dats ch m ρ 0 c).before (13 : Fin 18) t d))
        ∗ (∃ d, owns (c : Thread nD τ) (ms0_14 ch t) fullShare ((dats ch m ρ 0 c).before (14 : Fin 18) t d))
        ∗ (∃ d, owns (c : Thread nD τ) (ms0_15 ch t) fullShare ((dats ch m ρ 0 c).before (15 : Fin 18) t d))
        ∗ (∃ d, owns (c : Thread nD τ) (ms0_16 ch t) fullShare ((dats ch m ρ 0 c).before (16 : Fin 18) t d))
        ∗ (∃ d, owns (c : Thread nD τ) (ms0_17 ch t) fullShare ((dats ch m ρ 0 c).before (17 : Fin 18) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  obtain ⟨i11, f11, fr11, i12, f12, fr12, i13, f13, fr13, i14, f14, fr14, i15, f15, fr15, i16, f16, fr16, i17, f17, fr17⟩ := sched0_A ch t
  have F0 := hypsR0_A ch t
  have k0_hw1 := F0.1; have F1 := F0.2 k0_hw1
  clear F0 F1
  rewrite [i11]
  simp only [before0_0, before0_1, before0_2, before0_3, before0_4, before0_5, before0_6, before0_7, before0_8, before0_9, before0_10, before0_11, before0_12, before0_13, before0_14, before0_15, before0_16, before0_17, after0_0, after0_1, after0_2, after0_3, after0_4, after0_5, after0_6, after0_7, after0_8, after0_9, after0_10, after0_11, after0_12, after0_13, after0_14, after0_15, after0_16, after0_17, f11, f12, f13, f14, f15, f16, f17]
  simp only [fr11, fr12, fr13, fr14, fr15, fr16, fr17, Bool.false_eq_true, ↓reduceIte]
  rewrite [show (dats ch m ρ 0 c).Φ t.succ = Phi ch m ρ c t.succ from rfl, show (dats ch m ρ 0 c).Φ t.castSucc = Phi ch m ρ c t.castSucc from rfl,
    show (dats ch m ρ 0 c).owesAt () t.succ = (dats ch m ρ 0 c).owesAt () t.castSucc from rfl]
  try rewrite [traj0_eq, step0_A ch m ρ c t _ ]
  unfold Phi; simp only [prev0T_castSucc, prev0T_succ, traj0_eq, step0_A ch m ρ c t _ , Fin.val_castSucc, Fin.val_succ]
  iintro ⟨⟨HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (ms0_15 ch t) (hs0_15 ch t) (ms0_16 ch t) (hs0_16 ch t) (ms0_17 ch t) (hs0_17 ch t) (pinT_0 ch) (pinT_1 ch) (iblk ch m ρ c (0 : Fin 18) t) (iblk ch m ρ c (1 : Fin 18) t) (iblk ch m ρ c (2 : Fin 18) t) (iblk ch m ρ c (3 : Fin 18) t) (iblk ch m ρ c (4 : Fin 18) t) (iblk ch m ρ c (5 : Fin 18) t) (iblk ch m ρ c (6 : Fin 18) t) (iblk ch m ρ c (7 : Fin 18) t) (iblk ch m ρ c (8 : Fin 18) t) (iblk ch m ρ c (9 : Fin 18) t) (iblk ch m ρ c (10 : Fin 18) t) k0_hw1).2.2.2.2.2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [H8]; · iapply rep_of_owns; iexact H8
  isplitl [H9]; · iapply rep_of_owns; iexact H9
  isplitl [H10]; · iapply rep_of_owns; iexact H10
  isplitl [HT0]; · iexact HT0
  isplitl [HT1]; · iexact HT1
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iintro ⟨H0, H1, H2, H3, H4, H5, H6, H7, H8, H9, H10, HT0, HT1, ⟨%e11, H11⟩, ⟨%e12, H12⟩, ⟨%e13, H13⟩, ⟨%e14, H14⟩, ⟨%e15, H15⟩, ⟨%e16, H16⟩, ⟨%e17, H17⟩⟩
  isplitl [HT0 HT1]
  · isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  isplitl [H5]
  · iapply owns_of_rep; iexact H5
  isplitl [H6]
  · iapply owns_of_rep; iexact H6
  isplitl [H7]
  · iapply owns_of_rep; iexact H7
  isplitl [H8]
  · iapply owns_of_rep; iexact H8
  isplitl [H9]
  · iapply owns_of_rep; iexact H9
  isplitl [H10]
  · iapply owns_of_rep; iexact H10
  isplitl [H11]
  · unfold owns; iexists _; isplitr; swap
    · iexact H11
    · ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _)
  isplitl [H12]
  · unfold owns; iexists _; isplitr; swap
    · iexact H12
    · ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr; swap
    · iexact H13
    · ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr; swap
    · iexact H14
    · ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr; swap
    · iexact H15
    · ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr; swap
    · iexact H16
    · ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _)
  unfold owns; iexists _; isplitr; swap
  · iexact H17
  · ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _)

/-- The library's body obligation, at every point. -/
theorem body_obligation (hp : Pinned ch m) (c : Dev nD) : BodyObligation (dats ch m ρ 0 c) (defs₀ (F := Ideal)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, -⟩
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨-, -⟩
  isplitr; · iempintro
  iempintro

/-- The physical post: every array at what the library computes, every table at what the pipeline ran at. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- At the compiled mesh, from any memory with zero counters whose tables and steering words are member `ch`'s: every weakly
    fair execution of @main on the TensorCores terminates, and every final state has each array at the computed contents,
    and every semaphore counter of the machine at zero. -/
theorem run_main_quiescent (hp : Pinned ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ hp c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Ideal)) (onTc (τ := τ) (main (F := Ideal))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 0).trans (hp.1 c).symm, ((h c).2 1).trans (hp.2 c).symm, ((h c).1 (0 : Fin 18)).trans ((dats ch m ρ 0 c).arrAt_in (0 : Fin 18) rfl _), ((h c).1 (1 : Fin 18)).trans ((dats ch m ρ 0 c).arrAt_in (1 : Fin 18) rfl _), ((h c).1 (2 : Fin 18)).trans ((dats ch m ρ 0 c).arrAt_in (2 : Fin 18) rfl _), ((h c).1 (3 : Fin 18)).trans ((dats ch m ρ 0 c).arrAt_in (3 : Fin 18) rfl _), ((h c).1 (4 : Fin 18)).trans ((dats ch m ρ 0 c).arrAt_in (4 : Fin 18) rfl _), ((h c).1 (5 : Fin 18)).trans ((dats ch m ρ 0 c).arrAt_in (5 : Fin 18) rfl _), ((h c).1 (6 : Fin 18)).trans ((dats ch m ρ 0 c).arrAt_in (6 : Fin 18) rfl _), ((h c).1 (7 : Fin 18)).trans ((dats ch m ρ 0 c).arrAt_in (7 : Fin 18) rfl _), ((h c).1 (8 : Fin 18)).trans ((dats ch m ρ 0 c).arrAt_in (8 : Fin 18) rfl _), ((h c).1 (9 : Fin 18)).trans ((dats ch m ρ 0 c).arrAt_in (9 : Fin 18) rfl _), ((h c).1 (10 : Fin 18)).trans ((dats ch m ρ 0 c).arrAt_in (10 : Fin 18) rfl _)⟩) (run_main ch m ρ hp)

/-- THE FRAME under the pinning: from a launch memory whose tables and steering words are member `ch`'s, every weakly fair
    execution terminates, nothing faults, every argument array ends unchanged and every semaphore counter of the machine reads
    zero at every final state — `Cert.quiescent_PremixIdeal`'s post. -/
theorem frame (hp : Pinned ch m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged ch m ρ hp) ((θ_run defs _ _).mono (fun _ h => h.2) (run_main_quiescent ch m ρ hp))

end Cert.PremixIdeal.Gen

end
-- ==== Proof.PostmixIdealRun.lean ====
module

public import proofs.«01_k».proof.Proof.Gen.PostmixIdeal.Flash.Runs
public import proofs.«01_k».proof.Proof.Gen.PostmixIdeal.Flash.Facts0
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-! The frame of this call, written out from its generated parts: what each step leaves in the four output blocks, the
    pipeline's proof data, the body's obligation and the launch. -/

@[expose] public section

set_option maxRecDepth 16384
set_option Elab.async false

noncomputable section

namespace Cert.PostmixIdeal.Gen

open Cert.PostmixIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

/-- The proof's resource algebra: the rounds library's, for the pipeline's staging cells, embedded whole. -/
abbrev EP : Emb (UR sig nD τ) 𝕄 := emb₁

variable (ch : Fin 1)
variable (m : (ℓ : Loc nD τ sig) → Buf (Elt Ideal) ℓ) (ρ : Dev nD → PrngReg)

/-- The facts at every point of every member (decided member by member in slices of points, Flash/FactsJ.lean). -/
theorem allFacts : ∀ (ch : Fin 1) (t : Fin (cfgA ch).N), FactsAt ch t := fun ch => match ch with
  | ⟨0, _⟩ => allFacts_0
  | ⟨_ + 1, h⟩ => absurd h (by omega)

/-! ## The named facts — the freshness tables' steps, each path's hypotheses and schedule —: its projections -/

theorem frTab0_12_step : ∀ (ch : Fin 1) (t : Fin (cfgA ch).N),
    frTab0_12 ch (t.val + 1) = (((cfgA ch).win (12 : Fin 16)).flush t || ((cfgA ch).idle (12 : Fin 16) ((cfgA ch).grid.coords t) && frTab0_12 ch t.val)) := fun ch t => (allFacts ch t).1
theorem freshF0_12 (t : Fin (cfgA ch).N) : (cfgA ch).fresh (12 : Fin 16) t.val = frTab0_12 ch t.val :=
  Pipeline.Cfg.fresh_tab (cfgA ch) (12 : Fin 16) (frTab0_12 ch) rfl (frTab0_12_step ch) t.val (Nat.le_of_lt t.isLt)

theorem frTab0_13_step : ∀ (ch : Fin 1) (t : Fin (cfgA ch).N),
    frTab0_13 ch (t.val + 1) = (((cfgA ch).win (13 : Fin 16)).flush t || ((cfgA ch).idle (13 : Fin 16) ((cfgA ch).grid.coords t) && frTab0_13 ch t.val)) := fun ch t => (allFacts ch t).2.1
theorem freshF0_13 (t : Fin (cfgA ch).N) : (cfgA ch).fresh (13 : Fin 16) t.val = frTab0_13 ch t.val :=
  Pipeline.Cfg.fresh_tab (cfgA ch) (13 : Fin 16) (frTab0_13 ch) rfl (frTab0_13_step ch) t.val (Nat.le_of_lt t.isLt)

theorem frTab0_14_step : ∀ (ch : Fin 1) (t : Fin (cfgA ch).N),
    frTab0_14 ch (t.val + 1) = (((cfgA ch).win (14 : Fin 16)).flush t || ((cfgA ch).idle (14 : Fin 16) ((cfgA ch).grid.coords t) && frTab0_14 ch t.val)) := fun ch t => (allFacts ch t).2.2.1
theorem freshF0_14 (t : Fin (cfgA ch).N) : (cfgA ch).fresh (14 : Fin 16) t.val = frTab0_14 ch t.val :=
  Pipeline.Cfg.fresh_tab (cfgA ch) (14 : Fin 16) (frTab0_14 ch) rfl (frTab0_14_step ch) t.val (Nat.le_of_lt t.isLt)

theorem frTab0_15_step : ∀ (ch : Fin 1) (t : Fin (cfgA ch).N),
    frTab0_15 ch (t.val + 1) = (((cfgA ch).win (15 : Fin 16)).flush t || ((cfgA ch).idle (15 : Fin 16) ((cfgA ch).grid.coords t) && frTab0_15 ch t.val)) := fun ch t => (allFacts ch t).2.2.2.1
theorem freshF0_15 (t : Fin (cfgA ch).N) : (cfgA ch).fresh (15 : Fin 16) t.val = frTab0_15 ch t.val :=
  Pipeline.Cfg.fresh_tab (cfgA ch) (15 : Fin 16) (frTab0_15 ch) rfl (frTab0_15_step ch) t.val (Nat.le_of_lt t.isLt)

/-- At a point of path A, the path's hypotheses hold of the words the body reads there (the pinned tables read,
    a pinned window's word AS the word `pinBlk ch t (r.idx x)`; the checks among them cited from `ChecksAt`). -/
theorem hyps0_A : ∀ (ch : Fin 1) (t : Fin (cfgA ch).N),
    (k0_chk1 (View.readAt (Elt Ideal) (tbM0_0).view (Rect.unit (s := S192) (k0_off1 (crd ch t)) S1.size (k0_off1_inb (crd ch t))).toLoadRect (pinT_0 ch) (Shape.Idx.first (numel1_S1.symm ▸ Nat.one_pos)))) ∧ ∀ (k0_hw1 : k0_chk1 (View.readAt (Elt Ideal) (tbM0_0).view (Rect.unit (s := S192) (k0_off1 (crd ch t)) S1.size (k0_off1_inb (crd ch t))).toLoadRect (pinT_0 ch) (Shape.Idx.first (numel1_S1.symm ▸ Nat.one_pos)))), (True) := fun ch t  =>
  ⟨hchk0_k0_hw1 ch t, fun k0_hw1 => trivial⟩

theorem hypsR0_A : ∀ (ch : Fin 1) (t : Fin (cfgA ch).N),
    (k0_chk1 (View.readAt (Elt Ideal) (tbM0_0).view (Rect.unit (s := S192) (k0_off1 (crd ch t)) S1.size (k0_off1_inb (crd ch t))).toLoadRect (pinT_0 ch) (Shape.Idx.first (numel1_S1.symm ▸ Nat.one_pos)))) ∧ ∀ (k0_hw1 : k0_chk1 (View.readAt (Elt Ideal) (tbM0_0).view (Rect.unit (s := S192) (k0_off1 (crd ch t)) S1.size (k0_off1_inb (crd ch t))).toLoadRect (pinT_0 ch) (Shape.Idx.first (numel1_S1.symm ▸ Nat.one_pos)))), (True) := hyps0_A

/-! Path A's hypotheses that the body's accesses or later hypotheses may cite by name (a check, a trip count),
    one theorem each, numbered by the hypothesis' place in the conjunction and proved off `hypsR0_A`; the step
    (`step0`, `step0_A`) cites these where it projects that conjunction, instead of spelling its spine again. -/
theorem hyp0_A_0 (ch : Fin 1) (t : Fin (cfgA ch).N) :
    k0_chk1 (View.readAt (Elt Ideal) (tbM0_0).view (Rect.unit (s := S192) (k0_off1 (crd ch t)) S1.size (k0_off1_inb (crd ch t))).toLoadRect (pinT_0 ch) (Shape.Idx.first (numel1_S1.symm ▸ Nat.one_pos))) := (hypsR0_A ch t).1

/-- At a point of path A: the idle table, the write-backs and which buffers hold junk (decided over the
    freshness tables `frTab`/`sfrTab`, restated over `Cfg.fresh`/`sfresh` by their agreement). -/
theorem sched0_A : ∀ (ch : Fin 1) (t : Fin (cfgA ch).N),
    (cfgA ch).idle (12 : Fin 16) ((cfgA ch).grid.coords t) = false ∧ ((cfgA ch).win (12 : Fin 16)).flush t = true ∧ (cfgA ch).fresh (12 : Fin 16) t.val = true ∧ (cfgA ch).idle (13 : Fin 16) ((cfgA ch).grid.coords t) = false ∧ ((cfgA ch).win (13 : Fin 16)).flush t = true ∧ (cfgA ch).fresh (13 : Fin 16) t.val = true ∧ (cfgA ch).idle (14 : Fin 16) ((cfgA ch).grid.coords t) = false ∧ ((cfgA ch).win (14 : Fin 16)).flush t = true ∧ (cfgA ch).fresh (14 : Fin 16) t.val = true ∧ (cfgA ch).idle (15 : Fin 16) ((cfgA ch).grid.coords t) = false ∧ ((cfgA ch).win (15 : Fin 16)).flush t = true ∧ (cfgA ch).fresh (15 : Fin 16) t.val = true := by
  intro ch t; rw [freshF0_12 ch t, freshF0_13 ch t, freshF0_14 ch t, freshF0_15 ch t]; exact (fun ch t => (allFacts ch t).2.2.2.2.2) ch t

/-! ## What the outputs and scratches hold after each point -/

/-- ONE STEP of the trajectory: what the outputs' current buffers and the scratches hold after the body at point `t`
    (output 12, output 13, output 14, output 15), from what they held before (`prev`): the path the decisions select at `t`, its
    run's contents; an output the path leaves idle keeps what it held (junk — `default`, named by nothing — where fresh). -/
def step0 (c : Dev nD) (t : Fin (cfgA ch).N) (prev : (S256x1024.Idx → Elt Ideal .f32) × (S256x1024.Idx → Elt Ideal .f32) × (S256x128.Idx → Elt Ideal .i32) × (S256x128.Idx → Elt Ideal .f32)) : (S256x1024.Idx → Elt Ideal .f32) × (S256x1024.Idx → Elt Ideal .f32) × (S256x128.Idx → Elt Ideal .i32) × (S256x128.Idx → Elt Ideal .f32) :=
  (out0_A_12 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (ms0_15 ch t) (hs0_15 ch t) (pinT_0 ch) (iblk ch m ρ c (0 : Fin 16) t) (iblk ch m ρ c (1 : Fin 16) t) (iblk ch m ρ c (2 : Fin 16) t) (iblk ch m ρ c (3 : Fin 16) t) (iblk ch m ρ c (4 : Fin 16) t) (iblk ch m ρ c (5 : Fin 16) t) (iblk ch m ρ c (6 : Fin 16) t) (iblk ch m ρ c (7 : Fin 16) t) (iblk ch m ρ c (8 : Fin 16) t) (iblk ch m ρ c (9 : Fin 16) t) (iblk ch m ρ c (10 : Fin 16) t) (iblk ch m ρ c (11 : Fin 16) t) (hyp0_A_0 ch t), out0_A_13 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (ms0_15 ch t) (hs0_15 ch t) (pinT_0 ch) (iblk ch m ρ c (0 : Fin 16) t) (iblk ch m ρ c (1 : Fin 16) t) (iblk ch m ρ c (2 : Fin 16) t) (iblk ch m ρ c (3 : Fin 16) t) (iblk ch m ρ c (4 : Fin 16) t) (iblk ch m ρ c (5 : Fin 16) t) (iblk ch m ρ c (6 : Fin 16) t) (iblk ch m ρ c (7 : Fin 16) t) (iblk ch m ρ c (8 : Fin 16) t) (iblk ch m ρ c (9 : Fin 16) t) (iblk ch m ρ c (10 : Fin 16) t) (iblk ch m ρ c (11 : Fin 16) t) (hyp0_A_0 ch t), out0_A_14 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (ms0_15 ch t) (hs0_15 ch t) (pinT_0 ch) (iblk ch m ρ c (0 : Fin 16) t) (iblk ch m ρ c (1 : Fin 16) t) (iblk ch m ρ c (2 : Fin 16) t) (iblk ch m ρ c (3 : Fin 16) t) (iblk ch m ρ c (4 : Fin 16) t) (iblk ch m ρ c (5 : Fin 16) t) (iblk ch m ρ c (6 : Fin 16) t) (iblk ch m ρ c (7 : Fin 16) t) (iblk ch m ρ c (8 : Fin 16) t) (iblk ch m ρ c (9 : Fin 16) t) (iblk ch m ρ c (10 : Fin 16) t) (iblk ch m ρ c (11 : Fin 16) t) (hyp0_A_0 ch t), out0_A_15 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (ms0_15 ch t) (hs0_15 ch t) (pinT_0 ch) (iblk ch m ρ c (0 : Fin 16) t) (iblk ch m ρ c (1 : Fin 16) t) (iblk ch m ρ c (2 : Fin 16) t) (iblk ch m ρ c (3 : Fin 16) t) (iblk ch m ρ c (4 : Fin 16) t) (iblk ch m ρ c (5 : Fin 16) t) (iblk ch m ρ c (6 : Fin 16) t) (iblk ch m ρ c (7 : Fin 16) t) (iblk ch m ρ c (8 : Fin 16) t) (iblk ch m ρ c (9 : Fin 16) t) (iblk ch m ρ c (10 : Fin 16) t) (iblk ch m ρ c (11 : Fin 16) t) (hyp0_A_0 ch t))

/-- THE TRAJECTORY: after position `n`. -/
def traj0 (c : Dev nD) : (n : ℕ) → n < (cfgA ch).N → (S256x1024.Idx → Elt Ideal .f32) × (S256x1024.Idx → Elt Ideal .f32) × (S256x128.Idx → Elt Ideal .i32) × (S256x128.Idx → Elt Ideal .f32)
  | 0, h => step0 ch m ρ c ⟨0, h⟩ (default, default, default, default)
  | n + 1, h => step0 ch m ρ c ⟨n + 1, h⟩ (traj0 c n (Nat.lt_of_succ_lt h))

/-- What they held BEFORE point `t` (junk before the first). -/
def prev0 (c : Dev nD) (t : Fin (cfgA ch).N) : (S256x1024.Idx → Elt Ideal .f32) × (S256x1024.Idx → Elt Ideal .f32) × (S256x128.Idx → Elt Ideal .i32) × (S256x128.Idx → Elt Ideal .f32) :=
  if h : t.val = 0 then (default, default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S256x1024.Idx → Elt Ideal .f32) × (S256x1024.Idx → Elt Ideal .f32) × (S256x128.Idx → Elt Ideal .i32) × (S256x128.Idx → Elt Ideal .f32)) :
    step0 ch m ρ c t prev = (out0_A_12 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (ms0_15 ch t) (hs0_15 ch t) (pinT_0 ch) (iblk ch m ρ c (0 : Fin 16) t) (iblk ch m ρ c (1 : Fin 16) t) (iblk ch m ρ c (2 : Fin 16) t) (iblk ch m ρ c (3 : Fin 16) t) (iblk ch m ρ c (4 : Fin 16) t) (iblk ch m ρ c (5 : Fin 16) t) (iblk ch m ρ c (6 : Fin 16) t) (iblk ch m ρ c (7 : Fin 16) t) (iblk ch m ρ c (8 : Fin 16) t) (iblk ch m ρ c (9 : Fin 16) t) (iblk ch m ρ c (10 : Fin 16) t) (iblk ch m ρ c (11 : Fin 16) t) (hyp0_A_0 ch t), out0_A_13 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (ms0_15 ch t) (hs0_15 ch t) (pinT_0 ch) (iblk ch m ρ c (0 : Fin 16) t) (iblk ch m ρ c (1 : Fin 16) t) (iblk ch m ρ c (2 : Fin 16) t) (iblk ch m ρ c (3 : Fin 16) t) (iblk ch m ρ c (4 : Fin 16) t) (iblk ch m ρ c (5 : Fin 16) t) (iblk ch m ρ c (6 : Fin 16) t) (iblk ch m ρ c (7 : Fin 16) t) (iblk ch m ρ c (8 : Fin 16) t) (iblk ch m ρ c (9 : Fin 16) t) (iblk ch m ρ c (10 : Fin 16) t) (iblk ch m ρ c (11 : Fin 16) t) (hyp0_A_0 ch t), out0_A_14 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (ms0_15 ch t) (hs0_15 ch t) (pinT_0 ch) (iblk ch m ρ c (0 : Fin 16) t) (iblk ch m ρ c (1 : Fin 16) t) (iblk ch m ρ c (2 : Fin 16) t) (iblk ch m ρ c (3 : Fin 16) t) (iblk ch m ρ c (4 : Fin 16) t) (iblk ch m ρ c (5 : Fin 16) t) (iblk ch m ρ c (6 : Fin 16) t) (iblk ch m ρ c (7 : Fin 16) t) (iblk ch m ρ c (8 : Fin 16) t) (iblk ch m ρ c (9 : Fin 16) t) (iblk ch m ρ c (10 : Fin 16) t) (iblk ch m ρ c (11 : Fin 16) t) (hyp0_A_0 ch t), out0_A_15 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (ms0_15 ch t) (hs0_15 ch t) (pinT_0 ch) (iblk ch m ρ c (0 : Fin 16) t) (iblk ch m ρ c (1 : Fin 16) t) (iblk ch m ρ c (2 : Fin 16) t) (iblk ch m ρ c (3 : Fin 16) t) (iblk ch m ρ c (4 : Fin 16) t) (iblk ch m ρ c (5 : Fin 16) t) (iblk ch m ρ c (6 : Fin 16) t) (iblk ch m ρ c (7 : Fin 16) t) (iblk ch m ρ c (8 : Fin 16) t) (iblk ch m ρ c (9 : Fin 16) t) (iblk ch m ρ c (10 : Fin 16) t) (iblk ch m ρ c (11 : Fin 16) t) (hyp0_A_0 ch t)) := by
  unfold step0; simp only [dite_true]

/-! ## The pipeline's proof data -/

/-- What the tracked buffers held before position `t` of `Fin (N+1)` (the invariant's index). -/
def prev0T (c : Dev nD) (t : Fin ((cfgA ch).N + 1)) : (S256x1024.Idx → Elt Ideal .f32) × (S256x1024.Idx → Elt Ideal .f32) × (S256x128.Idx → Elt Ideal .i32) × (S256x128.Idx → Elt Ideal .f32) :=
  if h : t.val = 0 then (default, default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA ch).N + 1)) : sProp 𝕄 :=
  iprop((tbM0_0.view.loc (c : Thread nD τ) ↦{fullShare.right} pinT_0 ch))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 16) t
    | ⟨1, _⟩ => iblk ch m ρ c (1 : Fin 16) t
    | ⟨2, _⟩ => iblk ch m ρ c (2 : Fin 16) t
    | ⟨3, _⟩ => iblk ch m ρ c (3 : Fin 16) t
    | ⟨4, _⟩ => iblk ch m ρ c (4 : Fin 16) t
    | ⟨5, _⟩ => iblk ch m ρ c (5 : Fin 16) t
    | ⟨6, _⟩ => iblk ch m ρ c (6 : Fin 16) t
    | ⟨7, _⟩ => iblk ch m ρ c (7 : Fin 16) t
    | ⟨8, _⟩ => iblk ch m ρ c (8 : Fin 16) t
    | ⟨9, _⟩ => iblk ch m ρ c (9 : Fin 16) t
    | ⟨10, _⟩ => iblk ch m ρ c (10 : Fin 16) t
    | ⟨11, _⟩ => iblk ch m ρ c (11 : Fin 16) t
    | ⟨12, _⟩ => (traj0 ch m ρ c t.val t.isLt).1
    | ⟨13, _⟩ => (traj0 ch m ρ c t.val t.isLt).2.1
    | ⟨14, _⟩ => (traj0 ch m ρ c t.val t.isLt).2.2.1
    | ⟨15, _⟩ => (traj0 ch m ρ c t.val t.isLt).2.2.2
    | ⟨_ + 16, h⟩ => absurd h (Nat.not_lt.2 (Nat.le_add_left _ _))
  Φ t := Phi ch m ρ c t
  q _ := fullShare
  owed _ := 0

theorem after0_0 (c : Dev nD) (t : Fin (cfgA ch).N) : (dats ch m ρ 0 c).after (0 : Fin 16) t = iblk ch m ρ c (0 : Fin 16) t := rfl
theorem after0_1 (c : Dev nD) (t : Fin (cfgA ch).N) : (dats ch m ρ 0 c).after (1 : Fin 16) t = iblk ch m ρ c (1 : Fin 16) t := rfl
theorem after0_2 (c : Dev nD) (t : Fin (cfgA ch).N) : (dats ch m ρ 0 c).after (2 : Fin 16) t = iblk ch m ρ c (2 : Fin 16) t := rfl
theorem after0_3 (c : Dev nD) (t : Fin (cfgA ch).N) : (dats ch m ρ 0 c).after (3 : Fin 16) t = iblk ch m ρ c (3 : Fin 16) t := rfl
theorem after0_4 (c : Dev nD) (t : Fin (cfgA ch).N) : (dats ch m ρ 0 c).after (4 : Fin 16) t = iblk ch m ρ c (4 : Fin 16) t := rfl
theorem after0_5 (c : Dev nD) (t : Fin (cfgA ch).N) : (dats ch m ρ 0 c).after (5 : Fin 16) t = iblk ch m ρ c (5 : Fin 16) t := rfl
theorem after0_6 (c : Dev nD) (t : Fin (cfgA ch).N) : (dats ch m ρ 0 c).after (6 : Fin 16) t = iblk ch m ρ c (6 : Fin 16) t := rfl
theorem after0_7 (c : Dev nD) (t : Fin (cfgA ch).N) : (dats ch m ρ 0 c).after (7 : Fin 16) t = iblk ch m ρ c (7 : Fin 16) t := rfl
theorem after0_8 (c : Dev nD) (t : Fin (cfgA ch).N) : (dats ch m ρ 0 c).after (8 : Fin 16) t = iblk ch m ρ c (8 : Fin 16) t := rfl
theorem after0_9 (c : Dev nD) (t : Fin (cfgA ch).N) : (dats ch m ρ 0 c).after (9 : Fin 16) t = iblk ch m ρ c (9 : Fin 16) t := rfl
theorem after0_10 (c : Dev nD) (t : Fin (cfgA ch).N) : (dats ch m ρ 0 c).after (10 : Fin 16) t = iblk ch m ρ c (10 : Fin 16) t := rfl
theorem after0_11 (c : Dev nD) (t : Fin (cfgA ch).N) : (dats ch m ρ 0 c).after (11 : Fin 16) t = iblk ch m ρ c (11 : Fin 16) t := rfl
theorem after0_12 (c : Dev nD) (t : Fin (cfgA ch).N) : (dats ch m ρ 0 c).after (12 : Fin 16) t = (traj0 ch m ρ c t.val t.isLt).1 := rfl
theorem after0_13 (c : Dev nD) (t : Fin (cfgA ch).N) : (dats ch m ρ 0 c).after (13 : Fin 16) t = (traj0 ch m ρ c t.val t.isLt).2.1 := rfl
theorem after0_14 (c : Dev nD) (t : Fin (cfgA ch).N) : (dats ch m ρ 0 c).after (14 : Fin 16) t = (traj0 ch m ρ c t.val t.isLt).2.2.1 := rfl
theorem after0_15 (c : Dev nD) (t : Fin (cfgA ch).N) : (dats ch m ρ 0 c).after (15 : Fin 16) t = (traj0 ch m ρ c t.val t.isLt).2.2.2 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 16) t d = iblk ch m ρ c (0 : Fin 16) t :=
  ((dats ch m ρ 0 c).before_in_eq_fetched (0 : Fin 16) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 16) t d = iblk ch m ρ c (1 : Fin 16) t :=
  ((dats ch m ρ 0 c).before_in_eq_fetched (1 : Fin 16) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 16) t d = iblk ch m ρ c (2 : Fin 16) t :=
  ((dats ch m ρ 0 c).before_in_eq_fetched (2 : Fin 16) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 16) t d = iblk ch m ρ c (3 : Fin 16) t :=
  ((dats ch m ρ 0 c).before_in_eq_fetched (3 : Fin 16) rfl (fun _ => rfl) (fun _ _ _ => rfl) (fun t => by rw [after0_3]; unfold Dat.blockOf iblk; rfl) t d).trans
    (by unfold Dat.fetched Dat.blockOf iblk; rfl)

/-- Input window 4 holds its block, fetched there or not (Lib/Pipeline/FrameBody.lean `Dat.before_in_eq_fetched`). -/
theorem before0_4 (c : Dev nD) (t : Fin (cfgA ch).N) (d) : (dats ch m ρ 0 c).before (4 : Fin 16) t d = iblk ch m ρ c (4 : Fin 16) t :=
  ((dats ch m ρ 0 c).before_in_eq_fetched (4 : Fin 16) rfl (fun _ => rfl) (fun _ _ _ => rfl) (fun t => by rw [after0_4]; unfold Dat.blockOf iblk; rfl) t d).trans
    (by unfold Dat.fetched Dat.blockOf iblk; rfl)

/-- Input window 5 holds its block, fetched there or not (Lib/Pipeline/FrameBody.lean `Dat.before_in_eq_fetched`). -/
theorem before0_5 (c : Dev nD) (t : Fin (cfgA ch).N) (d) : (dats ch m ρ 0 c).before (5 : Fin 16) t d = iblk ch m ρ c (5 : Fin 16) t :=
  ((dats ch m ρ 0 c).before_in_eq_fetched (5 : Fin 16) rfl (fun _ => rfl) (fun _ _ _ => rfl) (fun t => by rw [after0_5]; unfold Dat.blockOf iblk; rfl) t d).trans
    (by unfold Dat.fetched Dat.blockOf iblk; rfl)

/-- Input window 6 holds its block, fetched there or not (Lib/Pipeline/FrameBody.lean `Dat.before_in_eq_fetched`). -/
theorem before0_6 (c : Dev nD) (t : Fin (cfgA ch).N) (d) : (dats ch m ρ 0 c).before (6 : Fin 16) t d = iblk ch m ρ c (6 : Fin 16) t :=
  ((dats ch m ρ 0 c).before_in_eq_fetched (6 : Fin 16) rfl (fun _ => rfl) (fun _ _ _ => rfl) (fun t => by rw [after0_6]; unfold Dat.blockOf iblk; rfl) t d).trans
    (by unfold Dat.fetched Dat.blockOf iblk; rfl)

/-- Input window 7 holds its block, fetched there or not (Lib/Pipeline/FrameBody.lean `Dat.before_in_eq_fetched`). -/
theorem before0_7 (c : Dev nD) (t : Fin (cfgA ch).N) (d) : (dats ch m ρ 0 c).before (7 : Fin 16) t d = iblk ch m ρ c (7 : Fin 16) t :=
  ((dats ch m ρ 0 c).before_in_eq_fetched (7 : Fin 16) rfl (fun _ => rfl) (fun _ _ _ => rfl) (fun t => by rw [after0_7]; unfold Dat.blockOf iblk; rfl) t d).trans
    (by unfold Dat.fetched Dat.blockOf iblk; rfl)

/-- Input window 8 holds its block, fetched there or not (Lib/Pipeline/FrameBody.lean `Dat.before_in_eq_fetched`). -/
theorem before0_8 (c : Dev nD) (t : Fin (cfgA ch).N) (d) : (dats ch m ρ 0 c).before (8 : Fin 16) t d = iblk ch m ρ c (8 : Fin 16) t :=
  ((dats ch m ρ 0 c).before_in_eq_fetched (8 : Fin 16) rfl (fun _ => rfl) (fun _ _ _ => rfl) (fun t => by rw [after0_8]; unfold Dat.blockOf iblk; rfl) t d).trans
    (by unfold Dat.fetched Dat.blockOf iblk; rfl)

/-- Input window 9 holds its block, fetched there or not (Lib/Pipeline/FrameBody.lean `Dat.before_in_eq_fetched`). -/
theorem before0_9 (c : Dev nD) (t : Fin (cfgA ch).N) (d) : (dats ch m ρ 0 c).before (9 : Fin 16) t d = iblk ch m ρ c (9 : Fin 16) t :=
  ((dats ch m ρ 0 c).before_in_eq_fetched (9 : Fin 16) rfl (fun _ => rfl) (fun _ _ _ => rfl) (fun t => by rw [after0_9]; unfold Dat.blockOf iblk; rfl) t d).trans
    (by unfold Dat.fetched Dat.blockOf iblk; rfl)

/-- Input window 10 holds its block, fetched there or not (Lib/Pipeline/FrameBody.lean `Dat.before_in_eq_fetched`). -/
theorem before0_10 (c : Dev nD) (t : Fin (cfgA ch).N) (d) : (dats ch m ρ 0 c).before (10 : Fin 16) t d = iblk ch m ρ c (10 : Fin 16) t :=
  ((dats ch m ρ 0 c).before_in_eq_fetched (10 : Fin 16) rfl (fun _ => rfl) (fun _ _ _ => rfl) (fun t => by rw [after0_10]; unfold Dat.blockOf iblk; rfl) t d).trans
    (by unfold Dat.fetched Dat.blockOf iblk; rfl)

/-- Input window 11 holds its block, fetched there or not (Lib/Pipeline/FrameBody.lean `Dat.before_in_eq_fetched`). -/
theorem before0_11 (c : Dev nD) (t : Fin (cfgA ch).N) (d) : (dats ch m ρ 0 c).before (11 : Fin 16) t d = iblk ch m ρ c (11 : Fin 16) t :=
  ((dats ch m ρ 0 c).before_in_eq_fetched (11 : Fin 16) rfl (fun _ => rfl) (fun _ _ _ => rfl) (fun t => by rw [after0_11]; unfold Dat.blockOf iblk; rfl) t d).trans
    (by unfold Dat.fetched Dat.blockOf iblk; rfl)

/-- Output 12's `after` carries through the points that leave it idle. -/
theorem hcarry0_12 (c : Dev nD) : ∀ (t : Fin (cfgA ch).N) (ht : t.val ≠ 0), (cfgA ch).idle (12 : Fin 16) ((cfgA ch).grid.coords t) = true → (cfgA ch).fresh (12 : Fin 16) t.val = false →
    (dats ch m ρ 0 c).after (12 : Fin 16) t = (dats ch m ρ 0 c).after (12 : Fin 16) ⟨t.val - 1, by omega⟩ := by
  intro t ht hi hf
  rw [after0_12, after0_12, traj0_eq]
  obtain ⟨i12, -, -, -, -, -, -, -, -, -, -, -⟩ := sched0_A ch t
  rw [i12] at hi; exact absurd hi (by decide)

/-- Output window 12 holds, when the body runs at `t`: junk if nothing was stored since its last write-back (`Cfg.fresh`),
    else what the point before left (TableIdle.lean `Dat.before_out_traj`). -/
theorem before0_12 (c : Dev nD) (t : Fin (cfgA ch).N) (d) :
    (dats ch m ρ 0 c).before (12 : Fin 16) t d = if (cfgA ch).fresh (12 : Fin 16) t.val then d else (prev0 ch m ρ c t).1 := by
  rw [(dats ch m ρ 0 c).before_out_traj (12 : Fin 16) rfl (fun _ _ => rfl) (hcarry0_12 ch m ρ c) t.val t rfl d]
  by_cases hf : (cfgA ch).fresh (12 : Fin 16) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_12]; unfold prev0; rw [dif_neg h0]

/-- Output 13's `after` carries through the points that leave it idle. -/
theorem hcarry0_13 (c : Dev nD) : ∀ (t : Fin (cfgA ch).N) (ht : t.val ≠ 0), (cfgA ch).idle (13 : Fin 16) ((cfgA ch).grid.coords t) = true → (cfgA ch).fresh (13 : Fin 16) t.val = false →
    (dats ch m ρ 0 c).after (13 : Fin 16) t = (dats ch m ρ 0 c).after (13 : Fin 16) ⟨t.val - 1, by omega⟩ := by
  intro t ht hi hf
  rw [after0_13, after0_13, traj0_eq]
  obtain ⟨-, -, -, i13, -, -, -, -, -, -, -, -⟩ := sched0_A ch t
  rw [i13] at hi; exact absurd hi (by decide)

/-- Output window 13 holds, when the body runs at `t`: junk if nothing was stored since its last write-back (`Cfg.fresh`),
    else what the point before left (TableIdle.lean `Dat.before_out_traj`). -/
theorem before0_13 (c : Dev nD) (t : Fin (cfgA ch).N) (d) :
    (dats ch m ρ 0 c).before (13 : Fin 16) t d = if (cfgA ch).fresh (13 : Fin 16) t.val then d else (prev0 ch m ρ c t).2.1 := by
  rw [(dats ch m ρ 0 c).before_out_traj (13 : Fin 16) rfl (fun _ _ => rfl) (hcarry0_13 ch m ρ c) t.val t rfl d]
  by_cases hf : (cfgA ch).fresh (13 : Fin 16) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_13]; unfold prev0; rw [dif_neg h0]

/-- Output 14's `after` carries through the points that leave it idle. -/
theorem hcarry0_14 (c : Dev nD) : ∀ (t : Fin (cfgA ch).N) (ht : t.val ≠ 0), (cfgA ch).idle (14 : Fin 16) ((cfgA ch).grid.coords t) = true → (cfgA ch).fresh (14 : Fin 16) t.val = false →
    (dats ch m ρ 0 c).after (14 : Fin 16) t = (dats ch m ρ 0 c).after (14 : Fin 16) ⟨t.val - 1, by omega⟩ := by
  intro t ht hi hf
  rw [after0_14, after0_14, traj0_eq]
  obtain ⟨-, -, -, -, -, -, i14, -, -, -, -, -⟩ := sched0_A ch t
  rw [i14] at hi; exact absurd hi (by decide)

/-- Output window 14 holds, when the body runs at `t`: junk if nothing was stored since its last write-back (`Cfg.fresh`),
    else what the point before left (TableIdle.lean `Dat.before_out_traj`). -/
theorem before0_14 (c : Dev nD) (t : Fin (cfgA ch).N) (d) :
    (dats ch m ρ 0 c).before (14 : Fin 16) t d = if (cfgA ch).fresh (14 : Fin 16) t.val then d else (prev0 ch m ρ c t).2.2.1 := by
  rw [(dats ch m ρ 0 c).before_out_traj (14 : Fin 16) rfl (fun _ _ => rfl) (hcarry0_14 ch m ρ c) t.val t rfl d]
  by_cases hf : (cfgA ch).fresh (14 : Fin 16) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_14]; unfold prev0; rw [dif_neg h0]

/-- Output 15's `after` carries through the points that leave it idle. -/
theorem hcarry0_15 (c : Dev nD) : ∀ (t : Fin (cfgA ch).N) (ht : t.val ≠ 0), (cfgA ch).idle (15 : Fin 16) ((cfgA ch).grid.coords t) = true → (cfgA ch).fresh (15 : Fin 16) t.val = false →
    (dats ch m ρ 0 c).after (15 : Fin 16) t = (dats ch m ρ 0 c).after (15 : Fin 16) ⟨t.val - 1, by omega⟩ := by
  intro t ht hi hf
  rw [after0_15, after0_15, traj0_eq]
  obtain ⟨-, -, -, -, -, -, -, -, -, i15, -, -⟩ := sched0_A ch t
  rw [i15] at hi; exact absurd hi (by decide)

/-- Output window 15 holds, when the body runs at `t`: junk if nothing was stored since its last write-back (`Cfg.fresh`),
    else what the point before left (TableIdle.lean `Dat.before_out_traj`). -/
theorem before0_15 (c : Dev nD) (t : Fin (cfgA ch).N) (d) :
    (dats ch m ρ 0 c).before (15 : Fin 16) t d = if (cfgA ch).fresh (15 : Fin 16) t.val then d else (prev0 ch m ρ c t).2.2.2 := by
  rw [(dats ch m ρ 0 c).before_out_traj (15 : Fin 16) rfl (fun _ _ => rfl) (hcarry0_15 ch m ρ c) t.val t rfl d]
  by_cases hf : (cfgA ch).fresh (15 : Fin 16) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_15]; unfold prev0; rw [dif_neg h0]

/-! ## The body obligation, at a generic point, by path -/

/-- The body at point `t` on its staging memrefs, as the pipeline calls it. -/
abbrev bodyAt0 (t : Fin (cfgA ch).N) : Prog (TpuEff nD τ sig (Elt Ideal) Λ₀ .tc) PUnit :=
  cc0_postmix (crd ch t) (Memref.whole main_arg0) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (ms0_15 ch t) (hs0_15 ch t)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 16) t d))
        ∗ (∃ d, owns (c : Thread nD τ) (ms0_1 ch t) fullShare ((dats ch m ρ 0 c).before (1 : Fin 16) t d))
        ∗ (∃ d, owns (c : Thread nD τ) (ms0_2 ch t) fullShare ((dats ch m ρ 0 c).before (2 : Fin 16) t d))
        ∗ (∃ d, owns (c : Thread nD τ) (ms0_3 ch t) fullShare ((dats ch m ρ 0 c).before (3 : Fin 16) t d))
        ∗ (∃ d, owns (c : Thread nD τ) (ms0_4 ch t) fullShare ((dats ch m ρ 0 c).before (4 : Fin 16) t d))
        ∗ (∃ d, owns (c : Thread nD τ) (ms0_5 ch t) fullShare ((dats ch m ρ 0 c).before (5 : Fin 16) t d))
        ∗ (∃ d, owns (c : Thread nD τ) (ms0_6 ch t) fullShare ((dats ch m ρ 0 c).before (6 : Fin 16) t d))
        ∗ (∃ d, owns (c : Thread nD τ) (ms0_7 ch t) fullShare ((dats ch m ρ 0 c).before (7 : Fin 16) t d))
        ∗ (∃ d, owns (c : Thread nD τ) (ms0_8 ch t) fullShare ((dats ch m ρ 0 c).before (8 : Fin 16) t d))
        ∗ (∃ d, owns (c : Thread nD τ) (ms0_9 ch t) fullShare ((dats ch m ρ 0 c).before (9 : Fin 16) t d))
        ∗ (∃ d, owns (c : Thread nD τ) (ms0_10 ch t) fullShare ((dats ch m ρ 0 c).before (10 : Fin 16) t d))
        ∗ (∃ d, owns (c : Thread nD τ) (ms0_11 ch t) fullShare ((dats ch m ρ 0 c).before (11 : Fin 16) t d))
        ∗ (∃ d, owns (c : Thread nD τ) (ms0_12 ch t) fullShare ((dats ch m ρ 0 c).before (12 : Fin 16) t d))
        ∗ (∃ d, owns (c : Thread nD τ) (ms0_13 ch t) fullShare ((dats ch m ρ 0 c).before (13 : Fin 16) t d))
        ∗ (∃ d, owns (c : Thread nD τ) (ms0_14 ch t) fullShare ((dats ch m ρ 0 c).before (14 : Fin 16) t d))
        ∗ (∃ d, owns (c : Thread nD τ) (ms0_15 ch t) fullShare ((dats ch m ρ 0 c).before (15 : Fin 16) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  obtain ⟨i12, f12, fr12, i13, f13, fr13, i14, f14, fr14, i15, f15, fr15⟩ := sched0_A ch t
  have F0 := hypsR0_A ch t
  have k0_hw1 := F0.1; have F1 := F0.2 k0_hw1
  clear F0 F1
  rewrite [i12]
  simp only [before0_0, before0_1, before0_2, before0_3, before0_4, before0_5, before0_6, before0_7, before0_8, before0_9, before0_10, before0_11, before0_12, before0_13, before0_14, before0_15, after0_0, after0_1, after0_2, after0_3, after0_4, after0_5, after0_6, after0_7, after0_8, after0_9, after0_10, after0_11, after0_12, after0_13, after0_14, after0_15, f12, f13, f14, f15]
  simp only [fr12, fr13, fr14, fr15, Bool.false_eq_true, ↓reduceIte]
  rewrite [show (dats ch m ρ 0 c).Φ t.succ = Phi ch m ρ c t.succ from rfl, show (dats ch m ρ 0 c).Φ t.castSucc = Phi ch m ρ c t.castSucc from rfl,
    show (dats ch m ρ 0 c).owesAt () t.succ = (dats ch m ρ 0 c).owesAt () t.castSucc from rfl]
  try rewrite [traj0_eq, step0_A ch m ρ c t _ ]
  unfold Phi; simp only [prev0T_castSucc, prev0T_succ, traj0_eq, step0_A ch m ρ c t _ , Fin.val_castSucc, Fin.val_succ]
  iintro ⟨⟨HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (ms0_15 ch t) (hs0_15 ch t) (pinT_0 ch) (iblk ch m ρ c (0 : Fin 16) t) (iblk ch m ρ c (1 : Fin 16) t) (iblk ch m ρ c (2 : Fin 16) t) (iblk ch m ρ c (3 : Fin 16) t) (iblk ch m ρ c (4 : Fin 16) t) (iblk ch m ρ c (5 : Fin 16) t) (iblk ch m ρ c (6 : Fin 16) t) (iblk ch m ρ c (7 : Fin 16) t) (iblk ch m ρ c (8 : Fin 16) t) (iblk ch m ρ c (9 : Fin 16) t) (iblk ch m ρ c (10 : Fin 16) t) (iblk ch m ρ c (11 : Fin 16) t) k0_hw1).2.2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [H8]; · iapply rep_of_owns; iexact H8
  isplitl [H9]; · iapply rep_of_owns; iexact H9
  isplitl [H10]; · iapply rep_of_owns; iexact H10
  isplitl [H11]; · iapply rep_of_owns; iexact H11
  isplitl [HT0]; · iexact HT0
  isplitl [H12]; · iexists _; iexact H12
  isplitl [H13]; · iexists _; iexact H13
  isplitl [H14]; · iexists _; iexact H14
  isplitl [H15]; · iexists _; iexact H15
  iintro ⟨H0, H1, H2, H3, H4, H5, H6, H7, H8, H9, H10, H11, HT0, ⟨%e12, H12⟩, ⟨%e13, H13⟩, ⟨%e14, H14⟩, ⟨%e15, H15⟩⟩
  isplitl [HT0]
  · iexact HT0
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  isplitl [H5]
  · iapply owns_of_rep; iexact H5
  isplitl [H6]
  · iapply owns_of_rep; iexact H6
  isplitl [H7]
  · iapply owns_of_rep; iexact H7
  isplitl [H8]
  · iapply owns_of_rep; iexact H8
  isplitl [H9]
  · iapply owns_of_rep; iexact H9
  isplitl [H10]
  · iapply owns_of_rep; iexact H10
  isplitl [H11]
  · iapply owns_of_rep; iexact H11
  isplitl [H12]
  · unfold owns; iexists _; isplitr; swap
    · iexact H12
    · ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _)
  isplitl [H13]
  · unfold owns; iexists _; isplitr; swap
    · iexact H13
    · ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _)
  isplitl [H14]
  · unfold owns; iexists _; isplitr; swap
    · iexact H14
    · ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _)
  unfold owns; iexists _; isplitr; swap
  · iexact H15
  · ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _)

/-- The library's body obligation, at every point. -/
theorem body_obligation (hp : Pinned ch m) (c : Dev nD) : BodyObligation (dats ch m ρ 0 c) (defs₀ (F := Ideal)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 1 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0)) := by
  unfold Pipeline.prefHeld
  rw [show (Finset.univ : Finset (Fin 1)) = {(0 : Fin 1)} from by decide, bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0⟩, -⟩
  iexact HT0

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨-⟩
  isplitr; · iempintro
  iempintro

/-- The physical post: every array at what the library computes, every table at what the pipeline ran at. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 1) : m ((c : Thread nD τ).loc (pre0.ref j)) = (adm ch).1 j := by
  fin_cases j
  · exact hp c

set_option backward.isDefEq.respectTransparency.types false in
set_option maxHeartbeats 4000000 in
/-- At the compiled mesh, from any memory with zero counters whose tables and steering words are member `ch`'s: every weakly
    fair execution of @main on the TensorCores terminates, and every final state has each array at the computed contents,
    and every semaphore counter of the machine at zero. -/
theorem run_main_quiescent (hp : Pinned ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ hp c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Ideal)) (onTc (τ := τ) (main (F := Ideal))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 0).trans (hp c).symm, ((h c).1 (0 : Fin 16)).trans ((dats ch m ρ 0 c).arrAt_in (0 : Fin 16) rfl _), ((h c).1 (1 : Fin 16)).trans ((dats ch m ρ 0 c).arrAt_in (1 : Fin 16) rfl _), ((h c).1 (2 : Fin 16)).trans ((dats ch m ρ 0 c).arrAt_in (2 : Fin 16) rfl _), ((h c).1 (3 : Fin 16)).trans ((dats ch m ρ 0 c).arrAt_in (3 : Fin 16) rfl _), ((h c).1 (4 : Fin 16)).trans ((dats ch m ρ 0 c).arrAt_in (4 : Fin 16) rfl _), ((h c).1 (5 : Fin 16)).trans ((dats ch m ρ 0 c).arrAt_in (5 : Fin 16) rfl _), ((h c).1 (6 : Fin 16)).trans ((dats ch m ρ 0 c).arrAt_in (6 : Fin 16) rfl _), ((h c).1 (7 : Fin 16)).trans ((dats ch m ρ 0 c).arrAt_in (7 : Fin 16) rfl _), ((h c).1 (8 : Fin 16)).trans ((dats ch m ρ 0 c).arrAt_in (8 : Fin 16) rfl _), ((h c).1 (9 : Fin 16)).trans ((dats ch m ρ 0 c).arrAt_in (9 : Fin 16) rfl _), ((h c).1 (10 : Fin 16)).trans ((dats ch m ρ 0 c).arrAt_in (10 : Fin 16) rfl _), ((h c).1 (11 : Fin 16)).trans ((dats ch m ρ 0 c).arrAt_in (11 : Fin 16) rfl _)⟩) (run_main ch m ρ hp)

/-- THE FRAME under the pinning: from a launch memory whose tables and steering words are member `ch`'s, every weakly fair
    execution terminates, nothing faults, every argument array ends unchanged and every semaphore counter of the machine reads
    zero at every final state — `Cert.quiescent_PostmixIdeal`'s post.
    Proof.lean: `theorem Cert.Proof.claim : Cert.Claim := ⟨Cert.PostmixIdeal.Gen.facts, <Pre>.Gen.facts, fun m ρ h => (pinned_of_pre m h).elim fun ch hp => Cert.PostmixIdeal.Gen.frame ch m ρ hp⟩`. -/
theorem frame (hp : Pinned ch m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged ch m ρ hp) ((θ_run defs _ _).mono (fun _ h => h.2) (run_main_quiescent ch m ρ hp))

end Cert.PostmixIdeal.Gen

end
-- ==== Proof.Tables.lean ====
module

public import proofs.«01_k».proof.Defs
public import proofs.«01_k».proof.Proof.Gen.Pre_tables
public import proofs.«01_k».proof.Proof.Gen.Pre_prepared
public import proofs.«01_k».proof.Proof.Gen.Kernel.Flash.Pins
public import proofs.«01_k».proof.Proof.Gen.KernelIdeal.Flash.Pins
public import Idealize.ShloMosaic.Lib.Pointwise
public import Idealize.ShloMosaic.Lib.ReduceAll
public import Idealize.ShloMosaic.Lib.Affine

/-! The preconditions read back: the four schedule tables hold the words the certificates are written at, and the
    prepared operands are finite with a one in lane 64 of every head of the values. -/

@[expose] public section

set_option maxRecDepth 16384

noncomputable section

namespace Cert.Tables

open Idealize.ShloMosaic Idealize.ShloMosaic.TcCoe Idealize.SL.Sem

/-- The query block of step `n`, as the predicate computes it. -/
def wq (n : ℕ) : BitVec 32 :=
  Scalar.select (IntOp.cmpi .slt (BitVec.ofNat 32 n) 256#32) (IntOp.shrsi ArithUnit.host (BitVec.ofNat 32 n) 3#32)
    (IntOp.subi (IntOp.shrsi ArithUnit.host (BitVec.ofNat 32 n) 1#32) 96#32)

/-- The key block of step `n`. -/
def wk (n : ℕ) : BitVec 32 :=
  Scalar.select (IntOp.cmpi .slt (BitVec.ofNat 32 n) 256#32)
    (IntOp.addi (IntOp.shli ArithUnit.host (IntOp.shrsi ArithUnit.host (BitVec.ofNat 32 n) 6#32) 3#32) (IntOp.andi (BitVec.ofNat 32 n) 7#32))
    (IntOp.subi
      (IntOp.addi (IntOp.shli ArithUnit.host (IntOp.shrsi ArithUnit.host (BitVec.ofNat 32 n) 2#32) 1#32) (IntOp.andi (BitVec.ofNat 32 n) 1#32))
      96#32)

/-- Whether step `n` is the first of its query block. -/
def wf (n : ℕ) : BitVec 32 :=
  BitVec.setWidth 32 (IntOp.cmpi .eq
    (Scalar.select (IntOp.cmpi .slt (BitVec.ofNat 32 n) 256#32) (IntOp.andi (BitVec.ofNat 32 n) 7#32) (IntOp.andi (BitVec.ofNat 32 n) 1#32)) 0#32)

/-- Whether step `n` is the last of its query block. -/
def wl (n : ℕ) : BitVec 32 :=
  BitVec.setWidth 32 (IntOp.cmpi .eq
    (Scalar.select (IntOp.cmpi .slt (BitVec.ofNat 32 n) 256#32) (IntOp.andi (BitVec.ofNat 32 n) 7#32)
      (IntOp.addi (IntOp.andi (BitVec.ofNat 32 n) 1#32) 6#32)) 7#32)

instance : Subsingleton Cert.Pre_tables.S_.Idx := ⟨fun _ _ => funext fun a => absurd a.isLt (by simp)⟩
instance : Subsingleton Cert.Pre_prepared.S_.Idx := ⟨fun _ _ => funext fun a => absurd a.isLt (by simp)⟩

section
variable {F : FTy → Type} [FloatOps F]

open Cert.Pre_tables in
theorem words (a0 a1 a2 a3 : IVec S288 32) (q k v : FVec F S49152x1024 .bf16)
    (h : haveI := Cert.Pre_tables.Gen.facts; Cert.Pre_tables.fn a0 a1 a2 a3 q k v = fun _ => 1#1) (n : Fin 288) :
    a0 (ix1 n) = wq n ∧ a1 (ix1 n) = wk n ∧ a2 (ix1 n) = wf n ∧ a3 (ix1 n) = wl n := by
  have h1 := congrFun h (Shape.Idx.first (by decide))
  simp only [Cert.Pre_tables.fn, Cert.Pre_tables.fn_part1, Cert.Pre_tables.fn_part2, Cert.Pre_tables.fn_where] at h1
  have h2 := Host.reduce_andi_all _ _ _ _ _ h1 (ix1 n)
  pointwise at h2
  simp only [IntOp.andi_eq_one, IntOp.cmpi_eq] at h2
  exact ⟨h2.1.1.1, h2.1.1.2, h2.1.2, h2.2⟩

open Cert.Pre_prepared in
theorem prepared (a0 a1 a2 a3 : IVec S288 32) (q k v : FVec F S49152x1024 .bf16)
    (h : haveI := Cert.Pre_prepared.Gen.facts; Cert.Pre_prepared.fn a0 a1 a2 a3 q k v = fun _ => 1#1) :
    (∀ n : Fin 288, a0 (ix1 n) = wq n ∧ a1 (ix1 n) = wk n ∧ a2 (ix1 n) = wf n ∧ a3 (ix1 n) = wl n)
    ∧ ∀ (r : Fin 49152) (l : Fin 1024),
      FloatOps.cmpf .olt (q (ix2 r l)) (FloatOps.ofBits .bf16 0x7F80#16) = 1#1 ∧ FloatOps.cmpf .ogt (q (ix2 r l)) (FloatOps.ofBits .bf16 0xFF80#16) = 1#1
      ∧ FloatOps.cmpf .olt (k (ix2 r l)) (FloatOps.ofBits .bf16 0x7F80#16) = 1#1 ∧ FloatOps.cmpf .ogt (k (ix2 r l)) (FloatOps.ofBits .bf16 0xFF80#16) = 1#1
      ∧ (IntOp.andi (BitVec.ofNat 32 l) 127#32 ≠ 64#32 ∨ FloatOps.cmpf .oeq (v (ix2 r l)) (FloatOps.ofBits .bf16 0x3F80#16) = 1#1) := by
  have h1 := congrFun h (Shape.Idx.first (by decide))
  simp only [Cert.Pre_prepared.fn, Cert.Pre_prepared.fn_part1, Cert.Pre_prepared.fn_part2, Cert.Pre_prepared.fn_part3, Cert.Pre_prepared.fn_part4,
    Cert.Pre_prepared.fn_where] at h1
  obtain ⟨ha, hb⟩ := IntOp.andi_eq_one.1 h1
  constructor
  · intro n
    have h2 := Host.reduce_andi_all _ _ _ _ _ ha (ix1 n)
    pointwise at h2
    simp only [IntOp.andi_eq_one, IntOp.cmpi_eq] at h2
    exact ⟨h2.1.1.1, h2.1.1.2, h2.1.2, h2.2⟩
  · intro r l
    have h2 := Host.reduce_andi_all _ _ _ _ _ hb (ix2 r l)
    pointwise at h2
    simp only [IntOp.andi_eq_one, IntOp.ori_eq_one, IntOp.cmpi_ne] at h2
    obtain ⟨⟨⟨⟨h1, h2⟩, h3⟩, h4⟩, h5⟩ := h2
    exact ⟨h1, h2, h3, h4, h5⟩

end

/-- The listed words are the computed ones (`Kernel`). -/
theorem pin_kernel : ∀ n : Fin 288, Cert.Kernel.Gen.pinT_0 0 (ix1 n) = wq n ∧ Cert.Kernel.Gen.pinT_1 0 (ix1 n) = wk n
    ∧ Cert.Kernel.Gen.pinT_2 0 (ix1 n) = wf n ∧ Cert.Kernel.Gen.pinT_3 0 (ix1 n) = wl n := by decide +kernel

/-- The listed words are the computed ones (`KernelIdeal`). -/
theorem pin_ideal : ∀ n : Fin 288, Cert.KernelIdeal.Gen.pinT_0 0 (ix1 n) = wq n ∧ Cert.KernelIdeal.Gen.pinT_1 0 (ix1 n) = wk n
    ∧ Cert.KernelIdeal.Gen.pinT_2 0 (ix1 n) = wf n ∧ Cert.KernelIdeal.Gen.pinT_3 0 (ix1 n) = wl n := by decide +kernel

theorem pinned_kernel (m : (ℓ : Loc Cert.Kernel.nD Cert.Kernel.τ Cert.Kernel.sig) → Buf (Elt Bits) ℓ)
    (h : haveI := Cert.Pre_tables.Gen.facts; Cert.Pre_Kernel m) : Cert.Kernel.Gen.Pinned 0 m := by
  have hw := fun c => words _ _ _ _ _ _ _ (h c)
  refine ⟨fun c => funext fun x => ?_, fun c => funext fun x => ?_, fun c => funext fun x => ?_, fun c => funext fun x => ?_⟩ <;>
    obtain ⟨n, rfl⟩ : ∃ n : Fin 288, x = ix1 n := ⟨x 0, eq_ix1 x⟩
  · exact (hw c n).1.trans (pin_kernel n).1.symm
  · exact (hw c n).2.1.trans (pin_kernel n).2.1.symm
  · exact (hw c n).2.2.1.trans (pin_kernel n).2.2.1.symm
  · exact (hw c n).2.2.2.trans (pin_kernel n).2.2.2.symm

theorem pinned_of_words (m : (ℓ : Loc Cert.KernelIdeal.nD Cert.KernelIdeal.τ Cert.KernelIdeal.sig) → Buf (Elt Ideal) ℓ)
    (hw : ∀ (c : Dev Cert.KernelIdeal.nD) (n : Fin 288),
      m ((c.tc : Thread Cert.KernelIdeal.nD Cert.KernelIdeal.τ).loc Cert.KernelIdeal.main_arg0) (ix1 n) = wq n
      ∧ m ((c.tc : Thread Cert.KernelIdeal.nD Cert.KernelIdeal.τ).loc Cert.KernelIdeal.main_arg1) (ix1 n) = wk n
      ∧ m ((c.tc : Thread Cert.KernelIdeal.nD Cert.KernelIdeal.τ).loc Cert.KernelIdeal.main_arg2) (ix1 n) = wf n
      ∧ m ((c.tc : Thread Cert.KernelIdeal.nD Cert.KernelIdeal.τ).loc Cert.KernelIdeal.main_arg3) (ix1 n) = wl n) :
    Cert.KernelIdeal.Gen.Pinned 0 m := by
  refine ⟨fun c => funext fun x => ?_, fun c => funext fun x => ?_, fun c => funext fun x => ?_, fun c => funext fun x => ?_⟩ <;>
    obtain ⟨n, rfl⟩ : ∃ n : Fin 288, x = ix1 n := ⟨x 0, eq_ix1 x⟩
  · exact (hw c n).1.trans (pin_ideal n).1.symm
  · exact (hw c n).2.1.trans (pin_ideal n).2.1.symm
  · exact (hw c n).2.2.1.trans (pin_ideal n).2.2.1.symm
  · exact (hw c n).2.2.2.trans (pin_ideal n).2.2.2.symm

theorem pinned_ideal (m : (ℓ : Loc Cert.KernelIdeal.nD Cert.KernelIdeal.τ Cert.KernelIdeal.sig) → Buf (Elt Ideal) ℓ)
    (h : haveI := Cert.Pre_tables.Gen.facts; Cert.Pre_KernelIdeal m) : Cert.KernelIdeal.Gen.Pinned 0 m :=
  pinned_of_words m fun c => words _ _ _ _ _ _ _ (h c)

theorem pinned_prepared (m : (ℓ : Loc Cert.KernelIdeal.nD Cert.KernelIdeal.τ Cert.KernelIdeal.sig) → Buf (Elt Ideal) ℓ)
    (h : haveI := Cert.Pre_prepared.Gen.facts; Cert.Pre_KernelIdeal_prepared m) : Cert.KernelIdeal.Gen.Pinned 0 m :=
  pinned_of_words m fun c => (prepared _ _ _ _ _ _ _ (h c)).1

end Cert.Tables

end
-- ==== Proof.Online.lean ====
module

public import Idealize.ShloMosaic.PureOps.Ideal
public import Idealize.ShloMosaic.PureOps.Ideal.Laws
public import Mathlib.Algebra.BigOperators.Intervals
public import Mathlib.Data.EReal.Inv

/-! The softmax that is carried block by block, over extended reals: scores are real, values arbitrary. -/

@[expose] public section

noncomputable section

namespace Cert.Online

open Idealize.ShloMosaic

/-- A nonnegative real multiplies into a finite sum, whatever the sum's terms are. -/
theorem coe_mul_sum {ι : Type*} (S : Finset ι) (c : ℝ) (hc : 0 ≤ c) (f : ι → EReal) :
    (c : EReal) * ∑ k ∈ S, f k = ∑ k ∈ S, (c : EReal) * f k := by
  classical
  induction S using Finset.induction_on with
  | empty => simp
  | insert a S ha ih =>
    rw [Finset.sum_insert ha, Finset.sum_insert ha,
      EReal.left_distrib_of_nonneg_of_ne_top (EReal.coe_nonneg.2 hc) (EReal.coe_ne_top c), ih]

/-- The real weight of a score against a shift. -/
def wt (s M : ℝ) : ℝ := (2 : ℝ) ^ (s - M)

theorem wt_pos (s M : ℝ) : 0 < wt s M := Real.rpow_pos_of_pos two_pos _

theorem wt_mul (a b c : ℝ) : wt b c * wt a b = wt a c := by
  unfold wt
  rw [← Real.rpow_add two_pos]
  congr 1; ring

theorem exp2_sub (s M : ℝ) : Ideal.exp2 ((s : EReal) - (M : EReal)) = (wt s M : EReal) := by
  rw [← EReal.coe_sub, Ideal.exp2_coe]; rfl

/-- The larger of a real and of the running maximum of reals from below infinity is real. -/
theorem real_max {ι : Type*} [Fintype ι] (M : ℝ) (b : EReal) (hb : b < ⊤) (f : ι → EReal) (hf : ∀ t, f t < ⊤) :
    ∃ M' : ℝ, max (M : EReal) (Finset.univ.fold max b f) = (M' : EReal) := by
  have h1 : max (M : EReal) (Finset.univ.fold max b f) ≠ ⊤ := by
    refine (max_lt (EReal.coe_lt_top M) ?_).ne
    exact (Finset.fold_max_lt _).2 ⟨hb, fun t _ => hf t⟩
  have h2 : max (M : EReal) (Finset.univ.fold max b f) ≠ ⊥ := by
    exact ((EReal.bot_lt_coe M).trans_le (le_max_left _ _)).ne'
  exact ⟨_, (EReal.coe_toReal h1 h2).symm⟩

/-- What the two running rows hold after `n` keys: one real shift in every lane, and every lane's weighted sum of the values. -/
def Carries (s : ℕ → ℝ) (v : ℕ → Fin 128 → EReal) (m a : Fin 128 → EReal) (n : ℕ) : Prop :=
  ∃ M : ℝ, (∀ l, m l = (M : EReal)) ∧ ∀ l, a l = ∑ k ∈ Finset.range n, (wt (s k) M : EReal) * v k l

theorem Carries.zero (s : ℕ → ℝ) (v : ℕ → Fin 128 → EReal) (m a : Fin 128 → EReal) (M : ℝ) (hm : ∀ l, m l = (M : EReal))
    (ha : ∀ l, a l = 0) : Carries s v m a 0 :=
  ⟨M, hm, fun l => by rw [ha, Finset.range_zero, Finset.sum_empty]⟩

/-- One block of keys. -/
theorem Carries.step {s : ℕ → ℝ} {v : ℕ → Fin 128 → EReal} {m a m' a' : Fin 128 → EReal} {n : ℕ} (h : Carries s v m a n)
    {T : ℕ} (b : EReal) (hb : b < ⊤) (sb : Fin T → EReal) (vb : Fin T → Fin 128 → EReal)
    (hs : ∀ t : Fin T, sb t = (s (n + t.val) : EReal)) (hv : ∀ (t : Fin T) l, vb t l = v (n + t.val) l)
    (hm : ∀ l, m' l = max (m l) (Finset.univ.fold max b sb))
    (ha : ∀ l, a' l = Ideal.exp2 (m l - m' l) * a l + ∑ t, Ideal.exp2 (sb t - m' 0) * vb t l) :
    Carries s v m' a' (n + T) := by
  obtain ⟨M, hM, hA⟩ := h
  obtain ⟨M', hM'⟩ := real_max M b hb sb fun t => by rw [hs]; exact EReal.coe_lt_top _
  have hm' : ∀ l, m' l = (M' : EReal) := fun l => by rw [hm, hM, hM']
  refine ⟨M', hm', fun l => ?_⟩
  rw [ha, hm', hM, exp2_sub, hA, coe_mul_sum _ _ (wt_pos _ _).le, Finset.sum_range_add]
  congr 1
  · refine Finset.sum_congr rfl fun k _ => ?_
    rw [← mul_assoc, ← EReal.coe_mul, wt_mul]
  · rw [Finset.sum_range]
    refine Finset.sum_congr rfl fun t _ => ?_
    rw [hm', hs, exp2_sub, hv]

/-- The softmax of real scores to the base two, applied to values. -/
def attend (s : ℕ → ℝ) (v : ℕ → EReal) (n : ℕ) : EReal :=
  ∑ k ∈ Finset.range n, (((2 : ℝ) ^ s k / ∑ j ∈ Finset.range n, (2 : ℝ) ^ s j : ℝ) : EReal) * v k

theorem sum_wt_pos (s : ℕ → ℝ) (M : ℝ) (n : ℕ) (hn : 0 < n) : 0 < ∑ k ∈ Finset.range n, wt (s k) M :=
  Finset.sum_pos (fun k _ => wt_pos _ _) ⟨0, Finset.mem_range.2 hn⟩

/-- Any shift gives the same weights. -/
theorem wt_div (s : ℕ → ℝ) (M : ℝ) (n k : ℕ) :
    wt (s k) M / ∑ j ∈ Finset.range n, wt (s j) M = (2 : ℝ) ^ s k / ∑ j ∈ Finset.range n, (2 : ℝ) ^ s j := by
  have e : ∀ x, wt x M = (2 : ℝ) ^ x * (2 : ℝ) ^ (-M) := fun x => by
    unfold wt; rw [sub_eq_add_neg, Real.rpow_add two_pos]
  simp only [e, ← Finset.sum_mul]
  exact mul_div_mul_right _ _ (Real.rpow_pos_of_pos two_pos _).ne'

theorem coe_sum {ι : Type*} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- Dividing by the lane whose values are ones gives the softmax. -/
theorem Carries.div {s : ℕ → ℝ} {v : ℕ → Fin 128 → EReal} {m a : Fin 128 → EReal} {n : ℕ} (h : Carries s v m a n) (hn : 0 < n)
    (o : Fin 128) (ho : ∀ k < n, v k o = 1) (l : Fin 128) : Ideal.div (a l) (a o) = attend s (fun k => v k l) n := by
  obtain ⟨M, -, hA⟩ := h
  have hD := sum_wt_pos s M n hn
  have e : a o = ((∑ k ∈ Finset.range n, wt (s k) M : ℝ) : EReal) := by
    rw [hA, coe_sum]
    exact Finset.sum_congr rfl fun k hk => by rw [ho k (Finset.mem_range.1 hk), mul_one]
  rw [e, Ideal.div, if_neg (by simpa using hD.ne'), ← EReal.coe_inv, hA, mul_comm, coe_mul_sum _ _ (inv_pos.2 hD).le]
  refine Finset.sum_congr rfl fun k _ => ?_
  rw [← mul_assoc, ← EReal.coe_mul, ← wt_div s M n k, div_eq_inv_mul]

/-- The plain softmax to the base e of the scores times `log 2`, applied to values. -/
theorem softmax_eq (s : ℕ → ℝ) (v : ℕ → EReal) (n : ℕ) (hn : 0 < n) (X : ℝ) :
    ∑ k ∈ Finset.range n,
        Ideal.div (Ideal.exp ((s k : EReal) * ((Real.log 2 : ℝ) : EReal) - (X : EReal)))
          (∑ j ∈ Finset.range n, Ideal.exp ((s j : EReal) * ((Real.log 2 : ℝ) : EReal) - (X : EReal))) * v k
      = attend s v n := by
  have e : ∀ x : ℝ, Ideal.exp ((x : EReal) * ((Real.log 2 : ℝ) : EReal) - (X : EReal)) = ((wt x (X / Real.log 2) : ℝ) : EReal) := fun x => by
    have h2 : Real.log 2 ≠ 0 := (Real.log_pos one_lt_two).ne'
    rw [← EReal.coe_mul, ← EReal.coe_sub, Ideal.exp_coe]
    unfold wt
    rw [Real.rpow_def_of_pos two_pos]
    congr 2
    field_simp
  have hD := sum_wt_pos s (X / Real.log 2) n hn
  simp only [e, ← coe_sum]
  refine Finset.sum_congr rfl fun k _ => ?_
  rw [Ideal.div, if_neg (by simpa using hD.ne'), ← EReal.coe_inv, ← EReal.coe_mul, ← div_eq_mul_inv, wt_div]

/-- The same over the keys `Fin n`, the value first, any real shift. -/
theorem softmax_fin (s : ℕ → ℝ) (v : ℕ → EReal) (n : ℕ) (hn : 0 < n) (X : EReal) (hX : ∃ r : ℝ, X = (r : EReal)) (e : Fin n → EReal)
    (he : ∀ t : Fin n, e t = (s t.val : EReal) * ((Real.log 2 : ℝ) : EReal)) (w : Fin n → EReal) (hw : ∀ t : Fin n, w t = v t.val) :
    ∑ t, w t * Ideal.div (Ideal.exp (e t - X)) (∑ u, Ideal.exp (e u - X)) = attend s v n := by
  obtain ⟨r, rfl⟩ := hX
  rw [← softmax_eq s v n hn r, Finset.sum_range, Finset.sum_range]
  refine Finset.sum_congr rfl fun t _ => ?_
  rw [mul_comm, hw, he]
  simp only [he]

/-- The largest of finitely many reals is real. -/
theorem reduce_real {s t u : Shape} {a : Fin s.rank} (h' : s.ReducesTo [a] t) (h : s.Reduces [a] t) (hu : 0 < u.numel) (hn : 0 < s.size a)
    (x : s.Idx → EReal) (hx : ∀ i, ∃ r : ℝ, x i = (r : EReal)) (init : u.Idx → EReal) (hi : ∀ i, init i < ⊤) (b : EReal) (hb : b < ⊤) (j : t.Idx) :
    ∃ r : ℝ, max b (Host.reduce (FloatOps.maximumf (F := Ideal) (φ := .f32)) x init h' hu j) = (r : EReal) := by
  have e : Host.reduce (FloatOps.maximumf (F := Ideal) (φ := .f32)) x init h' hu j
      = (Finset.univ : Finset (Fin (s.size a))).fold max (init (Shape.Idx.first hu)) (x ∘ h.lift j) :=
    Host.reduce_eq_fold_single max x init h' h hu j
  rw [e]
  refine ⟨_, (EReal.coe_toReal (max_lt hb ?_).ne (ne_of_gt (lt_max_of_lt_right ?_))).symm⟩
  · refine (Finset.fold_max_lt _).2 ⟨hi _, fun k _ => ?_⟩
    obtain ⟨r, hr⟩ := hx (h.lift j k)
    exact (show x (h.lift j k) < ⊤ by rw [hr]; exact EReal.coe_lt_top r)
  · obtain ⟨r, hr⟩ := hx (h.lift j ⟨0, hn⟩)
    exact (Finset.lt_fold_max _).2 (Or.inr ⟨⟨0, hn⟩, Finset.mem_univ _, show ⊥ < x (h.lift j ⟨0, hn⟩) by rw [hr]; exact EReal.bot_lt_coe r⟩)

end Cert.Online

end
-- ==== Proof.Body.lean ====
module

public import proofs.«01_k».proof.Proof.Gen.KernelIdeal.Flash.Runs
public import Idealize.ShloMosaic.Lib.Pointwise
public import Idealize.ShloMosaic.Lib.VecWindow
public import Idealize.ShloMosaic.Lib.Writes

/-! What one grid step leaves in the two running buffers and in the output block, element by element, on each of
    the three control paths. The eight heads do the same thing to their own 128 lanes. -/

@[expose] public section

set_option maxRecDepth 16384

noncomputable section

namespace Cert.Body

open Cert.KernelIdeal Cert.KernelIdeal.Gen
open Idealize.ShloMosaic Idealize.ShloMosaic.TcCoe Idealize.ShloMosaic.Tactic

/-- The 128 lanes of head `h` of a block. -/
def lanes (h : Fin 8) (x : S1024x1024.Idx → EReal) : FVec Ideal S1024x128 .bf16 :=
  fun j => x (ix2 (j 0) (⟨128 * h.val + (j 1).val, by have := h.isLt; have := (j 1).isLt; simp at this; omega⟩ : Fin 1024))

/-- The rows of head `h` of a running buffer. -/
def rows (h : Fin 8) (x : S8x1024x128.Idx → EReal) : FVec Ideal S1x1024x128 .f32 :=
  fun j => x (ix3 h (j 1) (j 2))

/-- The new running maximum of one head. -/
def payM (q k : FVec Ideal S1024x128 .bf16) (m : FVec Ideal S1x1024x128 .f32) : FVec Ideal S1x1024x128 .f32 :=
  k0_pay22 (k0_pay13 q k) m

/-- The new running sums of one head. -/
def payA (q k : FVec Ideal S1024x128 .bf16) (m a : FVec Ideal S1x1024x128 .f32) (v : FVec Ideal S1024x128 .bf16) :
    FVec Ideal S1x1024x128 .f32 :=
  k0_pay21 (k0_pay13 q k) m a v

/-- The score of row `r` of the queries against row `t` of the keys. -/
def score (q k : FVec Ideal S1024x128 .bf16) (r t : Fin 1024) : EReal := ∑ d : Fin 128, q (ix2 r d) * k (ix2 t d)

theorem payM_at (q k : FVec Ideal S1024x128 .bf16) (m : FVec Ideal S1x1024x128 .f32) (r : Fin 1024) (l : Fin 128) :
    payM q k m (ix3 0 r l)
      = max (m (ix3 0 r l)) (Finset.univ.fold max (Ideal.ofBits .f32 0xFF800000#32) (score q k r)) := by
  pointwise [payM, k0_pay22, k0_pay20, k0_pay19, k0_pay13]
  rfl

theorem payA_at (q k : FVec Ideal S1024x128 .bf16) (m a : FVec Ideal S1x1024x128 .f32) (v : FVec Ideal S1024x128 .bf16)
    (r : Fin 1024) (l : Fin 128) :
    payA q k m a v (ix3 0 r l)
      = Ideal.exp2 (m (ix3 0 r l) - payM q k m (ix3 0 r l)) * a (ix3 0 r l)
        + ∑ t, Ideal.exp2 (score q k r t - payM q k m (ix3 0 r 0)) * v (ix2 t l) := by
  rw [payM_at, payM_at]
  pointwise [payA, k0_pay21, k0_pay20, k0_pay19, k0_pay13]
  rfl

theorem pay5_at (a : FVec Ideal S1x1024x128 .f32) (r : Fin 1024) (l : Fin 128) :
    (k0_pay5 (F := Ideal) a) (ix2 r l) = Ideal.div (a (ix3 0 r l)) (a (ix3 0 r 64)) := by
  pointwise [k0_pay5]

/-- The rectangle of row block `h` of a running buffer. -/
theorem inb_row (h : Fin 8) : ∀ a, (![h.val, 0, 0] : Fin 3 → ℕ) a + S1x1024x128.size a ≤ S8x1024x128.size a := by
  intro a
  have := h.isLt
  fin_cases a
  · show h.val + 1 ≤ 8
    omega
  · show 0 + 1024 ≤ 1024
    omega
  · show 0 + 128 ≤ 128
    omega

/-- A piece that writes the rows of head `h`. -/
abbrev piece (h : Fin 8) (p : FVec Ideal S1x1024x128 .f32) : View.Piece (Elt Ideal) S8x1024x128 .f32 :=
  ⟨Rect.unit ![h.val, 0, 0] S1x1024x128.size (inb_row h), p⟩

section
variable {sig' : RefSig} {κ : Kind} {sp : Space} (v : View sig' κ sp S8x1024x128 .f32) (f : v.ty.Contents (Elt Ideal))

theorem piece_hit (h : Fin 8) (p : FVec Ideal S1x1024x128 .f32) (L : List (View.Piece (Elt Ideal) S8x1024x128 .f32)) (r : Fin 1024)
    (l : Fin 128) : v.read (Elt Ideal) (v.writes (Elt Ideal) f (piece h p :: L)) (ix3 h r l) = p (ix3 0 r l) := by
  let x : S1x1024x128.Idx := ix3 0 r l
  refine View.read_writes_cons_hit_of_coords v f (Rect.unit ![h.val, 0, 0] S1x1024x128.size (inb_row h)) p L x (ix3 h r l) fun a => ?_
  fin_cases a
  · show h.val = h.val + 1 * 0
    omega
  · show r.val = 0 + 1 * r.val
    omega
  · show l.val = 0 + 1 * l.val
    omega

theorem piece_miss (g h : Fin 8) (hgh : g ≠ h) (p : FVec Ideal S1x1024x128 .f32) (L : List (View.Piece (Elt Ideal) S8x1024x128 .f32))
    (r : Fin 1024) (l : Fin 128) :
    v.read (Elt Ideal) (v.writes (Elt Ideal) f (piece g p :: L)) (ix3 h r l) = v.read (Elt Ideal) (v.writes (Elt Ideal) f L) (ix3 h r l) := by
  refine View.read_writes_cons_miss_of_axis v f (piece g p) L (ix3 h r l) (0 : Fin 3) g.val 1 rfl rfl rfl ?_
  have : g.val ≠ h.val := fun e => hgh (Fin.ext e)
  show h.val < g.val ∨ g.val + 1 ≤ h.val
  omega

/-- The pieces of the heads `gs`, newest first, over the pieces `L`. -/
def piecesOf (p : Fin 8 → FVec Ideal S1x1024x128 .f32) (L : List (View.Piece (Elt Ideal) S8x1024x128 .f32)) (gs : List (Fin 8)) :
    List (View.Piece (Elt Ideal) S8x1024x128 .f32) :=
  gs.map (fun g => piece g (p g)) ++ L

theorem piecesOf_at (p : Fin 8 → FVec Ideal S1x1024x128 .f32) (L : List (View.Piece (Elt Ideal) S8x1024x128 .f32)) (gs : List (Fin 8))
    (h : Fin 8) (hg : h ∈ gs) (r : Fin 1024) (l : Fin 128) :
    v.read (Elt Ideal) (v.writes (Elt Ideal) f (piecesOf p L gs)) (ix3 h r l) = p h (ix3 0 r l) := by
  induction gs with
  | nil => exact absurd hg (List.not_mem_nil)
  | cons g gs ih =>
    by_cases e : g = h
    · subst e
      exact piece_hit v f g (p g) _ r l
    · exact (piece_miss v f g h e (p g) _ r l).trans (ih ((List.mem_cons.1 hg).resolve_left (Ne.symm e)))

/-- The eight pieces of a step, the last head's first. -/
def pieces (p : Fin 8 → FVec Ideal S1x1024x128 .f32) (L : List (View.Piece (Elt Ideal) S8x1024x128 .f32)) :
    List (View.Piece (Elt Ideal) S8x1024x128 .f32) :=
  piecesOf p L [7, 6, 5, 4, 3, 2, 1, 0]

theorem pieces_at (p : Fin 8 → FVec Ideal S1x1024x128 .f32) (L : List (View.Piece (Elt Ideal) S8x1024x128 .f32)) (h : Fin 8) (r : Fin 1024)
    (l : Fin 128) : v.read (Elt Ideal) (v.writes (Elt Ideal) f (pieces p L)) (ix3 h r l) = p h (ix3 0 r l) :=
  piecesOf_at v f p L _ h (by revert h; decide) r l

/-- A load of the rows of head `h`. -/
theorem load_row (h : Fin 8) (inb) : View.readAt (Elt Ideal) v (Rect.unit (s := S8x1024x128) ![h.val, 0, 0] S1x1024x128.size inb).toLoadRect f
    = rows h (v.read (Elt Ideal) f) := by
  funext j
  rw [View.readAt_apply]
  refine congrArg (v.read (Elt Ideal) f) ?_
  funext a
  refine Fin.ext ?_
  fin_cases a
  · show h.val + 1 * (j 0).val = h.val
    have : (j 0).val < 1 := (j 0).isLt
    omega
  · show 0 + 1 * (j 1).val = (j 1).val
    omega
  · show 0 + 1 * (j 2).val = (j 2).val
    omega

/-- Rows that a list's newest piece does not write. -/
theorem rows_miss (g h : Fin 8) (hgh : g ≠ h) (p : FVec Ideal S1x1024x128 .f32) (L : List (View.Piece (Elt Ideal) S8x1024x128 .f32)) :
    rows h (v.read (Elt Ideal) (v.writes (Elt Ideal) f (piece g p :: L))) = rows h (v.read (Elt Ideal) (v.writes (Elt Ideal) f L)) :=
  funext fun j => piece_miss v f g h hgh p L (j 1) (j 2)

/-- Rows of a buffer that one piece fills. -/
theorem rows_fill (h : Fin 8) (w : FVec Ideal S8x1024x128 .f32) (inb) :
    rows h (v.read (Elt Ideal) (v.writes (Elt Ideal) f [⟨Rect.unit (s := S8x1024x128) ![0, 0, 0] S8x1024x128.size inb, w⟩])) = rows h w := by
  funext j
  let x : S8x1024x128.Idx := ix3 h (j 1) (j 2)
  refine View.read_writes_cons_hit_of_coords v f (Rect.unit (s := S8x1024x128) ![0, 0, 0] S8x1024x128.size inb) w [] x x fun a => ?_
  fin_cases a
  · show h.val = 0 + 1 * h.val
    omega
  · show (j 1).val = 0 + 1 * (j 1).val
    omega
  · show (j 2).val = 0 + 1 * (j 2).val
    omega

theorem rows_pieces (p : Fin 8 → FVec Ideal S1x1024x128 .f32) (L : List (View.Piece (Elt Ideal) S8x1024x128 .f32)) (h : Fin 8) :
    rows h (v.read (Elt Ideal) (v.writes (Elt Ideal) f (pieces p L))) = p h := by
  funext j
  refine (pieces_at v f p L h (j 1) (j 2)).trans (congrArg (p h) ?_)
  funext a
  fin_cases a
  · exact Subsingleton.elim (α := Fin 1) _ _
  · rfl
  · rfl
end

section
variable {sig' : RefSig} {κ : Kind} {sp : Space} (v : View sig' κ sp S1024x1024 .bf16)

/-- A load of head `h`'s lanes fits the block. -/
theorem inb_lane (h : Fin 8) : ∀ a, (![0, 128 * h.val] : Fin 2 → ℕ) a + S1024x128.size a ≤ S1024x1024.size a := by
  intro a
  have := h.isLt
  fin_cases a
  · show 0 + 1024 ≤ 1024
    omega
  · show 128 * h.val + 128 ≤ 1024
    omega

/-- A piece that writes the lanes of head `h` of the output block. -/
abbrev column (h : Fin 8) (p : FVec Ideal S1024x128 .bf16) : View.Piece (Elt Ideal) S1024x1024 .bf16 :=
  ⟨Rect.unit ![0, 128 * h.val] S1024x128.size (inb_lane h), p⟩

/-- Lane `l` of head `h`. -/
abbrev lane (h : Fin 8) (l : Fin 128) : Fin 1024 := ⟨128 * h.val + l.val, by have := h.isLt; have := l.isLt; omega⟩

theorem columns_at (f : v.ty.Contents (Elt Ideal)) (p : Fin 8 → FVec Ideal S1024x128 .bf16) (gs : List (Fin 8)) (h : Fin 8) (hg : h ∈ gs)
    (r : Fin 1024) (l : Fin 128) :
    v.read (Elt Ideal) (v.writes (Elt Ideal) f (gs.map fun g => column g (p g))) (ix2 r (lane h l)) = p h (ix2 r l) := by
  induction gs with
  | nil => exact absurd hg (List.not_mem_nil)
  | cons g gs ih =>
    by_cases e : g = h
    · subst e
      let x : S1024x128.Idx := ix2 r l
      refine View.read_writes_cons_hit_of_coords v f (Rect.unit ![0, 128 * g.val] S1024x128.size (inb_lane g)) (p g) _ x
        (ix2 r (lane g l)) fun a => ?_
      fin_cases a
      · show r.val = 0 + 1 * r.val
        omega
      · show 128 * g.val + l.val = 128 * g.val + 1 * l.val
        omega
    · refine (View.read_writes_cons_miss_of_axis v f (column g (p g)) _ (ix2 r (lane h l)) (1 : Fin 2) (128 * g.val) 128 rfl rfl rfl ?_).trans
        (ih ((List.mem_cons.1 hg).resolve_left (Ne.symm e)))
      have hn : g.val ≠ h.val := fun e' => e (Fin.ext e')
      have := l.isLt
      show 128 * h.val + l.val < 128 * g.val ∨ 128 * g.val + 128 ≤ 128 * h.val + l.val
      omega

/-- A load of the lanes of head `h` of a staged block. -/
theorem load_lanes (h : Fin 8) (x : S1024x1024.Idx → Elt Ideal .bf16) (inb) :
    View.readAt (Elt Ideal) v (Rect.unit (s := S1024x1024) ![0, 128 * h.val] S1024x128.size inb).toLoadRect (v.rep x) = lanes h x := by
  rw [View.readAt_rep]
  funext j
  refine congrArg x ?_
  funext a
  refine Fin.ext ?_
  fin_cases a
  · show 0 + 1 * (j 0).val = (j 0).val
    omega
  · show 128 * h.val + 1 * (j 1).val = 128 * h.val + (j 1).val
    omega
end

end Cert.Body

end
-- ==== Proof.Steps.lean ====
module

public import proofs.«01_k».proof.Proof.Body

/-! The three control paths' contents, head by head. -/

@[expose] public section

set_option maxRecDepth 16384

noncomputable section

namespace Cert.Body

open Cert.KernelIdeal Cert.KernelIdeal.Gen
open Idealize.ShloMosaic Idealize.ShloMosaic.TcCoe Idealize.ShloMosaic.Tactic

/-- One grid step on the two running buffers, head by head. -/
structure Step (q k v : S1024x1024.Idx → EReal) (M A M' A' : S8x1024x128.Idx → EReal) : Prop where
  max_rows : ∀ h, rows h M' = payM (lanes h q) (lanes h k) (rows h M)
  sum_rows : ∀ h, rows h A' = payA (lanes h q) (lanes h k) (rows h M) (rows h A) (lanes h v)

/-- The lanes of head `h` as the body loads them. -/
abbrev ldl {κ : Kind} {sp : Space} (v : View sig κ sp S1024x1024 .bf16) (x : S1024x1024.Idx → Elt Ideal .bf16) (h : Fin 8) :
    FVec Ideal S1024x128 .bf16 :=
  View.readAt (Elt Ideal) v (Rect.unit (s := S1024x1024) ![0, 128 * h.val] S1024x128.size (inb_lane h)).toLoadRect (v.rep x)

/-- The rows of head `h` as the body loads them. -/
abbrev ldr {κ : Kind} {sp : Space} (v : View sig κ sp S8x1024x128 .f32) (f : v.ty.Contents (Elt Ideal)) (h : Fin 8) :
    FVec Ideal S1x1024x128 .f32 :=
  View.readAt (Elt Ideal) v (Rect.unit (s := S8x1024x128) ![h.val, 0, 0] S1x1024x128.size (inb_row h)).toLoadRect f

section
variable (c : Dev nD) (i : grid0.Coords) (arg5 : Memref sig .tc .vmem S1024x1024 .bf16) (harg5 : arg5.IsWhole)
  (arg6 : Memref sig .tc .vmem S1024x1024 .bf16) (harg6 : arg6.IsWhole) (arg7 : Memref sig .tc .vmem S1024x1024 .bf16)
  (harg7 : arg7.IsWhole) (arg8 : Memref sig .tc .vmem S1024x1024 .bf16) (harg8 : arg8.IsWhole)
  (T0 T1 T2 T3 : S288.Idx → Elt Ideal .i32) (x0 x1 x2 : S1024x1024.Idx → Elt Ideal .bf16)
  (xa0 : Buf (Elt Ideal) ((c : Thread nD τ).loc cc0_scratch0)) (xa1 : Buf (Elt Ideal) ((c : Thread nD τ).loc cc0_scratch1))

theorem maxB : kernelRun0_B.sl.HS0_8 c arg5 arg6 x0 x1 xa0
    = pieces (fun h => payM (ldl arg5.view x0 h) (ldl arg6.view x1 h) (ldr scM0_0.view xa0 h)) [] := rfl

theorem sumB : kernelRun0_B.sl.HS1_8 c arg5 arg6 arg7 x0 x1 x2 xa0 xa1
    = pieces (fun h => payA (ldl arg5.view x0 h) (ldl arg6.view x1 h) (ldr scM0_0.view xa0 h) (ldr scM0_1.view xa1 h)
        (ldl arg7.view x2 h)) [] := rfl

/-- The first running buffer's contents read. -/
abbrev rd0 (f : Buf (Elt Ideal) ((c : Thread nD τ).loc cc0_scratch0)) : S8x1024x128.Idx → EReal := scM0_0.view.read (Elt Ideal) f

/-- The second running buffer's contents read. -/
abbrev rd1 (f : Buf (Elt Ideal) ((c : Thread nD τ).loc cc0_scratch1)) : S8x1024x128.Idx → EReal := scM0_1.view.read (Elt Ideal) f

theorem ldr_eq {κ : Kind} {sp : Space} (v : View sig κ sp S8x1024x128 .f32) (f : v.ty.Contents (Elt Ideal)) (h : Fin 8) :
    ldr v f h = rows h (v.read (Elt Ideal) f) := load_row v f h (inb_row h)

theorem ldl_eq {κ : Kind} {sp : Space} (v : View sig κ sp S1024x1024 .bf16) (x : S1024x1024.Idx → Elt Ideal .bf16) (h : Fin 8) :
    ldl v x h = lanes h x := load_lanes v h x (inb_lane h)

theorem payM_congr {q q' k k' : FVec Ideal S1024x128 .bf16} {m m' : FVec Ideal S1x1024x128 .f32} (hq : q = q') (hk : k = k')
    (hm : m = m') : payM q k m = payM q' k' m' := by subst hq hk hm; rfl

theorem payA_congr {q q' k k' v v' : FVec Ideal S1024x128 .bf16} {m m' a a' : FVec Ideal S1x1024x128 .f32} (hq : q = q') (hk : k = k')
    (hm : m = m') (ha : a = a') (hv : v = v') : payA q k m a v = payA q' k' m' a' v' := by subst hq hk hm ha hv; rfl

theorem runB (h0) (h1) :
    Step x0 x1 x2 (rd0 c xa0) (rd1 c xa1)
      (rd0 c (kernelRun0_B c i arg5 harg5 arg6 harg6 arg7 harg7 arg8 harg8 T0 T1 T2 T3 x0 x1 x2 xa0 xa1 h0 h1).1)
      (rd1 c (kernelRun0_B c i arg5 harg5 arg6 harg6 arg7 harg7 arg8 harg8 T0 T1 T2 T3 x0 x1 x2 xa0 xa1 h0 h1).2.1) := by
  constructor
  · intro h
    unfold kernelRun0_B
    dsimp only
    rw [maxB]
    exact (rows_pieces scM0_0.view _ _ [] h).trans (payM_congr (ldl_eq _ _ h) (ldl_eq _ _ h) (ldr_eq scM0_0.view xa0 h))
  · intro h
    unfold kernelRun0_B
    dsimp only
    rw [sumB]
    exact (rows_pieces scM0_1.view _ _ [] h).trans
      (payA_congr (ldl_eq _ _ h) (ldl_eq _ _ h) (ldr_eq scM0_0.view xa0 h) (ldr_eq scM0_1.view xa1 h) (ldl_eq _ _ h))

theorem maxC : kernelRun0_C.sl.HS0_8 c arg5 arg6 x0 x1 xa0
    = pieces (fun h => payM (ldl arg5.view x0 h) (ldl arg6.view x1 h) (ldr scM0_0.view xa0 h)) [] := rfl

theorem sumC : kernelRun0_C.sl.HS1_8 c arg5 arg6 arg7 x0 x1 x2 xa0 xa1
    = pieces (fun h => payA (ldl arg5.view x0 h) (ldl arg6.view x1 h) (ldr scM0_0.view xa0 h) (ldr scM0_1.view xa1 h)
        (ldl arg7.view x2 h)) [] := rfl

theorem runC (h0) (h1) :
    Step x0 x1 x2 (rd0 c xa0) (rd1 c xa1)
      (rd0 c (kernelRun0_C c i arg5 harg5 arg6 harg6 arg7 harg7 arg8 harg8 T0 T1 T2 T3 x0 x1 x2 xa0 xa1 h0 h1).2.1)
      (rd1 c (kernelRun0_C c i arg5 harg5 arg6 harg6 arg7 harg7 arg8 harg8 T0 T1 T2 T3 x0 x1 x2 xa0 xa1 h0 h1).2.2.1) := by
  constructor
  · intro h
    unfold kernelRun0_C
    dsimp only
    rw [maxC]
    exact (rows_pieces scM0_0.view _ _ [] h).trans (payM_congr (ldl_eq _ _ h) (ldl_eq _ _ h) (ldr_eq scM0_0.view xa0 h))
  · intro h
    unfold kernelRun0_C
    dsimp only
    rw [sumC]
    exact (rows_pieces scM0_1.view _ _ [] h).trans
      (payA_congr (ldl_eq _ _ h) (ldl_eq _ _ h) (ldr_eq scM0_0.view xa0 h) (ldr_eq scM0_1.view xa1 h) (ldl_eq _ _ h))

/-! The output block: eight stores of 128 lanes. -/

theorem outC : kernelRun0_C.sl.HO3_8 c arg5 arg6 arg7 x0 x1 x2 xa0 xa1
    = ([7, 6, 5, 4, 3, 2, 1, 0] : List (Fin 8)).map (fun h => column h (k0_pay5 (F := Ideal) (ldr scM0_1.view
        (scM0_1.view.writes (Elt Ideal) scM0_1.view.junk (kernelRun0_C.sl.HS1_8 c arg5 arg6 arg7 x0 x1 x2 xa0 xa1)) h))) := rfl

theorem blockC (h0) (h1) (h : Fin 8) (r : Fin 1024) (l : Fin 128) :
    out0_C_3 c i arg5 harg5 arg6 harg6 arg7 harg7 arg8 harg8 T0 T1 T2 T3 x0 x1 x2 xa0 xa1 h0 h1 (ix2 r (lane h l))
      = Ideal.div
          (rd1 c (kernelRun0_C c i arg5 harg5 arg6 harg6 arg7 harg7 arg8 harg8 T0 T1 T2 T3 x0 x1 x2 xa0 xa1 h0 h1).2.2.1 (ix3 h r l))
          (rd1 c (kernelRun0_C c i arg5 harg5 arg6 harg6 arg7 harg7 arg8 harg8 T0 T1 T2 T3 x0 x1 x2 xa0 xa1 h0 h1).2.2.1 (ix3 h r 64)) := by
  unfold out0_C_3 kernelRun0_C
  dsimp only
  rw [outC]
  refine (columns_at VO0_3 _ _ _ h (by revert h; decide) r l).trans ?_
  rw [pay5_at, ldr_eq]
  rfl

/-! The first step of a query block: the buffers are filled before the heads run. -/

/-- What the running maximum starts from. -/
abbrev low : FVec Ideal S8x1024x128 .f32 := k0_pay10 (F := Ideal)

/-- What the running sums start from. -/
abbrev nil : FVec Ideal S8x1024x128 .f32 := k0_pay11 (F := Ideal)

/-- One store of a whole buffer. -/
abbrev fill (w : FVec Ideal S8x1024x128 .f32) : List (View.Piece (Elt Ideal) S8x1024x128 .f32) :=
  [⟨Rect.unit (s := S8x1024x128) ![0, 0, 0] S8x1024x128.size inb_S8x1024x128_S8x1024x128_0_0_0, w⟩]

theorem piecesOf_fresh {κ : Kind} {sp : Space} (v : View sig κ sp S8x1024x128 .f32) (f : v.ty.Contents (Elt Ideal))
    (p : Fin 8 → FVec Ideal S1x1024x128 .f32) (w : FVec Ideal S8x1024x128 .f32) (gs : List (Fin 8)) (h : Fin 8) (hg : h ∉ gs) :
    rows h (v.read (Elt Ideal) (v.writes (Elt Ideal) f (piecesOf p (fill w) gs))) = rows h w := by
  induction gs with
  | nil => exact rows_fill v f h w _
  | cons g gs ih =>
    rw [List.mem_cons, not_or] at hg
    exact (rows_miss v f g h (Ne.symm hg.1) (p g) _).trans (ih hg.2)

/-- After the heads `gs` the two buffers hold those heads' pieces over their fills. -/
structure Grown {κ₁ κ₂ κ₃ : Kind} {p₁ p₂ p₃ : Space} (w₁ : View sig κ₁ p₁ S1024x1024 .bf16) (w₂ : View sig κ₂ p₂ S1024x1024 .bf16)
    (w₃ : View sig κ₃ p₃ S1024x1024 .bf16) (q k v : S1024x1024.Idx → Elt Ideal .bf16) (gs : List (Fin 8))
    (LM LA : List (View.Piece (Elt Ideal) S8x1024x128 .f32)) : Prop where
  max_eq : LM = piecesOf (fun h => payM (ldl w₁ q h) (ldl w₂ k h) (rows h low)) (fill low) gs
  sum_eq : LA = piecesOf (fun h => payA (ldl w₁ q h) (ldl w₂ k h) (rows h low) (rows h nil) (ldl w₃ v h)) (fill nil) gs

theorem Grown.next {κ₁ κ₂ κ₃ : Kind} {p₁ p₂ p₃ : Space} {w₁ : View sig κ₁ p₁ S1024x1024 .bf16} {w₂ : View sig κ₂ p₂ S1024x1024 .bf16}
    {w₃ : View sig κ₃ p₃ S1024x1024 .bf16} {q k v : S1024x1024.Idx → Elt Ideal .bf16} {gs : List (Fin 8)}
    {LM LA : List (View.Piece (Elt Ideal) S8x1024x128 .f32)} (H : Grown w₁ w₂ w₃ q k v gs LM LA) (g : Fin 8) (hg : g ∉ gs)
    (vm va : FVec Ideal S1x1024x128 .f32) (LM' LA' : List (View.Piece (Elt Ideal) S8x1024x128 .f32))
    (hm : vm = ldr scM0_0.view (scM0_0.view.writes (Elt Ideal) scM0_0.view.junk LM) g)
    (ha : va = ldr scM0_1.view (scM0_1.view.writes (Elt Ideal) scM0_1.view.junk LA) g)
    (hM : LM' = piece g (payM (ldl w₁ q g) (ldl w₂ k g) vm) :: LM)
    (hA : LA' = piece g (payA (ldl w₁ q g) (ldl w₂ k g) vm va (ldl w₃ v g)) :: LA) : Grown w₁ w₂ w₃ q k v (g :: gs) LM' LA' := by
  obtain ⟨h₁, h₂⟩ := H
  have e₁ : vm = rows g low := by rw [hm, ldr_eq, h₁]; exact piecesOf_fresh _ _ _ _ _ _ hg
  have e₂ : va = rows g nil := by rw [ha, ldr_eq, h₂]; exact piecesOf_fresh _ _ _ _ _ _ hg
  constructor
  · rw [hM, e₁, h₁]
    rfl
  · rw [hA, e₁, e₂, h₂]
    rfl

theorem grown : Grown arg5.view arg6.view arg7.view x0 x1 x2 [7, 6, 5, 4, 3, 2, 1, 0] (kernelRun0_A.sl.HS0_9 arg5 arg6 x0 x1)
    (kernelRun0_A.sl.HS1_9 arg5 arg6 arg7 x0 x1 x2) := by
  have g0 : Grown arg5.view arg6.view arg7.view x0 x1 x2 [] kernelRun0_A.sl.HS0_1 kernelRun0_A.sl.HS1_1 := ⟨rfl, rfl⟩
  have g1 : Grown arg5.view arg6.view arg7.view x0 x1 x2 [0] (kernelRun0_A.sl.HS0_2 arg5 arg6 x0 x1) (kernelRun0_A.sl.HS1_2 arg5 arg6 arg7 x0 x1 x2) :=
    g0.next 0 (by decide) kernelRun0_A.sl.v11 kernelRun0_A.sl.v23 _ _ rfl rfl rfl rfl
  have g2 : Grown arg5.view arg6.view arg7.view x0 x1 x2 [1, 0] (kernelRun0_A.sl.HS0_3 arg5 arg6 x0 x1) (kernelRun0_A.sl.HS1_3 arg5 arg6 arg7 x0 x1 x2) :=
    g1.next 1 (by decide) (kernelRun0_A.sl.v39 arg5 arg6 x0 x1) (kernelRun0_A.sl.v51 arg5 arg6 arg7 x0 x1 x2) _ _ rfl rfl rfl rfl
  have g3 : Grown arg5.view arg6.view arg7.view x0 x1 x2 [2, 1, 0] (kernelRun0_A.sl.HS0_4 arg5 arg6 x0 x1) (kernelRun0_A.sl.HS1_4 arg5 arg6 arg7 x0 x1 x2) :=
    g2.next 2 (by decide) (kernelRun0_A.sl.v67 arg5 arg6 x0 x1) (kernelRun0_A.sl.v79 arg5 arg6 arg7 x0 x1 x2) _ _ rfl rfl rfl rfl
  have g4 : Grown arg5.view arg6.view arg7.view x0 x1 x2 [3, 2, 1, 0] (kernelRun0_A.sl.HS0_5 arg5 arg6 x0 x1) (kernelRun0_A.sl.HS1_5 arg5 arg6 arg7 x0 x1 x2) :=
    g3.next 3 (by decide) (kernelRun0_A.sl.v95 arg5 arg6 x0 x1) (kernelRun0_A.sl.v107 arg5 arg6 arg7 x0 x1 x2) _ _ rfl rfl rfl rfl
  have g5 : Grown arg5.view arg6.view arg7.view x0 x1 x2 [4, 3, 2, 1, 0] (kernelRun0_A.sl.HS0_6 arg5 arg6 x0 x1) (kernelRun0_A.sl.HS1_6 arg5 arg6 arg7 x0 x1 x2) :=
    g4.next 4 (by decide) (kernelRun0_A.sl.v123 arg5 arg6 x0 x1) (kernelRun0_A.sl.v135 arg5 arg6 arg7 x0 x1 x2) _ _ rfl rfl rfl rfl
  have g6 : Grown arg5.view arg6.view arg7.view x0 x1 x2 [5, 4, 3, 2, 1, 0] (kernelRun0_A.sl.HS0_7 arg5 arg6 x0 x1) (kernelRun0_A.sl.HS1_7 arg5 arg6 arg7 x0 x1 x2) :=
    g5.next 5 (by decide) (kernelRun0_A.sl.v151 arg5 arg6 x0 x1) (kernelRun0_A.sl.v163 arg5 arg6 arg7 x0 x1 x2) _ _ rfl rfl rfl rfl
  have g7 : Grown arg5.view arg6.view arg7.view x0 x1 x2 [6, 5, 4, 3, 2, 1, 0] (kernelRun0_A.sl.HS0_8 arg5 arg6 x0 x1) (kernelRun0_A.sl.HS1_8 arg5 arg6 arg7 x0 x1 x2) :=
    g6.next 6 (by decide) (kernelRun0_A.sl.v179 arg5 arg6 x0 x1) (kernelRun0_A.sl.v191 arg5 arg6 arg7 x0 x1 x2) _ _ rfl rfl rfl rfl
  have g8 : Grown arg5.view arg6.view arg7.view x0 x1 x2 [7, 6, 5, 4, 3, 2, 1, 0] (kernelRun0_A.sl.HS0_9 arg5 arg6 x0 x1) (kernelRun0_A.sl.HS1_9 arg5 arg6 arg7 x0 x1 x2) :=
    g7.next 7 (by decide) (kernelRun0_A.sl.v204 arg5 arg6 x0 x1) (kernelRun0_A.sl.v216 arg5 arg6 arg7 x0 x1 x2) _ _ rfl rfl rfl rfl
  exact g8

theorem runA (h0) (h1) :
    Step x0 x1 x2 low nil
      (rd0 c (kernelRun0_A c i arg5 harg5 arg6 harg6 arg7 harg7 arg8 harg8 T0 T1 T2 T3 x0 x1 x2 h0 h1).1)
      (rd1 c (kernelRun0_A c i arg5 harg5 arg6 harg6 arg7 harg7 arg8 harg8 T0 T1 T2 T3 x0 x1 x2 h0 h1).2.1) := by
  constructor
  · intro h
    unfold kernelRun0_A
    dsimp only
    rw [(grown arg5 arg6 arg7 x0 x1 x2).max_eq]
    exact (rows_pieces scM0_0.view _ _ _ h).trans (payM_congr (ldl_eq _ _ h) (ldl_eq _ _ h) rfl)
  · intro h
    unfold kernelRun0_A
    dsimp only
    rw [(grown arg5 arg6 arg7 x0 x1 x2).sum_eq]
    exact (rows_pieces scM0_1.view _ _ _ h).trans (payA_congr (ldl_eq _ _ h) (ldl_eq _ _ h) rfl rfl (ldl_eq _ _ h))
end

end Cert.Body

end
-- ==== Proof.Walk.lean ====
module

public import proofs.«01_k».proof.Proof.Steps
public import proofs.«01_k».proof.Proof.Tables
public import proofs.«01_k».proof.Proof.Online
public import proofs.«01_k».proof.Proof.Gen.KernelIdeal.Flash
public import Idealize.ShloMosaic.Lib.Pipeline.ValueKit

/-! What each grid step reads, and what the running buffers hold after it. -/

@[expose] public section

set_option maxRecDepth 16384

noncomputable section

namespace Cert.Walk

open Cert.KernelIdeal Cert.KernelIdeal.Gen
open Idealize.ShloMosaic Idealize.ShloMosaic.TcCoe Idealize.ShloMosaic.Tactic
open Cert.Body Cert.Online

/-- The query block of step `n`. -/
def qb (n : ℕ) : ℕ := if n < 256 then n / 8 else n / 2 - 96

/-- The position of step `n` among its query block's key blocks. -/
def pos (n : ℕ) : ℕ := if n < 256 then n % 8 else n % 2

/-- The first key block of step `n`'s sequence. -/
def base (n : ℕ) : ℕ := if n < 256 then n / 64 * 8 else n / 4 * 2 - 96

/-- The number of key blocks of step `n`'s sequence. -/
def len (n : ℕ) : ℕ := if n < 256 then 8 else 2

theorem idx0 : ∀ t : Fin (cfgA 0).N, ((cfgA 0).win 0).index t 0 = qb t.val ∧ ((cfgA 0).win 0).index t 1 = 0 := by decide +kernel
theorem idx1 : ∀ t : Fin (cfgA 0).N, ((cfgA 0).win 1).index t 0 = base t.val + pos t.val ∧ ((cfgA 0).win 1).index t 1 = 0 := by decide +kernel
theorem idx2 : ∀ t : Fin (cfgA 0).N, ((cfgA 0).win 2).index t 0 = base t.val + pos t.val ∧ ((cfgA 0).win 2).index t 1 = 0 := by decide +kernel
theorem idx3 : ∀ t : Fin (cfgA 0).N, ((cfgA 0).win 3).index t 0 = qb t.val ∧ ((cfgA 0).win 3).index t 1 = 0 := by decide +kernel
theorem first_iff : ∀ t : Fin (cfgA 0).N, P0_0 0 t ↔ pos t.val = 0 := by decide +kernel
theorem last_iff : ∀ t : Fin (cfgA 0).N, P0_1 0 t ↔ pos t.val + 1 = len t.val := by decide +kernel

theorem qb_lt (t : Fin (cfgA 0).N) : qb t.val < 48 ∧ base t.val + pos t.val < 48 := by
  have ht : t.val < 288 := t.isLt
  unfold qb base pos
  split_ifs <;> omega

/-- A step that is not its query block's first follows one of the same block. -/
theorem before_step (n : ℕ) (h : pos n ≠ 0) : 0 < n ∧ qb (n - 1) = qb n ∧ base (n - 1) = base n ∧ pos (n - 1) + 1 = pos n := by
  unfold pos at h
  unfold qb base pos
  split_ifs at h ⊢ <;> omega

/-- Row `n` of the token arrays. -/
abbrev row (n : ℕ) : Fin 49152 := Fin.ofNat 49152 n

theorem row_eq (n : ℕ) (h : n < 49152) : (⟨n, h⟩ : Fin 49152) = row n := Fin.ext (Nat.mod_eq_of_lt h).symm

variable (m : (ℓ : Loc nD τ sig) → Buf (Elt Ideal) ℓ) (ρ : Dev nD → PrngReg) (c : Dev nD)

/-- The queries. -/
abbrev qa : S49152x1024.Idx → EReal := m ((c : Thread nD τ).loc main_arg4)
/-- The keys. -/
abbrev ka : S49152x1024.Idx → EReal := m ((c : Thread nD τ).loc main_arg5)
/-- The values. -/
abbrev va : S49152x1024.Idx → EReal := m ((c : Thread nD τ).loc main_arg6)

theorem iblk0 (t : Fin (cfgA 0).N) (r l : Fin 1024) :
    iblk 0 m ρ c 0 t (ix2 r l) = qa m c (ix2 (row (qb t.val * 1024 + r.val)) l) := by
  have e := idx0 t
  have b := qb_lt t
  rw [← row_eq _ (by have := r.isLt; omega)]
  blk_ext [iblk, e.1, e.2]

theorem iblk1 (t : Fin (cfgA 0).N) (r l : Fin 1024) :
    iblk 0 m ρ c 1 t (ix2 r l) = ka m c (ix2 (row (base t.val * 1024 + (pos t.val * 1024 + r.val))) l) := by
  have e := idx1 t
  have b := qb_lt t
  rw [← row_eq _ (by have := r.isLt; omega)]
  blk_ext [iblk, e.1, e.2]

theorem iblk2 (t : Fin (cfgA 0).N) (r l : Fin 1024) :
    iblk 0 m ρ c 2 t (ix2 r l) = va m c (ix2 (row (base t.val * 1024 + (pos t.val * 1024 + r.val))) l) := by
  have e := idx2 t
  have b := qb_lt t
  rw [← row_eq _ (by have := r.isLt; omega)]
  blk_ext [iblk, e.1, e.2]

/-- One step on one row of one head. -/
theorem carries_step {q k v : S1024x1024.Idx → EReal} {M A M' A' : S8x1024x128.Idx → EReal} (H : Step q k v M A M' A') (h : Fin 8)
    (r : Fin 1024) {s : ℕ → ℝ} {vf : ℕ → Fin 128 → EReal} {n : ℕ}
    (hs : ∀ t : Fin 1024, score (lanes h q) (lanes h k) r t = (s (n + t.val) : EReal))
    (hv : ∀ (t : Fin 1024) l, v (ix2 t (lane h l)) = vf (n + t.val) l)
    (hc : Carries s vf (fun l => M (ix3 h r l)) (fun l => A (ix3 h r l)) n) :
    Carries s vf (fun l => M' (ix3 h r l)) (fun l => A' (ix3 h r l)) (n + 1024) := by
  have e : ∀ l, M' (ix3 h r l) = payM (lanes h q) (lanes h k) (rows h M) (ix3 0 r l) := fun l => congrFun (H.max_rows h) (ix3 0 r l)
  refine hc.step (Ideal.ofBits .f32 0xFF800000#32) (by simp [Ideal.ofBits, Ideal.ieee]) (score (lanes h q) (lanes h k) r)
    (fun t l => v (ix2 t (lane h l))) hs hv (fun l => ?_) fun l => ?_
  · exact (e l).trans (payM_at _ _ _ r l)
  · refine (congrFun (H.sum_rows h) (ix3 0 r l)).trans ((payA_at _ _ _ _ _ r l).trans ?_)
    rw [← e l, ← e 0]
    rfl

/-- The first step of a query block starts from nothing. -/
theorem carries_init (s : ℕ → ℝ) (vf : ℕ → Fin 128 → EReal) (h : Fin 8) (r : Fin 1024) :
    Carries s vf (fun l => low (ix3 h r l)) (fun l => nil (ix3 h r l)) 0 := by
  obtain ⟨M, hM⟩ : ∃ M : ℝ, Ideal.ofBits .f32 0xF149F2CA#32 = (M : EReal) := by
    simp only [Ideal.ofBits, Ideal.ieee]
    norm_num
    exact ⟨_, rfl⟩
  refine Carries.zero _ _ _ _ M (fun l => ?_) fun l => ?_
  · pointwise [low, k0_pay10]
    exact hM
  · pointwise [nil, k0_pay11]

/-- What the tracked buffers hold after step `t`. -/
abbrev now (t : Fin (cfgA 0).N) := traj0 0 m ρ c t.val t.isLt

/-- What they held before it. -/
abbrev old (t : Fin (cfgA 0).N) := prev0 0 m ρ c t

theorem stepA (t : Fin (cfgA 0).N) (q0 : P0_0 0 t) :
    Step (iblk 0 m ρ c 0 t) (iblk 0 m ρ c 1 t) (iblk 0 m ρ c 2 t) low nil (rd0 c (now m ρ c t).2.1) (rd1 c (now m ρ c t).2.2) := by
  have H := runA c (crd 0 t) (ms0_0 0 t) (hs0_0 0 t) (ms0_1 0 t) (hs0_1 0 t) (ms0_2 0 t) (hs0_2 0 t) (ms0_3 0 t) (hs0_3 0 t) (pinT_0 0) (pinT_1 0) (pinT_2 0) (pinT_3 0)
    (iblk 0 m ρ c (0 : Fin 4) t) (iblk 0 m ρ c (1 : Fin 4) t) (iblk 0 m ρ c (2 : Fin 4) t) (hypsR0_A 0 t q0).1 (hypsR0_A 0 t q0).2.1
  unfold now
  rw [traj0_eq, step0_A 0 m ρ c _ _ q0]
  dsimp only
  exact H

theorem stepB (t : Fin (cfgA 0).N) (q0 : ¬P0_0 0 t) (q1 : ¬P0_1 0 t) :
    Step (iblk 0 m ρ c 0 t) (iblk 0 m ρ c 1 t) (iblk 0 m ρ c 2 t) (rd0 c (old m ρ c t).2.1) (rd1 c (old m ρ c t).2.2)
      (rd0 c (now m ρ c t).2.1) (rd1 c (now m ρ c t).2.2) := by
  have H := runB c (crd 0 t) (ms0_0 0 t) (hs0_0 0 t) (ms0_1 0 t) (hs0_1 0 t) (ms0_2 0 t) (hs0_2 0 t) (ms0_3 0 t) (hs0_3 0 t) (pinT_0 0) (pinT_1 0) (pinT_2 0) (pinT_3 0)
    (iblk 0 m ρ c (0 : Fin 4) t) (iblk 0 m ρ c (1 : Fin 4) t) (iblk 0 m ρ c (2 : Fin 4) t) (old m ρ c t).2.1 (old m ρ c t).2.2 (hypsR0_B 0 t q0 q1).1 (hypsR0_B 0 t q0 q1).2.1
  unfold now
  rw [traj0_eq, step0_B 0 m ρ c _ _ q0 q1]
  dsimp only
  exact H

theorem stepC (t : Fin (cfgA 0).N) (q0 : ¬P0_0 0 t) (q1 : P0_1 0 t) :
    Step (iblk 0 m ρ c 0 t) (iblk 0 m ρ c 1 t) (iblk 0 m ρ c 2 t) (rd0 c (old m ρ c t).2.1) (rd1 c (old m ρ c t).2.2)
      (rd0 c (now m ρ c t).2.1) (rd1 c (now m ρ c t).2.2) := by
  have H := runC c (crd 0 t) (ms0_0 0 t) (hs0_0 0 t) (ms0_1 0 t) (hs0_1 0 t) (ms0_2 0 t) (hs0_2 0 t) (ms0_3 0 t) (hs0_3 0 t) (pinT_0 0) (pinT_1 0) (pinT_2 0) (pinT_3 0)
    (iblk 0 m ρ c (0 : Fin 4) t) (iblk 0 m ρ c (1 : Fin 4) t) (iblk 0 m ρ c (2 : Fin 4) t) (old m ρ c t).2.1 (old m ρ c t).2.2 (hypsR0_C 0 t q0 q1).1 (hypsR0_C 0 t q0 q1).2.1
  unfold now
  rw [traj0_eq, step0_C 0 m ρ c _ _ q0 q1]
  dsimp only
  exact H

theorem outC (t : Fin (cfgA 0).N) (q0 : ¬P0_0 0 t) (q1 : P0_1 0 t) (h : Fin 8) (r : Fin 1024) (l : Fin 128) :
    (now m ρ c t).1 (ix2 r (lane h l))
      = Ideal.div (rd1 c (now m ρ c t).2.2 (ix3 h r l)) (rd1 c (now m ρ c t).2.2 (ix3 h r 64)) := by
  have H := blockC c (crd 0 t) (ms0_0 0 t) (hs0_0 0 t) (ms0_1 0 t) (hs0_1 0 t) (ms0_2 0 t) (hs0_2 0 t) (ms0_3 0 t) (hs0_3 0 t) (pinT_0 0) (pinT_1 0) (pinT_2 0) (pinT_3 0)
    (iblk 0 m ρ c (0 : Fin 4) t) (iblk 0 m ρ c (1 : Fin 4) t) (iblk 0 m ρ c (2 : Fin 4) t) (old m ρ c t).2.1 (old m ρ c t).2.2 (hypsR0_C 0 t q0 q1).1 (hypsR0_C 0 t q0 q1).2.1 h r l
  unfold now
  rw [traj0_eq, step0_C 0 m ρ c _ _ q0 q1]
  dsimp only
  exact H

/-- The score of query row `R` against key row `K` in head `h`, of real queries and keys. -/
def dot (fq fk : S49152x1024.Idx → ℝ) (h : Fin 8) (R K : ℕ) : ℝ := ∑ d : Fin 128, fq (ix2 (row R) (lane h d)) * fk (ix2 (row K) (lane h d))

section
variable (fq fk : S49152x1024.Idx → ℝ) (hq : ∀ i, qa m c i = fq i) (hk : ∀ i, ka m c i = fk i)

include hq hk in
theorem score_eq (t : Fin (cfgA 0).N) (h : Fin 8) (r u : Fin 1024) :
    score (lanes h (iblk 0 m ρ c 0 t)) (lanes h (iblk 0 m ρ c 1 t)) r u
      = (dot fq fk h (qb t.val * 1024 + r.val) (base t.val * 1024 + (pos t.val * 1024 + u.val)) : EReal) := by
  unfold dot
  rw [coe_sum]
  refine Finset.sum_congr rfl fun d _ => ?_
  rw [EReal.coe_mul, ← hq, ← hk]
  exact congrArg₂ (· * ·) (iblk0 m ρ c t r (lane h d)) (iblk1 m ρ c t u (lane h d))

/-- What one row of one head carries after step `t`. -/
def Inv (t : Fin (cfgA 0).N) (M A : S8x1024x128.Idx → EReal) (n : ℕ) : Prop :=
  ∀ (h : Fin 8) (r : Fin 1024), Carries (fun k => dot fq fk h (qb t.val * 1024 + r.val) (base t.val * 1024 + k))
    (fun k l => va m c (ix2 (row (base t.val * 1024 + k)) (lane h l))) (fun l => M (ix3 h r l)) (fun l => A (ix3 h r l)) n

include hq hk in
theorem inv_step (t : Fin (cfgA 0).N) {M A M' A' : S8x1024x128.Idx → EReal}
    (H : Step (iblk 0 m ρ c 0 t) (iblk 0 m ρ c 1 t) (iblk 0 m ρ c 2 t) M A M' A') (h : Inv m c fq fk t M A (pos t.val * 1024)) :
    Inv m c fq fk t M' A' ((pos t.val + 1) * 1024) := fun hd r => by
  rw [Nat.add_mul, Nat.one_mul]
  exact carries_step H hd r (fun u => score_eq m ρ c fq fk hq hk t hd r u) (fun u l => iblk2 m ρ c t u (lane hd l)) (h hd r)

include hq hk in
theorem inv (n : ℕ) (hn : n < (cfgA 0).N) :
    Inv m c fq fk ⟨n, hn⟩ (rd0 c (now m ρ c ⟨n, hn⟩).2.1) (rd1 c (now m ρ c ⟨n, hn⟩).2.2) ((pos n + 1) * 1024) := by
  induction n using Nat.strong_induction_on with
  | _ n ih =>
    by_cases q0 : P0_0 0 ⟨n, hn⟩
    · have e : pos n = 0 := (first_iff _).1 q0
      refine inv_step m ρ c fq fk hq hk ⟨n, hn⟩ (stepA m ρ c ⟨n, hn⟩ q0) fun h r => ?_
      show Carries _ _ _ _ (pos n * 1024)
      rw [e, Nat.zero_mul]
      exact carries_init _ _ h r
    · have hp : pos n ≠ 0 := fun e => q0 ((first_iff ⟨n, hn⟩).2 e)
      obtain ⟨h0, e1, e2, e3⟩ := before_step n hp
      have hi : Inv m c fq fk ⟨n, hn⟩ (rd0 c (old m ρ c ⟨n, hn⟩).2.1) (rd1 c (old m ρ c ⟨n, hn⟩).2.2) (pos n * 1024) := by
        have := ih (n - 1) (by omega) (by omega)
        unfold Inv at this ⊢
        dsimp only at this ⊢
        rw [e1, e2, e3] at this
        rw [show old m ρ c ⟨n, hn⟩ = now m ρ c ⟨n - 1, by omega⟩ from dif_neg (by show n ≠ 0; omega)]
        exact this
      by_cases q1 : P0_1 0 ⟨n, hn⟩
      · exact inv_step m ρ c fq fk hq hk ⟨n, hn⟩ (stepC m ρ c ⟨n, hn⟩ q0 q1) hi
      · exact inv_step m ρ c fq fk hq hk ⟨n, hn⟩ (stepB m ρ c ⟨n, hn⟩ q0 q1) hi

include hq hk in
/-- What a query block's last step leaves in the output block. -/
theorem block_eq (hv : ∀ (n : ℕ) (h : Fin 8), va m c (ix2 (row n) (lane h 64)) = 1) (t : Fin (cfgA 0).N) (q0 : ¬P0_0 0 t) (q1 : P0_1 0 t)
    (h : Fin 8) (r : Fin 1024) (l : Fin 128) :
    (now m ρ c t).1 (ix2 r (lane h l))
      = attend (fun k => dot fq fk h (qb t.val * 1024 + r.val) (base t.val * 1024 + k))
          (fun k => va m c (ix2 (row (base t.val * 1024 + k)) (lane h l))) (len t.val * 1024) := by
  have hi := inv m ρ c fq fk hq hk t.val t.isLt h r
  rw [(last_iff t).1 q1] at hi
  have hl : 0 < len t.val * 1024 := by unfold len; split_ifs <;> omega
  exact (outC m ρ c t q0 q1 h r l).trans (hi.div hl 64 (fun k _ => hv _ h) l)
end

end Cert.Walk

end
-- ==== Proof.Out.lean ====
module

public import proofs.«01_k».proof.Proof.Walk

/-! What the pipeline leaves in the output array. -/

@[expose] public section

set_option maxRecDepth 16384

noncomputable section

namespace Cert.Walk

open Cert.KernelIdeal Cert.KernelIdeal.Gen
open Idealize.ShloMosaic Idealize.ShloMosaic.TcCoe Idealize.ShloMosaic.Tactic
open Cert.Body Cert.Online

/-- The first row of row `R`'s sequence. -/
def keys0 (R : ℕ) : ℕ := if R < 32768 then R / 8192 * 8192 else R / 2048 * 2048

/-- The length of row `R`'s sequence. -/
def keysN (R : ℕ) : ℕ := if R < 32768 then 8192 else 2048

theorem keys_eq (t : Fin (cfgA 0).N) (r : Fin 1024) :
    keys0 (qb t.val * 1024 + r.val) = base t.val * 1024 ∧ keysN (qb t.val * 1024 + r.val) = len t.val * 1024 := by
  have ht : t.val < 288 := t.isLt
  have hr := r.isLt
  unfold keys0 keysN qb base len
  split_ifs <;> omega

/-- The head a column belongs to. -/
def head (x : Fin 1024) : Fin 8 := ⟨x.val / 128, by have := x.isLt; omega⟩

theorem head_lane (h : Fin 8) (l : Fin 128) : head (lane h l) = h := by
  have := l.isLt
  refine Fin.ext ?_
  show (128 * h.val + l.val) / 128 = h.val
  omega

theorem lane_head (x : Fin 1024) : ∃ l : Fin 128, x = lane (head x) l :=
  ⟨⟨x.val % 128, Nat.mod_lt _ (by decide)⟩, Fin.ext (by show x.val = 128 * (x.val / 128) + x.val % 128; omega)⟩

/-- The attention of row `R` at column `x`. -/
def attention (fq fk : S49152x1024.Idx → ℝ) (v : S49152x1024.Idx → EReal) (R : Fin 49152) (x : Fin 1024) : EReal :=
  attend (fun k => dot fq fk (head x) R.val (keys0 R.val + k)) (fun k => v (ix2 (row (keys0 R.val + k)) x)) (keysN R.val)

variable (m : (ℓ : Loc nD τ sig) → Buf (Elt Ideal) ℓ) (ρ : Dev nD → PrngReg) (c : Dev nD)
  (fq fk : S49152x1024.Idx → ℝ) (hq : ∀ i, qa m c i = fq i) (hk : ∀ i, ka m c i = fk i)
  (hv : ∀ (n : ℕ) (h : Fin 8), va m c (ix2 (row n) (lane h 64)) = 1)

theorem flush_last (t : Fin (cfgA 0).N) (hf : ((cfgA 0).win (3 : Fin 4)).flush t = true) : ¬P0_0 0 t ∧ P0_1 0 t := by
  by_cases q0 : P0_0 0 t
  · exact absurd hf (by rw [(sched0_A 0 t q0).2.1]; decide)
  · by_cases q1 : P0_1 0 t
    · exact ⟨q0, q1⟩
    · exact absurd hf (by rw [(sched0_B 0 t q0 q1).2.1]; decide)

include hq hk hv in
theorem array_eq : (dats 0 m ρ 0 c).arrAt 3 (cfgA 0).N = fun i => attention fq fk (va m c) (i 0) (i 1) := by
  refine (dats 0 m ρ 0 c).arrAt_eq_of_covers 3 _ (by decide +kernel) fun t hf y => ?_
  obtain ⟨q0, q1⟩ := flush_last t hf
  blk_simp
  rw [after0_3]
  obtain ⟨r, x, rfl⟩ : ∃ (r x : Fin 1024), y = ix2 r x := ⟨y 0, y 1, eq_ix2 y⟩
  have e := idx3 t
  have hR : ((((cfgA 0).win 3).blk t).view.emb (ix2 r x) 0).val = qb t.val * 1024 + r.val := by
    blk_simp [e.1]
  have hX : (((cfgA 0).win 3).blk t).view.emb (ix2 r x) 1 = x := Fin.ext (by
    blk_simp [e.2])
  rw [hX]
  obtain ⟨l, hl⟩ := lane_head x
  generalize head x = h at hl
  subst hl
  unfold attention
  rw [hR, (keys_eq t r).1, (keys_eq t r).2, head_lane]
  exact block_eq m ρ c fq fk hq hk hv t q0 q1 h r l

end Cert.Walk

end
-- ==== Proof.Ref.lean ====
module

public import proofs.«01_k».proof.Proof.Online
public import proofs.«01_k».proof.Proof.Out
public import proofs.«01_k».proof.Proof.Gen.ReferenceIdeal
public import proofs.«01_k».proof.Proof.Gen.ReferenceIdeal.Run
public import Idealize.ShloMosaic.Lib.Pointwise
public import Idealize.ShloMosaic.Lib.IdealHost

/-! The reference's result, element by element: each group of sequences is the softmax attention of its rows. -/

@[expose] public section

set_option maxRecDepth 16384

noncomputable section

namespace Cert.Ref

open Cert.ReferenceIdeal Cert.ReferenceIdeal.Gen
open Idealize.ShloMosaic Idealize.ShloMosaic.TcCoe Idealize.ShloMosaic.Tactic
open Cert.Online Cert.Walk

/-- The factor that turns a power of two into an exponential. -/
def ln2 : FVec Ideal S_ .f32 := id (Host.log (constant S_ .f32 0x40000000#32))

theorem ln2_eq : ln2 ix0 = ((Real.log 2 : ℝ) : EReal) := by
  have e : Ideal.ofBits .f32 0x40000000#32 = ((2 : ℝ) : EReal) := by
    simp [Ideal.ofBits, Ideal.ieee, -EReal.coe_mul]
    norm_num
  show Ideal.log (Ideal.ofBits .f32 0x40000000#32) = _
  rw [e, Ideal.log_coe, if_neg (by norm_num)]

theorem row_val (n : ℕ) : (row n).val = n % 49152 := rfl

/-- The larger of two arrays, at an index. -/
theorem max_at {t : Shape} (y z : FVec Ideal t .f32) (j : t.Idx) : maximumf y z j = max (y j) (z j) := rfl

/-- A word spread over an array, at an index. -/
theorem spread_at {t : Shape} (w : BitVec 32) (h : S_.BroadcastsInDim t ![]) (j : t.Idx) :
    broadcastInDim t ![] h (constant (F := Ideal) S_ .f32 w) j = Ideal.ofBits .f32 w := rfl

theorem low_lt : Ideal.ofBits .f32 0xFF800000#32 < ⊤ := by simp [Ideal.ofBits, Ideal.ieee]

/-- The largest of a row of reals, over a bound that is not `⊤`, is a real. -/
theorem top_real {s t : Shape} {a : Fin s.rank} (h' : s.ReducesTo [a] t) (h : s.Reduces [a] t) (hn : 0 < s.size a) (hb : S_.BroadcastsInDim t ![])
    (x : FVec Ideal s .f32) (hx : ∀ i, ∃ r : ℝ, x i = (r : EReal)) (j : t.Idx) :
    ∃ r : ℝ, maximumf (broadcastInDim t ![] hb (constant (F := Ideal) S_ .f32 0xFF800000#32))
      (Host.reduce FloatOps.maximumf x (constant S_ .f32 0xFF800000#32) h' h_S_) j = (r : EReal) := by
  rw [max_at, spread_at]
  exact reduce_real h' h h_S_ hn x hx _ (fun _ => low_lt) _ low_lt j

variable (q k v : FVec Ideal S49152x1024 .bf16) (fq fk : S49152x1024.Idx → ℝ) (hq : ∀ i, q i = fq i) (hk : ∀ i, k i = fk i)

/-! The prompts: four sequences of 8192 tokens. -/

/-- Their rows of an array, by sequence, position, head and lane. -/
def promptPart (x : FVec Ideal S49152x1024 .bf16) : FVec Ideal S4x8192x8x128 .bf16 :=
  shapeCast _ (extractStridedSlice S32768x1024 ![0, 0] x slices_S49152x1024_S32768x1024_0_0) shapeCasts_S32768x1024_S4x8192x8x128

/-- The scaled scores. -/
def promptScores (x y : FVec Ideal S4x8192x8x128 .bf16) : FVec Ideal S4x8x8192x8192 .f32 :=
  mulf (Host.dotGeneral dot_S4x8192x8x128_S4x8192x8x128_S4x8x8192x8192_3_3_1_1_02_02 none x y) (broadcastInDim S4x8x8192x8192 ![] bcast_S_S4x8x8192x8192 ln2)

/-- Each row's largest score. -/
def promptTop (s : FVec Ideal S4x8x8192x8192 .f32) : FVec Ideal S4x8x8192 .f32 :=
  maximumf (broadcastInDim S4x8x8192 ![] bcast_S_S4x8x8192 (constant S_ .f32 0xFF800000#32))
    (Host.reduce FloatOps.maximumf s (constant S_ .f32 0xFF800000#32) reducesTo_S4x8x8192x8192_S4x8x8192_d3 h_S_)

/-- A row's value, spread over the keys. -/
def promptSpread (x : FVec Ideal S4x8x8192 .f32) : FVec Ideal S4x8x8192x8192 .f32 :=
  broadcastInDim S4x8x8192x8192 ![0, 1, 2, 3] bcast_S4x8x8192x1_S4x8x8192x8192_0_1_2_3 (broadcastInDim S4x8x8192x1 ![0, 1, 2] bcast_S4x8x8192_S4x8x8192x1_0_1_2 x)

/-- The exponentials of the scores below their row's largest. -/
def promptExps (s : FVec Ideal S4x8x8192x8192 .f32) (x : FVec Ideal S4x8x8192 .f32) : FVec Ideal S4x8x8192x8192 .f32 := Host.exp (subf s (promptSpread x))

/-- The exponentials over their row's sum. -/
def promptWeights (e : FVec Ideal S4x8x8192x8192 .f32) : FVec Ideal S4x8x8192x8192 .f32 :=
  Host.divf e (promptSpread (Host.reduceAdd e (constant S_ .f32 0x00000000#32) reducesTo_S4x8x8192x8192_S4x8x8192_d3 h_S_))

/-- The weighted values, by row and column. -/
def promptMix (y : FVec Ideal S4x8192x8x128 .bf16) (w : FVec Ideal S4x8x8192x8192 .f32) : FVec Ideal S32768x1024 .f32 :=
  shapeCast _ (transpose S4x8192x8x128 [0, 3, 1, 2] (Host.dotGeneral dot_S4x8192x8x128_S4x8x8192x8192_S4x8x128x8192_1_3_3_2_02_01 none (extf .f32 y bitsLt_bf16_f32) w)
    transposes_S4x8x128x8192_S4x8192x8x128_0_3_1_2) shapeCasts_S4x8192x8x128_S32768x1024

/-- Their attention. -/
def prompt : FVec Ideal S32768x1024 .f32 :=
  promptMix (promptPart v) (promptWeights (promptExps (promptScores (promptPart q) (promptPart k)) (promptTop (promptScores (promptPart q) (promptPart k)))))

theorem promptPart_at (x : FVec Ideal S49152x1024 .bf16) (b : Fin 4) (r : Fin 8192) (h : Fin 8) (l : Fin 128) :
    promptPart x (ix4 b r h l) = x (ix2 (row (b.val * 8192 + r.val + 0)) (Body.lane h l)) := by
  pointwise [promptPart]
  refine congrArg x (congrArg₂ ix2 (Fin.ext ?_) (Fin.ext ?_))
  · rw [row_val]
    have := b.isLt
    have := r.isLt
    dsimp only
    omega
  · show _ = 128 * h.val + l.val
    dsimp only
    omega

theorem promptScores_at (x y : FVec Ideal S4x8192x8x128 .bf16) (b : Fin 4) (h : Fin 8) (r t : Fin 8192) :
    promptScores x y (ix4 b h r t) = (∑ d : Fin 128, x (ix4 b r h d) * y (ix4 b t h d)) * ((Real.log 2 : ℝ) : EReal) := by
  pointwise [promptScores]
  rw [ln2_eq]

theorem promptExps_at (s : FVec Ideal S4x8x8192x8192 .f32) (x : FVec Ideal S4x8x8192 .f32) (b : Fin 4) (h : Fin 8) (r t : Fin 8192) :
    promptExps s x (ix4 b h r t) = Ideal.exp (s (ix4 b h r t) - x (ix3 b h r)) := by
  pointwise [promptExps, promptSpread]

theorem promptWeights_at (e : FVec Ideal S4x8x8192x8192 .f32) (b : Fin 4) (h : Fin 8) (r t : Fin 8192) :
    promptWeights e (ix4 b h r t) = Ideal.div (e (ix4 b h r t)) (∑ u, e (ix4 b h r u)) := by
  pointwise [promptWeights, promptSpread]

theorem promptMix_at (y : FVec Ideal S4x8192x8x128 .bf16) (w : FVec Ideal S4x8x8192x8192 .f32) (R : Fin 32768) (x : Fin 1024) (b : Fin 4) (r : Fin 8192) (h : Fin 8)
    (l : Fin 128) (hR : R.val = b.val * 8192 + r.val) (hx : x = Body.lane h l) :
    promptMix y w (ix2 R x) = ∑ t, y (ix4 b t h l) * w (ix4 b h r t) := by
  have e1 : R.val / 8192 = b.val := by have := r.isLt; omega
  have e2 : R.val % 8192 = r.val := by have := r.isLt; omega
  have e3 : x.val / 128 = h.val := by have := l.isLt; rw [hx]; show (128 * h.val + l.val) / 128 = _; omega
  have e4 : x.val % 128 = l.val := by have := l.isLt; rw [hx]; show (128 * h.val + l.val) % 128 = _; omega
  pointwise [promptMix]
  simp only [e1, e2, e3, e4]

include hq hk in
theorem promptScores_real (b : Fin 4) (h : Fin 8) (r t : Fin 8192) :
    promptScores (promptPart q) (promptPart k) (ix4 b h r t)
      = (dot fq fk h (b.val * 8192 + r.val + 0) (b.val * 8192 + t.val + 0) : EReal) * ((Real.log 2 : ℝ) : EReal) := by
  rw [promptScores_at, dot, coe_sum]
  refine congrArg (· * _) (Finset.sum_congr rfl fun d _ => ?_)
  rw [promptPart_at, promptPart_at, hq, hk, EReal.coe_mul]

theorem promptTop_real (s : FVec Ideal S4x8x8192x8192 .f32) (hs : ∀ i, ∃ r : ℝ, s i = (r : EReal)) (j : S4x8x8192.Idx) : ∃ r : ℝ, promptTop s j = (r : EReal) := by
  unfold promptTop
  exact top_real _ (by decide) (by decide) _ s hs j

include hq hk in
theorem prompt_at (R : Fin 32768) (x : Fin 1024) (h : R.val + 0 < 49152) :
    prompt q k v (ix2 R x) = attention fq fk v ⟨R.val + 0, h⟩ x := by
  obtain ⟨l, hl⟩ := lane_head x
  have hb : R.val / 8192 < 4 := by have := R.isLt; omega
  have hr : R.val % 8192 < 8192 := Nat.mod_lt _ (by decide)
  have hR : R.val = R.val / 8192 * 8192 + R.val % 8192 := by omega
  have hs := promptScores_real q k fq fk hq hk
  have h0 : keys0 (R.val + 0) = R.val / 8192 * 8192 + 0 := by have := R.isLt; unfold keys0; split_ifs <;> omega
  have hn : keysN (R.val + 0) = 8192 := by have := R.isLt; unfold keysN; split_ifs <;> omega
  unfold attention
  dsimp only
  rw [h0, hn]
  refine (promptMix_at _ _ R x ⟨_, hb⟩ ⟨_, hr⟩ (head x) l hR hl).trans ?_
  simp only [promptWeights_at, promptExps_at]
  refine softmax_fin _ _ 8192 (by decide) _ (promptTop_real _ (fun i => ?_) _) _ (fun t => ?_) _ fun t => ?_
  · obtain ⟨b, h, r, t, rfl⟩ : ∃ b h r t, i = ix4 b h r t := ⟨_, _, _, _, eq_ix4 i⟩
    rw [hs, ← EReal.coe_mul]
    exact ⟨_, rfl⟩
  · rw [hs]
    dsimp only
    rw [← hR, Nat.add_right_comm]
  · rw [promptPart_at, ← hl]
    dsimp only
    rw [Nat.add_right_comm]

/-! The samples: eight sequences of 2048 tokens. -/

/-- Their rows of an array, by sequence, position, head and lane. -/
def samplePart (x : FVec Ideal S49152x1024 .bf16) : FVec Ideal S8x2048x8x128 .bf16 :=
  shapeCast _ (extractStridedSlice S16384x1024 ![32768, 0] x slices_S49152x1024_S16384x1024_32768_0) shapeCasts_S16384x1024_S8x2048x8x128

/-- The scaled scores. -/
def sampleScores (x y : FVec Ideal S8x2048x8x128 .bf16) : FVec Ideal S8x8x2048x2048 .f32 :=
  mulf (Host.dotGeneral dot_S8x2048x8x128_S8x2048x8x128_S8x8x2048x2048_3_3_1_1_02_02 none x y) (broadcastInDim S8x8x2048x2048 ![] bcast_S_S8x8x2048x2048 ln2)

/-- Each row's largest score. -/
def sampleTop (s : FVec Ideal S8x8x2048x2048 .f32) : FVec Ideal S8x8x2048 .f32 :=
  maximumf (broadcastInDim S8x8x2048 ![] bcast_S_S8x8x2048 (constant S_ .f32 0xFF800000#32))
    (Host.reduce FloatOps.maximumf s (constant S_ .f32 0xFF800000#32) reducesTo_S8x8x2048x2048_S8x8x2048_d3 h_S_)

/-- A row's value, spread over the keys. -/
def sampleSpread (x : FVec Ideal S8x8x2048 .f32) : FVec Ideal S8x8x2048x2048 .f32 :=
  broadcastInDim S8x8x2048x2048 ![0, 1, 2, 3] bcast_S8x8x2048x1_S8x8x2048x2048_0_1_2_3 (broadcastInDim S8x8x2048x1 ![0, 1, 2] bcast_S8x8x2048_S8x8x2048x1_0_1_2 x)

/-- The exponentials of the scores below their row's largest. -/
def sampleExps (s : FVec Ideal S8x8x2048x2048 .f32) (x : FVec Ideal S8x8x2048 .f32) : FVec Ideal S8x8x2048x2048 .f32 := Host.exp (subf s (sampleSpread x))

/-- The exponentials over their row's sum. -/
def sampleWeights (e : FVec Ideal S8x8x2048x2048 .f32) : FVec Ideal S8x8x2048x2048 .f32 :=
  Host.divf e (sampleSpread (Host.reduceAdd e (constant S_ .f32 0x00000000#32) reducesTo_S8x8x2048x2048_S8x8x2048_d3 h_S_))

/-- The weighted values, by row and column. -/
def sampleMix (y : FVec Ideal S8x2048x8x128 .bf16) (w : FVec Ideal S8x8x2048x2048 .f32) : FVec Ideal S16384x1024 .f32 :=
  shapeCast _ (transpose S8x2048x8x128 [0, 3, 1, 2] (Host.dotGeneral dot_S8x2048x8x128_S8x8x2048x2048_S8x8x128x2048_1_3_3_2_02_01 none (extf .f32 y bitsLt_bf16_f32) w)
    transposes_S8x8x128x2048_S8x2048x8x128_0_3_1_2) shapeCasts_S8x2048x8x128_S16384x1024

/-- Their attention. -/
def sample : FVec Ideal S16384x1024 .f32 :=
  sampleMix (samplePart v) (sampleWeights (sampleExps (sampleScores (samplePart q) (samplePart k)) (sampleTop (sampleScores (samplePart q) (samplePart k)))))

theorem samplePart_at (x : FVec Ideal S49152x1024 .bf16) (b : Fin 8) (r : Fin 2048) (h : Fin 8) (l : Fin 128) :
    samplePart x (ix4 b r h l) = x (ix2 (row (b.val * 2048 + r.val + 32768)) (Body.lane h l)) := by
  pointwise [samplePart]
  refine congrArg x (congrArg₂ ix2 (Fin.ext ?_) (Fin.ext ?_))
  · rw [row_val]
    have := b.isLt
    have := r.isLt
    dsimp only
    omega
  · show _ = 128 * h.val + l.val
    dsimp only
    omega

theorem sampleScores_at (x y : FVec Ideal S8x2048x8x128 .bf16) (b : Fin 8) (h : Fin 8) (r t : Fin 2048) :
    sampleScores x y (ix4 b h r t) = (∑ d : Fin 128, x (ix4 b r h d) * y (ix4 b t h d)) * ((Real.log 2 : ℝ) : EReal) := by
  pointwise [sampleScores]
  rw [ln2_eq]

theorem sampleExps_at (s : FVec Ideal S8x8x2048x2048 .f32) (x : FVec Ideal S8x8x2048 .f32) (b : Fin 8) (h : Fin 8) (r t : Fin 2048) :
    sampleExps s x (ix4 b h r t) = Ideal.exp (s (ix4 b h r t) - x (ix3 b h r)) := by
  pointwise [sampleExps, sampleSpread]

theorem sampleWeights_at (e : FVec Ideal S8x8x2048x2048 .f32) (b : Fin 8) (h : Fin 8) (r t : Fin 2048) :
    sampleWeights e (ix4 b h r t) = Ideal.div (e (ix4 b h r t)) (∑ u, e (ix4 b h r u)) := by
  pointwise [sampleWeights, sampleSpread]

theorem sampleMix_at (y : FVec Ideal S8x2048x8x128 .bf16) (w : FVec Ideal S8x8x2048x2048 .f32) (R : Fin 16384) (x : Fin 1024) (b : Fin 8) (r : Fin 2048) (h : Fin 8)
    (l : Fin 128) (hR : R.val = b.val * 2048 + r.val) (hx : x = Body.lane h l) :
    sampleMix y w (ix2 R x) = ∑ t, y (ix4 b t h l) * w (ix4 b h r t) := by
  have e1 : R.val / 2048 = b.val := by have := r.isLt; omega
  have e2 : R.val % 2048 = r.val := by have := r.isLt; omega
  have e3 : x.val / 128 = h.val := by have := l.isLt; rw [hx]; show (128 * h.val + l.val) / 128 = _; omega
  have e4 : x.val % 128 = l.val := by have := l.isLt; rw [hx]; show (128 * h.val + l.val) % 128 = _; omega
  pointwise [sampleMix]
  simp only [e1, e2, e3, e4]

include hq hk in
theorem sampleScores_real (b : Fin 8) (h : Fin 8) (r t : Fin 2048) :
    sampleScores (samplePart q) (samplePart k) (ix4 b h r t)
      = (dot fq fk h (b.val * 2048 + r.val + 32768) (b.val * 2048 + t.val + 32768) : EReal) * ((Real.log 2 : ℝ) : EReal) := by
  rw [sampleScores_at, dot, coe_sum]
  refine congrArg (· * _) (Finset.sum_congr rfl fun d _ => ?_)
  rw [samplePart_at, samplePart_at, hq, hk, EReal.coe_mul]

theorem sampleTop_real (s : FVec Ideal S8x8x2048x2048 .f32) (hs : ∀ i, ∃ r : ℝ, s i = (r : EReal)) (j : S8x8x2048.Idx) : ∃ r : ℝ, sampleTop s j = (r : EReal) := by
  unfold sampleTop
  exact top_real _ (by decide) (by decide) _ s hs j

include hq hk in
theorem sample_at (R : Fin 16384) (x : Fin 1024) (h : R.val + 32768 < 49152) :
    sample q k v (ix2 R x) = attention fq fk v ⟨R.val + 32768, h⟩ x := by
  obtain ⟨l, hl⟩ := lane_head x
  have hb : R.val / 2048 < 8 := by have := R.isLt; omega
  have hr : R.val % 2048 < 2048 := Nat.mod_lt _ (by decide)
  have hR : R.val = R.val / 2048 * 2048 + R.val % 2048 := by omega
  have hs := sampleScores_real q k fq fk hq hk
  have h0 : keys0 (R.val + 32768) = R.val / 2048 * 2048 + 32768 := by have := R.isLt; unfold keys0; split_ifs <;> omega
  have hn : keysN (R.val + 32768) = 2048 := by have := R.isLt; unfold keysN; split_ifs <;> omega
  unfold attention
  dsimp only
  rw [h0, hn]
  refine (sampleMix_at _ _ R x ⟨_, hb⟩ ⟨_, hr⟩ (head x) l hR hl).trans ?_
  simp only [sampleWeights_at, sampleExps_at]
  refine softmax_fin _ _ 2048 (by decide) _ (sampleTop_real _ (fun i => ?_) _) _ (fun t => ?_) _ fun t => ?_
  · obtain ⟨b, h, r, t, rfl⟩ : ∃ b h r t, i = ix4 b h r t := ⟨_, _, _, _, eq_ix4 i⟩
    rw [hs, ← EReal.coe_mul]
    exact ⟨_, rfl⟩
  · rw [hs]
    dsimp only
    rw [← hR, Nat.add_right_comm]
  · rw [samplePart_at, ← hl]
    dsimp only
    rw [Nat.add_right_comm]

/-- The two groups one after the other. -/
def joined (y : FVec Ideal S32768x1024 .f32) (z : FVec Ideal S16384x1024 .f32) : FVec Ideal S49152x1024 .bf16 :=
  truncf .bf16 (concatenate S49152x1024 0 [⟨S32768x1024, y⟩, ⟨S16384x1024, z⟩] concatenates_S32768x1024_S16384x1024_S49152x1024_d0) bitsLt_bf16_f32

theorem joined_at (y : FVec Ideal S32768x1024 .f32) (z : FVec Ideal S16384x1024 .f32) (R : Fin 49152) (x : Fin 1024) :
    joined y z (ix2 R x) = if h : R.val < 32768 then y (ix2 ⟨R.val, h⟩ x) else z (ix2 ⟨R.val - 32768, by have := R.isLt; omega⟩ x) := by
  pointwise [joined]

include hq hk in
theorem joined_eq : joined (prompt q k v) (sample q k v) = fun i => attention fq fk v (i 0) (i 1) := by
  funext i
  obtain ⟨R, x, rfl⟩ : ∃ R x, i = ix2 R x := ⟨_, _, eq_ix2 i⟩
  show _ = attention fq fk v R x
  rw [joined_at]
  split_ifs with h
  · exact prompt_at q k v fq fk hq hk _ _ (by show _ + 0 < _; omega)
  · refine (sample_at q k v fq fk hq hk _ _ (by dsimp only; have := R.isLt; omega)).trans ?_
    exact congrArg (fun R : Fin 49152 => attention fq fk v R x) (Fin.ext (by dsimp only; omega))

theorem result_eq (m : (ℓ : Loc nD τ sig) → Buf (Elt Ideal) ℓ) (c : Dev nD) :
    Value.res_main_v53 m c = joined
      (prompt (m ((c.tc : Thread nD τ).loc main_arg4)) (m ((c.tc : Thread nD τ).loc main_arg5)) (m ((c.tc : Thread nD τ).loc main_arg6)))
      (sample (m ((c.tc : Thread nD τ).loc main_arg4)) (m ((c.tc : Thread nD τ).loc main_arg5)) (m ((c.tc : Thread nD τ).loc main_arg6))) := rfl

end Cert.Ref

end
-- ==== Proof.Whole.lean ====
module

public import proofs.«01_k».proof.Defs
public import proofs.«01_k».proof.Proof.Ref
public import proofs.«01_k».proof.Proof.Tables
public import Idealize.ShloMosaic.Adequacy
public import Idealize.ShloMosaic.Init
public import Idealize.ShloMosaic.Lib.Claim
public import Idealize.ShloMosaic.Lib.IdealHost

/-! From the precondition to the equality of the two programs' results. -/

@[expose] public section

set_option maxRecDepth 16384

noncomputable section

namespace Cert.Whole

open Idealize.ShloMosaic Idealize.ShloMosaic.TcCoe Idealize.SL.Sem

/-- A value strictly between the two infinities is a real. -/
theorem real_of_finite (x : Ideal .bf16) (h1 : FloatOps.cmpf .olt x (FloatOps.ofBits .bf16 0x7F80#16) = 1#1)
    (h2 : FloatOps.cmpf .ogt x (FloatOps.ofBits .bf16 0xFF80#16) = 1#1) : x = ((EReal.toReal x : ℝ) : EReal) := by
  have t : (FloatOps.ofBits .bf16 0x7F80#16 : Ideal .bf16) = (⊤ : EReal) := by
    show Ideal.ofBits .bf16 0x7F80#16 = _
    simp [Ideal.ofBits, Ideal.ieee]
  have b : (FloatOps.ofBits .bf16 0xFF80#16 : Ideal .bf16) = (⊥ : EReal) := by
    show Ideal.ofBits .bf16 0xFF80#16 = _
    simp [Ideal.ofBits, Ideal.ieee]
  rw [t, Ideal.cmpf_def] at h1
  rw [b, Ideal.cmpf_def] at h2
  refine (EReal.coe_toReal (fun e => ?_) (fun e => ?_)).symm
  · rw [e] at h1
    simp [Ideal.cmp] at h1
  · rw [e] at h2
    simp [Ideal.cmp] at h2

theorem one_of_eq (x : Ideal .bf16) (h : FloatOps.cmpf .oeq x (FloatOps.ofBits .bf16 0x3F80#16) = 1#1) : x = (1 : EReal) := by
  have o : (FloatOps.ofBits .bf16 0x3F80#16 : Ideal .bf16) = (1 : EReal) := Ideal.ofBits_one_bf16
  rw [o, Ideal.cmpf_def] at h
  by_contra n
  have e : (decide (x = (1 : EReal))) = false := decide_eq_false n
  simp only [Ideal.cmp, e] at h
  exact absurd h (by decide)

theorem lane_and (h : Fin 8) : IntOp.andi (BitVec.ofNat 32 (Body.lane h 64).val) 127#32 = 64#32 := by
  revert h
  decide

section
variable (m : (ℓ : Loc Cert.KernelIdeal.nD Cert.KernelIdeal.τ Cert.KernelIdeal.sig) → Buf (Elt Ideal) ℓ)
  (h : haveI := Cert.Pre_prepared.Gen.facts; Cert.Pre_KernelIdeal_prepared m) (c : Dev Cert.KernelIdeal.nD)

/-- The queries as reals. -/
def realq : Cert.KernelIdeal.S49152x1024.Idx → ℝ := fun i => EReal.toReal (Walk.qa m c i)

/-- The keys as reals. -/
def realk : Cert.KernelIdeal.S49152x1024.Idx → ℝ := fun i => EReal.toReal (Walk.ka m c i)

include h

theorem q_real (i : Cert.KernelIdeal.S49152x1024.Idx) : Walk.qa m c i = realq m c i := by
  obtain ⟨r, l, rfl⟩ : ∃ r l, i = ix2 r l := ⟨_, _, eq_ix2 i⟩
  have e := (Cert.Tables.prepared _ _ _ _ _ _ _ (h c)).2 r l
  exact real_of_finite _ e.1 e.2.1

theorem k_real (i : Cert.KernelIdeal.S49152x1024.Idx) : Walk.ka m c i = realk m c i := by
  obtain ⟨r, l, rfl⟩ : ∃ r l, i = ix2 r l := ⟨_, _, eq_ix2 i⟩
  have e := (Cert.Tables.prepared _ _ _ _ _ _ _ (h c)).2 r l
  exact real_of_finite _ e.2.2.1 e.2.2.2.1

theorem v_one (n : ℕ) (d : Fin 8) : Walk.va m c (ix2 (Walk.row n) (Body.lane d 64)) = (1 : EReal) := by
  have e := ((Cert.Tables.prepared _ _ _ _ _ _ _ (h c)).2 (Walk.row n) (Body.lane d 64)).2.2.2.2
  exact one_of_eq _ (e.resolve_left fun x => x (lane_and d))

end

/-- The two programs' results are equal. -/
theorem equal : haveI := Cert.KernelIdeal.Gen.facts; haveI := Cert.ReferenceIdeal.Gen.facts; haveI := Cert.Pre_prepared.Gen.facts
    Cert.algebraic_KernelIdeal_ReferenceIdeal_pre_prepared := by
  intro m g m' g' h he
  refine ⟨fun c => fun i => Walk.attention (realq m c) (realk m c) (Walk.va m c) (i 0) (i 1), ?_, ?_⟩
  · have hp := Cert.Tables.pinned_prepared m h
    refine (θ_run _ _ _).mono (fun r hr c => ⟨?_, hr.2 c⟩)
      (θ_run_and (Cert.KernelIdeal.Gen.run_main 0 m g hp) (Cert.KernelIdeal.Gen.unchanged 0 m g hp))
    exact ((hr.1 c).1 3).trans (Walk.array_eq m g c (realq m c) (realk m c) (q_real m h c) (k_real m h c) (v_one m h c))
  · refine (θ_run _ _ _).mono (fun r hr c => ⟨?_, (hr c).2⟩) (Cert.ReferenceIdeal.Value.run m' g')
    obtain ⟨-, -, -, -, eq, ek, ev⟩ := he c
    refine (hr c).1.trans ((Ref.result_eq m' c).trans ?_)
    rw [eq, ek, ev]
    exact Ref.joined_eq _ _ _ _ _ (q_real m h c) (k_real m h c)

end Cert.Whole

end
-- ==== Proof.Tiles.lean ====
module

public import proofs.«01_k».proof.Defs
public import proofs.«01_k».proof.Proof.Gen.Pre_tiles
public import proofs.«01_k».proof.Proof.Gen.Premix.Flash.Pins
public import proofs.«01_k».proof.Proof.Gen.PremixIdeal.Flash.Pins
public import Idealize.ShloMosaic.Lib.Pointwise
public import Idealize.ShloMosaic.Lib.ReduceAll
public import Idealize.ShloMosaic.Lib.Affine

/-! The second call's precondition read back: its two tables hold the sequence and the position of every row tile. -/

@[expose] public section

set_option maxRecDepth 16384

noncomputable section

namespace Cert.Tiles

open Idealize.ShloMosaic Idealize.ShloMosaic.TcCoe Idealize.SL.Sem

/-- The sequence of tile `n`, as the predicate computes it. -/
def wseq (n : ℕ) : BitVec 32 :=
  Scalar.select (IntOp.cmpi .slt (BitVec.ofNat 32 n) 128#32) (IntOp.shrsi ArithUnit.host (BitVec.ofNat 32 n) 5#32)
    (IntOp.subi (IntOp.shrsi ArithUnit.host (BitVec.ofNat 32 n) 3#32) 12#32)

/-- The position of tile `n` in its sequence. -/
def wpos (n : ℕ) : BitVec 32 :=
  Scalar.select (IntOp.cmpi .slt (BitVec.ofNat 32 n) 128#32) (IntOp.andi (BitVec.ofNat 32 n) 31#32) (IntOp.andi (BitVec.ofNat 32 n) 7#32)

instance : Subsingleton Cert.Pre_tiles.S_.Idx := ⟨fun _ _ => funext fun a => absurd a.isLt (by simp)⟩

open Cert.Pre_tiles in
theorem words {F : FTy → Type} [FloatOps F] (a0 a1 : IVec S192 32) (x : FVec F S49152x1024 .f32) (md : FVec F S16x6144 .f32)
    (g : FVec F S1x1024 .f32) (w : FVec F S1024x4224 .bf16) (gq : FVec F S1x256 .f32) (wuq : FVec F S256x2048 .bf16)
    (gkv : FVec F S1x128 .f32) (wukv : FVec F S128x2048 .bf16) (rc rs : FVec F S8192x128 .f32) (vo : FVec F S1x1024 .f32)
    (h : haveI := Cert.Pre_tiles.Gen.facts; Cert.Pre_tiles.fn a0 a1 x md g w gq wuq gkv wukv rc rs vo = fun _ => 1#1) (n : Fin 192) :
    a0 (ix1 n) = wseq n ∧ a1 (ix1 n) = wpos n := by
  have h1 := congrFun h (Shape.Idx.first (by decide))
  simp only [Cert.Pre_tiles.fn, Cert.Pre_tiles.fn_where] at h1
  have h2 := Host.reduce_andi_all _ _ _ _ _ h1 (ix1 n)
  pointwise at h2
  simp only [IntOp.andi_eq_one, IntOp.cmpi_eq] at h2
  exact h2

/-- The listed words are the computed ones (`Premix`). -/
theorem pin_kernel : ∀ n : Fin 192, Cert.Premix.Gen.pinT_0 0 (ix1 n) = wseq n ∧ Cert.Premix.Gen.pinT_1 0 (ix1 n) = wpos n := by decide +kernel

/-- The listed words are the computed ones (`PremixIdeal`). -/
theorem pin_ideal : ∀ n : Fin 192, Cert.PremixIdeal.Gen.pinT_0 0 (ix1 n) = wseq n ∧ Cert.PremixIdeal.Gen.pinT_1 0 (ix1 n) = wpos n := by
  decide +kernel

theorem pinned_kernel (m : (ℓ : Loc Cert.Premix.nD Cert.Premix.τ Cert.Premix.sig) → Buf (Elt Bits) ℓ)
    (h : haveI := Cert.Pre_tiles.Gen.facts; Cert.Pre_Premix m) : Cert.Premix.Gen.Pinned 0 m := by
  have hw := fun c => words _ _ _ _ _ _ _ _ _ _ _ _ _ (h c)
  refine ⟨fun c => funext fun x => ?_, fun c => funext fun x => ?_⟩ <;> obtain ⟨n, rfl⟩ : ∃ n : Fin 192, x = ix1 n := ⟨x 0, eq_ix1 x⟩
  · exact (hw c n).1.trans (pin_kernel n).1.symm
  · exact (hw c n).2.trans (pin_kernel n).2.symm

theorem pinned_ideal (m : (ℓ : Loc Cert.PremixIdeal.nD Cert.PremixIdeal.τ Cert.PremixIdeal.sig) → Buf (Elt Ideal) ℓ)
    (h : haveI := Cert.Pre_tiles.Gen.facts; Cert.Pre_PremixIdeal m) : Cert.PremixIdeal.Gen.Pinned 0 m := by
  have hw := fun c => words _ _ _ _ _ _ _ _ _ _ _ _ _ (h c)
  refine ⟨fun c => funext fun x => ?_, fun c => funext fun x => ?_⟩ <;> obtain ⟨n, rfl⟩ : ∃ n : Fin 192, x = ix1 n := ⟨x 0, eq_ix1 x⟩
  · exact (hw c n).1.trans (pin_ideal n).1.symm
  · exact (hw c n).2.trans (pin_ideal n).2.symm

end Cert.Tiles

end
-- ==== Proof.Rows.lean ====
module

public import Idealize.ShloMosaic.PureOps.Ideal
public import Idealize.ShloMosaic.Lib.Pointwise

/-! The projections of one token, written over functions of plain indices: what both programs of the second call
    compute row by row. -/

@[expose] public section

noncomputable section

namespace Cert.Rows

open Idealize.ShloMosaic

/-- A row divided by the root of its mean square (the mean over `N`), times a gain. -/
def normed {n : ℕ} (N : BitVec 32) (f g : Fin n → EReal) (k : Fin n) : EReal :=
  f k * Ideal.rsqrt (Ideal.div (∑ j, f j * f j) (Ideal.ofBits .f32 N) + Ideal.ofBits .f32 0x358637BD#32) * g k

/-- What one token's projections are computed from. -/
structure Token where
  /-- the token -/
  x : Fin 1024 → EReal
  /-- the norm's gain -/
  g : Fin 1024 → EReal
  /-- the sequence's shift -/
  sh : Fin 1024 → EReal
  /-- the sequence's scale -/
  sc : Fin 1024 → EReal
  /-- the first projection -/
  w : Fin 1024 → Fin 4224 → EReal
  /-- the gain of the query latent's norm -/
  gq : Fin 256 → EReal
  /-- the query projection -/
  wq : Fin 256 → Fin 2048 → EReal
  /-- the gain of the key-value latent's norm -/
  gk : Fin 128 → EReal
  /-- the key-value projection -/
  wk : Fin 128 → Fin 2048 → EReal
  /-- the rotary cosines at the token's position -/
  rc : Fin 128 → EReal
  /-- the rotary sines at the token's position -/
  rs : Fin 128 → EReal
  /-- what is added to the values -/
  vo : Fin 1024 → EReal

namespace Token

variable (a : Token)

/-- The modulated token. -/
def hid (k : Fin 1024) : EReal := normed 0x44800000#32 a.x a.g k * (1 + a.sc k) + a.sh k

/-- Its first projection. -/
def proj (c : Fin 4224) : EReal := ∑ k, a.hid k * a.w k c

/-- The query latent. -/
def cq (k : Fin 256) : EReal := a.proj ⟨1536 + k.val, by omega⟩

/-- The key-value latent. -/
def ck (k : Fin 128) : EReal := a.proj ⟨1792 + k.val, by omega⟩

/-- The projected query latent. -/
def qa (c : Fin 2048) : EReal := ∑ k, normed 0x43800000#32 a.cq a.gq k * a.wq k c

/-- The projected key-value latent. -/
def kv (c : Fin 2048) : EReal := ∑ k, normed 0x43000000#32 a.ck a.gk k * a.wk k c

/-- The rotated part the key heads share. -/
def kr (l : Fin 128) : EReal := a.proj ⟨1920 + l.val, by omega⟩ * a.rc l + a.proj ⟨2048 + l.val, by omega⟩ * a.rs l

/-- The queries of head `h`, unscaled. -/
def qh (h : Fin 8) (l : Fin 128) : EReal :=
  a.qa ⟨128 * h.val + l.val, by omega⟩ * a.rc l + a.qa ⟨1024 + 128 * h.val + l.val, by omega⟩ * a.rs l

/-- The keys of head `h`. -/
def kh (h : Fin 8) (l : Fin 128) : EReal := a.kv ⟨128 * h.val + l.val, by omega⟩ + a.kr l

/-- The values. -/
def v (c : Fin 1024) : EReal := a.kv ⟨1024 + c.val, by omega⟩ + a.vo c

/-- The gate. -/
def gate (c : Fin 2048) : EReal := Ideal.logistic (a.proj ⟨2176 + c.val, by omega⟩)

/-- The neighbourhood queries. -/
def qn (c : Fin 512) : EReal := a.proj ⟨0 + c.val, by omega⟩

/-- The neighbourhood keys. -/
def kn (c : Fin 512) : EReal := a.proj ⟨512 + c.val, by omega⟩

/-- The neighbourhood values. -/
def vn (c : Fin 512) : EReal := a.proj ⟨1024 + c.val, by omega⟩

/-- The queries, scaled. -/
def q (s : EReal) (c : Fin 1024) : EReal := a.qh ⟨c.val / 128, by omega⟩ ⟨c.val % 128, Nat.mod_lt _ (by decide)⟩ * s

/-- The keys. -/
def k (c : Fin 1024) : EReal := a.kh ⟨c.val / 128, by omega⟩ ⟨c.val % 128, Nat.mod_lt _ (by decide)⟩

end Token

/-- The sequence of row `R`: four prompts of 8192 rows, then eight samples of 2048. -/
def seqOf (R : Fin 49152) : Fin 16 := ⟨if R.val < 32768 then R.val / 8192 else 4 + (R.val - 32768) / 2048, by split_ifs <;> omega⟩

/-- The position of row `R` in its sequence. -/
def posOf (R : Fin 49152) : Fin 8192 := ⟨if R.val < 32768 then R.val % 8192 else (R.val - 32768) % 2048, by split_ifs <;> omega⟩

/-- The token of row `R`, of the call's arguments. -/
def tokenAt (x : Shape.Idx ⟨2, ![49152, 1024]⟩ → EReal) (md : Shape.Idx ⟨2, ![16, 6144]⟩ → EReal) (g : Shape.Idx ⟨2, ![1, 1024]⟩ → EReal)
    (w : Shape.Idx ⟨2, ![1024, 4224]⟩ → EReal) (gq : Shape.Idx ⟨2, ![1, 256]⟩ → EReal) (wq : Shape.Idx ⟨2, ![256, 2048]⟩ → EReal)
    (gk : Shape.Idx ⟨2, ![1, 128]⟩ → EReal) (wk : Shape.Idx ⟨2, ![128, 2048]⟩ → EReal) (rc rs : Shape.Idx ⟨2, ![8192, 128]⟩ → EReal)
    (vo : Shape.Idx ⟨2, ![1, 1024]⟩ → EReal) (R : Fin 49152) : Token where
  x k := x (ix2 R k)
  g k := g (ix2 0 k)
  sh k := md (ix2 (seqOf R) ⟨0 + k.val, by omega⟩)
  sc k := md (ix2 (seqOf R) ⟨1024 + k.val, by omega⟩)
  w k j := w (ix2 k j)
  gq k := gq (ix2 0 k)
  wq k j := wq (ix2 k j)
  gk k := gk (ix2 0 k)
  wk k j := wk (ix2 k j)
  rc l := rc (ix2 (posOf R) l)
  rs l := rs (ix2 (posOf R) l)
  vo k := vo (ix2 0 k)

end Cert.Rows

end
-- ==== Proof.Blocks.lean ====
module

public import proofs.«01_k».proof.Proof.Rows
public import proofs.«01_k».proof.Proof.Gen.PremixIdeal.Flash.Runs
public import Idealize.ShloMosaic.Lib.Pointwise
public import Idealize.ShloMosaic.Lib.VecWindow
public import Idealize.ShloMosaic.Lib.Writes

/-! What one step of the second kernel leaves in its seven output blocks, element by element. -/

@[expose] public section

set_option maxRecDepth 16384

noncomputable section

namespace Cert.Blocks

open Cert.PremixIdeal Cert.PremixIdeal.Gen
open Idealize.ShloMosaic Idealize.ShloMosaic.TcCoe Idealize.ShloMosaic.Tactic
open Cert.Rows

section
variable (a : Token) (r : Fin 256)

/-- The vectors of a step agree with the token in row `r`: what the modulated token is computed from. -/
structure Head (sh sc : Vec Ideal S1x1024 .f32) (x : Vec Ideal S256x1024 .f32) (g : Vec Ideal S1x1024 .f32) : Prop where
  hsh : ∀ k, sh (ix2 0 k) = a.sh k
  hsc : ∀ k, sc (ix2 0 k) = a.sc k
  hx : ∀ k, x (ix2 r k) = a.x k
  hg : ∀ k, g (ix2 0 k) = a.g k

/-- A block holds the modulated token in row `r`. -/
def Hid (h : FVec Ideal S256x1024 .bf16) : Prop := ∀ k, h (ix2 r k) = a.hid k

theorem hid_of {sh sc : Vec Ideal S1x1024 .f32} {x : Vec Ideal S256x1024 .f32} {g : Vec Ideal S1x1024 .f32} (H : Head a r sh sc x g) :
    Hid a r (k0_pay2 (F := Ideal) sh sc x g) := by
  intro k
  pointwise [k0_pay2]
  simp only [H.hsh, H.hsc, H.hx, H.hg]
  rfl

/-- A load of `n` columns of the first projection's weights from column `o`. -/
def Cols {n : ℕ} (o : ℕ) (ho : o + n ≤ 4224) (w : Shape.Idx ⟨2, ![1024, n]⟩ → EReal) : Prop :=
  ∀ k (c : Fin n), w (ix2 k c) = a.w k ⟨o + c.val, by omega⟩

variable {a r} in
theorem sum_hid {h : FVec Ideal S256x1024 .bf16} (H : Hid a r h) {n o : ℕ} {ho : o + n ≤ 4224} {w : Shape.Idx ⟨2, ![1024, n]⟩ → EReal}
    (hw : Cols a o ho w) (c : Fin n) : ∑ k, h (ix2 r k) * w (ix2 k c) = a.proj ⟨o + c.val, by omega⟩ :=
  Finset.sum_congr rfl fun k _ => congrArg₂ (· * ·) (H k) (hw k c)

variable {sh sc : Vec Ideal S1x1024 .f32} {x : Vec Ideal S256x1024 .f32} {g : Vec Ideal S1x1024 .f32} (H : Head a r sh sc x g)

include H in
theorem na_at {w : Vec Ideal S1024x1536 .bf16} (hw : Cols (n := 1536) a 0 (by decide) w) (c : Fin 1536) :
    k0_pay3 (F := Ideal) sh sc x g w (ix2 r c) = a.proj ⟨c.val, by omega⟩ := by
  pointwise [k0_pay3]
  refine (sum_hid (hid_of a r H) hw c).trans (congrArg a.proj (Fin.ext (by simp)))

include H in
theorem out0_at {w : Vec Ideal S1024x1536 .bf16} (hw : Cols (n := 1536) a 0 (by decide) w) (c : Fin 512) :
    k0_pay4 (F := Ideal) sh sc x g w (ix2 r c) = a.proj ⟨0 + c.val, by omega⟩ := by
  pointwise [k0_pay4]
  exact (na_at a r H hw _).trans (congrArg a.proj (Fin.ext (by simp)))

include H in
theorem out1_at {w : Vec Ideal S1024x1536 .bf16} (hw : Cols (n := 1536) a 0 (by decide) w) (c : Fin 512) :
    k0_pay5 (F := Ideal) sh sc x g w (ix2 r c) = a.proj ⟨512 + c.val, by omega⟩ := by
  pointwise [k0_pay5]
  exact na_at a r H hw _

include H in
theorem out2_at {w : Vec Ideal S1024x1536 .bf16} (hw : Cols (n := 1536) a 0 (by decide) w) (c : Fin 512) :
    k0_pay6 (F := Ideal) sh sc x g w (ix2 r c) = a.proj ⟨1024 + c.val, by omega⟩ := by
  pointwise [k0_pay6]
  exact na_at a r H hw _
end

section
variable {a : Token} {r : Fin 256} {h : FVec Ideal S256x1024 .bf16} (H : Hid a r h)

include H in
theorem gate_at {w : Vec Ideal S1024x2048 .bf16} (hw : Cols (n := 2048) a 2176 (by decide) w) (c : Fin 2048) :
    k0_pay7 (F := Ideal) h w (ix2 r c) = a.gate c := by
  pointwise [k0_pay7]
  exact congrArg Ideal.logistic (sum_hid H hw c)

/-- The latent block holds the token's latents in row `r`. -/
def Lat (a : Token) (r : Fin 256) (y : FVec Ideal S256x640 .f32) : Prop := ∀ c : Fin 640, y (ix2 r c) = a.proj ⟨1536 + c.val, by omega⟩

include H in
theorem lat_of {w : Vec Ideal S1024x640 .bf16} (hw : Cols (n := 640) a 1536 (by decide) w) : Lat a r (k0_pay8 (F := Ideal) h w) := by
  intro c
  pointwise [k0_pay8]
  exact sum_hid H hw c

include H in
theorem cq_at {w : Vec Ideal S1024x640 .bf16} (hw : Cols (n := 640) a 1536 (by decide) w) {gq : Vec Ideal S1x256 .f32} (hg : ∀ k, gq (ix2 0 k) = a.gq k)
    (k : Fin 256) : k0_pay9 (F := Ideal) h w gq (ix2 r k) = normed 0x43800000#32 a.cq a.gq k := by
  pointwise [k0_pay9]
  simp only [lat_of H hw _, hg]
  rfl

include H in
theorem ck_at {w : Vec Ideal S1024x640 .bf16} (hw : Cols (n := 640) a 1536 (by decide) w) {gk : Vec Ideal S1x128 .f32} (hg : ∀ k, gk (ix2 0 k) = a.gk k)
    (k : Fin 128) : k0_pay10 (F := Ideal) h w gk (ix2 r k) = normed 0x43000000#32 a.ck a.gk k := by
  have e : ∀ c : Fin 128, a.proj ⟨1536 + (256 + c.val), by omega⟩ = a.ck c := fun c => congrArg a.proj (Fin.ext (by dsimp only; omega))
  pointwise [k0_pay10]
  simp only [lat_of H hw _, hg, e]
  rfl
end

section
variable {a : Token} {r : Fin 256}

/-- The projected query latents. -/
def QA (a : Token) (r : Fin 256) (y : FVec Ideal S256x2048 .f32) : Prop := ∀ c, y (ix2 r c) = a.qa c

/-- The projected key-value latents. -/
def KV (a : Token) (r : Fin 256) (y : FVec Ideal S256x2048 .f32) : Prop := ∀ c, y (ix2 r c) = a.kv c

theorem qa_of {y : FVec Ideal S256x256 .bf16} {w : Vec Ideal S256x2048 .bf16} (hy : ∀ k, y (ix2 r k) = normed 0x43800000#32 a.cq a.gq k)
    (hw : ∀ k c, w (ix2 k c) = a.wq k c) : QA a r (k0_pay11 (F := Ideal) y w) := by
  intro c
  pointwise [k0_pay11]
  exact Finset.sum_congr rfl fun k _ => congrArg₂ (· * ·) (hy k) (hw k c)

theorem kv_of {y : FVec Ideal S256x128 .bf16} {w : Vec Ideal S128x2048 .bf16} (hy : ∀ k, y (ix2 r k) = normed 0x43000000#32 a.ck a.gk k)
    (hw : ∀ k c, w (ix2 k c) = a.wk k c) : KV a r (k0_pay12 (F := Ideal) y w) := by
  intro c
  pointwise [k0_pay12]
  exact Finset.sum_congr rfl fun k _ => congrArg₂ (· * ·) (hy k) (hw k c)

theorem kr_at {y : FVec Ideal S256x640 .f32} (hy : Lat a r y) {rc rs : Vec Ideal S256x128 .f32} (hc : ∀ l, rc (ix2 r l) = a.rc l)
    (hs : ∀ l, rs (ix2 r l) = a.rs l) (l : Fin 128) : k0_pay13 (F := Ideal) y rc rs (ix2 r l) = a.kr l := by
  have e1 : a.proj ⟨1536 + (384 + l.val), by omega⟩ = a.proj ⟨1920 + l.val, by omega⟩ := congrArg a.proj (Fin.ext (by dsimp only; omega))
  have e2 : a.proj ⟨1536 + (512 + l.val), by omega⟩ = a.proj ⟨2048 + l.val, by omega⟩ := congrArg a.proj (Fin.ext (by dsimp only; omega))
  pointwise [k0_pay13]
  simp only [hy _, hc, hs, e1, e2]
  rfl

/-- The scale of the queries. -/
abbrev qscale : EReal := Named.named (F := Ideal) (φ := .f32) Cert.PremixIdeal.κ "qscale" 0x3E16C740#32

theorem slices_lane (o h : ℕ) (ho : o + 128 * h + 128 ≤ 2048) : S256x2048.Slices ![0, o + 128 * h] S256x128 := by
  refine ⟨rfl, fun a => ?_⟩
  fin_cases a
  · show 0 + 256 ≤ 256
    omega
  · show o + 128 * h + 128 ≤ 2048
    omega

/-- The 128 columns of head `h`, from column `o`. -/
def slab (o : ℕ) (ho : o + 1024 ≤ 2048) (h : Fin 8) (y : FVec Ideal S256x2048 .f32) : FVec Ideal S256x128 .f32 :=
  extractStridedSlice S256x128 ![0, o + 128 * h.val] y (slices_lane o h.val (by omega))

theorem slab_at (o : ℕ) (ho : o + 1024 ≤ 2048) (h : Fin 8) (y : FVec Ideal S256x2048 .f32) (l : Fin 128) :
    slab o ho h y (ix2 r l) = y (ix2 r ⟨o + 128 * h.val + l.val, by omega⟩) := by
  pointwise [slab]

/-- The store of head `h`'s queries. -/
def payQ (h : Fin 8) (y : FVec Ideal S256x2048 .f32) (rc rs : FVec Ideal S256x128 .f32) : FVec Ideal S256x128 .bf16 :=
  truncf .bf16 (mulf (addf (mulf (slab 0 (by decide) h y) rc) (mulf (slab 1024 (by decide) h y) rs)) (broadcast S256x128 qscale)) bitsLt_bf16_f32

/-- The store of head `h`'s keys. -/
def payK (h : Fin 8) (y : FVec Ideal S256x2048 .f32) (z : FVec Ideal S256x128 .f32) : FVec Ideal S256x128 .bf16 :=
  truncf .bf16 (addf (slab 0 (by decide) h y) z) bitsLt_bf16_f32

theorem payQ_at {y : FVec Ideal S256x2048 .f32} (hy : QA a r y) {rc rs : Vec Ideal S256x128 .f32} (hc : ∀ l, rc (ix2 r l) = a.rc l)
    (hs : ∀ l, rs (ix2 r l) = a.rs l) (h : Fin 8) (l : Fin 128) : payQ h y rc rs (ix2 r l) = a.qh h l * qscale := by
  show (slab 0 _ h y (ix2 r l) * rc (ix2 r l) + slab 1024 _ h y (ix2 r l) * rs (ix2 r l)) * qscale = _
  rw [slab_at, slab_at, hy, hy, hc, hs]
  refine congrArg (fun z => (a.qa z * a.rc l + _) * qscale) (Fin.ext ?_)
  simp

theorem payK_at {y : FVec Ideal S256x2048 .f32} (hy : KV a r y) {z : FVec Ideal S256x128 .f32} (hz : ∀ l, z (ix2 r l) = a.kr l)
    (h : Fin 8) (l : Fin 128) : payK h y z (ix2 r l) = a.kh h l := by
  show slab 0 _ h y (ix2 r l) + z (ix2 r l) = _
  rw [slab_at, hy, hz]
  refine congrArg (fun z => a.kv z + a.kr l) (Fin.ext ?_)
  simp

theorem v_at {y : FVec Ideal S256x2048 .f32} (hy : KV a r y) {vo : Vec Ideal S1x1024 .f32} (hv : ∀ k, vo (ix2 0 k) = a.vo k) (c : Fin 1024) :
    k0_pay1 (F := Ideal) (k0_pay32 y) vo (ix2 r c) = a.v c := by
  pointwise [k0_pay1, k0_pay32]
  rw [hy, hv]
  rfl
end

section
variable {sig' : RefSig} {κ : Kind} {sp : Space}

theorem inb_lane (h : Fin 8) : ∀ a, (![0, 128 * h.val] : Fin 2 → ℕ) a + S256x128.size a ≤ S256x1024.size a := by
  intro a
  have := h.isLt
  fin_cases a
  · show 0 + 256 ≤ 256
    omega
  · show 128 * h.val + 128 ≤ 1024
    omega

/-- The store of 128 columns, head `h`'s. -/
abbrev column (h : Fin 8) (p : FVec Ideal S256x128 .bf16) : View.Piece (Elt Ideal) S256x1024 .bf16 :=
  ⟨Rect.unit ![0, 128 * h.val] S256x128.size (inb_lane h), p⟩

/-- Column `l` of head `h`. -/
abbrev lane (h : Fin 8) (l : Fin 128) : Fin 1024 := ⟨128 * h.val + l.val, by omega⟩

theorem columns_at (v : View sig' κ sp S256x1024 .bf16) (f : v.ty.Contents (Elt Ideal)) (p : Fin 8 → FVec Ideal S256x128 .bf16) (gs : List (Fin 8))
    (h : Fin 8) (hg : h ∈ gs) (r : Fin 256) (l : Fin 128) :
    v.read (Elt Ideal) (v.writes (Elt Ideal) f (gs.map fun g => column g (p g))) (ix2 r (lane h l)) = p h (ix2 r l) := by
  induction gs with
  | nil => exact absurd hg (List.not_mem_nil)
  | cons g gs ih =>
    by_cases e : g = h
    · subst e
      let x : S256x128.Idx := ix2 r l
      refine View.read_writes_cons_hit_of_coords v f (Rect.unit ![0, 128 * g.val] S256x128.size (inb_lane g)) (p g) _ x
        (ix2 r (lane g l)) fun a => ?_
      fin_cases a
      · show r.val = 0 + 1 * r.val
        omega
      · show 128 * g.val + l.val = 128 * g.val + 1 * l.val
        omega
    · refine (View.read_writes_cons_miss_of_axis v f (column g (p g)) _ (ix2 r (lane h l)) (1 : Fin 2) (128 * g.val) 128 rfl rfl rfl ?_).trans
        (ih ((List.mem_cons.1 hg).resolve_left (Ne.symm e)))
      have hn : g.val ≠ h.val := fun e' => e (Fin.ext e')
      have := l.isLt
      show 128 * h.val + l.val < 128 * g.val ∨ 128 * g.val + 128 ≤ 128 * h.val + l.val
      omega

/-- A block one store fills. -/
theorem filled_at {A B : ℕ} {e : EltTy} (v : View sig' κ sp ⟨2, ![A, B]⟩ e) (f : v.ty.Contents (Elt Ideal)) (p : Shape.Idx ⟨2, ![A, B]⟩ → Elt Ideal e)
    (inb) (r : Fin A) (c : Fin B) :
    v.read (Elt Ideal) (v.writes (Elt Ideal) f [⟨Rect.unit (s := ⟨2, ![A, B]⟩) ![0, 0] (Shape.size ⟨2, ![A, B]⟩) inb, p⟩]) (ix2 r c) = p (ix2 r c) := by
  refine View.read_writes_cons_hit_of_coords v f (Rect.unit (s := ⟨2, ![A, B]⟩) ![0, 0] (Shape.size ⟨2, ![A, B]⟩) inb) p [] (ix2 r c) (ix2 r c) fun a => ?_
  fin_cases a
  · show r.val = 0 + 1 * r.val
    omega
  · show c.val = 0 + 1 * c.val
    omega

/-- A load of part of a staged block. -/
theorem load_at {A B a b : ℕ} {e : EltTy} (v : View sig' κ sp ⟨2, ![A, B]⟩ e) (x : Shape.Idx ⟨2, ![A, B]⟩ → Elt Ideal e) (off : Fin 2 → ℕ) (o p : ℕ)
    (ho : off = ![o, p]) (inb) (r : Fin a) (c : Fin b) (h : o + r.val < A) (h' : p + c.val < B) :
    View.readAt (Elt Ideal) v (Rect.unit (s := ⟨2, ![A, B]⟩) off (Shape.size ⟨2, ![a, b]⟩) inb).toLoadRect (v.rep x) (ix2 r c)
      = x (ix2 ⟨o + r.val, h⟩ ⟨p + c.val, h'⟩) := by
  subst ho
  rw [View.readAt_rep]
  refine congrArg x ?_
  funext a
  refine Fin.ext ?_
  fin_cases a
  · show o + 1 * r.val = o + r.val
    omega
  · show p + 1 * c.val = p + c.val
    omega

/-- A load of a whole staged block. -/
theorem load_whole {A B : ℕ} {e : EltTy} (v : View sig' κ sp ⟨2, ![A, B]⟩ e) (x : Shape.Idx ⟨2, ![A, B]⟩ → Elt Ideal e) (inb) (r : Fin A) (c : Fin B) :
    View.readAt (Elt Ideal) v (Rect.unit (s := ⟨2, ![A, B]⟩) ![0, 0] (Shape.size ⟨2, ![A, B]⟩) inb).toLoadRect (v.rep x) (ix2 r c) = x (ix2 r c) :=
  (load_at v x _ 0 0 rfl inb r c (by omega) (by omega)).trans (congrArg x (congrArg₂ ix2 (Fin.ext (by simp)) (Fin.ext (by simp))))
end

end Cert.Blocks

end
-- ==== Proof.Stores.lean ====
module

public import proofs.«01_k».proof.Proof.Blocks

/-! The stores of one step of the second kernel, and the blocks they leave. -/

@[expose] public section

set_option maxRecDepth 16384

noncomputable section

namespace Cert.Blocks

open Cert.PremixIdeal Cert.PremixIdeal.Gen
open Idealize.ShloMosaic Idealize.ShloMosaic.TcCoe Idealize.ShloMosaic.Tactic
open Cert.Rows

/-- The word of the first table that a step reads. -/
abbrev word (i : grid0.Coords) (T0 : S192.Idx → Elt Ideal .i32) : BitVec 32 :=
  View.readAt (Elt Ideal) (tbM0_0).view (Rect.unit (s := S192) (k0_off1 i) S1.size (k0_off1_inb i)).toLoadRect T0
    (Shape.Idx.first (numel1_S1.symm ▸ Nat.one_pos))

section
variable (c : Dev nD) (i : grid0.Coords)
  (arg3 : Memref sig .tc .vmem S256x1024 .f32) (harg3 : arg3.IsWhole) (arg4 : Memref sig .tc .vmem S16x6144 .f32) (harg4 : arg4.IsWhole)
  (arg5 : Memref sig .tc .vmem S1x1024 .f32) (harg5 : arg5.IsWhole) (arg6 : Memref sig .tc .vmem S1024x4224 .bf16) (harg6 : arg6.IsWhole)
  (arg7 : Memref sig .tc .vmem S1x256 .f32) (harg7 : arg7.IsWhole) (arg8 : Memref sig .tc .vmem S256x2048 .bf16) (harg8 : arg8.IsWhole)
  (arg9 : Memref sig .tc .vmem S1x128 .f32) (harg9 : arg9.IsWhole) (arg10 : Memref sig .tc .vmem S128x2048 .bf16) (harg10 : arg10.IsWhole)
  (arg11 : Memref sig .tc .vmem S256x128 .f32) (harg11 : arg11.IsWhole) (arg12 : Memref sig .tc .vmem S256x128 .f32) (harg12 : arg12.IsWhole)
  (arg13 : Memref sig .tc .vmem S1x1024 .f32) (harg13 : arg13.IsWhole) (arg14 : Memref sig .tc .vmem S256x512 .bf16) (harg14 : arg14.IsWhole)
  (arg15 : Memref sig .tc .vmem S256x512 .bf16) (harg15 : arg15.IsWhole) (arg16 : Memref sig .tc .vmem S256x512 .bf16) (harg16 : arg16.IsWhole)
  (arg17 : Memref sig .tc .vmem S256x1024 .bf16) (harg17 : arg17.IsWhole) (arg18 : Memref sig .tc .vmem S256x1024 .bf16) (harg18 : arg18.IsWhole)
  (arg19 : Memref sig .tc .vmem S256x1024 .bf16) (harg19 : arg19.IsWhole) (arg20 : Memref sig .tc .vmem S256x2048 .bf16) (harg20 : arg20.IsWhole)
  (T0 T1 : S192.Idx → Elt Ideal .i32)
  (x0 : S256x1024.Idx → Elt Ideal .f32) (x1 : S16x6144.Idx → Elt Ideal .f32) (x2 : S1x1024.Idx → Elt Ideal .f32)
  (x3 : S1024x4224.Idx → Elt Ideal .bf16) (x4 : S1x256.Idx → Elt Ideal .f32) (x5 : S256x2048.Idx → Elt Ideal .bf16)
  (x6 : S1x128.Idx → Elt Ideal .f32) (x7 : S128x2048.Idx → Elt Ideal .bf16) (x8 : S256x128.Idx → Elt Ideal .f32)
  (x9 : S256x128.Idx → Elt Ideal .f32) (x10 : S1x1024.Idx → Elt Ideal .f32)
  (hw : k0_chk1 (word i T0))

/-- The loads of a step. -/
abbrev lsh : Vec Ideal S1x1024 .f32 :=
  View.readAt (Elt Ideal) arg4.view (Rect.unit (s := S16x6144) (k0_off2 (word i T0)) S1x1024.size (k0_off2_inb (word i T0) hw)).toLoadRect (arg4.view.rep x1)
abbrev lsc : Vec Ideal S1x1024 .f32 :=
  View.readAt (Elt Ideal) arg4.view (Rect.unit (s := S16x6144) (k0_off3 (word i T0)) S1x1024.size (k0_off3_inb (word i T0) hw)).toLoadRect (arg4.view.rep x1)
abbrev lx : Vec Ideal S256x1024 .f32 :=
  View.readAt (Elt Ideal) arg3.view (Rect.unit (s := S256x1024) ![0, 0] S256x1024.size inb_S256x1024_S256x1024_0_0).toLoadRect (arg3.view.rep x0)
abbrev lg : Vec Ideal S1x1024 .f32 :=
  View.readAt (Elt Ideal) arg5.view (Rect.unit (s := S1x1024) ![0, 0] S1x1024.size inb_S1x1024_S1x1024_0_0).toLoadRect (arg5.view.rep x2)
abbrev lwa : Vec Ideal S1024x1536 .bf16 :=
  View.readAt (Elt Ideal) arg6.view (Rect.unit (s := S1024x4224) ![0, 0] S1024x1536.size inb_S1024x4224_S1024x1536_0_0).toLoadRect (arg6.view.rep x3)
abbrev lwg : Vec Ideal S1024x2048 .bf16 :=
  View.readAt (Elt Ideal) arg6.view (Rect.unit (s := S1024x4224) ![0, 2176] S1024x2048.size inb_S1024x4224_S1024x2048_0_2176).toLoadRect (arg6.view.rep x3)
abbrev lwl : Vec Ideal S1024x640 .bf16 :=
  View.readAt (Elt Ideal) arg6.view (Rect.unit (s := S1024x4224) ![0, 1536] S1024x640.size inb_S1024x4224_S1024x640_0_1536).toLoadRect (arg6.view.rep x3)
abbrev lgq : Vec Ideal S1x256 .f32 :=
  View.readAt (Elt Ideal) arg7.view (Rect.unit (s := S1x256) ![0, 0] S1x256.size inb_S1x256_S1x256_0_0).toLoadRect (arg7.view.rep x4)
abbrev lwq : Vec Ideal S256x2048 .bf16 :=
  View.readAt (Elt Ideal) arg8.view (Rect.unit (s := S256x2048) ![0, 0] S256x2048.size inb_S256x2048_S256x2048_0_0).toLoadRect (arg8.view.rep x5)
abbrev lgk : Vec Ideal S1x128 .f32 :=
  View.readAt (Elt Ideal) arg9.view (Rect.unit (s := S1x128) ![0, 0] S1x128.size inb_S1x128_S1x128_0_0).toLoadRect (arg9.view.rep x6)
abbrev lwk : Vec Ideal S128x2048 .bf16 :=
  View.readAt (Elt Ideal) arg10.view (Rect.unit (s := S128x2048) ![0, 0] S128x2048.size inb_S128x2048_S128x2048_0_0).toLoadRect (arg10.view.rep x7)
abbrev lr (arg : Memref sig .tc .vmem S256x128 .f32) (x : S256x128.Idx → Elt Ideal .f32) : Vec Ideal S256x128 .f32 :=
  View.readAt (Elt Ideal) arg.view (Rect.unit (s := S256x128) ![0, 0] S256x128.size inb_S256x128_S256x128_0_0).toLoadRect (arg.view.rep x)
abbrev lvo : Vec Ideal S1x1024 .f32 :=
  View.readAt (Elt Ideal) arg13.view (Rect.unit (s := S1x1024) ![0, 0] S1x1024.size inb_S1x1024_S1x1024_0_0).toLoadRect (arg13.view.rep x10)

/-- The modulated tokens of a step. -/
abbrev bh : FVec Ideal S256x1024 .bf16 := k0_pay2 (F := Ideal) (lsh i arg4 T0 x1 hw) (lsc i arg4 T0 x1 hw) (lx arg3 x0) (lg arg5 x2)

/-- Their projected query latents. -/
abbrev bq : FVec Ideal S256x2048 .f32 :=
  k0_pay11 (F := Ideal) (k0_pay9 (bh i arg3 arg4 arg5 T0 x0 x1 x2 hw) (lwl arg6 x3) (lgq arg7 x4)) (lwq arg8 x5)

/-- Their projected key-value latents. -/
abbrev bkv : FVec Ideal S256x2048 .f32 :=
  k0_pay12 (F := Ideal) (k0_pay10 (bh i arg3 arg4 arg5 T0 x0 x1 x2 hw) (lwl arg6 x3) (lgk arg9 x6)) (lwk arg10 x7)

/-- The rotated part of their keys. -/
abbrev bkr : FVec Ideal S256x128 .f32 :=
  k0_pay13 (F := Ideal) (k0_pay8 (bh i arg3 arg4 arg5 T0 x0 x1 x2 hw) (lwl arg6 x3)) (lr arg11 x8) (lr arg12 x9)

/-- The heads, the last first. -/
abbrev heads : List (Fin 8) := [7, 6, 5, 4, 3, 2, 1, 0]

theorem stores14 : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 T0 T1 x0 x1 x2 x3 x4 x5 x6 x7 x8 x9 x10 hw).2.2.2.1
    = heads.map fun h => column h (payQ h (bq i arg3 arg4 arg5 arg6 arg7 arg8 T0 x0 x1 x2 x3 x4 x5 hw) (lr arg11 x8) (lr arg12 x9)) := rfl

theorem stores15 : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 T0 T1 x0 x1 x2 x3 x4 x5 x6 x7 x8 x9 x10 hw).2.2.2.2.1
    = heads.map fun h => column h (payK h (bkv i arg3 arg4 arg5 arg6 arg9 arg10 T0 x0 x1 x2 x3 x6 x7 hw)
        (bkr i arg3 arg4 arg5 arg6 arg11 arg12 T0 x0 x1 x2 x3 x8 x9 hw)) := rfl

/-- The token of row `r` of a step, whose sequence is `s`. -/
def token (s : Fin 16) (r : Fin 256) : Token where
  x k := x0 (ix2 r k)
  g k := x2 (ix2 0 k)
  sh k := x1 (ix2 s ⟨0 + k.val, by omega⟩)
  sc k := x1 (ix2 s ⟨1024 + k.val, by omega⟩)
  w k j := x3 (ix2 k j)
  gq k := x4 (ix2 0 k)
  wq k j := x5 (ix2 k j)
  gk k := x6 (ix2 0 k)
  wk k j := x7 (ix2 k j)
  rc l := x8 (ix2 r l)
  rs l := x9 (ix2 r l)
  vo k := x10 (ix2 0 k)

variable (s : Fin 16) (h2 : k0_off2 (word i T0) = ![s.val, 0]) (h3 : k0_off3 (word i T0) = ![s.val, 1024]) (r : Fin 256)

include h2 h3 in
theorem head_of : Head (token x0 x1 x2 x3 x4 x5 x6 x7 x8 x9 x10 s r) r (lsh i arg4 T0 x1 hw) (lsc i arg4 T0 x1 hw) (lx arg3 x0) (lg arg5 x2) where
  hsh k := load_at arg4.view x1 _ s.val 0 h2 _ 0 k (by simp) (by omega)
  hsc k := load_at arg4.view x1 _ s.val 1024 h3 _ 0 k (by simp) (by omega)
  hx k := load_whole arg3.view x0 _ r k
  hg k := load_whole arg5.view x2 _ 0 k

theorem cols_of {n : ℕ} (o : ℕ) (ho : o + n ≤ 4224) (inb) : Cols (token x0 x1 x2 x3 x4 x5 x6 x7 x8 x9 x10 s r) o ho (View.readAt (Elt Ideal) arg6.view
    (Rect.unit (s := ⟨2, ![1024, 4224]⟩) ![0, o] (Shape.size ⟨2, ![1024, n]⟩) inb).toLoadRect (arg6.view.rep x3)) := fun k j =>
  (load_at arg6.view x3 _ 0 o rfl inb k j (by omega) (by omega)).trans
    (congrArg x3 (congrArg₂ ix2 (Fin.ext (Nat.zero_add _)) rfl))

include h2 h3 in
theorem hid_block : Hid (token x0 x1 x2 x3 x4 x5 x6 x7 x8 x9 x10 s r) r (bh i arg3 arg4 arg5 T0 x0 x1 x2 hw) :=
  hid_of _ r (head_of i arg3 arg4 arg5 T0 x0 x1 x2 x3 x4 x5 x6 x7 x8 x9 x10 hw s h2 h3 r)

include h2 h3 in
theorem lat_block : Lat (token x0 x1 x2 x3 x4 x5 x6 x7 x8 x9 x10 s r) r (k0_pay8 (F := Ideal) (bh i arg3 arg4 arg5 T0 x0 x1 x2 hw) (lwl arg6 x3)) :=
  lat_of (hid_block i arg3 arg4 arg5 T0 x0 x1 x2 x3 x4 x5 x6 x7 x8 x9 x10 hw s h2 h3 r)
    (cols_of arg6 x0 x1 x2 x3 x4 x5 x6 x7 x8 x9 x10 s r 1536 (by decide) inb_S1024x4224_S1024x640_0_1536)

include h2 h3 in
theorem qa_block : QA (token x0 x1 x2 x3 x4 x5 x6 x7 x8 x9 x10 s r) r (bq i arg3 arg4 arg5 arg6 arg7 arg8 T0 x0 x1 x2 x3 x4 x5 hw) :=
  qa_of (cq_at (hid_block i arg3 arg4 arg5 T0 x0 x1 x2 x3 x4 x5 x6 x7 x8 x9 x10 hw s h2 h3 r)
    (cols_of arg6 x0 x1 x2 x3 x4 x5 x6 x7 x8 x9 x10 s r 1536 (by decide) inb_S1024x4224_S1024x640_0_1536)
    fun k => load_whole arg7.view x4 _ 0 k) fun k j => load_whole arg8.view x5 _ k j

include h2 h3 in
theorem kv_block : KV (token x0 x1 x2 x3 x4 x5 x6 x7 x8 x9 x10 s r) r (bkv i arg3 arg4 arg5 arg6 arg9 arg10 T0 x0 x1 x2 x3 x6 x7 hw) :=
  kv_of (ck_at (hid_block i arg3 arg4 arg5 T0 x0 x1 x2 x3 x4 x5 x6 x7 x8 x9 x10 hw s h2 h3 r)
    (cols_of arg6 x0 x1 x2 x3 x4 x5 x6 x7 x8 x9 x10 s r 1536 (by decide) inb_S1024x4224_S1024x640_0_1536)
    fun k => load_whole arg9.view x6 _ 0 k) fun k j => load_whole arg10.view x7 _ k j

include h2 h3 in
theorem out11 (j : Fin 512) : out0_A_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 T0 T1 x0 x1 x2 x3 x4 x5 x6 x7 x8 x9 x10 hw (ix2 r j) = (token x0 x1 x2 x3 x4 x5 x6 x7 x8 x9 x10 s r).proj ⟨0 + j.val, by omega⟩ :=
  (filled_at VO0_11 _ _ _ r j).trans
    (out0_at _ r (head_of i arg3 arg4 arg5 T0 x0 x1 x2 x3 x4 x5 x6 x7 x8 x9 x10 hw s h2 h3 r)
      (cols_of arg6 x0 x1 x2 x3 x4 x5 x6 x7 x8 x9 x10 s r 0 (by decide) inb_S1024x4224_S1024x1536_0_0) j)

include h2 h3 in
theorem out12 (j : Fin 512) : out0_A_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 T0 T1 x0 x1 x2 x3 x4 x5 x6 x7 x8 x9 x10 hw (ix2 r j) = (token x0 x1 x2 x3 x4 x5 x6 x7 x8 x9 x10 s r).proj ⟨512 + j.val, by omega⟩ :=
  (filled_at VO0_12 _ _ _ r j).trans
    (out1_at _ r (head_of i arg3 arg4 arg5 T0 x0 x1 x2 x3 x4 x5 x6 x7 x8 x9 x10 hw s h2 h3 r)
      (cols_of arg6 x0 x1 x2 x3 x4 x5 x6 x7 x8 x9 x10 s r 0 (by decide) inb_S1024x4224_S1024x1536_0_0) j)

include h2 h3 in
theorem out13 (j : Fin 512) : out0_A_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 T0 T1 x0 x1 x2 x3 x4 x5 x6 x7 x8 x9 x10 hw (ix2 r j) = (token x0 x1 x2 x3 x4 x5 x6 x7 x8 x9 x10 s r).proj ⟨1024 + j.val, by omega⟩ :=
  (filled_at VO0_13 _ _ _ r j).trans
    (out2_at _ r (head_of i arg3 arg4 arg5 T0 x0 x1 x2 x3 x4 x5 x6 x7 x8 x9 x10 hw s h2 h3 r)
      (cols_of arg6 x0 x1 x2 x3 x4 x5 x6 x7 x8 x9 x10 s r 0 (by decide) inb_S1024x4224_S1024x1536_0_0) j)

include h2 h3 in
theorem out14 (h : Fin 8) (l : Fin 128) : out0_A_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 T0 T1 x0 x1 x2 x3 x4 x5 x6 x7 x8 x9 x10 hw (ix2 r (lane h l)) = (token x0 x1 x2 x3 x4 x5 x6 x7 x8 x9 x10 s r).qh h l * qscale := by
  unfold out0_A_14
  rw [stores14]
  exact (columns_at VO0_14 _ _ _ h (by revert h; decide) r l).trans
    (payQ_at (qa_block i arg3 arg4 arg5 arg6 arg7 arg8 T0 x0 x1 x2 x3 x4 x5 x6 x7 x8 x9 x10 hw s h2 h3 r)
      (fun l => load_whole arg11.view x8 _ r l) (fun l => load_whole arg12.view x9 _ r l) h l)

include h2 h3 in
theorem out15 (h : Fin 8) (l : Fin 128) : out0_A_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 T0 T1 x0 x1 x2 x3 x4 x5 x6 x7 x8 x9 x10 hw (ix2 r (lane h l)) = (token x0 x1 x2 x3 x4 x5 x6 x7 x8 x9 x10 s r).kh h l := by
  unfold out0_A_15
  rw [stores15]
  exact (columns_at VO0_15 _ _ _ h (by revert h; decide) r l).trans
    (payK_at (kv_block i arg3 arg4 arg5 arg6 arg9 arg10 T0 x0 x1 x2 x3 x4 x5 x6 x7 x8 x9 x10 hw s h2 h3 r)
      (kr_at (lat_block i arg3 arg4 arg5 arg6 T0 x0 x1 x2 x3 x4 x5 x6 x7 x8 x9 x10 hw s h2 h3 r)
        (fun l => load_whole arg11.view x8 _ r l) fun l => load_whole arg12.view x9 _ r l) h l)

include h2 h3 in
theorem out16 (j : Fin 1024) : out0_A_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 T0 T1 x0 x1 x2 x3 x4 x5 x6 x7 x8 x9 x10 hw (ix2 r j) = (token x0 x1 x2 x3 x4 x5 x6 x7 x8 x9 x10 s r).v j :=
  (filled_at VO0_16 _ _ _ r j).trans
    (v_at (kv_block i arg3 arg4 arg5 arg6 arg9 arg10 T0 x0 x1 x2 x3 x4 x5 x6 x7 x8 x9 x10 hw s h2 h3 r)
      (fun k => load_whole arg13.view x10 _ 0 k) j)

include h2 h3 in
theorem out17 (j : Fin 2048) : out0_A_17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 T0 T1 x0 x1 x2 x3 x4 x5 x6 x7 x8 x9 x10 hw (ix2 r j) = (token x0 x1 x2 x3 x4 x5 x6 x7 x8 x9 x10 s r).gate j :=
  (filled_at VO0_17 _ _ _ r j).trans
    (gate_at (hid_block i arg3 arg4 arg5 T0 x0 x1 x2 x3 x4 x5 x6 x7 x8 x9 x10 hw s h2 h3 r)
      (cols_of arg6 x0 x1 x2 x3 x4 x5 x6 x7 x8 x9 x10 s r 2176 (by decide) inb_S1024x4224_S1024x2048_0_2176) j)
end

end Cert.Blocks

end
-- ==== Proof.Arrays.lean ====
module

public import proofs.«01_k».proof.Proof.Stores
public import proofs.«01_k».proof.Proof.PremixIdealRun
public import Idealize.ShloMosaic.Lib.Pipeline.ValueKit

/-! What the second call's pipeline leaves in its seven output arrays. -/

@[expose] public section

set_option maxRecDepth 16384

noncomputable section

namespace Cert.Blocks

open Cert.PremixIdeal Cert.PremixIdeal.Gen
open Idealize.ShloMosaic Idealize.ShloMosaic.TcCoe Idealize.ShloMosaic.Tactic
open Cert.Rows

/-- The sequence of row tile `n`. -/
def seqT (n : ℕ) : ℕ := if n < 128 then n / 32 else n / 8 - 12

/-- The position of row tile `n` in its sequence. -/
def posT (n : ℕ) : ℕ := if n < 128 then n % 32 else n % 8

theorem off2 : ∀ t : Fin (cfgA 0).N, k0_off2 (word (crd 0 t) (pinT_0 0)) = ![seqT t.val, 0] := by decide +kernel
theorem off3 : ∀ t : Fin (cfgA 0).N, k0_off3 (word (crd 0 t) (pinT_0 0)) = ![seqT t.val, 1024] := by decide +kernel

/-- The windows that stage a whole array. -/
theorem whole_idx : ∀ w : Fin 18, (1 ≤ w.val ∧ w.val ≤ 7 ∨ w.val = 10) → ∀ t : Fin (cfgA 0).N, ∀ a, ((cfgA 0).win w).index t a = 0 := by decide +kernel

/-- The windows that follow the row tiles. -/
theorem row_idx : ∀ w : Fin 18, (w.val = 0 ∨ 11 ≤ w.val) → ∀ t : Fin (cfgA 0).N, ∀ a, ((cfgA 0).win w).index t a = if a.val = 0 then t.val else 0 := by
  decide +kernel

theorem idx8 : ∀ t : Fin (cfgA 0).N, ((cfgA 0).win 8).index t 0 = posT t.val ∧ ((cfgA 0).win 8).index t 1 = 0 := by decide +kernel
theorem idx9 : ∀ t : Fin (cfgA 0).N, ((cfgA 0).win 9).index t 0 = posT t.val ∧ ((cfgA 0).win 9).index t 1 = 0 := by decide +kernel

theorem lt_tiles (t : Fin (cfgA 0).N) : t.val < 192 := t.isLt

theorem posT_lt (n : ℕ) : posT n < 32 := by
  unfold posT
  split_ifs <;> omega

variable (m : (ℓ : Loc nD τ sig) → Buf (Elt Ideal) ℓ) (ρ : Dev nD → PrngReg) (c : Dev nD)

/-- Row `r` of tile `t`. -/
def rowOf (t : Fin (cfgA 0).N) (r : Fin 256) : Fin 49152 := ⟨t.val * 256 + r.val, by have := lt_tiles t; omega⟩

theorem in0 (t : Fin (cfgA 0).N) (r : Fin 256) (k : Fin 1024) :
    iblk 0 m ρ c 0 t (ix2 r k) = m ((c : Thread nD τ).loc main_arg2) (ix2 (rowOf t r) k) := by
  have e0 : ((cfgA 0).win 0).index t 0 = t.val := row_idx 0 (.inl rfl) t 0
  have e1 : ((cfgA 0).win 0).index t 1 = 0 := row_idx 0 (.inl rfl) t 1
  unfold rowOf
  blk_ext [iblk, e0, e1]

theorem in1 (t : Fin (cfgA 0).N) (r : Fin 16) (k : Fin 6144) :
    iblk 0 m ρ c 1 t (ix2 r k) = m ((c : Thread nD τ).loc main_arg3) (ix2 r k) := by
  have e0 : ((cfgA 0).win 1).index t 0 = 0 := whole_idx 1 (by decide) t 0
  have e1 : ((cfgA 0).win 1).index t 1 = 0 := whole_idx 1 (by decide) t 1
  blk_ext [iblk, e0, e1]

theorem in2 (t : Fin (cfgA 0).N) (r : Fin 1) (k : Fin 1024) :
    iblk 0 m ρ c 2 t (ix2 r k) = m ((c : Thread nD τ).loc main_arg4) (ix2 r k) := by
  have e0 : ((cfgA 0).win 2).index t 0 = 0 := whole_idx 2 (by decide) t 0
  have e1 : ((cfgA 0).win 2).index t 1 = 0 := whole_idx 2 (by decide) t 1
  blk_ext [iblk, e0, e1]

theorem in3 (t : Fin (cfgA 0).N) (r : Fin 1024) (k : Fin 4224) :
    iblk 0 m ρ c 3 t (ix2 r k) = m ((c : Thread nD τ).loc main_arg5) (ix2 r k) := by
  have e0 : ((cfgA 0).win 3).index t 0 = 0 := whole_idx 3 (by decide) t 0
  have e1 : ((cfgA 0).win 3).index t 1 = 0 := whole_idx 3 (by decide) t 1
  blk_ext [iblk, e0, e1]

theorem in4 (t : Fin (cfgA 0).N) (r : Fin 1) (k : Fin 256) :
    iblk 0 m ρ c 4 t (ix2 r k) = m ((c : Thread nD τ).loc main_arg6) (ix2 r k) := by
  have e0 : ((cfgA 0).win 4).index t 0 = 0 := whole_idx 4 (by decide) t 0
  have e1 : ((cfgA 0).win 4).index t 1 = 0 := whole_idx 4 (by decide) t 1
  blk_ext [iblk, e0, e1]

theorem in5 (t : Fin (cfgA 0).N) (r : Fin 256) (k : Fin 2048) :
    iblk 0 m ρ c 5 t (ix2 r k) = m ((c : Thread nD τ).loc main_arg7) (ix2 r k) := by
  have e0 : ((cfgA 0).win 5).index t 0 = 0 := whole_idx 5 (by decide) t 0
  have e1 : ((cfgA 0).win 5).index t 1 = 0 := whole_idx 5 (by decide) t 1
  blk_ext [iblk, e0, e1]

theorem in6 (t : Fin (cfgA 0).N) (r : Fin 1) (k : Fin 128) :
    iblk 0 m ρ c 6 t (ix2 r k) = m ((c : Thread nD τ).loc main_arg8) (ix2 r k) := by
  have e0 : ((cfgA 0).win 6).index t 0 = 0 := whole_idx 6 (by decide) t 0
  have e1 : ((cfgA 0).win 6).index t 1 = 0 := whole_idx 6 (by decide) t 1
  blk_ext [iblk, e0, e1]

theorem in7 (t : Fin (cfgA 0).N) (r : Fin 128) (k : Fin 2048) :
    iblk 0 m ρ c 7 t (ix2 r k) = m ((c : Thread nD τ).loc main_arg9) (ix2 r k) := by
  have e0 : ((cfgA 0).win 7).index t 0 = 0 := whole_idx 7 (by decide) t 0
  have e1 : ((cfgA 0).win 7).index t 1 = 0 := whole_idx 7 (by decide) t 1
  blk_ext [iblk, e0, e1]

theorem in8 (t : Fin (cfgA 0).N) (r : Fin 256) (k : Fin 128) :
    iblk 0 m ρ c 8 t (ix2 r k) = m ((c : Thread nD τ).loc main_arg10) (ix2 (⟨posT t.val * 256 + r.val, by have := posT_lt t.val; omega⟩ : Fin 8192) k) := by
  have e := idx8 t
  blk_ext [iblk, e.1, e.2]

theorem in9 (t : Fin (cfgA 0).N) (r : Fin 256) (k : Fin 128) :
    iblk 0 m ρ c 9 t (ix2 r k) = m ((c : Thread nD τ).loc main_arg11) (ix2 (⟨posT t.val * 256 + r.val, by have := posT_lt t.val; omega⟩ : Fin 8192) k) := by
  have e := idx9 t
  blk_ext [iblk, e.1, e.2]

theorem in10 (t : Fin (cfgA 0).N) (r : Fin 1) (k : Fin 1024) :
    iblk 0 m ρ c 10 t (ix2 r k) = m ((c : Thread nD τ).loc main_arg12) (ix2 r k) := by
  have e0 : ((cfgA 0).win 10).index t 0 = 0 := whole_idx 10 (by decide) t 0
  have e1 : ((cfgA 0).win 10).index t 1 = 0 := whole_idx 10 (by decide) t 1
  blk_ext [iblk, e0, e1]

/-- The token of row `R` of the call's arguments. -/
def tokens (R : Fin 49152) : Token :=
  tokenAt (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) R

theorem seq_eq (t : Fin (cfgA 0).N) (r : Fin 256) : (seqOf (rowOf t r)).val = seqT t.val := by
  have := lt_tiles t
  show (if t.val * 256 + r.val < 32768 then (t.val * 256 + r.val) / 8192 else 4 + (t.val * 256 + r.val - 32768) / 2048) = _
  unfold seqT
  split_ifs <;> omega

theorem pos_eq (t : Fin (cfgA 0).N) (r : Fin 256) : (posOf (rowOf t r)).val = posT t.val * 256 + r.val := by
  have := lt_tiles t
  show (if t.val * 256 + r.val < 32768 then (t.val * 256 + r.val) % 8192 else (t.val * 256 + r.val - 32768) % 2048) = _
  unfold posT
  split_ifs <;> omega

theorem token_eq (t : Fin (cfgA 0).N) (r : Fin 256) :
    token (iblk 0 m ρ c 0 t) (iblk 0 m ρ c 1 t) (iblk 0 m ρ c 2 t) (iblk 0 m ρ c 3 t) (iblk 0 m ρ c 4 t) (iblk 0 m ρ c 5 t) (iblk 0 m ρ c 6 t) (iblk 0 m ρ c 7 t) (iblk 0 m ρ c 8 t) (iblk 0 m ρ c 9 t) (iblk 0 m ρ c 10 t) (seqOf (rowOf t r)) r = tokens m c (rowOf t r) := by
  have e : (⟨posT t.val * 256 + r.val, by have := posT_lt t.val; omega⟩ : Fin 8192) = posOf (rowOf t r) := Fin.ext (pos_eq t r).symm
  unfold token tokens tokenAt
  simp only [in0, in1, in2, in3, in4, in5, in6, in7, in8, in9, in10, e]

theorem after11 (t : Fin (cfgA 0).N) (r : Fin 256) (x : Fin 512) :
    (traj0 0 m ρ c t.val t.isLt).1 (ix2 r x) = (tokens m c (rowOf t r)).qn x := by
  rw [traj0_eq, step0_A, ← token_eq m ρ c t r]
  dsimp only
  exact out11 c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (ms0_6 0 t) (hs0_6 0 t) (ms0_7 0 t) (hs0_7 0 t) (ms0_8 0 t) (hs0_8 0 t) (ms0_9 0 t) (hs0_9 0 t) (ms0_10 0 t) (hs0_10 0 t) (ms0_11 0 t) (hs0_11 0 t) (ms0_12 0 t) (hs0_12 0 t) (ms0_13 0 t) (hs0_13 0 t) (ms0_14 0 t) (hs0_14 0 t) (ms0_15 0 t) (hs0_15 0 t) (ms0_16 0 t) (hs0_16 0 t) (ms0_17 0 t) (hs0_17 0 t) (pinT_0 0) (pinT_1 0) (iblk 0 m ρ c 0 t) (iblk 0 m ρ c 1 t) (iblk 0 m ρ c 2 t) (iblk 0 m ρ c 3 t) (iblk 0 m ρ c 4 t) (iblk 0 m ρ c 5 t) (iblk 0 m ρ c 6 t) (iblk 0 m ρ c 7 t) (iblk 0 m ρ c 8 t) (iblk 0 m ρ c 9 t) (iblk 0 m ρ c 10 t) (hyp0_A_0 0 t) (seqOf (rowOf t r)) (by rw [seq_eq]; exact off2 t) (by rw [seq_eq]; exact off3 t) r x

theorem lane_eq (x : Fin 1024) : x = lane ⟨x.val / 128, by omega⟩ ⟨x.val % 128, Nat.mod_lt _ (by decide)⟩ :=
  Fin.ext (by show x.val = 128 * (x.val / 128) + x.val % 128; omega)

/-- The neighbourhood queries. -/
def res11 : S49152x512.Idx → EReal := fun i => (tokens m c (i 0)).qn (i 1)

theorem array11 : (dats 0 m ρ 0 c).arrAt 11 (cfgA 0).N = res11 m c := by
  refine (dats 0 m ρ 0 c).arrAt_eq_of_covers 11 _ (by decide +kernel) fun t hf y => ?_
  have e0 : ((cfgA 0).win 11).index t 0 = t.val := row_idx 11 (.inr (by decide)) t 0
  have e1 : ((cfgA 0).win 11).index t 1 = 0 := row_idx 11 (.inr (by decide)) t 1
  blk_simp
  rw [after0_11]
  obtain ⟨r, x, rfl⟩ : ∃ (r : Fin 256) (x : Fin 512), y = ix2 r x := ⟨y 0, y 1, eq_ix2 y⟩
  have hR : (((cfgA 0).win 11).blk t).view.emb (ix2 r x) 0 = rowOf t r := Fin.ext (by
    unfold rowOf
    blk_simp [e0])
  have hX : (((cfgA 0).win 11).blk t).view.emb (ix2 r x) 1 = x := Fin.ext (by
    blk_simp [e1])
  unfold res11
  rw [hR, hX]
  exact after11 m ρ c t r x

theorem after12 (t : Fin (cfgA 0).N) (r : Fin 256) (x : Fin 512) :
    (traj0 0 m ρ c t.val t.isLt).2.1 (ix2 r x) = (tokens m c (rowOf t r)).kn x := by
  rw [traj0_eq, step0_A, ← token_eq m ρ c t r]
  dsimp only
  exact out12 c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (ms0_6 0 t) (hs0_6 0 t) (ms0_7 0 t) (hs0_7 0 t) (ms0_8 0 t) (hs0_8 0 t) (ms0_9 0 t) (hs0_9 0 t) (ms0_10 0 t) (hs0_10 0 t) (ms0_11 0 t) (hs0_11 0 t) (ms0_12 0 t) (hs0_12 0 t) (ms0_13 0 t) (hs0_13 0 t) (ms0_14 0 t) (hs0_14 0 t) (ms0_15 0 t) (hs0_15 0 t) (ms0_16 0 t) (hs0_16 0 t) (ms0_17 0 t) (hs0_17 0 t) (pinT_0 0) (pinT_1 0) (iblk 0 m ρ c 0 t) (iblk 0 m ρ c 1 t) (iblk 0 m ρ c 2 t) (iblk 0 m ρ c 3 t) (iblk 0 m ρ c 4 t) (iblk 0 m ρ c 5 t) (iblk 0 m ρ c 6 t) (iblk 0 m ρ c 7 t) (iblk 0 m ρ c 8 t) (iblk 0 m ρ c 9 t) (iblk 0 m ρ c 10 t) (hyp0_A_0 0 t) (seqOf (rowOf t r)) (by rw [seq_eq]; exact off2 t) (by rw [seq_eq]; exact off3 t) r x

/-- The neighbourhood keys. -/
def res12 : S49152x512.Idx → EReal := fun i => (tokens m c (i 0)).kn (i 1)

theorem array12 : (dats 0 m ρ 0 c).arrAt 12 (cfgA 0).N = res12 m c := by
  refine (dats 0 m ρ 0 c).arrAt_eq_of_covers 12 _ (by decide +kernel) fun t hf y => ?_
  have e0 : ((cfgA 0).win 12).index t 0 = t.val := row_idx 12 (.inr (by decide)) t 0
  have e1 : ((cfgA 0).win 12).index t 1 = 0 := row_idx 12 (.inr (by decide)) t 1
  blk_simp
  rw [after0_12]
  obtain ⟨r, x, rfl⟩ : ∃ (r : Fin 256) (x : Fin 512), y = ix2 r x := ⟨y 0, y 1, eq_ix2 y⟩
  have hR : (((cfgA 0).win 12).blk t).view.emb (ix2 r x) 0 = rowOf t r := Fin.ext (by
    unfold rowOf
    blk_simp [e0])
  have hX : (((cfgA 0).win 12).blk t).view.emb (ix2 r x) 1 = x := Fin.ext (by
    blk_simp [e1])
  unfold res12
  rw [hR, hX]
  exact after12 m ρ c t r x

theorem after13 (t : Fin (cfgA 0).N) (r : Fin 256) (x : Fin 512) :
    (traj0 0 m ρ c t.val t.isLt).2.2.1 (ix2 r x) = (tokens m c (rowOf t r)).vn x := by
  rw [traj0_eq, step0_A, ← token_eq m ρ c t r]
  dsimp only
  exact out13 c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (ms0_6 0 t) (hs0_6 0 t) (ms0_7 0 t) (hs0_7 0 t) (ms0_8 0 t) (hs0_8 0 t) (ms0_9 0 t) (hs0_9 0 t) (ms0_10 0 t) (hs0_10 0 t) (ms0_11 0 t) (hs0_11 0 t) (ms0_12 0 t) (hs0_12 0 t) (ms0_13 0 t) (hs0_13 0 t) (ms0_14 0 t) (hs0_14 0 t) (ms0_15 0 t) (hs0_15 0 t) (ms0_16 0 t) (hs0_16 0 t) (ms0_17 0 t) (hs0_17 0 t) (pinT_0 0) (pinT_1 0) (iblk 0 m ρ c 0 t) (iblk 0 m ρ c 1 t) (iblk 0 m ρ c 2 t) (iblk 0 m ρ c 3 t) (iblk 0 m ρ c 4 t) (iblk 0 m ρ c 5 t) (iblk 0 m ρ c 6 t) (iblk 0 m ρ c 7 t) (iblk 0 m ρ c 8 t) (iblk 0 m ρ c 9 t) (iblk 0 m ρ c 10 t) (hyp0_A_0 0 t) (seqOf (rowOf t r)) (by rw [seq_eq]; exact off2 t) (by rw [seq_eq]; exact off3 t) r x

/-- The neighbourhood values. -/
def res13 : S49152x512.Idx → EReal := fun i => (tokens m c (i 0)).vn (i 1)

theorem array13 : (dats 0 m ρ 0 c).arrAt 13 (cfgA 0).N = res13 m c := by
  refine (dats 0 m ρ 0 c).arrAt_eq_of_covers 13 _ (by decide +kernel) fun t hf y => ?_
  have e0 : ((cfgA 0).win 13).index t 0 = t.val := row_idx 13 (.inr (by decide)) t 0
  have e1 : ((cfgA 0).win 13).index t 1 = 0 := row_idx 13 (.inr (by decide)) t 1
  blk_simp
  rw [after0_13]
  obtain ⟨r, x, rfl⟩ : ∃ (r : Fin 256) (x : Fin 512), y = ix2 r x := ⟨y 0, y 1, eq_ix2 y⟩
  have hR : (((cfgA 0).win 13).blk t).view.emb (ix2 r x) 0 = rowOf t r := Fin.ext (by
    unfold rowOf
    blk_simp [e0])
  have hX : (((cfgA 0).win 13).blk t).view.emb (ix2 r x) 1 = x := Fin.ext (by
    blk_simp [e1])
  unfold res13
  rw [hR, hX]
  exact after13 m ρ c t r x

theorem after14 (t : Fin (cfgA 0).N) (r : Fin 256) (x : Fin 1024) :
    (traj0 0 m ρ c t.val t.isLt).2.2.2.1 (ix2 r x) = (tokens m c (rowOf t r)).q qscale x := by
  rw [traj0_eq, step0_A, ← token_eq m ρ c t r]
  dsimp only
  conv_lhs => rw [lane_eq x]
  exact out14 c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (ms0_6 0 t) (hs0_6 0 t) (ms0_7 0 t) (hs0_7 0 t) (ms0_8 0 t) (hs0_8 0 t) (ms0_9 0 t) (hs0_9 0 t) (ms0_10 0 t) (hs0_10 0 t) (ms0_11 0 t) (hs0_11 0 t) (ms0_12 0 t) (hs0_12 0 t) (ms0_13 0 t) (hs0_13 0 t) (ms0_14 0 t) (hs0_14 0 t) (ms0_15 0 t) (hs0_15 0 t) (ms0_16 0 t) (hs0_16 0 t) (ms0_17 0 t) (hs0_17 0 t) (pinT_0 0) (pinT_1 0) (iblk 0 m ρ c 0 t) (iblk 0 m ρ c 1 t) (iblk 0 m ρ c 2 t) (iblk 0 m ρ c 3 t) (iblk 0 m ρ c 4 t) (iblk 0 m ρ c 5 t) (iblk 0 m ρ c 6 t) (iblk 0 m ρ c 7 t) (iblk 0 m ρ c 8 t) (iblk 0 m ρ c 9 t) (iblk 0 m ρ c 10 t) (hyp0_A_0 0 t) (seqOf (rowOf t r)) (by rw [seq_eq]; exact off2 t) (by rw [seq_eq]; exact off3 t) r _ _

/-- The latent queries. -/
def res14 : S49152x1024.Idx → EReal := fun i => (tokens m c (i 0)).q qscale (i 1)

theorem array14 : (dats 0 m ρ 0 c).arrAt 14 (cfgA 0).N = res14 m c := by
  refine (dats 0 m ρ 0 c).arrAt_eq_of_covers 14 _ (by decide +kernel) fun t hf y => ?_
  have e0 : ((cfgA 0).win 14).index t 0 = t.val := row_idx 14 (.inr (by decide)) t 0
  have e1 : ((cfgA 0).win 14).index t 1 = 0 := row_idx 14 (.inr (by decide)) t 1
  blk_simp
  rw [after0_14]
  obtain ⟨r, x, rfl⟩ : ∃ (r : Fin 256) (x : Fin 1024), y = ix2 r x := ⟨y 0, y 1, eq_ix2 y⟩
  have hR : (((cfgA 0).win 14).blk t).view.emb (ix2 r x) 0 = rowOf t r := Fin.ext (by
    unfold rowOf
    blk_simp [e0])
  have hX : (((cfgA 0).win 14).blk t).view.emb (ix2 r x) 1 = x := Fin.ext (by
    blk_simp [e1])
  unfold res14
  rw [hR, hX]
  exact after14 m ρ c t r x

theorem after15 (t : Fin (cfgA 0).N) (r : Fin 256) (x : Fin 1024) :
    (traj0 0 m ρ c t.val t.isLt).2.2.2.2.1 (ix2 r x) = (tokens m c (rowOf t r)).k x := by
  rw [traj0_eq, step0_A, ← token_eq m ρ c t r]
  dsimp only
  conv_lhs => rw [lane_eq x]
  exact out15 c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (ms0_6 0 t) (hs0_6 0 t) (ms0_7 0 t) (hs0_7 0 t) (ms0_8 0 t) (hs0_8 0 t) (ms0_9 0 t) (hs0_9 0 t) (ms0_10 0 t) (hs0_10 0 t) (ms0_11 0 t) (hs0_11 0 t) (ms0_12 0 t) (hs0_12 0 t) (ms0_13 0 t) (hs0_13 0 t) (ms0_14 0 t) (hs0_14 0 t) (ms0_15 0 t) (hs0_15 0 t) (ms0_16 0 t) (hs0_16 0 t) (ms0_17 0 t) (hs0_17 0 t) (pinT_0 0) (pinT_1 0) (iblk 0 m ρ c 0 t) (iblk 0 m ρ c 1 t) (iblk 0 m ρ c 2 t) (iblk 0 m ρ c 3 t) (iblk 0 m ρ c 4 t) (iblk 0 m ρ c 5 t) (iblk 0 m ρ c 6 t) (iblk 0 m ρ c 7 t) (iblk 0 m ρ c 8 t) (iblk 0 m ρ c 9 t) (iblk 0 m ρ c 10 t) (hyp0_A_0 0 t) (seqOf (rowOf t r)) (by rw [seq_eq]; exact off2 t) (by rw [seq_eq]; exact off3 t) r _ _

/-- The latent keys. -/
def res15 : S49152x1024.Idx → EReal := fun i => (tokens m c (i 0)).k (i 1)

theorem array15 : (dats 0 m ρ 0 c).arrAt 15 (cfgA 0).N = res15 m c := by
  refine (dats 0 m ρ 0 c).arrAt_eq_of_covers 15 _ (by decide +kernel) fun t hf y => ?_
  have e0 : ((cfgA 0).win 15).index t 0 = t.val := row_idx 15 (.inr (by decide)) t 0
  have e1 : ((cfgA 0).win 15).index t 1 = 0 := row_idx 15 (.inr (by decide)) t 1
  blk_simp
  rw [after0_15]
  obtain ⟨r, x, rfl⟩ : ∃ (r : Fin 256) (x : Fin 1024), y = ix2 r x := ⟨y 0, y 1, eq_ix2 y⟩
  have hR : (((cfgA 0).win 15).blk t).view.emb (ix2 r x) 0 = rowOf t r := Fin.ext (by
    unfold rowOf
    blk_simp [e0])
  have hX : (((cfgA 0).win 15).blk t).view.emb (ix2 r x) 1 = x := Fin.ext (by
    blk_simp [e1])
  unfold res15
  rw [hR, hX]
  exact after15 m ρ c t r x

theorem after16 (t : Fin (cfgA 0).N) (r : Fin 256) (x : Fin 1024) :
    (traj0 0 m ρ c t.val t.isLt).2.2.2.2.2.1 (ix2 r x) = (tokens m c (rowOf t r)).v x := by
  rw [traj0_eq, step0_A, ← token_eq m ρ c t r]
  dsimp only
  exact out16 c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (ms0_6 0 t) (hs0_6 0 t) (ms0_7 0 t) (hs0_7 0 t) (ms0_8 0 t) (hs0_8 0 t) (ms0_9 0 t) (hs0_9 0 t) (ms0_10 0 t) (hs0_10 0 t) (ms0_11 0 t) (hs0_11 0 t) (ms0_12 0 t) (hs0_12 0 t) (ms0_13 0 t) (hs0_13 0 t) (ms0_14 0 t) (hs0_14 0 t) (ms0_15 0 t) (hs0_15 0 t) (ms0_16 0 t) (hs0_16 0 t) (ms0_17 0 t) (hs0_17 0 t) (pinT_0 0) (pinT_1 0) (iblk 0 m ρ c 0 t) (iblk 0 m ρ c 1 t) (iblk 0 m ρ c 2 t) (iblk 0 m ρ c 3 t) (iblk 0 m ρ c 4 t) (iblk 0 m ρ c 5 t) (iblk 0 m ρ c 6 t) (iblk 0 m ρ c 7 t) (iblk 0 m ρ c 8 t) (iblk 0 m ρ c 9 t) (iblk 0 m ρ c 10 t) (hyp0_A_0 0 t) (seqOf (rowOf t r)) (by rw [seq_eq]; exact off2 t) (by rw [seq_eq]; exact off3 t) r x

/-- The latent values. -/
def res16 : S49152x1024.Idx → EReal := fun i => (tokens m c (i 0)).v (i 1)

theorem array16 : (dats 0 m ρ 0 c).arrAt 16 (cfgA 0).N = res16 m c := by
  refine (dats 0 m ρ 0 c).arrAt_eq_of_covers 16 _ (by decide +kernel) fun t hf y => ?_
  have e0 : ((cfgA 0).win 16).index t 0 = t.val := row_idx 16 (.inr (by decide)) t 0
  have e1 : ((cfgA 0).win 16).index t 1 = 0 := row_idx 16 (.inr (by decide)) t 1
  blk_simp
  rw [after0_16]
  obtain ⟨r, x, rfl⟩ : ∃ (r : Fin 256) (x : Fin 1024), y = ix2 r x := ⟨y 0, y 1, eq_ix2 y⟩
  have hR : (((cfgA 0).win 16).blk t).view.emb (ix2 r x) 0 = rowOf t r := Fin.ext (by
    unfold rowOf
    blk_simp [e0])
  have hX : (((cfgA 0).win 16).blk t).view.emb (ix2 r x) 1 = x := Fin.ext (by
    blk_simp [e1])
  unfold res16
  rw [hR, hX]
  exact after16 m ρ c t r x

theorem after17 (t : Fin (cfgA 0).N) (r : Fin 256) (x : Fin 2048) :
    (traj0 0 m ρ c t.val t.isLt).2.2.2.2.2.2 (ix2 r x) = (tokens m c (rowOf t r)).gate x := by
  rw [traj0_eq, step0_A, ← token_eq m ρ c t r]
  dsimp only
  exact out17 c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (ms0_6 0 t) (hs0_6 0 t) (ms0_7 0 t) (hs0_7 0 t) (ms0_8 0 t) (hs0_8 0 t) (ms0_9 0 t) (hs0_9 0 t) (ms0_10 0 t) (hs0_10 0 t) (ms0_11 0 t) (hs0_11 0 t) (ms0_12 0 t) (hs0_12 0 t) (ms0_13 0 t) (hs0_13 0 t) (ms0_14 0 t) (hs0_14 0 t) (ms0_15 0 t) (hs0_15 0 t) (ms0_16 0 t) (hs0_16 0 t) (ms0_17 0 t) (hs0_17 0 t) (pinT_0 0) (pinT_1 0) (iblk 0 m ρ c 0 t) (iblk 0 m ρ c 1 t) (iblk 0 m ρ c 2 t) (iblk 0 m ρ c 3 t) (iblk 0 m ρ c 4 t) (iblk 0 m ρ c 5 t) (iblk 0 m ρ c 6 t) (iblk 0 m ρ c 7 t) (iblk 0 m ρ c 8 t) (iblk 0 m ρ c 9 t) (iblk 0 m ρ c 10 t) (hyp0_A_0 0 t) (seqOf (rowOf t r)) (by rw [seq_eq]; exact off2 t) (by rw [seq_eq]; exact off3 t) r x

/-- The gates. -/
def res17 : S49152x2048.Idx → EReal := fun i => (tokens m c (i 0)).gate (i 1)

theorem array17 : (dats 0 m ρ 0 c).arrAt 17 (cfgA 0).N = res17 m c := by
  refine (dats 0 m ρ 0 c).arrAt_eq_of_covers 17 _ (by decide +kernel) fun t hf y => ?_
  have e0 : ((cfgA 0).win 17).index t 0 = t.val := row_idx 17 (.inr (by decide)) t 0
  have e1 : ((cfgA 0).win 17).index t 1 = 0 := row_idx 17 (.inr (by decide)) t 1
  blk_simp
  rw [after0_17]
  obtain ⟨r, x, rfl⟩ : ∃ (r : Fin 256) (x : Fin 2048), y = ix2 r x := ⟨y 0, y 1, eq_ix2 y⟩
  have hR : (((cfgA 0).win 17).blk t).view.emb (ix2 r x) 0 = rowOf t r := Fin.ext (by
    unfold rowOf
    blk_simp [e0])
  have hX : (((cfgA 0).win 17).blk t).view.emb (ix2 r x) 1 = x := Fin.ext (by
    blk_simp [e1])
  unfold res17
  rw [hR, hX]
  exact after17 m ρ c t r x

end Cert.Blocks

end
-- ==== Proof.Projections.lean ====
module

public import proofs.«01_k».proof.Proof.Rows
public import proofs.«01_k».proof.Proof.Gen.ProjectionsIdeal.Run
public import Idealize.ShloMosaic.Lib.Pointwise
public import Idealize.ShloMosaic.Lib.IdealHost

/-! The second call's reference: its seven results, row by row. -/

@[expose] public section

set_option maxRecDepth 16384

noncomputable section

namespace Cert.Projections

open Cert.ProjectionsIdeal Cert.ProjectionsIdeal.Gen
open Idealize.ShloMosaic Idealize.ShloMosaic.TcCoe Idealize.ShloMosaic.Tactic
open Cert.Rows

/-- Four rows of the modulation, each over 8192 tokens, then eight rows, each over 2048. -/
def spread (a : FVec Ideal S4x1024 .f32) (b : FVec Ideal S8x1024 .f32) : FVec Ideal S49152x1024 .f32 :=
  concatenate S49152x1024 0
    [⟨S32768x1024, shapeCast _ (broadcastInDim S4x8192x1024 ![0, 1, 2] bcast_S4x1x1024_S4x8192x1024_0_1_2
      (broadcastInDim S4x1x1024 ![0, 2] bcast_S4x1024_S4x1x1024_0_2 a)) shapeCasts_S4x8192x1024_S32768x1024⟩,
     ⟨S16384x1024, shapeCast _ (broadcastInDim S8x2048x1024 ![0, 1, 2] bcast_S8x1x1024_S8x2048x1024_0_1_2
      (broadcastInDim S8x1x1024 ![0, 2] bcast_S8x1024_S8x1x1024_0_2 b)) shapeCasts_S8x2048x1024_S16384x1024⟩]
    concatenates_S32768x1024_S16384x1024_S49152x1024_d0

/-- The shift of every token. -/
def shift (md : FVec Ideal S16x6144 .f32) : FVec Ideal S49152x1024 .f32 :=
  spread (extractStridedSlice S4x1024 ![0, 0] md slices_S16x6144_S4x1024_0_0) (extractStridedSlice S8x1024 ![4, 0] md slices_S16x6144_S8x1024_4_0)

/-- The scale of every token. -/
def scale (md : FVec Ideal S16x6144 .f32) : FVec Ideal S49152x1024 .f32 :=
  spread (extractStridedSlice S4x1024 ![0, 1024] md slices_S16x6144_S4x1024_0_1024) (extractStridedSlice S8x1024 ![4, 1024] md slices_S16x6144_S8x1024_4_1024)

/-- A rotary table for each of the four prompts. -/
def rotaryPrompts (t : FVec Ideal S8192x128 .f32) : FVec Ideal S32768x128 .f32 :=
  shapeCast _ (broadcastInDim S4x8192x128 ![0, 1, 2] bcast_S1x8192x128_S4x8192x128_0_1_2
    (broadcastInDim S1x8192x128 ![1, 2] bcast_S8192x128_S1x8192x128_1_2 t)) shapeCasts_S4x8192x128_S32768x128

/-- Its first 2048 rows for each of the eight samples. -/
def rotarySamples (t : FVec Ideal S8192x128 .f32) : FVec Ideal S16384x128 .f32 :=
  shapeCast _ (broadcastInDim S8x2048x128 ![0, 1, 2] bcast_S1x2048x128_S8x2048x128_0_1_2
    (broadcastInDim S1x2048x128 ![1, 2] bcast_S2048x128_S1x2048x128_1_2 (extractStridedSlice S2048x128 ![0, 0] t slices_S8192x128_S2048x128_0_0)))
    shapeCasts_S8x2048x128_S16384x128

/-- A rotary table at every token's position. -/
def rotary (t : FVec Ideal S8192x128 .f32) : FVec Ideal S49152x128 .f32 :=
  concatenate S49152x128 0 [⟨S32768x128, rotaryPrompts t⟩, ⟨S16384x128, rotarySamples t⟩] concatenates_S32768x128_S16384x128_S49152x128_d0

/-- The modulated tokens. -/
def hid (x : FVec Ideal S49152x1024 .f32) (md : FVec Ideal S16x6144 .f32) (g : FVec Ideal S1x1024 .f32) : FVec Ideal S49152x1024 .f32 :=
  addf (mulf (mulf (mulf x (broadcastInDim S49152x1024 ![0, 1] bcast_S49152x1_S49152x1024_0_1 (Host.rsqrt (addf (Host.divf
      (broadcastInDim S49152x1 ![0] bcast_S49152_S49152x1_0 (Host.reduceAdd (mulf x x) (constant S_ .f32 0x00000000#32) reducesTo_S49152x1024_S49152_d1 h_S_))
      (broadcastInDim S49152x1 ![] bcast_S_S49152x1 (constant S_ .f32 0x44800000#32)))
      (broadcastInDim S49152x1 ![] bcast_S_S49152x1 (constant S_ .f32 0x358637BD#32))))))
    (broadcastInDim S49152x1024 ![0, 1] bcast_S1x1024_S49152x1024_0_1 g))
    (addf (broadcastInDim S49152x1024 ![] bcast_S_S49152x1024 (constant S_ .f32 0x3F800000#32)) (scale md))) (shift md)

/-- Their first projection. -/
def proj (h : FVec Ideal S49152x1024 .f32) (w : FVec Ideal S1024x4224 .bf16) : FVec Ideal S49152x4224 .f32 :=
  Host.dotGeneral dot_S49152x1024_S1024x4224_S49152x4224_1_0_0_1_n_n none h (extf .f32 w bitsLt_bf16_f32)

/-- The query latents' projection. -/
def qa (p : FVec Ideal S49152x4224 .f32) (g : FVec Ideal S1x256 .f32) (w : FVec Ideal S256x2048 .bf16) : FVec Ideal S49152x2048 .f32 :=
  Host.dotGeneral dot_S49152x256_S256x2048_S49152x2048_1_0_0_1_n_n none
    (mulf (mulf (extractStridedSlice S49152x256 ![0, 1536] p slices_S49152x4224_S49152x256_0_1536)
      (broadcastInDim S49152x256 ![0, 1] bcast_S49152x1_S49152x256_0_1 (Host.rsqrt (addf (Host.divf
        (broadcastInDim S49152x1 ![0] bcast_S49152_S49152x1_0 (Host.reduceAdd
          (mulf (extractStridedSlice S49152x256 ![0, 1536] p slices_S49152x4224_S49152x256_0_1536)
            (extractStridedSlice S49152x256 ![0, 1536] p slices_S49152x4224_S49152x256_0_1536))
          (constant S_ .f32 0x00000000#32) reducesTo_S49152x256_S49152_d1 h_S_))
        (broadcastInDim S49152x1 ![] bcast_S_S49152x1 (constant S_ .f32 0x43800000#32)))
        (broadcastInDim S49152x1 ![] bcast_S_S49152x1 (constant S_ .f32 0x358637BD#32))))))
      (broadcastInDim S49152x256 ![0, 1] bcast_S1x256_S49152x256_0_1 g)) (extf .f32 w bitsLt_bf16_f32)

/-- The key-value latents' projection. -/
def kv (p : FVec Ideal S49152x4224 .f32) (g : FVec Ideal S1x128 .f32) (w : FVec Ideal S128x2048 .bf16) : FVec Ideal S49152x2048 .f32 :=
  Host.dotGeneral dot_S49152x128_S128x2048_S49152x2048_1_0_0_1_n_n none
    (mulf (mulf (extractStridedSlice S49152x128 ![0, 1792] p slices_S49152x4224_S49152x128_0_1792)
      (broadcastInDim S49152x128 ![0, 1] bcast_S49152x1_S49152x128_0_1 (Host.rsqrt (addf (Host.divf
        (broadcastInDim S49152x1 ![0] bcast_S49152_S49152x1_0 (Host.reduceAdd
          (mulf (extractStridedSlice S49152x128 ![0, 1792] p slices_S49152x4224_S49152x128_0_1792)
            (extractStridedSlice S49152x128 ![0, 1792] p slices_S49152x4224_S49152x128_0_1792))
          (constant S_ .f32 0x00000000#32) reducesTo_S49152x128_S49152_d1 h_S_))
        (broadcastInDim S49152x1 ![] bcast_S_S49152x1 (constant S_ .f32 0x43000000#32)))
        (broadcastInDim S49152x1 ![] bcast_S_S49152x1 (constant S_ .f32 0x358637BD#32))))))
      (broadcastInDim S49152x128 ![0, 1] bcast_S1x128_S49152x128_0_1 g)) (extf .f32 w bitsLt_bf16_f32)

/-- A row of 128 lanes for each of the eight heads. -/
def perHead (y : FVec Ideal S49152x128 .f32) : FVec Ideal S49152x8x128 .f32 :=
  broadcastInDim S49152x8x128 ![0, 1, 2] bcast_S49152x1x128_S49152x8x128_0_1_2 (broadcastInDim S49152x1x128 ![0, 2] bcast_S49152x128_S49152x1x128_0_2 y)

/-- What the queries are divided by. -/
def denom : FVec Ideal S_ .f32 := id (mulf (Host.sqrt (constant S_ .f32 0x42C00000#32)) (Host.log (constant S_ .f32 0x40000000#32)))

/-- The queries. -/
def queries (y : FVec Ideal S49152x2048 .f32) (cos sin : FVec Ideal S49152x128 .f32) : FVec Ideal S49152x1024 .bf16 :=
  truncf .bf16 (shapeCast _ (Host.divf (addf
    (mulf (shapeCast _ (extractStridedSlice S49152x1024 ![0, 0] y slices_S49152x2048_S49152x1024_0_0) shapeCasts_S49152x1024_S49152x8x128) (perHead cos))
    (mulf (shapeCast _ (extractStridedSlice S49152x1024 ![0, 1024] y slices_S49152x2048_S49152x1024_0_1024) shapeCasts_S49152x1024_S49152x8x128) (perHead sin)))
    (broadcastInDim S49152x8x128 ![] bcast_S_S49152x8x128 denom)) shapeCasts_S49152x8x128_S49152x1024) bitsLt_bf16_f32

/-- The keys. -/
def keys (y : FVec Ideal S49152x2048 .f32) (p : FVec Ideal S49152x4224 .f32) (cos sin : FVec Ideal S49152x128 .f32) : FVec Ideal S49152x1024 .bf16 :=
  truncf .bf16 (shapeCast _ (addf
    (shapeCast _ (extractStridedSlice S49152x1024 ![0, 0] y slices_S49152x2048_S49152x1024_0_0) shapeCasts_S49152x1024_S49152x8x128)
    (perHead (addf (mulf (extractStridedSlice S49152x128 ![0, 1920] p slices_S49152x4224_S49152x128_0_1920) cos)
      (mulf (extractStridedSlice S49152x128 ![0, 2048] p slices_S49152x4224_S49152x128_0_2048) sin)))) shapeCasts_S49152x8x128_S49152x1024) bitsLt_bf16_f32

/-- The values. -/
def values (y : FVec Ideal S49152x2048 .f32) (vo : FVec Ideal S1x1024 .f32) : FVec Ideal S49152x1024 .bf16 :=
  truncf .bf16 (addf (extractStridedSlice S49152x1024 ![0, 1024] y slices_S49152x2048_S49152x1024_0_1024)
    (broadcastInDim S49152x1024 ![0, 1] bcast_S1x1024_S49152x1024_0_1 vo)) bitsLt_bf16_f32

/-- The gates. -/
def gates (p : FVec Ideal S49152x4224 .f32) : FVec Ideal S49152x2048 .bf16 :=
  truncf .bf16 (Host.divf (broadcastInDim S49152x2048 ![] bcast_S_S49152x2048 (constant S_ .f32 0x3F800000#32))
    (addf (broadcastInDim S49152x2048 ![] bcast_S_S49152x2048 (constant S_ .f32 0x3F800000#32))
      (Host.exp (Host.negf (extractStridedSlice S49152x2048 ![0, 2176] p slices_S49152x4224_S49152x2048_0_2176))))) bitsLt_bf16_f32

section
variable (m : (ℓ : Loc nD τ sig) → Buf (Elt Ideal) ℓ) (c : Dev nD)

/-- The first projection of the arguments. -/
abbrev projOf : FVec Ideal S49152x4224 .f32 :=
  proj (hid (m ((c : Thread nD τ).loc main_arg2)) (m ((c : Thread nD τ).loc main_arg3)) (m ((c : Thread nD τ).loc main_arg4))) (m ((c : Thread nD τ).loc main_arg5))

theorem queries_eq : Value.res_main_v120 m c
    = queries (qa (projOf m c) (m ((c : Thread nD τ).loc main_arg6)) (m ((c : Thread nD τ).loc main_arg7)))
        (rotary (m ((c : Thread nD τ).loc main_arg10))) (rotary (m ((c : Thread nD τ).loc main_arg11))) := rfl

theorem keys_eq : Value.res_main_v122 m c
    = keys (kv (projOf m c) (m ((c : Thread nD τ).loc main_arg8)) (m ((c : Thread nD τ).loc main_arg9))) (projOf m c)
        (rotary (m ((c : Thread nD τ).loc main_arg10))) (rotary (m ((c : Thread nD τ).loc main_arg11))) := rfl

theorem values_eq : Value.res_main_v123 m c
    = values (kv (projOf m c) (m ((c : Thread nD τ).loc main_arg8)) (m ((c : Thread nD τ).loc main_arg9))) (m ((c : Thread nD τ).loc main_arg12)) := rfl
end

/-- The neighbourhood part's queries. -/
def near0 (p : FVec Ideal S49152x4224 .f32) : FVec Ideal S49152x512 .bf16 :=
  truncf .bf16 (extractStridedSlice S49152x512 ![0, 0] p slices_S49152x4224_S49152x512_0_0) bitsLt_bf16_f32
/-- The neighbourhood part's keys. -/
def near1 (p : FVec Ideal S49152x4224 .f32) : FVec Ideal S49152x512 .bf16 :=
  truncf .bf16 (extractStridedSlice S49152x512 ![0, 512] p slices_S49152x4224_S49152x512_0_512) bitsLt_bf16_f32
/-- The neighbourhood part's values. -/
def near2 (p : FVec Ideal S49152x4224 .f32) : FVec Ideal S49152x512 .bf16 :=
  truncf .bf16 (extractStridedSlice S49152x512 ![0, 1024] p slices_S49152x4224_S49152x512_0_1024) bitsLt_bf16_f32

theorem root_log_ne : Real.sqrt 96 * Real.log 2 ≠ 0 := mul_ne_zero (by positivity) (Real.log_pos (by norm_num)).ne'

theorem denom_eq : denom ix0 = ((Real.sqrt 96 * Real.log 2 : ℝ) : EReal) := by
  have e96 : Ideal.ofBits .f32 0x42C00000#32 = ((96 : ℝ) : EReal) := by
    simp [Ideal.ofBits, Ideal.ieee, -EReal.coe_mul]
    norm_num
  have e2 : Ideal.ofBits .f32 0x40000000#32 = ((2 : ℝ) : EReal) := by
    simp [Ideal.ofBits, Ideal.ieee, -EReal.coe_mul]
    norm_num
  show Ideal.sqrt (Ideal.ofBits .f32 0x42C00000#32) * Ideal.log (Ideal.ofBits .f32 0x40000000#32) = _
  rw [e96, e2, Ideal.sqrt_coe, Ideal.log_coe, if_neg (by norm_num), if_neg (by norm_num), EReal.coe_mul]

theorem spread_at (a : FVec Ideal S4x1024 .f32) (b : FVec Ideal S8x1024 .f32) (R : Fin 49152) (k : Fin 1024) :
    spread a b (ix2 R k) = if h : R.val < 32768 then a (ix2 ⟨R.val / 8192, by omega⟩ k) else b (ix2 ⟨(R.val - 32768) / 2048, by omega⟩ k) := by
  pointwise [spread]

theorem shift_at (md : FVec Ideal S16x6144 .f32) (R : Fin 49152) (k : Fin 1024) : shift md (ix2 R k) = md (ix2 (seqOf R) ⟨0 + k.val, by omega⟩) := by
  rw [shift, spread_at]
  split_ifs with h
  · pointwise
    exact congrArg md (congrArg₂ ix2 (Fin.ext (by simp [seqOf, h])) (Fin.ext (by simp)))
  · pointwise
    exact congrArg md (congrArg₂ ix2 (Fin.ext (by simp [seqOf, h])) (Fin.ext (by simp)))

theorem scale_at (md : FVec Ideal S16x6144 .f32) (R : Fin 49152) (k : Fin 1024) : scale md (ix2 R k) = md (ix2 (seqOf R) ⟨1024 + k.val, by omega⟩) := by
  rw [scale, spread_at]
  split_ifs with h
  · pointwise
    exact congrArg md (congrArg₂ ix2 (Fin.ext (by simp [seqOf, h])) rfl)
  · pointwise
    exact congrArg md (congrArg₂ ix2 (Fin.ext (by simp [seqOf, h])) rfl)

theorem rotaryPrompts_at (t : FVec Ideal S8192x128 .f32) (R : Fin 32768) (l : Fin 128) :
    rotaryPrompts t (ix2 R l) = t (ix2 ⟨R.val % 8192, by omega⟩ l) := by
  pointwise [rotaryPrompts]

theorem rotarySamples_at (t : FVec Ideal S8192x128 .f32) (R : Fin 16384) (l : Fin 128) :
    rotarySamples t (ix2 R l) = t (ix2 ⟨R.val % 2048, by omega⟩ l) := by
  pointwise [rotarySamples]

theorem rotary_at (t : FVec Ideal S8192x128 .f32) (R : Fin 49152) (l : Fin 128) : rotary t (ix2 R l) = t (ix2 (posOf R) l) := by
  have e : rotary t (ix2 R l) = if h : R.val < 32768 then rotaryPrompts t (ix2 ⟨R.val, h⟩ l)
      else rotarySamples t (ix2 ⟨R.val - 32768, by have := R.isLt; omega⟩ l) := by
    pointwise [rotary]
  rw [e]
  split_ifs with h
  · rw [rotaryPrompts_at]
    exact congrArg t (congrArg₂ ix2 (Fin.ext ((if_pos h).symm)) rfl)
  · rw [rotarySamples_at]
    exact congrArg t (congrArg₂ ix2 (Fin.ext ((if_neg h).symm)) rfl)

section
variable (a : Token) (R : Fin 49152)

theorem hid_at (x : FVec Ideal S49152x1024 .f32) (md : FVec Ideal S16x6144 .f32) (g : FVec Ideal S1x1024 .f32)
    (hx : ∀ k, x (ix2 R k) = a.x k) (hg : ∀ k, g (ix2 0 k) = a.g k) (hsc : ∀ k, scale md (ix2 R k) = a.sc k)
    (hsh : ∀ k, shift md (ix2 R k) = a.sh k) (k : Fin 1024) : hid x md g (ix2 R k) = a.hid k := by
  pointwise [hid]
  simp only [hx, hg, hsc, hsh]
  rfl

theorem proj_at (h : FVec Ideal S49152x1024 .f32) (w : FVec Ideal S1024x4224 .bf16)
    (hh : ∀ k, h (ix2 R k) = a.hid k) (hw : ∀ k j, w (ix2 k j) = a.w k j) (j : Fin 4224) : proj h w (ix2 R j) = a.proj j := by
  pointwise [proj]
  simp only [hh, hw]
  rfl

variable (p : FVec Ideal S49152x4224 .f32) (hp : ∀ j, p (ix2 R j) = a.proj j)
include hp

theorem qa_at (g : FVec Ideal S1x256 .f32) (w : FVec Ideal S256x2048 .bf16)
    (hg : ∀ k, g (ix2 0 k) = a.gq k) (hw : ∀ k j, w (ix2 k j) = a.wq k j) (j : Fin 2048) : qa p g w (ix2 R j) = a.qa j := by
  pointwise [qa]
  simp only [hp, hg, hw]
  rfl

theorem kv_at (g : FVec Ideal S1x128 .f32) (w : FVec Ideal S128x2048 .bf16)
    (hg : ∀ k, g (ix2 0 k) = a.gk k) (hw : ∀ k j, w (ix2 k j) = a.wk k j) (j : Fin 2048) : kv p g w (ix2 R j) = a.kv j := by
  pointwise [kv]
  simp only [hp, hg, hw]
  rfl

theorem near0_at (j : Fin 512) : near0 p (ix2 R j) = a.qn j := by
  pointwise [near0]
  simp only [hp, Token.qn, Nat.zero_add]

theorem near1_at (j : Fin 512) : near1 p (ix2 R j) = a.kn j := by
  pointwise [near1]
  exact hp _

theorem near2_at (j : Fin 512) : near2 p (ix2 R j) = a.vn j := by
  pointwise [near2]
  exact hp _

theorem gates_at (j : Fin 2048) : gates p (ix2 R j) = a.gate j := by
  pointwise [gates]
  simp only [hp]
  rfl

variable (y : FVec Ideal S49152x2048 .f32) (cos sin : FVec Ideal S49152x128 .f32)
  (hc : ∀ l, cos (ix2 R l) = a.rc l) (hs : ∀ l, sin (ix2 R l) = a.rs l)

omit hp in
theorem values_at (vo : FVec Ideal S1x1024 .f32) (hy : ∀ j, y (ix2 R j) = a.kv j) (hv : ∀ j, vo (ix2 0 j) = a.vo j) (j : Fin 1024) :
    values y vo (ix2 R j) = a.v j := by
  pointwise [values]
  simp only [hy, hv]
  rfl

include hc hs

theorem keys_at (hy : ∀ j, y (ix2 R j) = a.kv j) (j : Fin 1024) : keys y p cos sin (ix2 R j) = a.k j := by
  pointwise [keys, perHead]
  simp only [hp, hy, hc, hs, Token.k, Token.kh, Token.kr, Nat.div_add_mod]

omit hp in
theorem queries_at (hy : ∀ j, y (ix2 R j) = a.qa j) (j : Fin 1024) :
    queries y cos sin (ix2 R j) = a.q ((((Real.sqrt 96)⁻¹ * (Real.log 2)⁻¹ : ℝ) : EReal)) j := by
  pointwise [queries, perHead]
  simp only [hy, hc, hs, denom_eq, Token.q, Token.qh, Nat.add_assoc, Nat.div_add_mod]
  rw [Ideal.div_coe root_log_ne, one_div, mul_inv]
end
section
variable (m : (ℓ : Loc nD τ sig) → Buf (Elt Ideal) ℓ) (c : Dev nD)

/-- The token of row `R`, of the arguments. -/
def token (R : Fin 49152) : Token :=
  tokenAt (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) R

theorem projOf_at (R : Fin 49152) (j : Fin 4224) : projOf m c (ix2 R j) = (token m c R).proj j :=
  proj_at (token m c R) R _ _ (fun k => hid_at (token m c R) R _ _ _ (fun _ => rfl) (fun _ => rfl) (fun k => scale_at _ R k) (fun k => shift_at _ R k) k)
    (fun _ _ => rfl) j

theorem kvOf_at (R : Fin 49152) (j : Fin 2048) :
    kv (projOf m c) (m ((c : Thread nD τ).loc main_arg8)) (m ((c : Thread nD τ).loc main_arg9)) (ix2 R j) = (token m c R).kv j :=
  kv_at (token m c R) R _ (projOf_at m c R) _ _ (fun _ => rfl) (fun _ _ => rfl) j

theorem result0 : near0 (projOf m c) = fun i => (token m c (i 0)).qn (i 1) := by
  funext i
  obtain ⟨R, x, rfl⟩ : ∃ R x, i = ix2 R x := ⟨_, _, eq_ix2 i⟩
  exact near0_at (token m c R) R _ (projOf_at m c R) x

theorem result1 : near1 (projOf m c) = fun i => (token m c (i 0)).kn (i 1) := by
  funext i
  obtain ⟨R, x, rfl⟩ : ∃ R x, i = ix2 R x := ⟨_, _, eq_ix2 i⟩
  exact near1_at (token m c R) R _ (projOf_at m c R) x

theorem result2 : near2 (projOf m c) = fun i => (token m c (i 0)).vn (i 1) := by
  funext i
  obtain ⟨R, x, rfl⟩ : ∃ R x, i = ix2 R x := ⟨_, _, eq_ix2 i⟩
  exact near2_at (token m c R) R _ (projOf_at m c R) x

theorem result3 : Value.res_main_v120 m c = fun i => (token m c (i 0)).q (((Real.sqrt 96)⁻¹ * (Real.log 2)⁻¹ : ℝ) : EReal) (i 1) := by
  rw [queries_eq]
  funext i
  obtain ⟨R, x, rfl⟩ : ∃ R x, i = ix2 R x := ⟨_, _, eq_ix2 i⟩
  exact queries_at (token m c R) R _ _ _ (fun l => rotary_at _ R l) (fun l => rotary_at _ R l)
    (fun j => qa_at (token m c R) R _ (projOf_at m c R) _ _ (fun _ => rfl) (fun _ _ => rfl) j) x

theorem result4 : Value.res_main_v122 m c = fun i => (token m c (i 0)).k (i 1) := by
  rw [keys_eq]
  funext i
  obtain ⟨R, x, rfl⟩ : ∃ R x, i = ix2 R x := ⟨_, _, eq_ix2 i⟩
  exact keys_at (token m c R) R _ (projOf_at m c R) _ _ _ (fun l => rotary_at _ R l) (fun l => rotary_at _ R l) (kvOf_at m c R) x

theorem result5 : Value.res_main_v123 m c = fun i => (token m c (i 0)).v (i 1) := by
  rw [values_eq]
  funext i
  obtain ⟨R, x, rfl⟩ : ∃ R x, i = ix2 R x := ⟨_, _, eq_ix2 i⟩
  exact values_at (token m c R) R _ _ (kvOf_at m c R) (fun _ => rfl) x

theorem result6 : gates (projOf m c) = fun i => (token m c (i 0)).gate (i 1) := by
  funext i
  obtain ⟨R, x, rfl⟩ : ∃ R x, i = ix2 R x := ⟨_, _, eq_ix2 i⟩
  exact gates_at (token m c R) R _ (projOf_at m c R) x

end

end Cert.Projections

end
-- ==== Proof.Both.lean ====
module

public import proofs.«01_k».proof.Proof.Arrays
public import proofs.«01_k».proof.Proof.Projections
public import proofs.«01_k».proof.Proof.Tiles
public import proofs.«01_k».proof.Defs
public import Idealize.ShloMosaic.Adequacy

/-! The second call: the kernel's seven arrays are the reference's seven results. -/

@[expose] public section

set_option maxRecDepth 16384

noncomputable section

namespace Cert.Both

open Idealize.ShloMosaic Idealize.ShloMosaic.TcCoe Idealize.SL.Sem

/-- The scale the kernel's constant is named by. -/
theorem qscale_eq : Cert.Blocks.qscale = (((Real.sqrt 96)⁻¹ * (Real.log 2)⁻¹ : ℝ) : EReal) :=
  IdealRules.named_const.ideal_named_scalar _ _ _ _ rfl

theorem equal : haveI := Cert.PremixIdeal.Gen.facts; haveI := Cert.ProjectionsIdeal.Gen.facts; haveI := Cert.Pre_tiles.Gen.facts
    Cert.algebraic_PremixIdeal_ProjectionsIdeal := by
  intro m g m' g' h he
  have ht : ∀ c R, Cert.Projections.token m' c R = Cert.Blocks.tokens m c R := fun c R => by
    obtain ⟨-, -, e2, e3, e4, e5, e6, e7, e8, e9, e10, e11, e12⟩ := he c
    unfold Cert.Projections.token Cert.Blocks.tokens
    rw [e2, e3, e4, e5, e6, e7, e8, e9, e10, e11, e12]
  refine ⟨fun c => Cert.Blocks.res11 m c, fun c => Cert.Blocks.res12 m c, fun c => Cert.Blocks.res13 m c, fun c => Cert.Blocks.res14 m c,
    fun c => Cert.Blocks.res15 m c, fun c => Cert.Blocks.res16 m c, fun c => Cert.Blocks.res17 m c, ?_, ?_⟩
  · have hp := Cert.Tiles.pinned_ideal m h
    refine (θ_run _ _ _).mono (fun r hr c => ⟨?_, ?_, ?_, ?_, ?_, ?_, ?_, hr.2 c⟩)
      (θ_run_and (Cert.PremixIdeal.Gen.run_main 0 m g hp) (Cert.PremixIdeal.Gen.unchanged 0 m g hp))
    · exact ((hr.1 c).1 11).trans (Cert.Blocks.array11 m g c)
    · exact ((hr.1 c).1 12).trans (Cert.Blocks.array12 m g c)
    · exact ((hr.1 c).1 13).trans (Cert.Blocks.array13 m g c)
    · exact ((hr.1 c).1 14).trans (Cert.Blocks.array14 m g c)
    · exact ((hr.1 c).1 15).trans (Cert.Blocks.array15 m g c)
    · exact ((hr.1 c).1 16).trans (Cert.Blocks.array16 m g c)
    · exact ((hr.1 c).1 17).trans (Cert.Blocks.array17 m g c)
  · refine (θ_run _ _ _).mono (fun r hr c => ?_) (Cert.ProjectionsIdeal.Value.run m' g')
    obtain ⟨h0, h1, h2, h3, h4, h5, h6, ha⟩ := hr c
    refine ⟨?_, ?_, ?_, ?_, ?_, ?_, ?_, ha⟩
    · exact (h0.trans (Cert.Projections.result0 m' c)).trans (funext fun i => congrArg (fun a : Cert.Rows.Token => a.qn (i 1)) (ht c (i 0)))
    · exact (h1.trans (Cert.Projections.result1 m' c)).trans (funext fun i => congrArg (fun a : Cert.Rows.Token => a.kn (i 1)) (ht c (i 0)))
    · exact (h2.trans (Cert.Projections.result2 m' c)).trans (funext fun i => congrArg (fun a : Cert.Rows.Token => a.vn (i 1)) (ht c (i 0)))
    · refine (h3.trans (Cert.Projections.result3 m' c)).trans (funext fun i => ?_)
      show _ = (Cert.Blocks.tokens m c (i 0)).q Cert.Blocks.qscale (i 1)
      rw [qscale_eq]
      exact congrArg (fun a : Cert.Rows.Token => a.q _ (i 1)) (ht c (i 0))
    · exact (h4.trans (Cert.Projections.result4 m' c)).trans (funext fun i => congrArg (fun a : Cert.Rows.Token => a.k (i 1)) (ht c (i 0)))
    · exact (h5.trans (Cert.Projections.result5 m' c)).trans (funext fun i => congrArg (fun a : Cert.Rows.Token => a.v (i 1)) (ht c (i 0)))
    · exact (h6.trans (Cert.Projections.result6 m' c)).trans (funext fun i => congrArg (fun a : Cert.Rows.Token => a.gate (i 1)) (ht c (i 0)))

end Cert.Both

end
-- ==== Proof.Choice.lean ====
module

public import proofs.«01_k».proof.Proof.Rows
public import Idealize.ShloMosaic.Lib.Pointwise
public import Idealize.ShloMosaic.Lib.SortFacts
public import Idealize.ShloMosaic.Lib.SortPrefix
public import Idealize.ShloMosaic.Lib.WordCmp
@[expose] public section
noncomputable section
namespace Cert.Choice
open Idealize.ShloMosaic Idealize.ShloMosaic.TcCoe

/-! Choosing the greatest of a row's entries: the first of the greatest, by a sort or by a maximum and a minimum. -/

section first
variable {n : ℕ}

/-- Of the lanes in `S`, lane `i` is the first at which `f` is greatest. -/
def First (f : Fin n → EReal) (S : Fin n → Prop) (i : Fin n) : Prop :=
  S i ∧ ∀ j, S j → f j ≤ f i ∧ (f j = f i → i ≤ j)

/-- There is one such lane at most. -/
theorem First.unique {f : Fin n → EReal} {S : Fin n → Prop} {i j : Fin n} (h : First f S i) (h' : First f S j) : i = j :=
  let a := h.2 j h'.1
  let b := h'.2 i h.1
  let e := le_antisymm a.1 b.1
  le_antisymm (a.2 e) (b.2 e.symm)

/-- Greater first, and of equal entries the earlier lane. -/
def ahead (f : Fin n → EReal) (k k' : Fin n) : Bool := decide (f k' < f k) || (decide (f k = f k') && decide (k < k'))

theorem ahead_total (f : Fin n → EReal) : StrictTotalBefore (ahead f) :=
  StrictTotalBefore.of_key_then_position (fun a b => decide (b < a)) f (fun a => by simp)
    (fun a b c h h' => by simp only [decide_eq_true_eq] at *; exact h'.trans h)
    (fun a b => by simp only [decide_eq_true_eq]; rcases lt_trichotomy a b with h | h | h <;> simp [h])

/-- The host's comparison in a sort of a row, greater first. -/
def greater (f : Fin n → EReal) (k k' : Fin n) : Bool := FloatOps.cmpfTotal (F := Ideal) (φ := .f32) .gt (f k) (f k') == 1#1

theorem greater_eq (f : Fin n → EReal) (k k' : Fin n) : greater f k k' = decide (f k' < f k) := by
  unfold greater
  show (BitVec.ofBool (decide (f k' < f k)) == 1#1) = _
  by_cases h : f k' < f k <;> simp [h]

/-- A stable sort by the entries alone is the sort that puts equal entries in the order of their lanes. -/
theorem stable_eq (f : Fin n → EReal) (l : List (Fin n)) (hl : l.Pairwise (· < ·)) :
    stableSort (greater f) l = stableSort (ahead f) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    rw [greater_eq, ahead]
    simp [not_lt.2 hab.le]

/-- The lane that a descending stable sort of a row puts at a place. -/
def place (f : Fin n → EReal) : Fin n → Fin n := sortedFrom (greater f)

theorem place_eq (f : Fin n → EReal) : place f = sortedFrom (ahead f) := by
  funext k
  have h : sortPositions n (greater f) = sortPositions n (ahead f) := stable_eq f _ (List.pairwise_lt_finRange n)
  unfold place sortedFrom
  rw [List.get_of_eq h]
  rfl

/-- An earlier place is ahead of a later one. -/
theorem place_ahead (f : Fin n → EReal) {i j : Fin n} (h : i < j) : ahead f (place f i) (place f j) = true := by
  have t := ahead_total f
  rw [place_eq]
  have e := sortedFrom_noInversion (ahead f) (ahead f) (fun a b => t.asymm a b) (fun _ _ h => h) t.negTrans i j h
  rcases t.total (sortedFrom (ahead f) i) (sortedFrom (ahead f) j)
    (fun q => h.ne (sortedFrom_injective _ q)) with q | q
  · exact q
  · rw [e] at q; cases q

theorem of_ahead {f : Fin n → EReal} {i j : Fin n} (h : ahead f i j = true) : f j ≤ f i ∧ (f j = f i → i ≤ j) := by
  simp only [ahead, Bool.or_eq_true, Bool.and_eq_true, decide_eq_true_eq] at h
  rcases h with h | ⟨h, q⟩
  · exact ⟨h.le, fun e => absurd e h.ne⟩
  · exact ⟨h.ge, fun _ => q.le⟩

/-- The sort's place `p` holds the first of the greatest among the lanes at no earlier place. -/
theorem place_first (f : Fin n → EReal) (p : Fin n) : First f (fun j => ∀ q, q < p → j ≠ place f q) (place f p) := by
  refine ⟨fun q h e => h.ne' (sortedFrom_injective _ e), fun j hj => ?_⟩
  obtain ⟨q, rfl⟩ := sortedFrom_surjective (greater f) j
  rcases lt_trichotomy q p with h | h | h
  · exact absurd rfl (hj q h)
  · subst h; exact ⟨le_rfl, fun _ => le_rfl⟩
  · exact of_ahead (place_ahead f h)

/-- The running maximum from minus infinity is the entry that none exceeds. -/
theorem max_eq {f : Fin n → EReal} {i : Fin n} (h : ∀ j, f j ≤ f i) :
    Finset.fold max (Ideal.ofBits .f32 0xFF800000#32) f Finset.univ = f i := by
  have e : (Ideal.ofBits .f32 0xFF800000#32 : EReal) = ⊥ := by simp [Ideal.ofBits, Ideal.ieee]
  rw [e]
  exact le_antisymm ((Finset.fold_max_le _).2 ⟨bot_le, fun j _ => h j⟩) ((Finset.le_fold_max _).2 (Or.inr ⟨i, Finset.mem_univ i, le_rfl⟩))

/-- The running signed minimum of words is the entry that none is below. -/
theorem min_eq {f : Fin n → BitVec 32} {i : Fin n} (h : ∀ j, (f i).toInt ≤ (f j).toInt) :
    Finset.fold IntOp.minsi (2147483647#32) f Finset.univ = f i := by
  have key : ∀ s : Finset (Fin n), (f i).toInt ≤ (Finset.fold IntOp.minsi (2147483647#32) f s).toInt ∧
      (i ∈ s → Finset.fold IntOp.minsi (2147483647#32) f s = f i) := by
    intro s
    induction s using Finset.induction_on with
    | empty =>
      refine ⟨?_, fun h => absurd h (Finset.notMem_empty i)⟩
      have := BitVec.toInt_lt (x := f i)
      simp only [Finset.fold_empty]
      have e : (2147483647#32 : BitVec 32).toInt = 2147483647 := by decide
      rw [e]; omega
    | insert a s ha ih =>
      rw [Finset.fold_insert ha]
      have m : ∀ x y : BitVec 32, IntOp.minsi x y = if x.toInt < y.toInt then x else y := fun x y => by
        simp only [IntOp.minsi, BitVec.slt, decide_eq_true_eq]
      rw [m]
      refine ⟨by split <;> [exact h a; exact ih.1], fun hi => ?_⟩
      rcases Finset.mem_insert.1 hi with rfl | hi
      · split
        · rfl
        · next q => exact BitVec.eq_of_toInt_eq (le_antisymm (not_lt.1 q) ih.1)
      · rw [ih.2 hi, if_neg (not_lt.2 (h a))]
  exact (key _).2 (Finset.mem_univ i)

end first

/-- A sum over the lanes from `a` on, `n` of them, is the sum over those lanes counted from nought. -/
theorem sum_window {m : ℕ} (n a : ℕ) (h : a + n ≤ m) (f : Fin m → EReal) :
    ∑ c, (if a ≤ c.val ∧ c.val < a + n then f c else 0) = ∑ k : Fin n, f ⟨a + k.val, by omega⟩ := by
  rw [← Finset.sum_filter]
  refine (Finset.sum_bij (fun (k : Fin n) _ => (⟨a + k.val, by omega⟩ : Fin m)) (fun k _ => ?_) (fun k _ k' _ e => ?_)
    (fun c hc => ?_) (fun _ _ => rfl)).symm
  · exact Finset.mem_filter.2 ⟨Finset.mem_univ _, by show a ≤ a + k.val ∧ a + k.val < a + n; omega⟩
  · have := congrArg Fin.val e; exact Fin.ext (by simpa using this)
  · obtain ⟨h1, h2⟩ := (Finset.mem_filter.1 hc).2
    exact ⟨⟨c.val - a, by omega⟩, Finset.mem_univ _, Fin.ext (by show a + (c.val - a) = c.val; omega)⟩

end Cert.Choice
-- ==== Proof.Router.lean ====
module

public import proofs.«01_k».proof.Proof.Choice
public import proofs.«01_k».proof.Proof.Online
@[expose] public section
noncomputable section
namespace Cert.Router
attribute [local irreducible] Cert.Choice.place
open Idealize.ShloMosaic Idealize.ShloMosaic.TcCoe
open Cert.Choice

/-! One token's router: the reference takes the top of two softmaxes; the kernel takes maxima and first lanes over
    the 128 lanes of the logits, all but a window of them masked. -/

section soft
variable {n : ℕ}

/-- The softmax's shift: the greatest entry. -/
def top (f : Fin n → EReal) : EReal :=
  max (Ideal.ofBits .f32 0xFF800000#32) (Finset.fold max (Ideal.ofBits .f32 0xFF800000#32) f Finset.univ)

/-- The softmax of a row. -/
def soft (f : Fin n → EReal) (j : Fin n) : EReal :=
  Ideal.div (Ideal.exp (f j - top f)) (∑ x, Ideal.exp (f x - top f))

theorem top_eq {f : Fin n → EReal} {i : Fin n} (h : ∀ j, f j ≤ f i) : top f = f i := by
  have e : (Ideal.ofBits .f32 0xFF800000#32 : EReal) = ⊥ := by simp [Ideal.ofBits, Ideal.ieee]
  rw [top, max_eq h, e, max_eq_right bot_le]

/-- The softmax of real entries, as a real. -/
theorem soft_real (l : Fin n → ℝ) (i : Fin n) (h : ∀ j, l j ≤ l i) (j : Fin n) :
    soft (fun k => (l k : EReal)) j = ((Real.exp (l j - l i) * (1 / ∑ x, Real.exp (l x - l i)) : ℝ) : EReal) := by
  have t : top (fun k => (l k : EReal)) = l i := top_eq (i := i) fun j => EReal.coe_le_coe_iff.2 (h j)
  have s : (0 : ℝ) < ∑ x, Real.exp (l x - l i) := Finset.sum_pos (fun x _ => Real.exp_pos _) ⟨i, Finset.mem_univ i⟩
  have e : ∀ k, Ideal.exp ((l k : EReal) - (l i : EReal)) = ((Real.exp (l k - l i) : ℝ) : EReal) := fun k => by
    rw [← EReal.coe_sub, Ideal.exp_coe]
  unfold soft
  rw [t]
  simp only [e]
  rw [← Cert.Online.coe_sum, Ideal.div_coe s.ne', ← EReal.coe_mul]

/-- Softmax keeps the order of real entries. -/
theorem soft_le (l : Fin n → ℝ) (i : Fin n) (h : ∀ j, l j ≤ l i) (j k : Fin n) :
    soft (fun k => (l k : EReal)) j ≤ soft (fun k => (l k : EReal)) k ↔ l j ≤ l k := by
  have s : (0 : ℝ) < ∑ x, Real.exp (l x - l i) := Finset.sum_pos (fun x _ => Real.exp_pos _) ⟨i, Finset.mem_univ i⟩
  rw [soft_real l i h, soft_real l i h, EReal.coe_le_coe_iff, mul_le_mul_iff_left₀ (by positivity), Real.exp_le_exp,
    sub_le_sub_iff_right]

/-- The first of the softmax's greatest is the first of the greatest entries. -/
theorem soft_first (l : Fin n → ℝ) (hn : 0 < n) (S : Fin n → Prop) (i : Fin n) (h : First (soft fun k => (l k : EReal)) S i) :
    First (fun k => (l k : EReal)) S i := by
  haveI : Nonempty (Fin n) := ⟨⟨0, hn⟩⟩
  obtain ⟨g, hg⟩ := Finite.exists_max l
  refine ⟨h.1, fun j hj => ?_⟩
  have q := h.2 j hj
  have a := soft_le l g hg
  refine ⟨EReal.coe_le_coe_iff.2 ((a j i).1 q.1), fun e => q.2 (le_antisymm ((a j i).2 ?_) ((a i j).2 ?_))⟩
  · exact (EReal.coe_eq_coe_iff.1 e).le
  · exact (EReal.coe_eq_coe_iff.1 e).ge

theorem soft_nonneg (l : Fin n → ℝ) (hn : 0 < n) (j : Fin n) : 0 ≤ soft (fun k => (l k : EReal)) j := by
  haveI : Nonempty (Fin n) := ⟨⟨0, hn⟩⟩
  obtain ⟨g, hg⟩ := Finite.exists_max l
  rw [soft_real l g hg]
  exact EReal.coe_nonneg.2 (mul_nonneg (Real.exp_pos _).le (one_div_nonneg.2 (Finset.sum_nonneg fun x _ => (Real.exp_pos _).le)))

end soft

section reference
variable (L : Fin 128 → EReal)

/-- The logits of the four groups. -/
def groups (j : Fin 4) : EReal := L ⟨j.val, by omega⟩

/-- The group of a token. -/
def group : Fin 4 := place (soft (groups L)) 0

/-- The logits of the group's eight experts. -/
def experts (k : Fin 8) : EReal := L ⟨4 + (8 * (group L).val + k.val), by have := (group L).isLt; omega⟩

/-- The token's expert at a place of the ranking. -/
def expert (q : Fin 8) : Fin 8 := place (soft (experts L)) q

/-- The lanes of the experts' numbers, nought past the two. -/
def ids (c : Fin 128) : BitVec 32 :=
  if h : c.val < 2 then
    IntOp.addi (IntOp.muli (BitVec.ofNat 32 (group L).val) 8#32) (BitVec.ofNat 32 (expert L ⟨c.val, by omega⟩).val)
  else 0#32

/-- The lanes of the experts' weights, nought past the two. -/
def weights (c : Fin 128) : EReal :=
  if h : c.val < 2 then
    Ideal.div (soft (groups L) (group L) * soft (experts L) (expert L ⟨c.val, by omega⟩))
      (∑ x : Fin 2, soft (experts L) (expert L ⟨x.val, by omega⟩))
  else 0

end reference

section lanes
variable (L : Fin 128 → EReal)

/-- A lane's number. -/
def lane (c : Fin 128) : BitVec 32 := BitVec.ofNat 32 c.val
/-- The masks' low value. -/
def low : EReal := Ideal.ofBits .f32 0xF149F2CA#32
def ninf : EReal := Ideal.ofBits .f32 0xFF800000#32

def gl (c : Fin 128) : EReal := Scalar.select (IntOp.cmpi .slt (lane c) 4#32) (L c) low
def gmax : EReal := Finset.fold max ninf (gl L) Finset.univ
def gtop : EReal := Ideal.div 1 (∑ x, Scalar.select (IntOp.cmpi .slt (lane x) 4#32) (Ideal.exp (gl L x - gmax L)) 0)
def gi : BitVec 32 := Finset.fold IntOp.minsi (2147483647#32) (fun x => if gl L x = gmax L then lane x else 128#32) Finset.univ
def inside (c : Fin 128) : BitVec 1 :=
  IntOp.andi (IntOp.cmpi .sge (lane c) (IntOp.addi 4#32 (IntOp.muli (gi L) 8#32)))
    (IntOp.cmpi .slt (lane c) (IntOp.addi (IntOp.addi 4#32 (IntOp.muli (gi L) 8#32)) 8#32))
def el (c : Fin 128) : EReal := Scalar.select (inside L c) (L c) low
def emax : EReal := Finset.fold max ninf (el L) Finset.univ
def ee (c : Fin 128) : EReal := Scalar.select (inside L c) (Ideal.exp (el L c - emax L)) 0
def ep (c : Fin 128) : EReal := Ideal.div (ee L c) (∑ x, ee L x)
def p1 : EReal := Finset.fold max ninf (ep L) Finset.univ
def i1 : BitVec 32 := Finset.fold IntOp.minsi (2147483647#32)
  (fun x => Scalar.select (IntOp.andi (inside L x) (BitVec.ofBool (decide (ep L x = p1 L)))) (lane x) 128#32) Finset.univ
def rest (c : Fin 128) : BitVec 1 := IntOp.andi (inside L c) (IntOp.cmpi .ne (lane c) (i1 L))
def p2 : EReal := Finset.fold max ninf
  (fun x => Scalar.select (rest L x) (ep L x) (Ideal.ofBits .f32 0xBF800000#32)) Finset.univ
def i2 : BitVec 32 := Finset.fold IntOp.minsi (2147483647#32)
  (fun x => Scalar.select (IntOp.andi (rest L x) (BitVec.ofBool (decide (ep L x = p2 L)))) (lane x) 128#32) Finset.univ
def idLanes (c : Fin 128) : BitVec 32 :=
  Scalar.select (IntOp.cmpi .eq (lane c) 0#32) (IntOp.subi (i1 L) 4#32)
    (Scalar.select (IntOp.cmpi .eq (lane c) 1#32) (IntOp.subi (i2 L) 4#32) 0#32)
def weightLanes (c : Fin 128) : EReal :=
  Scalar.select (IntOp.cmpi .eq (lane c) 0#32) (Ideal.div (gtop L * p1 L) (p1 L + p2 L))
    (Scalar.select (IntOp.cmpi .eq (lane c) 1#32) (Ideal.div (gtop L * p2 L) (p1 L + p2 L)) 0)

end lanes

theorem sel (P : Prop) [Decidable P] {α : Type} (x y : α) : Scalar.select (BitVec.ofBool (decide P)) x y = if P then x else y := by
  by_cases h : P <;> simp [h, Scalar.select]

theorem both (P Q : Prop) [Decidable P] [Decidable Q] :
    IntOp.andi (BitVec.ofBool (decide P)) (BitVec.ofBool (decide Q)) = BitVec.ofBool (decide (P ∧ Q)) := by
  by_cases h : P <;> by_cases h' : Q <;> simp [h, h', IntOp.andi]

/-- The least lane of a set of lanes, found as a minimum. -/
theorem least (P : Fin 128 → Prop) [DecidablePred P] (i : Fin 128) (hi : P i) (h : ∀ j, P j → i ≤ j) :
    Finset.fold IntOp.minsi (2147483647#32) (fun x => if P x then lane x else 128#32) Finset.univ = lane i := by
  have t : ∀ c : Fin 128, (lane c).toInt = c.val := by decide
  rw [min_eq (i := i) fun j => ?_, if_pos hi]
  rw [if_pos hi, t]
  split
  · next q => rw [t]; exact_mod_cast h j q
  · have : (128#32 : BitVec 32).toInt = 128 := by decide
    rw [this]; have := i.isLt; omega

/-- A maximum over masked lanes is the greatest of the lanes left. -/
theorem masked (P : Fin 128 → Prop) [DecidablePred P] (f : Fin 128 → EReal) (b : EReal) (i : Fin 128) (hi : P i) (hb : b ≤ f i)
    (h : ∀ j, P j → f j ≤ f i) : Finset.fold max ninf (fun x => if P x then f x else b) Finset.univ = f i := by
  have := max_eq (f := fun x => if P x then f x else b) (i := i) fun j => by
    rw [if_pos hi]; split
    · next q => exact h j q
    · exact hb
  rw [if_pos hi] at this
  exact this

section equal
variable (l : Fin 128 → ℝ) (hl : ∀ c, low ≤ (l c : EReal))

/-- A real row as a row of extended reals. -/
abbrev up (c : Fin 128) : EReal := (l c : EReal)

theorem lane_lt (c : Fin 128) : IntOp.cmpi .slt (lane c) 4#32 = BitVec.ofBool (decide (c.val < 4)) :=
  WordCmp.cmpi_slt_ofNat (by have := c.isLt; omega) (by decide)

theorem gl_eq (c : Fin 128) : gl (up l) c = if c.val < 4 then (l c : EReal) else low := by rw [gl, lane_lt, sel]

/-- The token's group as a lane of the logits. -/
def gLane : Fin 128 := ⟨(group (up l)).val, by have := (group (up l)).isLt; omega⟩

theorem group_first : First (groups (up l)) (fun _ => True) (group (up l)) := by
  have h := place_first (soft (groups (up l))) 0
  have := soft_first (fun j : Fin 4 => l ⟨j.val, by omega⟩) (by decide) _ _ h
  exact ⟨trivial, fun j _ => this.2 j fun q hq => absurd hq (by omega)⟩

theorem gLane_max (c : Fin 128) (h : c.val < 4) : (l c : EReal) ≤ l (gLane l) := ((group_first l).2 ⟨c.val, h⟩ trivial).1

include hl in
theorem gmax_eq : gmax (up l) = l (gLane l) := by
  have := masked (fun c => c.val < 4) (up l) low (gLane l) (group (up l)).isLt (hl _) (gLane_max l)
  refine Eq.trans ?_ this
  rw [gmax]
  congr 1; funext c; exact gl_eq l c

include hl in
theorem gi_eq : gi (up l) = BitVec.ofNat 32 (group (up l)).val := by
  classical
  rw [gi, gmax_eq l hl]
  refine (least (fun x => gl (up l) x = l (gLane l)) (gLane l) ?_ fun j hj => ?_)
  · rw [gl_eq]; exact if_pos (group (up l)).isLt
  · rw [gl_eq] at hj
    by_cases q : j.val < 4
    · rw [if_pos q] at hj
      exact ((group_first l).2 ⟨j.val, q⟩ trivial).2 hj
    · have := (group (up l)).isLt
      exact Fin.mk_le_mk.2 (show (group (up l)).val ≤ j.val by omega)

include hl in
theorem gtop_eq : gtop (up l) = soft (groups (up l)) (group (up l)) := by
  have t : top (groups (up l)) = l (gLane l) := top_eq (i := group (up l)) fun j => ((group_first l).2 j trivial).1
  have e : ∀ x, Scalar.select (IntOp.cmpi .slt (lane x) 4#32) (Ideal.exp (gl (up l) x - gmax (up l))) 0
      = if 0 ≤ x.val ∧ x.val < 0 + 4 then Ideal.exp ((l x : EReal) - l (gLane l)) else 0 := fun x => by
    rw [lane_lt, sel, gmax_eq l hl, gl_eq]
    by_cases q : x.val < 4 <;> simp [q]
  have z : Ideal.exp (groups (up l) (group (up l)) - l (gLane l)) = 1 := by
    show Ideal.exp ((l (gLane l) : EReal) - l (gLane l)) = 1
    rw [← EReal.coe_sub, Ideal.exp_coe, sub_self, Real.exp_zero, EReal.coe_one]
  rw [gtop, soft, t, z]
  congr 1
  rw [Finset.sum_congr rfl fun x _ => e x, sum_window 4 0 (by decide)]
  refine Finset.sum_congr rfl fun x _ => ?_
  have : (⟨0 + x.val, by omega⟩ : Fin 128) = ⟨x.val, by omega⟩ := Fin.ext (Nat.zero_add _)
  rw [this]; rfl

/-- The first lane of the group's experts. -/
def base : ℕ := 4 + 8 * (group (up l)).val

theorem base_le : base l + 8 ≤ 128 := by unfold base; have := (group (up l)).isLt; omega

/-- An expert's lane. -/
def eLane (k : Fin 8) : Fin 128 := ⟨base l + k.val, by have := base_le l; omega⟩

theorem expert_at (k : Fin 8) : experts (up l) k = l (eLane l k) := by
  have : (⟨4 + (8 * (group (up l)).val + k.val), by have := (group (up l)).isLt; omega⟩ : Fin 128) = eLane l k :=
    Fin.ext (Nat.add_assoc _ _ _).symm
  show ((l _ : ℝ) : EReal) = _
  rw [this]

theorem lane_of (c : Fin 128) (h : base l ≤ c.val ∧ c.val < base l + 8) : ∃ k, c = eLane l k :=
  ⟨⟨c.val - base l, by omega⟩, Fin.ext (by show c.val = base l + (c.val - base l); omega)⟩

theorem eLane_in (k : Fin 8) : base l ≤ (eLane l k).val ∧ (eLane l k).val < base l + 8 := by
  unfold eLane; exact ⟨Nat.le_add_right _ _, by have := k.isLt; show base l + k.val < _; omega⟩

theorem eLane_le {j k : Fin 8} (h : j ≤ k) : eLane l j ≤ eLane l k := by
  have : j.val ≤ k.val := h
  exact Fin.mk_le_mk.2 (by omega)

include hl in
theorem inside_eq (c : Fin 128) : inside (up l) c = BitVec.ofBool (decide (base l ≤ c.val ∧ c.val < base l + 8)) := by
  have a : ∀ g : Fin 4, IntOp.addi 4#32 (IntOp.muli (BitVec.ofNat 32 g.val) 8#32) = BitVec.ofNat 32 (4 + 8 * g.val) := by decide
  have b : ∀ g : Fin 4, IntOp.addi (BitVec.ofNat 32 (4 + 8 * g.val)) 8#32 = BitVec.ofNat 32 (4 + 8 * g.val + 8) := by decide
  have := base_le l
  have := c.isLt
  rw [inside, gi_eq l hl, a, b]
  show IntOp.andi (IntOp.cmpi .sge (BitVec.ofNat 32 c.val) (BitVec.ofNat 32 (base l)))
    (IntOp.cmpi .slt (BitVec.ofNat 32 c.val) (BitVec.ofNat 32 (base l + 8))) = _
  rw [WordCmp.cmpi_sge_ofNat (by omega) (by omega), WordCmp.cmpi_slt_ofNat (by omega) (by omega), both]

theorem experts_real : experts (up l) = fun k => (l (eLane l k) : EReal) := funext (expert_at l)

theorem expert_first (q : Fin 8) : First (soft (experts (up l))) (fun j => ∀ r, r < q → j ≠ expert (up l) r) (expert (up l) q) :=
  place_first _ q

theorem expert_top (k : Fin 8) : (l (eLane l k) : EReal) ≤ l (eLane l (expert (up l) 0)) := by
  have h := expert_first l 0
  rw [experts_real] at h
  exact ((soft_first _ (by decide) _ _ h).2 k fun q hq => absurd hq (by omega)).1

include hl in
theorem emax_eq : emax (up l) = l (eLane l (expert (up l) 0)) := by
  have : _ = up l (eLane l (expert (up l) 0)) := masked (fun c => base l ≤ c.val ∧ c.val < base l + 8) (up l) low (eLane l (expert (up l) 0)) (eLane_in l _) (hl _)
    fun j hj => by obtain ⟨k, rfl⟩ := lane_of l j hj; exact expert_top l k
  refine Eq.trans ?_ this
  rw [emax]
  congr 1; funext c; rw [el, inside_eq l hl, sel]

theorem etop_eq : top (experts (up l)) = l (eLane l (expert (up l) 0)) := by
  rw [top_eq (i := expert (up l) 0) fun j => ?_, expert_at]
  rw [expert_at, expert_at]; exact expert_top l j

include hl in
theorem ee_eq (c : Fin 128) : ee (up l) c = if base l ≤ c.val ∧ c.val < base l + 8 then
    Ideal.exp ((l c : EReal) - top (experts (up l))) else 0 := by
  rw [ee, el, inside_eq l hl, sel, sel, emax_eq l hl, etop_eq]
  split <;> rfl

include hl in
theorem sum_eq : ∑ x, ee (up l) x = ∑ k, Ideal.exp (experts (up l) k - top (experts (up l))) := by
  rw [Finset.sum_congr rfl fun x _ => ee_eq l hl x, sum_window 8 (base l) (base_le l)]
  exact Finset.sum_congr rfl fun k _ => by rw [expert_at]; rfl

include hl in
theorem ep_in (k : Fin 8) : ep (up l) (eLane l k) = soft (experts (up l)) k := by
  rw [ep, sum_eq l hl, ee_eq l hl, if_pos (eLane_in l k), soft, expert_at]

include hl in
theorem ep_out (c : Fin 128) (h : ¬(base l ≤ c.val ∧ c.val < base l + 8)) : ep (up l) c = 0 := by
  have s : (0 : ℝ) < ∑ x, Real.exp (l (eLane l x) - l (eLane l (expert (up l) 0))) :=
    Finset.sum_pos (fun x _ => Real.exp_pos _) ⟨0, Finset.mem_univ _⟩
  rw [ep, sum_eq l hl, ee_eq l hl, if_neg h, etop_eq]
  have e : ∀ k, Ideal.exp (experts (up l) k - (l (eLane l (expert (up l) 0)) : EReal))
      = ((Real.exp (l (eLane l k) - l (eLane l (expert (up l) 0))) : ℝ) : EReal) := fun k => by
    rw [expert_at, ← EReal.coe_sub, Ideal.exp_coe]
  rw [Finset.sum_congr rfl fun k _ => e k, ← Cert.Online.coe_sum, Ideal.div_coe s.ne', zero_mul]

theorem soft_pos (k : Fin 8) : 0 ≤ soft (experts (up l)) k := by
  rw [experts_real]; exact soft_nonneg _ (by decide) k

include hl in
theorem p1_eq : p1 (up l) = soft (experts (up l)) (expert (up l) 0) := by
  rw [← ep_in l hl, p1]
  refine max_eq fun j => ?_
  rw [ep_in l hl]
  by_cases h : base l ≤ j.val ∧ j.val < base l + 8
  · obtain ⟨k, rfl⟩ := lane_of l j h
    rw [ep_in l hl]
    exact ((expert_first l 0).2 k fun q hq => absurd hq (by omega)).1
  · rw [ep_out l hl j h]; exact soft_pos l _

include hl in
theorem i1_eq : i1 (up l) = lane (eLane l (expert (up l) 0)) := by
  classical
  have e : ∀ x, Scalar.select (IntOp.andi (inside (up l) x) (BitVec.ofBool (decide (ep (up l) x = p1 (up l))))) (lane x) 128#32
      = if (base l ≤ x.val ∧ x.val < base l + 8) ∧ ep (up l) x = p1 (up l) then lane x else 128#32 := fun x => by
    rw [inside_eq l hl, both, sel]
  rw [i1, funext e]
  refine least (fun x => (base l ≤ x.val ∧ x.val < base l + 8) ∧ ep (up l) x = p1 (up l)) (eLane l (expert (up l) 0))
    ⟨eLane_in l _, (ep_in l hl _).trans (p1_eq l hl).symm⟩ fun j hj => ?_
  obtain ⟨k, rfl⟩ := lane_of l j hj.1
  have q := hj.2
  rw [ep_in l hl, p1_eq l hl] at q
  exact eLane_le l (((expert_first l 0).2 k fun q hq => absurd hq (by omega)).2 q)

include hl in
theorem rest_eq (c : Fin 128) : rest (up l) c
    = BitVec.ofBool (decide ((base l ≤ c.val ∧ c.val < base l + 8) ∧ c.val ≠ (eLane l (expert (up l) 0)).val)) := by
  rw [rest, inside_eq l hl, i1_eq l hl]
  show IntOp.andi _ (IntOp.cmpi .ne (BitVec.ofNat 32 c.val) (BitVec.ofNat 32 (eLane l (expert (up l) 0)).val)) = _
  rw [WordCmp.cmpi_ne_ofNat (by have := c.isLt; omega) (by have := (eLane l (expert (up l) 0)).isLt; omega), both]

theorem eLane_ne (j k : Fin 8) : (eLane l j).val ≠ (eLane l k).val ↔ j ≠ k := by
  unfold eLane; show base l + j.val ≠ base l + k.val ↔ _
  rw [Ne, Ne, Fin.ext_iff]; omega

theorem second (k : Fin 8) : (∀ r : Fin 8, r < 1 → k ≠ expert (up l) r) ↔ k ≠ expert (up l) 0 :=
  ⟨fun h => h 0 (by decide), fun h r hr => by
    have : r = 0 := by omega
    rw [this]; exact h⟩

include hl in
theorem p2_eq : p2 (up l) = soft (experts (up l)) (expert (up l) 1) := by
  have e : ∀ x, Scalar.select (rest (up l) x) (ep (up l) x) (Ideal.ofBits .f32 0xBF800000#32)
      = if (base l ≤ x.val ∧ x.val < base l + 8) ∧ x.val ≠ (eLane l (expert (up l) 0)).val then ep (up l) x
        else Ideal.ofBits .f32 0xBF800000#32 := fun x => by rw [rest_eq l hl, sel]
  have b : (Ideal.ofBits .f32 0xBF800000#32 : EReal) ≤ 0 := by
    have : (Ideal.ofBits .f32 0xBF800000#32 : EReal) = ((-1 : ℝ) : EReal) := by
      simp [Ideal.ofBits, Ideal.ieee, -EReal.coe_mul]
      try norm_num
    rw [this]; exact EReal.coe_nonpos.2 (by norm_num)
  have f := expert_first l 1
  rw [p2, funext e, masked _ _ _ (eLane l (expert (up l) 1)) ⟨eLane_in l _, (eLane_ne l _ _).2 ((second l _).1 f.1)⟩, ep_in l hl]
  · rw [ep_in l hl]; exact b.trans (soft_pos l _)
  · intro j hj
    obtain ⟨k, rfl⟩ := lane_of l j hj.1
    rw [ep_in l hl, ep_in l hl]
    exact (f.2 k ((second l k).2 ((eLane_ne l _ _).1 hj.2))).1

include hl in
theorem i2_eq : i2 (up l) = lane (eLane l (expert (up l) 1)) := by
  classical
  have e : ∀ x, Scalar.select (IntOp.andi (rest (up l) x) (BitVec.ofBool (decide (ep (up l) x = p2 (up l))))) (lane x) 128#32
      = if ((base l ≤ x.val ∧ x.val < base l + 8) ∧ x.val ≠ (eLane l (expert (up l) 0)).val) ∧ ep (up l) x = p2 (up l) then lane x
        else 128#32 := fun x => by rw [rest_eq l hl, both, sel]
  have f := expert_first l 1
  rw [i2, funext e]
  refine least (fun x => ((base l ≤ x.val ∧ x.val < base l + 8) ∧ x.val ≠ (eLane l (expert (up l) 0)).val)
      ∧ ep (up l) x = p2 (up l)) (eLane l (expert (up l) 1))
    ⟨⟨eLane_in l _, (eLane_ne l _ _).2 ((second l _).1 f.1)⟩, (ep_in l hl _).trans (p2_eq l hl).symm⟩ fun j hj => ?_
  obtain ⟨k, rfl⟩ := lane_of l j hj.1.1
  have q := hj.2
  rw [ep_in l hl, p2_eq l hl] at q
  exact eLane_le l ((f.2 k ((second l k).2 ((eLane_ne l _ _).1 hj.1.2))).2 q)

theorem number (k : Fin 8) : IntOp.subi (lane (eLane l k)) 4#32
    = IntOp.addi (IntOp.muli (BitVec.ofNat 32 (group (up l)).val) 8#32) (BitVec.ofNat 32 k.val) := by
  have : ∀ (g : Fin 4) (k : Fin 8), IntOp.subi (BitVec.ofNat 32 (4 + 8 * g.val + k.val)) 4#32
      = IntOp.addi (IntOp.muli (BitVec.ofNat 32 g.val) 8#32) (BitVec.ofNat 32 k.val) := by decide
  exact this _ k

theorem lane_eq (c : Fin 128) (m : ℕ) (hm : m < 2) : IntOp.cmpi .eq (lane c) (BitVec.ofNat 32 m) = BitVec.ofBool (decide (c.val = m)) :=
  WordCmp.cmpi_eq_ofNat (by have := c.isLt; omega) (by omega)

include hl in
/-- The kernel's expert numbers are the reference's. -/
theorem ids_eq (c : Fin 128) : idLanes (up l) c = ids (up l) c := by
  rw [idLanes, lane_eq c 0 (by decide), lane_eq c 1 (by decide), sel, sel, i1_eq l hl, i2_eq l hl, number, number, ids]
  by_cases h0 : c.val = 0
  · have : c = 0 := Fin.ext h0
    subst this; rfl
  · by_cases h1 : c.val = 1
    · have : c = 1 := Fin.ext h1
      subst this; rfl
    · rw [if_neg h0, if_neg h1, dif_neg (by omega)]

include hl in
/-- The kernel's expert weights are the reference's. -/
theorem weights_eq (c : Fin 128) : weightLanes (up l) c = weights (up l) c := by
  rw [weightLanes, lane_eq c 0 (by decide), lane_eq c 1 (by decide), sel, sel, gtop_eq l hl, p1_eq l hl, p2_eq l hl, weights,
    Fin.sum_univ_two]
  by_cases h0 : c.val = 0
  · have : c = 0 := Fin.ext h0
    subst this; rfl
  · by_cases h1 : c.val = 1
    · have : c = 1 := Fin.ext h1
      subst this; rfl
    · rw [if_neg h0, if_neg h1, dif_neg (by omega)]

include hl in
/-- Neither router reads a logit past the experts'. -/
theorem lanes_congr {L : Fin 128 → EReal} (h : ∀ c : Fin 128, c.val < 36 → L c = up l c) :
    idLanes L = idLanes (up l) ∧ weightLanes L = weightLanes (up l) ∧ ids L = ids (up l) ∧ weights L = weights (up l) := by
  have g : gl L = gl (up l) := funext fun c => by
    rw [gl, gl, lane_lt, sel, sel]
    split
    · exact h c (by omega)
    · rfl
  have m : gmax L = gmax (up l) := by unfold gmax; rw [g]
  have i : gi L = gi (up l) := by unfold gi; rw [g, m]
  have t : gtop L = gtop (up l) := by unfold gtop; rw [g, m]
  have n : inside L = inside (up l) := funext fun c => by unfold inside; rw [i]
  have e : el L = el (up l) := funext fun c => by
    rw [el, el, n, inside_eq l hl, sel, sel]
    split
    · next q => exact h c (by have := (group (up l)).isLt; unfold base at q; omega)
    · rfl
  have x : emax L = emax (up l) := by unfold emax; rw [e]
  have y : ee L = ee (up l) := funext fun c => by unfold ee; rw [n, e, x]
  have p : ep L = ep (up l) := funext fun c => by unfold ep; rw [y]
  have a : p1 L = p1 (up l) := by unfold p1; rw [p]
  have b : i1 L = i1 (up l) := by unfold i1; rw [n, p, a]
  have r : rest L = rest (up l) := funext fun c => by unfold rest; rw [n, b]
  have a' : p2 L = p2 (up l) := by unfold p2; rw [r, p]
  have b' : i2 L = i2 (up l) := by unfold i2; rw [r, p, a']
  have q : groups L = groups (up l) := funext fun j => h _ (by have := j.isLt; show j.val < 36; omega)
  have k : group L = group (up l) := by unfold group; rw [q]
  have u : experts L = experts (up l) := funext fun j => by
    unfold experts
    simp only [k]
    exact h _ (by have := (group (up l)).isLt; have := j.isLt; show 4 + (8 * (group (up l)).val + j.val) < 36; omega)
  have v : expert L = expert (up l) := funext fun j => by unfold expert; rw [u]
  refine ⟨funext fun c => ?_, funext fun c => ?_, funext fun c => ?_, funext fun c => ?_⟩
  · unfold idLanes; rw [b, b']
  · unfold weightLanes; rw [t, a, a']
  · unfold ids; rw [k, v]
  · unfold weights; rw [q, k, u, v]

end equal

end Cert.Router
-- ==== Proof.Chosen.lean ====
module

public import proofs.«01_k».proof.Proof.Router
public import proofs.«01_k».proof.Proof.Gen.MergeIdeal.Run
public import Idealize.ShloMosaic.Lib.Pointwise
public import Idealize.ShloMosaic.Lib.IdealHost
public import Idealize.ShloMosaic.Lib.ReduceAll
public import Idealize.ShloMosaic.Lib.WordCmp

/-! The third call's reference: the choice of a group and of two of its experts, row by row. -/

@[expose] public section

set_option maxRecDepth 16384

noncomputable section

namespace Cert.Chosen

open Cert.MergeIdeal Cert.MergeIdeal.Gen
open Idealize.ShloMosaic Idealize.ShloMosaic.TcCoe Idealize.ShloMosaic.Tactic
open Cert.Choice Cert.Router

attribute [local irreducible] Cert.Choice.place

/-- A row's greatest entry. -/
theorem reduce_at {n : ℕ} (x : Shape.Idx ⟨2, ![49152, n]⟩ → EReal) (h' : Shape.ReducesTo ⟨2, ![49152, n]⟩ [1] S49152)
    (h : Shape.Reduces ⟨2, ![49152, n]⟩ [1] S49152) (w : BitVec 32) (r : Fin 49152) :
    Host.reduce (FloatOps.maximumf (F := Ideal) (φ := .f32)) x (constant S_ .f32 w) h' h_S_ (ix1 r)
      = Finset.fold max (Ideal.ofBits .f32 w) (fun k => x (ix2 r k)) Finset.univ := by
  have e : Host.reduce (FloatOps.maximumf (F := Ideal) (φ := .f32)) x (constant S_ .f32 w) h' h_S_ (ix1 r)
      = (Finset.univ : Finset (Fin n)).fold max (Ideal.ofBits .f32 w) (x ∘ h.lift (ix1 r)) :=
    Host.reduce_eq_fold_single max x _ h' h h_S_ (ix1 r)
  rw [e]
  exact congrArg (fun f => Finset.fold max (Ideal.ofBits .f32 w) f Finset.univ)
    (funext fun k => congrArg x (funext (Fin.forall_fin_two.2 ⟨Fin.ext rfl, Fin.ext rfl⟩)))

/-- The index of a row's lane, by its row's index and the lane. -/
theorem along_at {n k : ℕ} (hk : k ≤ n) (r : Fin 49152) (q : Fin k) (h : Shape.Slices ⟨2, ![49152, n]⟩ (fun _ => 0) ⟨2, ![49152, k]⟩) (j : Fin n) :
    Shape.Idx.along (s := ⟨2, ![49152, n]⟩) (fun a => ⟨0 + (ix2 r q (a.cast h.1.symm)).val,
      Nat.lt_of_lt_of_le (Nat.add_lt_add_left (ix2 r q _).isLt _) (h.2 a)⟩) 1 j = ix2 r j := by
  funext a
  unfold Shape.Idx.along
  match a with
  | ⟨0, _⟩ => exact Fin.ext (Nat.zero_add r.val)
  | ⟨1, _⟩ => rfl

/-- The greatest entries of a row, in order. -/
theorem topK_at {n k : ℕ} (hk : k ≤ n) (x : Shape.Idx ⟨2, ![49152, n]⟩ → EReal)
    (h : Shape.Slices ⟨2, ![49152, n]⟩ (fun _ => 0) ⟨2, ![49152, k]⟩) (r : Fin 49152) (q : Fin k) :
    (Host.topK ⟨2, ![49152, k]⟩ 1 (FloatOps.cmpfTotal (F := Ideal) (φ := .f32) .gt) x h).1 (ix2 r q)
      = x (ix2 r (place (fun j => x (ix2 r j)) ⟨q.val, by omega⟩))
    ∧ (Host.topK ⟨2, ![49152, k]⟩ 1 (FloatOps.cmpfTotal (F := Ideal) (φ := .f32) .gt) x h).2 (ix2 r q)
      = BitVec.ofNat 32 (place (fun j => x (ix2 r j)) ⟨q.val, by omega⟩).val := by
  have e : (⟨0 + q.val, by omega⟩ : Fin n) = ⟨q.val, by omega⟩ := Fin.ext (Nat.zero_add _)
  unfold place greater
  rw [← e]
  simp only [← along_at hk r q h]
  exact ⟨rfl, rfl⟩

/-- The exponentials of a row's entries below their greatest, of four. -/
def exps4 (x : FVec Ideal S49152x4 .f32) : FVec Ideal S49152x4 .f32 :=
  Host.exp (subf x (broadcastInDim S49152x4 ![0, 1] bcast_S49152x1_S49152x4_0_1 (broadcastInDim S49152x1 ![0] bcast_S49152_S49152x1_0
    (maximumf (broadcastInDim S49152 ![] bcast_S_S49152 (constant S_ .f32 0xFF800000#32))
      (Host.reduce FloatOps.maximumf x (constant S_ .f32 0xFF800000#32) reducesTo_S49152x4_S49152_d1 h_S_)))))

/-- The same of eight. -/
def exps8 (x : FVec Ideal S49152x8 .f32) : FVec Ideal S49152x8 .f32 :=
  Host.exp (subf x (broadcastInDim S49152x8 ![0, 1] bcast_S49152x1_S49152x8_0_1 (broadcastInDim S49152x1 ![0] bcast_S49152_S49152x1_0
    (maximumf (broadcastInDim S49152 ![] bcast_S_S49152 (constant S_ .f32 0xFF800000#32))
      (Host.reduce FloatOps.maximumf x (constant S_ .f32 0xFF800000#32) reducesTo_S49152x8_S49152_d1 h_S_)))))

/-- A row's exponentials over their sum, of four. -/
def over4 (x : FVec Ideal S49152x4 .f32) : FVec Ideal S49152x4 .f32 :=
  Host.divf x (broadcastInDim S49152x4 ![0, 1] bcast_S49152x1_S49152x4_0_1 (broadcastInDim S49152x1 ![0] bcast_S49152_S49152x1_0
    (Host.reduceAdd x (constant S_ .f32 0x00000000#32) reducesTo_S49152x4_S49152_d1 h_S_)))

/-- The same of eight. -/
def over8 (x : FVec Ideal S49152x8 .f32) : FVec Ideal S49152x8 .f32 :=
  Host.divf x (broadcastInDim S49152x8 ![0, 1] bcast_S49152x1_S49152x8_0_1 (broadcastInDim S49152x1 ![0] bcast_S49152_S49152x1_0
    (Host.reduceAdd x (constant S_ .f32 0x00000000#32) reducesTo_S49152x8_S49152_d1 h_S_)))

theorem below4 (x : FVec Ideal S49152x4 .f32) (t : FVec Ideal S49152 .f32) (r : Fin 49152) (k : Fin 4) :
    Host.exp (subf x (broadcastInDim S49152x4 ![0, 1] bcast_S49152x1_S49152x4_0_1 (broadcastInDim S49152x1 ![0] bcast_S49152_S49152x1_0 t))) (ix2 r k)
      = Ideal.exp (x (ix2 r k) - t (ix1 r)) := by
  pointwise

theorem below8 (x : FVec Ideal S49152x8 .f32) (t : FVec Ideal S49152 .f32) (r : Fin 49152) (k : Fin 8) :
    Host.exp (subf x (broadcastInDim S49152x8 ![0, 1] bcast_S49152x1_S49152x8_0_1 (broadcastInDim S49152x1 ![0] bcast_S49152_S49152x1_0 t))) (ix2 r k)
      = Ideal.exp (x (ix2 r k) - t (ix1 r)) := by
  pointwise

theorem exps4_at (x : FVec Ideal S49152x4 .f32) (r : Fin 49152) (k : Fin 4) :
    exps4 x (ix2 r k) = Ideal.exp (x (ix2 r k) - top fun j => x (ix2 r j)) := by
  unfold exps4
  rw [below4]
  exact congrArg (fun y => Ideal.exp (x (ix2 r k) - max (Ideal.ofBits .f32 0xFF800000#32) y)) (reduce_at x _ (by decide) _ r)

theorem exps8_at (x : FVec Ideal S49152x8 .f32) (r : Fin 49152) (k : Fin 8) :
    exps8 x (ix2 r k) = Ideal.exp (x (ix2 r k) - top fun j => x (ix2 r j)) := by
  unfold exps8
  rw [below8]
  exact congrArg (fun y => Ideal.exp (x (ix2 r k) - max (Ideal.ofBits .f32 0xFF800000#32) y)) (reduce_at x _ (by decide) _ r)

theorem soft4_at (x : FVec Ideal S49152x4 .f32) (r : Fin 49152) (k : Fin 4) : over4 (exps4 x) (ix2 r k) = soft (fun j => x (ix2 r j)) k := by
  pointwise [over4]
  simp only [exps4_at]
  rfl

theorem soft8_at (x : FVec Ideal S49152x8 .f32) (r : Fin 49152) (k : Fin 8) : over8 (exps8 x) (ix2 r k) = soft (fun j => x (ix2 r j)) k := by
  pointwise [over8]
  simp only [exps8_at]
  rfl

/-- A row's entries at a chosen one of its four places. -/
theorem gather_at (x : S49152x4x8.Idx → EReal) (idx : IVec S49152x1x1 32) (r : Fin 49152) (k : Fin 8) (g : Fin 4)
    (h : idx (ix3 r 0 0) = BitVec.ofNat 32 g.val) :
    Host.gather gather_S49152x4x8_S49152x1x1_S49152x1x8_2_1_0_0_1_2_118 x idx (ix3 r 0 k) = x (ix3 r g k) := by
  unfold Host.gather
  refine congrArg x (funext fun a => Fin.ext ?_)
  match a with
  | ⟨0, _⟩ => exact (Nat.zero_add _).trans rfl
  | ⟨1, _⟩ =>
    have e : gather_S49152x4x8_S49152x1x1_S49152x1x8_2_1_0_0_1_2_118.start (ix3 r 0 k) idx 1 = min (idx (ix3 r 0 0)).toInt.toNat 3 := by
      unfold GatherDims.start
      rw [dif_pos (by decide)]
      refine congrArg (fun i => min (idx i).toInt.toNat 3) (funext fun b => Fin.ext ?_)
      match b with
      | ⟨0, _⟩ => rfl
      | ⟨1, _⟩ => rfl
      | ⟨2, _⟩ => rfl
    refine (show _ = gather_S49152x4x8_S49152x1x1_S49152x1x8_2_1_0_0_1_2_118.start (ix3 r 0 k) idx 1 from rfl).trans ?_
    rw [e, h]
    show min (BitVec.ofNat 32 g.val).toInt.toNat 3 = g.val
    clear h
    revert g
    decide
  | ⟨2, _⟩ => exact (Nat.zero_add _).trans rfl

/-- The chosen place, counted from the end if it is negative. -/
def wrapped (ix : IVec S49152x1 32) : IVec S49152x1x1 32 :=
  select (cmpi .slt (broadcastInDim S49152x1x1 ![0, 1] bcast_S49152x1_S49152x1x1_0_1 ix) (broadcastInDim S49152x1x1 ![] bcast_S_S49152x1x1 (constantI S_ 32 0#32)))
    (addi (broadcastInDim S49152x1x1 ![0, 1] bcast_S49152x1_S49152x1x1_0_1 ix) (broadcastInDim S49152x1x1 ![] bcast_S_S49152x1x1 (constantI S_ 32 4#32)))
    (broadcastInDim S49152x1x1 ![0, 1] bcast_S49152x1_S49152x1x1_0_1 ix)

/-- Whether a place is one of the four. -/
def within (p : IVec S49152x1x1 32) : IVec S49152x1x1 1 :=
  andi (cmpi .sge p (broadcastInDim S49152x1x1 ![] bcast_S_S49152x1x1 (constantI S_ 32 0#32)))
    (cmpi .sle p (broadcastInDim S49152x1x1 ![0, 1, 2] bcast_S1x1x1_S49152x1x1_0_1_2 (broadcastInDim S1x1x1 ![2] bcast_S1_S1x1x1_2 (constantI S1 32 3#32))))

/-- The logits of the chosen group's experts. -/
def ofGroup (v : FVec Ideal S49152x128 .f32) (p : IVec S49152x1x1 32) (b : IVec S49152x1 1) : FVec Ideal S49152x8 .f32 :=
  shapeCast _ (select (broadcastInDim S49152x1x8 ![0, 1] bcast_S49152x1_S49152x1x8_0_1 b)
    (Host.gather gather_S49152x4x8_S49152x1x1_S49152x1x8_2_1_0_0_1_2_118
      (shapeCast _ (extractStridedSlice S49152x32 ![0, 4] v slices_S49152x128_S49152x32_0_4) shapeCasts_S49152x32_S49152x4x8) p)
    (broadcastInDim S49152x1x8 ![] bcast_S_S49152x1x8 (constant S_ .f32 0x7FC00000#32))) shapeCasts_S49152x1x8_S49152x8

theorem wrapped_at (ix : IVec S49152x1 32) (r : Fin 49152) (g : Fin 4) (h : ix (ix2 r 0) = BitVec.ofNat 32 g.val) :
    wrapped ix (ix3 r 0 0) = BitVec.ofNat 32 g.val := by
  pointwise [wrapped]
  rw [h]
  clear h
  revert g
  decide

theorem within_at (p : IVec S49152x1x1 32) (r : Fin 49152) (g : Fin 4) (h : p (ix3 r 0 0) = BitVec.ofNat 32 g.val) : within p (ix3 r 0 0) = 1#1 := by
  pointwise [within]
  rw [h]
  clear h
  revert g
  decide

theorem ofGroup_at (v : FVec Ideal S49152x128 .f32) (p : IVec S49152x1x1 32) (b : IVec S49152x1 1) (r : Fin 49152) (k : Fin 8) (g : Fin 4)
    (hp : p (ix3 r 0 0) = BitVec.ofNat 32 g.val) (hb : b (ix2 r 0) = 1#1) :
    ofGroup v p b (ix2 r k) = v (ix2 r ⟨4 + (8 * g.val + k.val), by omega⟩) := by
  pointwise [ofGroup]
  rw [hb, gather_at _ p r k g hp]
  pointwise
  exact congrArg v (congrArg₂ ix2 rfl (Fin.ext (by simp only [Nat.mul_comm])))

/-- The lanes of the experts' numbers. -/
def idLanes (ix : IVec S49152x1 32) (e : IVec S49152x2 32) : IVec S49152x128 32 :=
  pad S49152x128 ![0, 0] ![0, 126] ![0, 0] (addi (broadcastInDim S49152x2 ![0, 1] bcast_S49152x1_S49152x2_0_1
    (muli ix (broadcastInDim S49152x1 ![] bcast_S_S49152x1 (constantI S_ 32 8#32)))) e) (id (constantI S_ 32 0#32)) pads_S49152x2_S49152x128_000_01260 h_S_

/-- The lanes of the experts' weights. -/
def weightLanes (g : FVec Ideal S49152x1 .f32) (e : FVec Ideal S49152x2 .f32) : FVec Ideal S49152x128 .f32 :=
  pad S49152x128 ![0, 0] ![0, 126] ![0, 0] (Host.divf (mulf (broadcastInDim S49152x2 ![0, 1] bcast_S49152x1_S49152x2_0_1 g) e)
    (broadcastInDim S49152x2 ![0, 1] bcast_S49152x1_S49152x2_0_1 (broadcastInDim S49152x1 ![0] bcast_S49152_S49152x1_0
      (Host.reduceAdd e (constant S_ .f32 0x00000000#32) reducesTo_S49152x2_S49152_d1 h_S_)))) (sitofp .f32 (constantI S_ 32 0#32)) pads_S49152x2_S49152x128_000_01260 h_S_

theorem idLanes_at (ix : IVec S49152x1 32) (e : IVec S49152x2 32) (r : Fin 49152) (w : Fin 128) :
    idLanes ix e (ix2 r w) = if h : w.val < 2 then IntOp.addi (IntOp.muli (ix (ix2 r 0)) 8#32) (e (ix2 r ⟨w.val, h⟩)) else 0#32 := by
  pointwise [idLanes]
  rfl

theorem zero_word : FloatOps.sitofp (F := Ideal) .f32 (0#32) = (0 : EReal) := by
  show ((((0#32 : BitVec 32).toInt : ℝ)) : EReal) = 0
  simp

theorem weightLanes_at (g : FVec Ideal S49152x1 .f32) (e : FVec Ideal S49152x2 .f32) (r : Fin 49152) (w : Fin 128) :
    weightLanes g e (ix2 r w) = if h : w.val < 2 then Ideal.div (g (ix2 r 0) * e (ix2 r ⟨w.val, h⟩)) (∑ x, e (ix2 r x)) else 0 := by
  pointwise [weightLanes]
  rw [zero_word]

end Cert.Chosen

end
-- ==== Proof.Merged.lean ====
module

public import proofs.«01_k».proof.Proof.Router
public import proofs.«01_k».proof.Proof.Rows
@[expose] public section
noncomputable section
namespace Cert.Merged
open Idealize.ShloMosaic Idealize.ShloMosaic.TcCoe
open Cert.Rows

/-! The merge of one token, written over functions of plain indices: what both programs of the third call compute
    row by row. -/

/-- What one token's merge is computed from. -/
structure Item where
  /-- the residual -/
  x : Fin 1024 → EReal
  /-- the neighbourhood attention's row -/
  na : Fin 512 → EReal
  /-- the latent attention's row -/
  ml : Fin 1024 → EReal
  /-- the gates -/
  gt : Fin 2048 → EReal
  /-- the sequence's residual gate -/
  g1 : Fin 1024 → EReal
  /-- the sequence's shift -/
  sh : Fin 1024 → EReal
  /-- the sequence's scale -/
  sc : Fin 1024 → EReal
  /-- the neighbourhood attention's projection -/
  wn : Fin 512 → Fin 1024 → EReal
  /-- the latent attention's projection -/
  wm : Fin 1024 → Fin 1024 → EReal
  /-- the output projection -/
  wo : Fin 1024 → Fin 1024 → EReal
  /-- the norm's gain -/
  g : Fin 1024 → EReal
  /-- the router's upper part -/
  rh : Fin 1024 → Fin 128 → EReal
  /-- the router's lower part -/
  rl : Fin 1024 → Fin 128 → EReal
  /-- the router's bias -/
  b : Fin 128 → EReal

namespace Item

/-- The item of row `r` of the arguments, whose sequence is `s`. -/
def of {n : ℕ} (x : Shape.Idx ⟨2, ![n, 1024]⟩ → EReal) (na : Shape.Idx ⟨2, ![n, 512]⟩ → EReal) (ml : Shape.Idx ⟨2, ![n, 1024]⟩ → EReal)
    (gt : Shape.Idx ⟨2, ![n, 2048]⟩ → EReal) (md : Shape.Idx ⟨2, ![16, 6144]⟩ → EReal) (wn : Shape.Idx ⟨2, ![512, 1024]⟩ → EReal)
    (wm wo : Shape.Idx ⟨2, ![1024, 1024]⟩ → EReal) (g : Shape.Idx ⟨2, ![1, 1024]⟩ → EReal) (rh rl : Shape.Idx ⟨2, ![1024, 128]⟩ → EReal)
    (b : Shape.Idx ⟨2, ![1, 128]⟩ → EReal) (s : Fin 16) (r : Fin n) : Item where
  x k := x (ix2 r k)
  na k := na (ix2 r k)
  ml k := ml (ix2 r k)
  gt k := gt (ix2 r k)
  g1 k := md (ix2 s ⟨2048 + k.val, by omega⟩)
  sh k := md (ix2 s ⟨3072 + k.val, by omega⟩)
  sc k := md (ix2 s ⟨4096 + k.val, by omega⟩)
  wn j k := wn (ix2 j k)
  wm j k := wm (ix2 j k)
  wo j k := wo (ix2 j k)
  g k := g (ix2 0 k)
  rh k c := rh (ix2 k c)
  rl k c := rl (ix2 k c)
  b c := b (ix2 0 c)

variable (a : Item)

/-- The gated sum of the two attentions. -/
def mix (k : Fin 1024) : EReal :=
  a.gt ⟨k.val, by omega⟩ * (∑ j, a.na j * a.wn j k) + a.gt ⟨1024 + k.val, by omega⟩ * (∑ j, a.ml j * a.wm j k)

/-- The new residual. -/
def out (k : Fin 1024) : EReal := a.x k + a.g1 k * ∑ j, a.mix j * a.wo j k

/-- It, normed and modulated. -/
def hid (k : Fin 1024) : EReal := normed 0x44800000#32 a.out a.g k * (1 + a.sc k) + a.sh k

/-- The router's logits as the kernel adds them up. -/
def parts (c : Fin 128) : EReal :=
  ∑ k, a.hid k * a.rh k c + ∑ k, a.hid k * a.rl k c + ∑ k, (a.hid k - a.hid k) * a.rh k c + a.b c

/-- The router's logits. -/
def logits (c : Fin 128) : EReal := ∑ k, a.hid k * (a.rh k c + a.rl k c) + a.b c

end Item

/-- A real number of at most 65536 in size. -/
def Small (y : EReal) : Prop := ∃ r : ℝ, y = (r : EReal) ∧ |r| ≤ 65536

/-- What the third call's precondition says of a token. -/
structure Moderate (a : Item) : Prop where
  sh : ∀ k, Small (a.sh k)
  sc : ∀ k, Small (a.sc k)
  g : ∀ k, Small (a.g k)
  rh : ∀ k (c : Fin 128), c.val < 36 → Small (a.rh k c)
  rl : ∀ k (c : Fin 128), c.val < 36 → Small (a.rl k c)
  b : ∀ c : Fin 128, c.val < 36 → Small (a.b c)

section
variable {a : Item} (h : Moderate a)
include h

omit h in
/-- An entry over the root of the mean square is at most 32 in size. -/
theorem normed_le (X : Fin 1024 → ℝ) (e : ℝ) (he : 0 < e) (k : Fin 1024) :
    |X k * (Real.sqrt ((∑ j, X j * X j) * (1 / 1024) + e))⁻¹| ≤ 32 := by
  have n : 0 ≤ ∑ j, X j * X j := Finset.sum_nonneg fun j _ => mul_self_nonneg _
  have q : X k * X k ≤ ∑ j, X j * X j := Finset.single_le_sum (f := fun j => X j * X j) (fun j _ => mul_self_nonneg _) (Finset.mem_univ k)
  have p : 0 < (∑ j, X j * X j) * (1 / 1024) + e := by positivity
  have s : 0 < Real.sqrt ((∑ j, X j * X j) * (1 / 1024) + e) := Real.sqrt_pos.2 p
  rw [abs_mul, abs_of_pos (inv_pos.2 s), ← div_eq_mul_inv, div_le_iff₀ s]
  refine abs_le_of_sq_le_sq' ?_ (by positivity) |> fun t => abs_le.2 ⟨t.1, t.2⟩
  rw [mul_pow, Real.sq_sqrt p.le]
  nlinarith

omit h in
theorem square_nonneg (x : EReal) : 0 ≤ x * x := by
  induction x with
  | bot => exact le_top
  | top => exact le_top
  | coe r => rw [← EReal.coe_mul]; exact EReal.coe_nonneg.2 (mul_self_nonneg r)

omit h in
/-- A row's norm is real, and at most 32 in size, whatever the row: a row with an infinite entry has an infinite mean
    square, and its norm is nought. -/
theorem norm_small (f : Fin 1024 → EReal) (k : Fin 1024) : ∃ r : ℝ,
    f k * Ideal.rsqrt (Ideal.div (∑ j, f j * f j) (Ideal.ofBits .f32 0x44800000#32) + Ideal.ofBits .f32 0x358637BD#32) = (r : EReal) ∧ |r| ≤ 32 := by
  obtain ⟨e, he, pe⟩ : ∃ e : ℝ, (Ideal.ofBits .f32 0x358637BD#32 : EReal) = (e : EReal) ∧ 0 < e := by
    refine ⟨_, by simp [Ideal.ofBits, Ideal.ieee, -EReal.coe_mul]; rfl, by norm_num⟩
  have hN : (Ideal.ofBits .f32 0x44800000#32 : EReal) = ((1024 : ℝ) : EReal) := by
    simp [Ideal.ofBits, Ideal.ieee, -EReal.coe_mul]
    try norm_num
  rw [he, hN, Ideal.div_coe (by norm_num)]
  by_cases hr : ∀ j, ∃ r : ℝ, f j = (r : EReal)
  · choose X hX using hr
    have n : 0 ≤ ∑ j, X j * X j := Finset.sum_nonneg fun j _ => mul_self_nonneg _
    have p : 0 < (∑ j, X j * X j) * (1 / 1024) + e := by positivity
    refine ⟨_, ?_, normed_le X e pe k⟩
    rw [Finset.sum_congr rfl fun j _ => show f j * f j = ((X j * X j : ℝ) : EReal) by rw [hX, EReal.coe_mul], ← Cert.Online.coe_sum,
      ← EReal.coe_mul, ← EReal.coe_add, Ideal.rsqrt_coe, if_neg p.le.not_gt, if_neg p.ne', hX, EReal.coe_mul]
  · obtain ⟨j, hj⟩ := not_forall.1 hr
    have q : f j * f j = ⊤ := by
      rcases h : f j with _ | _ | r
      · rfl
      · rfl
      · exact absurd ⟨r, h⟩ hj
    have s : ∑ j, f j * f j = ⊤ := top_le_iff.1 (q.symm.le.trans
      (Finset.single_le_sum (f := fun j => f j * f j) (fun j _ => square_nonneg _) (Finset.mem_univ j)))
    refine ⟨0, ?_, by norm_num⟩
    rw [s, EReal.top_mul_coe_of_pos (by norm_num), EReal.top_add_coe]
    exact mul_zero _

/-- The modulated row is real, and at most this in size. -/
theorem hid_small (k : Fin 1024) : ∃ r : ℝ, a.hid k = (r : EReal) ∧ |r| ≤ 200000000000 := by
  obtain ⟨g, hg, bg⟩ := h.g k
  obtain ⟨sc, hsc, bsc⟩ := h.sc k
  obtain ⟨sh, hsh, bsh⟩ := h.sh k
  obtain ⟨y, hy, b⟩ := norm_small a.out k
  refine ⟨y * g * (1 + sc) + sh, ?_, ?_⟩
  · unfold Item.hid normed
    rw [hy, hg, hsc, hsh]
    simp only [EReal.coe_add, EReal.coe_mul, EReal.coe_one]
  have b1 : |y * g| ≤ 32 * 65536 := by rw [abs_mul]; exact mul_le_mul b bg (abs_nonneg _) (by norm_num)
  have b2 : |1 + sc| ≤ 65537 := (abs_add_le _ _).trans (by rw [abs_one]; linarith)
  have b3 : |y * g * (1 + sc)| ≤ 32 * 65536 * 65537 := by rw [abs_mul]; exact mul_le_mul b1 b2 (abs_nonneg _) (by norm_num)
  exact (abs_add_le _ _).trans (by linarith)

omit h in
theorem low_eq : Cert.Router.low = ((-1000000015047466219876688855040 : ℝ) : EReal) := by
  unfold Cert.Router.low
  simp [Ideal.ofBits, Ideal.ieee, -EReal.coe_mul]
  try norm_num

/-- The groups' and the experts' logits are real, above the masks' low value, and the kernel's sum of parts. -/
theorem logits_real : ∃ l : Fin 128 → ℝ, (∀ c, Cert.Router.low ≤ (l c : EReal))
    ∧ (∀ c : Fin 128, c.val < 36 → a.logits c = Cert.Router.up l c) ∧ (∀ c : Fin 128, c.val < 36 → a.parts c = Cert.Router.up l c) := by
  choose H hH bH using hid_small h
  choose rh hrh brh using h.rh
  choose rl hrl brl using h.rl
  choose b hb bb using h.b
  refine ⟨fun c => if q : c.val < 36 then ∑ k, H k * (rh k c q + rl k c q) + b c q else 0, fun c => ?_, fun c q => ?_, fun c q => ?_⟩
  · rw [low_eq, EReal.coe_le_coe_iff]
    dsimp only
    split_ifs with q
    · have t : ∀ k, |H k * (rh k c q + rl k c q)| ≤ 200000000000 * 131072 := fun k => by
        rw [abs_mul]
        exact mul_le_mul (bH k) ((abs_add_le _ _).trans (by linarith [brh k c q, brl k c q])) (abs_nonneg _) (by norm_num)
      have s : |∑ k, H k * (rh k c q + rl k c q)| ≤ ∑ _k : Fin 1024, (200000000000 * 131072 : ℝ) :=
        (Finset.abs_sum_le_sum_abs _ _).trans (Finset.sum_le_sum fun k _ => t k)
      rw [Finset.sum_const, Finset.card_univ, Fintype.card_fin, nsmul_eq_mul] at s
      have s1 := (abs_le.1 s).1
      have s2 := (abs_le.1 (bb c q)).1
      norm_num at s1 ⊢
      linarith
    · norm_num
  · rw [Cert.Router.up, dif_pos q]
    unfold Item.logits
    simp only [hH, hrh _ c q, hrl _ c q, hb c q, EReal.coe_add, Cert.Online.coe_sum, EReal.coe_mul]
  · rw [Cert.Router.up, dif_pos q]
    unfold Item.parts
    simp only [hH, hrh _ c q, hrl _ c q, hb c q, ← EReal.coe_sub, ← EReal.coe_add, ← Cert.Online.coe_sum, ← EReal.coe_mul, sub_self, zero_mul,
      Finset.sum_const_zero, add_zero, mul_add, Finset.sum_add_distrib]

/-- The router's expert numbers: the kernel's lanes over the parts are the reference's over the logits. -/
theorem ids_parts (c : Fin 128) : Cert.Router.idLanes a.parts c = Cert.Router.ids a.logits c := by
  obtain ⟨l, hl, e, e'⟩ := logits_real h
  rw [(Cert.Router.lanes_congr l hl e').1, (Cert.Router.lanes_congr l hl e).2.2.1, Cert.Router.ids_eq l hl]

/-- The router's weights likewise. -/
theorem weights_parts (c : Fin 128) : Cert.Router.weightLanes a.parts c = Cert.Router.weights a.logits c := by
  obtain ⟨l, hl, e, e'⟩ := logits_real h
  rw [(Cert.Router.lanes_congr l hl e').2.1, (Cert.Router.lanes_congr l hl e).2.2.2, Cert.Router.weights_eq l hl]

end
end Cert.Merged
-- ==== Proof.Merge.lean ====
module

public import proofs.«01_k».proof.Proof.Merged
public import proofs.«01_k».proof.Proof.Projections
public import proofs.«01_k».proof.Proof.Gen.MergeIdeal.Run

/-! The third call's reference: the new residual, its norm and the router's logits, row by row. -/

@[expose] public section

set_option maxRecDepth 16384

noncomputable section

namespace Cert.Merge

open Cert.MergeIdeal Cert.MergeIdeal.Gen
open Idealize.ShloMosaic Idealize.ShloMosaic.TcCoe Idealize.ShloMosaic.Tactic Idealize.ShloMosaic.StableHlo
open Cert.Rows Cert.Merged
open Cert.Projections (spread spread_at)

/-- A thousand columns of the modulation, at every token. -/
def part (o : ℕ) (h4 : S16x6144.Slices ![0, o] S4x1024) (h8 : S16x6144.Slices ![4, o] S8x1024) (md : FVec Ideal S16x6144 .f32) :
    FVec Ideal S49152x1024 .f32 :=
  spread (extractStridedSlice S4x1024 ![0, o] md h4) (extractStridedSlice S8x1024 ![4, o] md h8)

theorem part_at (o : ℕ) (h4 : S16x6144.Slices ![0, o] S4x1024) (h8 : S16x6144.Slices ![4, o] S8x1024) (md : FVec Ideal S16x6144 .f32)
    (ho : o + 1024 ≤ 6144) (R : Fin 49152) (k : Fin 1024) : part o h4 h8 md (ix2 R k) = md (ix2 (seqOf R) ⟨o + k.val, by omega⟩) := by
  rw [part, spread_at]
  split_ifs with h
  · refine congrArg md (funext (Fin.forall_fin_two.2 ⟨Fin.ext ?_, Fin.ext rfl⟩))
    show 0 + R.val / 8192 = (seqOf R).val
    simp [seqOf, h]
  · refine congrArg md (funext (Fin.forall_fin_two.2 ⟨Fin.ext ?_, Fin.ext rfl⟩))
    show 4 + (R.val - 32768) / 2048 = (seqOf R).val
    simp [seqOf, h]

/-- The gated sum of the two attentions. -/
def mix (na : FVec Ideal S49152x512 .bf16) (ml : FVec Ideal S49152x1024 .bf16) (gt : FVec Ideal S49152x2048 .bf16)
    (wn : FVec Ideal S512x1024 .bf16) (wm : FVec Ideal S1024x1024 .bf16) : FVec Ideal S49152x1024 .f32 :=
  addf (mulf (extractStridedSlice S49152x1024 ![0, 0] (extf .f32 gt bitsLt_bf16_f32) slices_S49152x2048_S49152x1024_0_0)
      (Host.dotGeneral dot_S49152x512_S512x1024_S49152x1024_1_0_0_1_n_n none (extf .f32 na bitsLt_bf16_f32) (extf .f32 wn bitsLt_bf16_f32)))
    (mulf (extractStridedSlice S49152x1024 ![0, 1024] (extf .f32 gt bitsLt_bf16_f32) slices_S49152x2048_S49152x1024_0_1024)
      (Host.dotGeneral dot_S49152x1024_S1024x1024_S49152x1024_1_0_0_1_n_n none (extf .f32 ml bitsLt_bf16_f32) (extf .f32 wm bitsLt_bf16_f32)))

/-- The new residual. -/
def out (x s y : FVec Ideal S49152x1024 .f32) (wo : FVec Ideal S1024x1024 .bf16) : FVec Ideal S49152x1024 .f32 :=
  addf x (mulf s (Host.dotGeneral dot_S49152x1024_S1024x1024_S49152x1024_1_0_0_1_n_n none y (extf .f32 wo bitsLt_bf16_f32)))

/-- It, normed and modulated. -/
def hid (x sc sh : FVec Ideal S49152x1024 .f32) (g : FVec Ideal S1x1024 .f32) : FVec Ideal S49152x1024 .f32 :=
  addf (mulf (mulf (mulf x (broadcastInDim S49152x1024 ![0, 1] bcast_S49152x1_S49152x1024_0_1 (Host.rsqrt (addf (Host.divf
      (broadcastInDim S49152x1 ![0] bcast_S49152_S49152x1_0 (Host.reduceAdd (mulf x x) (constant S_ .f32 0x00000000#32) reducesTo_S49152x1024_S49152_d1 h_S_))
      (broadcastInDim S49152x1 ![] bcast_S_S49152x1 (constant S_ .f32 0x44800000#32)))
      (broadcastInDim S49152x1 ![] bcast_S_S49152x1 (constant S_ .f32 0x358637BD#32))))))
    (broadcastInDim S49152x1024 ![0, 1] bcast_S1x1024_S49152x1024_0_1 g))
    (addf (broadcastInDim S49152x1024 ![] bcast_S_S49152x1024 (constant S_ .f32 0x3F800000#32)) sc)) sh

/-- The router's logits. -/
def logits (h : FVec Ideal S49152x1024 .f32) (rh rl : FVec Ideal S1024x128 .bf16) (b : FVec Ideal S1x128 .f32) : FVec Ideal S49152x128 .f32 :=
  addf (Host.dotGeneral dot_S49152x1024_S1024x128_S49152x128_1_0_0_1_n_n none h (addf (extf .f32 rh bitsLt_bf16_f32) (extf .f32 rl bitsLt_bf16_f32)))
    (broadcastInDim S49152x128 ![0, 1] bcast_S1x128_S49152x128_0_1 b)

section
variable (a : Item) (R : Fin 49152)

theorem mix_at (na : FVec Ideal S49152x512 .bf16) (ml : FVec Ideal S49152x1024 .bf16) (gt : FVec Ideal S49152x2048 .bf16)
    (wn : FVec Ideal S512x1024 .bf16) (wm : FVec Ideal S1024x1024 .bf16) (hn : ∀ k, na (ix2 R k) = a.na k) (hm : ∀ k, ml (ix2 R k) = a.ml k)
    (hg : ∀ k, gt (ix2 R k) = a.gt k) (hwn : ∀ j k, wn (ix2 j k) = a.wn j k) (hwm : ∀ j k, wm (ix2 j k) = a.wm j k) (k : Fin 1024) :
    mix na ml gt wn wm (ix2 R k) = a.mix k := by
  pointwise [mix]
  simp only [hn, hm, hg, hwn, hwm]
  unfold Item.mix
  congr 3

theorem out_at (x s y : FVec Ideal S49152x1024 .f32) (wo : FVec Ideal S1024x1024 .bf16) (hx : ∀ k, x (ix2 R k) = a.x k)
    (hs : ∀ k, s (ix2 R k) = a.g1 k) (hy : ∀ k, y (ix2 R k) = a.mix k) (hw : ∀ j k, wo (ix2 j k) = a.wo j k) (k : Fin 1024) :
    out x s y wo (ix2 R k) = a.out k := by
  pointwise [out]
  simp only [hx, hs, hy, hw]
  rfl

theorem hid_at (x sc sh : FVec Ideal S49152x1024 .f32) (g : FVec Ideal S1x1024 .f32) (hx : ∀ k, x (ix2 R k) = a.out k)
    (hg : ∀ k, g (ix2 0 k) = a.g k) (hsc : ∀ k, sc (ix2 R k) = a.sc k) (hsh : ∀ k, sh (ix2 R k) = a.sh k) (k : Fin 1024) :
    hid x sc sh g (ix2 R k) = a.hid k := by
  pointwise [hid]
  simp only [hx, hg, hsc, hsh]
  rfl

theorem logits_at (h : FVec Ideal S49152x1024 .f32) (rh rl : FVec Ideal S1024x128 .bf16) (b : FVec Ideal S1x128 .f32)
    (hh : ∀ k, h (ix2 R k) = a.hid k) (h1 : ∀ j c, rh (ix2 j c) = a.rh j c) (h2 : ∀ j c, rl (ix2 j c) = a.rl j c)
    (hb : ∀ c, b (ix2 0 c) = a.b c) (c : Fin 128) : logits h rh rl b (ix2 R c) = a.logits c := by
  pointwise [logits]
  simp only [hh, h1, h2, hb]
  rfl

end

section
variable (m : (ℓ : Loc nD τ sig) → Buf (Elt Ideal) ℓ) (c : Dev nD)

/-- The item of row `R`, of the arguments. -/
def items (R : Fin 49152) : Item :=
  Item.of (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (seqOf R) R

/-- The normed and modulated residual, of the arguments. -/
def hidOf : FVec Ideal S49152x1024 .f32 :=
  hid (Value.res_main_v42 (launchContents m c)) (part 4096 slices_S16x6144_S4x1024_0_4096 slices_S16x6144_S8x1024_4_4096 (m ((c : Thread nD τ).loc main_arg5)))
    (part 3072 slices_S16x6144_S4x1024_0_3072 slices_S16x6144_S8x1024_4_3072 (m ((c : Thread nD τ).loc main_arg5))) (m ((c : Thread nD τ).loc main_arg9))

theorem out_eq : Value.res_main_v42 (launchContents m c)
    = out (m ((c : Thread nD τ).loc main_arg1)) (part 2048 slices_S16x6144_S4x1024_0_2048 slices_S16x6144_S8x1024_4_2048 (m ((c : Thread nD τ).loc main_arg5)))
      (mix (m ((c : Thread nD τ).loc main_arg2)) (m ((c : Thread nD τ).loc main_arg3)) (m ((c : Thread nD τ).loc main_arg4)) (m ((c : Thread nD τ).loc main_arg6)) (m ((c : Thread nD τ).loc main_arg7)))
      (m ((c : Thread nD τ).loc main_arg8)) := rfl

theorem logits_eq : Value.res_main_v64 (launchContents m c)
    = logits (hidOf m c) (m ((c : Thread nD τ).loc main_arg10)) (m ((c : Thread nD τ).loc main_arg11)) (m ((c : Thread nD τ).loc main_arg12)) := rfl

theorem outOf_at (R : Fin 49152) (k : Fin 1024) : Value.res_main_v42 (launchContents m c) (ix2 R k) = (items m c R).out k := by
  rw [out_eq]
  exact out_at (items m c R) R _ _ _ _ (fun _ => rfl) (fun k => part_at 2048 _ _ _ (by omega) R k)
    (mix_at (items m c R) R _ _ _ _ _ (fun _ => rfl) (fun _ => rfl) (fun _ => rfl) (fun _ _ => rfl) (fun _ _ => rfl)) (fun _ _ => rfl) k

theorem hidOf_at (R : Fin 49152) (k : Fin 1024) : hidOf m c (ix2 R k) = (items m c R).hid k :=
  hid_at (items m c R) R _ _ _ _ (outOf_at m c R) (fun _ => rfl) (fun k => part_at 4096 _ _ _ (by omega) R k)
    (fun k => part_at 3072 _ _ _ (by omega) R k) k

theorem logitsOf_at (R : Fin 49152) (x : Fin 128) : Value.res_main_v64 (launchContents m c) (ix2 R x) = (items m c R).logits x := by
  rw [logits_eq]
  exact logits_at (items m c R) R _ _ _ _ (hidOf_at m c R) (fun _ _ => rfl) (fun _ _ => rfl) (fun _ => rfl) x

theorem result0 : Value.res_main_v42 (launchContents m c) = fun i => (items m c (i 0)).out (i 1) := by
  funext i
  obtain ⟨R, x, rfl⟩ : ∃ R x, i = ix2 R x := ⟨_, _, eq_ix2 i⟩
  exact outOf_at m c R x

theorem result1 : hidOf m c = fun i => (items m c (i 0)).hid (i 1) := by
  funext i
  obtain ⟨R, x, rfl⟩ : ∃ R x, i = ix2 R x := ⟨_, _, eq_ix2 i⟩
  exact hidOf_at m c R x

end

end Cert.Merge

end
-- ==== Proof.Lanes.lean ====
module

public import proofs.«01_k».proof.Proof.Merged
public import proofs.«01_k».proof.Proof.Gen.PostmixIdeal.Flash.Runs
public import Idealize.ShloMosaic.Lib.Pointwise
public import Idealize.ShloMosaic.Lib.VecWindow
public import Idealize.ShloMosaic.Lib.Writes

/-! What one step of the third kernel computes, element by element. -/

@[expose] public section

set_option maxRecDepth 16384

noncomputable section

namespace Cert.Lanes

open Cert.PostmixIdeal Cert.PostmixIdeal.Gen
open Idealize.ShloMosaic Idealize.ShloMosaic.TcCoe Idealize.ShloMosaic.Tactic
open Cert.Rows Cert.Merged Cert.Router

section
variable (a : Item) (r : Fin 256)

/-- The vectors of a step agree with the item in row `r`: what the new residual is computed from. -/
structure Sum (v3 : Vec Ideal S1x1024 .f32) (v8 : Vec Ideal S256x512 .bf16) (v9 : Vec Ideal S512x1024 .bf16) (v11 : Vec Ideal S256x1024 .bf16)
    (v12 : Vec Ideal S1024x1024 .bf16) (v14 : Vec Ideal S256x2048 .bf16) (v22 : Vec Ideal S256x1024 .f32) (v24 : Vec Ideal S1024x1024 .bf16) : Prop where
  g1 : ∀ k, v3 (ix2 0 k) = a.g1 k
  na : ∀ k, v8 (ix2 r k) = a.na k
  wn : ∀ j k, v9 (ix2 j k) = a.wn j k
  ml : ∀ k, v11 (ix2 r k) = a.ml k
  wm : ∀ j k, v12 (ix2 j k) = a.wm j k
  gt : ∀ k, v14 (ix2 r k) = a.gt k
  x : ∀ k, v22 (ix2 r k) = a.x k
  wo : ∀ j k, v24 (ix2 j k) = a.wo j k

variable {a r} {v3 : Vec Ideal S1x1024 .f32} {v8 : Vec Ideal S256x512 .bf16} {v9 : Vec Ideal S512x1024 .bf16} {v11 : Vec Ideal S256x1024 .bf16}
  {v12 : Vec Ideal S1024x1024 .bf16} {v14 : Vec Ideal S256x2048 .bf16} {v22 : Vec Ideal S256x1024 .f32} {v24 : Vec Ideal S1024x1024 .bf16}

theorem out_at (H : Sum a r v3 v8 v9 v11 v12 v14 v22 v24) (k : Fin 1024) : k0_pay2 (F := Ideal) v3 v8 v9 v11 v12 v14 v22 v24 (ix2 r k) = a.out k := by
  pointwise [k0_pay2]
  simp only [H.g1, H.na, H.wn, H.ml, H.wm, H.gt, H.x, H.wo]
  rfl

theorem sq_at (H : Sum a r v3 v8 v9 v11 v12 v14 v22 v24) : k0_pay3 (F := Ideal) v3 v8 v9 v11 v12 v14 v22 v24 (ix2 r 0) = ∑ j, a.out j * a.out j := by
  pointwise [k0_pay3]
  simp only [out_at H]

variable {v5 v7 v40 : Vec Ideal S1x1024 .f32} {v28 : FVec Ideal S256x1024 .f32} {v32 : FVec Ideal S256x1 .f32}

theorem hid_at (h28 : ∀ k, v28 (ix2 r k) = a.out k) (h32 : v32 (ix2 r 0) = ∑ j, a.out j * a.out j) (h5 : ∀ k, v5 (ix2 0 k) = a.sh k)
    (h7 : ∀ k, v7 (ix2 0 k) = a.sc k) (h40 : ∀ k, v40 (ix2 0 k) = a.g k) (k : Fin 1024) :
    k0_pay4 (F := Ideal) v5 v7 v28 v32 (Scalar.ofBits .f32 0x44800000#32) v40 (ix2 r k) = a.hid k := by
  pointwise [k0_pay4]
  simp only [h28, h32, h5, h7, h40]
  rfl

theorem parts_at (h28 : ∀ k, v28 (ix2 r k) = a.out k) (h32 : v32 (ix2 r 0) = ∑ j, a.out j * a.out j) (h5 : ∀ k, v5 (ix2 0 k) = a.sh k)
    (h7 : ∀ k, v7 (ix2 0 k) = a.sc k) (h40 : ∀ k, v40 (ix2 0 k) = a.g k) {v54 v56 v59 : Vec Ideal S1024x128 .bf16} {v62 : Vec Ideal S1x128 .f32}
    (h54 : ∀ k c, v54 (ix2 k c) = a.rh k c) (h56 : ∀ k c, v56 (ix2 k c) = a.rl k c) (h59 : ∀ k c, v59 (ix2 k c) = a.rh k c)
    (h62 : ∀ c, v62 (ix2 0 c) = a.b c) (c : Fin 128) :
    k0_pay5 (F := Ideal) v5 v7 v28 v32 (Scalar.ofBits .f32 0x44800000#32) v40 v54 v56 v59 v62 (ix2 r c) = a.parts c := by
  have e : ∀ k, k0_pay4 (F := Ideal) v5 v7 v28 v32 (Ideal.ofBits .f32 0x44800000#32) v40 (ix2 r k) = a.hid k := hid_at h28 h32 h5 h7 h40
  pointwise [k0_pay5]
  simp only [e, h54, h56, h59, h62]
  rfl
end

section
variable {L : Fin 128 → EReal} {r : Fin 256} {v5 v7 v40 : Vec Ideal S1x1024 .f32} {v28 : FVec Ideal S256x1024 .f32} {v32 : FVec Ideal S256x1 .f32}
  {cst : Ideal .f32} {v54 v56 v59 : Vec Ideal S1024x128 .bf16} {v62 : Vec Ideal S1x128 .f32}

theorem slt_at (c : Fin 128) : k0_pay6 (ix2 r c) = IntOp.cmpi .slt (lane c) 4#32 := by
  pointwise [k0_pay6]
  rfl

theorem gl_at (h : ∀ c, k0_pay5 (F := Ideal) v5 v7 v28 v32 cst v40 v54 v56 v59 v62 (ix2 r c) = L c) (c : Fin 128) :
    k0_pay7 (F := Ideal) v5 v7 v28 v32 cst v40 v54 v56 v59 v62 (ix2 r c) = gl L c := by
  pointwise [k0_pay7]
  rw [h, slt_at]
  rfl

theorem gmax_at (h : ∀ c, k0_pay5 (F := Ideal) v5 v7 v28 v32 cst v40 v54 v56 v59 v62 (ix2 r c) = L c) :
    k0_pay8 (F := Ideal) v5 v7 v28 v32 cst v40 v54 v56 v59 v62 (ix2 r 0) = gmax L := by
  pointwise [k0_pay8]
  simp only [gl_at h]
  rfl
end

section
variable {L : Fin 128 → EReal} {r : Fin 256} {v64 v69 : FVec Ideal S256x128 .f32} {v65 : IVec S256x128 32} {v67 : IVec S256x128 1} {v71 : FVec Ideal S256x1 .f32}
  (h64 : ∀ c, v64 (ix2 r c) = L c) (h65 : ∀ c, v65 (ix2 r c) = lane c) (h67 : ∀ c, v67 (ix2 r c) = IntOp.cmpi .slt (lane c) 4#32)
  (h69 : ∀ c, v69 (ix2 r c) = gl L c) (h71 : v71 (ix2 r 0) = gmax L)

include h67 h69 h71 in
theorem gtop_at : k0_pay9 (F := Ideal) v67 v69 v71 (ix2 r 0) = gtop L := by
  pointwise [k0_pay9]
  simp only [h67, h69, h71]
  rfl

include h65 h69 h71 in
theorem inside_at (c : Fin 128) : k0_pay10 (F := Ideal) v65 v69 v71 (ix2 r c) = inside L c := by
  pointwise [k0_pay10]
  simp only [h65, h69, h71]
  rfl

include h64 h65 h69 h71 in
theorem ep_at (c : Fin 128) : k0_pay11 (F := Ideal) v64 v65 v69 v71 (ix2 r c) = ep L c := by
  pointwise [k0_pay11]
  simp only [inside_at h65 h69 h71, h64]
  rfl

include h64 h65 h69 h71 in
theorem p1_at : k0_pay12 (F := Ideal) v64 v65 v69 v71 (ix2 r 0) = p1 L := by
  pointwise [k0_pay12]
  simp only [ep_at h64 h65 h69 h71]
  rfl

include h64 h65 h69 h71 in
theorem first_at (c : Fin 128) : k0_pay13 (F := Ideal) v64 v65 v69 v71 (ix2 r c)
    = Scalar.select (IntOp.andi (inside L c) (BitVec.ofBool (decide (ep L c = p1 L)))) (lane c) 128#32 := by
  pointwise [k0_pay13]
  simp only [inside_at h65 h69 h71, ep_at h64 h65 h69 h71, p1_at h64 h65 h69 h71, h65]
end

section
variable {L : Fin 128 → EReal} {r : Fin 256} {v65 v117 : IVec S256x128 32} {v80 v112 : FVec Ideal S256x1 .f32} {v97 : IVec S256x128 1}
  {v110 : FVec Ideal S256x128 .f32}
  (h65 : ∀ c, v65 (ix2 r c) = lane c) (h80 : v80 (ix2 r 0) = gtop L) (h97 : ∀ c, v97 (ix2 r c) = inside L c) (h110 : ∀ c, v110 (ix2 r c) = ep L c)
  (h112 : v112 (ix2 r 0) = p1 L)
  (h117 : ∀ c, v117 (ix2 r c) = Scalar.select (IntOp.andi (inside L c) (BitVec.ofBool (decide (ep L c = p1 L)))) (lane c) 128#32)

include h117 in
theorem i1_at : k0_pay14 v117 (ix2 r 0) = i1 L := by
  pointwise [k0_pay14]
  simp only [h117]
  rfl

include h65 h97 h117 in
theorem rest_at (c : Fin 128) : k0_pay15 v65 v97 v117 (ix2 r c) = rest L c := by
  pointwise [k0_pay15]
  simp only [h65, h97, i1_at h117]
  rfl

include h65 h97 h110 h117 in
theorem p2_at : k0_pay16 (F := Ideal) v65 v97 v110 v117 (ix2 r 0) = p2 L := by
  pointwise [k0_pay16]
  simp only [rest_at h65 h97 h117, h110]
  rfl

include h65 h97 h110 h117 in
theorem ids_at (c : Fin 128) : k0_pay19 (F := Ideal) v65 v97 v110 v117 (ix2 r c) = idLanes L c := by
  pointwise [k0_pay19]
  simp only [rest_at h65 h97 h117, p2_at h65 h97 h110 h117, i1_at h117, h110, h65]
  rfl

include h65 h80 h97 h110 h112 h117 in
theorem weights_at (c : Fin 128) : k0_pay1 (F := Ideal) (k0_pay18 v65 v80 v97 v110 v112 v117) (k0_pay20 v65) (k0_pay21 v65)
    (k0_pay22 v65 v80 v97 v110 v112 v117) (k0_pay23 (F := Ideal)) (ix2 r c) = weightLanes L c := by
  pointwise [k0_pay1, k0_pay17, k0_pay18, k0_pay20, k0_pay21, k0_pay22, k0_pay23]
  simp only [p2_at h65 h97 h110 h117, h65, h80, h112]
  rfl
end

end Cert.Lanes

end
-- ==== Proof.Posts.lean ====
module

public import proofs.«01_k».proof.Proof.Lanes
public import proofs.«01_k».proof.Proof.Arrays
public import proofs.«01_k».proof.Proof.PostmixIdealRun
public import Idealize.ShloMosaic.Lib.Pipeline.ValueKit

/-! The stores of one step of the third kernel, and what its pipeline leaves in the four output arrays. -/

@[expose] public section

set_option maxRecDepth 16384

noncomputable section

namespace Cert.Posts

open Cert.PostmixIdeal Cert.PostmixIdeal.Gen
open Idealize.ShloMosaic Idealize.ShloMosaic.TcCoe Idealize.ShloMosaic.Tactic
open Cert.Rows Cert.Merged Cert.Router Cert.Lanes
open Cert.Blocks (filled_at load_at load_whole seqT)

/-- The word of the table that a step reads. -/
abbrev word (i : grid0.Coords) (T0 : S192.Idx → Elt Ideal .i32) : BitVec 32 :=
  View.readAt (Elt Ideal) (tbM0_0).view (Rect.unit (s := S192) (k0_off1 i) S1.size (k0_off1_inb i)).toLoadRect T0
    (Shape.Idx.first (numel1_S1.symm ▸ Nat.one_pos))

section
variable (c : Dev nD) (i : grid0.Coords)
  (arg2 : Memref sig .tc .vmem S256x1024 .f32) (harg2 : arg2.IsWhole)
  (arg3 : Memref sig .tc .vmem S256x512 .bf16) (harg3 : arg3.IsWhole)
  (arg4 : Memref sig .tc .vmem S256x1024 .bf16) (harg4 : arg4.IsWhole)
  (arg5 : Memref sig .tc .vmem S256x2048 .bf16) (harg5 : arg5.IsWhole)
  (arg6 : Memref sig .tc .vmem S16x6144 .f32) (harg6 : arg6.IsWhole)
  (arg7 : Memref sig .tc .vmem S512x1024 .bf16) (harg7 : arg7.IsWhole)
  (arg8 : Memref sig .tc .vmem S1024x1024 .bf16) (harg8 : arg8.IsWhole)
  (arg9 : Memref sig .tc .vmem S1024x1024 .bf16) (harg9 : arg9.IsWhole)
  (arg10 : Memref sig .tc .vmem S1x1024 .f32) (harg10 : arg10.IsWhole)
  (arg11 : Memref sig .tc .vmem S1024x128 .bf16) (harg11 : arg11.IsWhole)
  (arg12 : Memref sig .tc .vmem S1024x128 .bf16) (harg12 : arg12.IsWhole)
  (arg13 : Memref sig .tc .vmem S1x128 .f32) (harg13 : arg13.IsWhole)
  (arg14 : Memref sig .tc .vmem S256x1024 .f32) (harg14 : arg14.IsWhole)
  (arg15 : Memref sig .tc .vmem S256x1024 .f32) (harg15 : arg15.IsWhole)
  (arg16 : Memref sig .tc .vmem S256x128 .i32) (harg16 : arg16.IsWhole)
  (arg17 : Memref sig .tc .vmem S256x128 .f32) (harg17 : arg17.IsWhole)
  (T0 : S192.Idx → Elt Ideal .i32)
  (x0 : S256x1024.Idx → Elt Ideal .f32)
  (x1 : S256x512.Idx → Elt Ideal .bf16)
  (x2 : S256x1024.Idx → Elt Ideal .bf16)
  (x3 : S256x2048.Idx → Elt Ideal .bf16)
  (x4 : S16x6144.Idx → Elt Ideal .f32)
  (x5 : S512x1024.Idx → Elt Ideal .bf16)
  (x6 : S1024x1024.Idx → Elt Ideal .bf16)
  (x7 : S1024x1024.Idx → Elt Ideal .bf16)
  (x8 : S1x1024.Idx → Elt Ideal .f32)
  (x9 : S1024x128.Idx → Elt Ideal .bf16)
  (x10 : S1024x128.Idx → Elt Ideal .bf16)
  (x11 : S1x128.Idx → Elt Ideal .f32)
  (hw : k0_chk1 (word i T0))

/-- The loads of a step. -/
abbrev lg1 : Vec Ideal S1x1024 .f32 :=
  View.readAt (Elt Ideal) arg6.view (Rect.unit (s := S16x6144) (k0_off2 (word i T0)) S1x1024.size (k0_off2_inb (word i T0) hw)).toLoadRect (arg6.view.rep x4)
abbrev lsh : Vec Ideal S1x1024 .f32 :=
  View.readAt (Elt Ideal) arg6.view (Rect.unit (s := S16x6144) (k0_off3 (word i T0)) S1x1024.size (k0_off3_inb (word i T0) hw)).toLoadRect (arg6.view.rep x4)
abbrev lsc : Vec Ideal S1x1024 .f32 :=
  View.readAt (Elt Ideal) arg6.view (Rect.unit (s := S16x6144) (k0_off4 (word i T0)) S1x1024.size (k0_off4_inb (word i T0) hw)).toLoadRect (arg6.view.rep x4)
abbrev lx : Vec Ideal S256x1024 .f32 :=
  View.readAt (Elt Ideal) arg2.view (Rect.unit (s := S256x1024) ![0, 0] S256x1024.size inb_S256x1024_S256x1024_0_0).toLoadRect (arg2.view.rep x0)
abbrev lna : Vec Ideal S256x512 .bf16 :=
  View.readAt (Elt Ideal) arg3.view (Rect.unit (s := S256x512) ![0, 0] S256x512.size inb_S256x512_S256x512_0_0).toLoadRect (arg3.view.rep x1)
abbrev lml : Vec Ideal S256x1024 .bf16 :=
  View.readAt (Elt Ideal) arg4.view (Rect.unit (s := S256x1024) ![0, 0] S256x1024.size inb_S256x1024_S256x1024_0_0).toLoadRect (arg4.view.rep x2)
abbrev lgt : Vec Ideal S256x2048 .bf16 :=
  View.readAt (Elt Ideal) arg5.view (Rect.unit (s := S256x2048) ![0, 0] S256x2048.size inb_S256x2048_S256x2048_0_0).toLoadRect (arg5.view.rep x3)
abbrev lwn : Vec Ideal S512x1024 .bf16 :=
  View.readAt (Elt Ideal) arg7.view (Rect.unit (s := S512x1024) ![0, 0] S512x1024.size inb_S512x1024_S512x1024_0_0).toLoadRect (arg7.view.rep x5)
abbrev lwm : Vec Ideal S1024x1024 .bf16 :=
  View.readAt (Elt Ideal) arg8.view (Rect.unit (s := S1024x1024) ![0, 0] S1024x1024.size inb_S1024x1024_S1024x1024_0_0).toLoadRect (arg8.view.rep x6)
abbrev lwo : Vec Ideal S1024x1024 .bf16 :=
  View.readAt (Elt Ideal) arg9.view (Rect.unit (s := S1024x1024) ![0, 0] S1024x1024.size inb_S1024x1024_S1024x1024_0_0).toLoadRect (arg9.view.rep x7)
abbrev lg : Vec Ideal S1x1024 .f32 :=
  View.readAt (Elt Ideal) arg10.view (Rect.unit (s := S1x1024) ![0, 0] S1x1024.size inb_S1x1024_S1x1024_0_0).toLoadRect (arg10.view.rep x8)
abbrev lrh : Vec Ideal S1024x128 .bf16 :=
  View.readAt (Elt Ideal) arg11.view (Rect.unit (s := S1024x128) ![0, 0] S1024x128.size inb_S1024x128_S1024x128_0_0).toLoadRect (arg11.view.rep x9)
abbrev lrl : Vec Ideal S1024x128 .bf16 :=
  View.readAt (Elt Ideal) arg12.view (Rect.unit (s := S1024x128) ![0, 0] S1024x128.size inb_S1024x128_S1024x128_0_0).toLoadRect (arg12.view.rep x10)
abbrev lb : Vec Ideal S1x128 .f32 :=
  View.readAt (Elt Ideal) arg13.view (Rect.unit (s := S1x128) ![0, 0] S1x128.size inb_S1x128_S1x128_0_0).toLoadRect (arg13.view.rep x11)

/-- A step's new residuals. -/
abbrev bout : FVec Ideal S256x1024 .f32 := k0_pay2 (F := Ideal) (lg1 i arg6 T0 x4 hw) (lna arg3 x1) (lwn arg7 x5) (lml arg4 x2) (lwm arg8 x6) (lgt arg5 x3) (lx arg2 x0) (lwo arg9 x7)

/-- Their sums of squares. -/
abbrev bsq : FVec Ideal S256x1 .f32 := k0_pay3 (F := Ideal) (lg1 i arg6 T0 x4 hw) (lna arg3 x1) (lwn arg7 x5) (lml arg4 x2) (lwm arg8 x6) (lgt arg5 x3) (lx arg2 x0) (lwo arg9 x7)

/-- The step's logits. -/
abbrev blog : FVec Ideal S256x128 .f32 :=
  k0_pay5 (F := Ideal) (lsh i arg6 T0 x4 hw) (lsc i arg6 T0 x4 hw) (bout i arg2 arg3 arg4 arg5 arg6 arg7 arg8 arg9 T0 x0 x1 x2 x3 x4 x5 x6 x7 hw) (bsq i arg2 arg3 arg4 arg5 arg6 arg7 arg8 arg9 T0 x0 x1 x2 x3 x4 x5 x6 x7 hw) (Scalar.ofBits .f32 0x44800000#32) (lg arg10 x8)
    (lrh arg11 x9) (lrl arg12 x10) (lrh arg11 x9) (lb arg13 x11)

/-- The groups' logits. -/
abbrev bgl : FVec Ideal S256x128 .f32 :=
  k0_pay7 (F := Ideal) (lsh i arg6 T0 x4 hw) (lsc i arg6 T0 x4 hw) (bout i arg2 arg3 arg4 arg5 arg6 arg7 arg8 arg9 T0 x0 x1 x2 x3 x4 x5 x6 x7 hw) (bsq i arg2 arg3 arg4 arg5 arg6 arg7 arg8 arg9 T0 x0 x1 x2 x3 x4 x5 x6 x7 hw) (Scalar.ofBits .f32 0x44800000#32) (lg arg10 x8)
    (lrh arg11 x9) (lrl arg12 x10) (lrh arg11 x9) (lb arg13 x11)

/-- Their maxima. -/
abbrev bmax : FVec Ideal S256x1 .f32 :=
  k0_pay8 (F := Ideal) (lsh i arg6 T0 x4 hw) (lsc i arg6 T0 x4 hw) (bout i arg2 arg3 arg4 arg5 arg6 arg7 arg8 arg9 T0 x0 x1 x2 x3 x4 x5 x6 x7 hw) (bsq i arg2 arg3 arg4 arg5 arg6 arg7 arg8 arg9 T0 x0 x1 x2 x3 x4 x5 x6 x7 hw) (Scalar.ofBits .f32 0x44800000#32) (lg arg10 x8)
    (lrh arg11 x9) (lrl arg12 x10) (lrh arg11 x9) (lb arg13 x11)

/-- The lanes' numbers. -/
abbrev bl : IVec S256x128 32 := iota .tc S256x128 32 [1] iota_S256x128_d1_w32

theorem bl_at (r : Fin 256) (l : Fin 128) : bl (ix2 r l) = lane l := by
  pointwise [bl]
  rfl

variable (s : Fin 16) (h2 : k0_off2 (word i T0) = ![s.val, 2048]) (h3 : k0_off3 (word i T0) = ![s.val, 3072])
  (h4 : k0_off4 (word i T0) = ![s.val, 4096]) (r : Fin 256)

include h2 in
theorem sum_of : Sum (Item.of x0 x1 x2 x3 x4 x5 x6 x7 x8 x9 x10 x11 s r) r (lg1 i arg6 T0 x4 hw) (lna arg3 x1) (lwn arg7 x5) (lml arg4 x2) (lwm arg8 x6) (lgt arg5 x3) (lx arg2 x0) (lwo arg9 x7) where
  g1 k := load_at arg6.view x4 _ s.val 2048 h2 _ 0 k (by simp) (by omega)
  na k := load_whole arg3.view x1 _ r k
  wn j k := load_whole arg7.view x5 _ j k
  ml k := load_whole arg4.view x2 _ r k
  wm j k := load_whole arg8.view x6 _ j k
  gt k := load_whole arg5.view x3 _ r k
  x k := load_whole arg2.view x0 _ r k
  wo j k := load_whole arg9.view x7 _ j k

include h3 in
theorem sh_of (k : Fin 1024) : lsh i arg6 T0 x4 hw (ix2 0 k) = (Item.of x0 x1 x2 x3 x4 x5 x6 x7 x8 x9 x10 x11 s r).sh k :=
  load_at arg6.view x4 _ s.val 3072 h3 _ 0 k (by simp) (by omega)

include h4 in
theorem sc_of (k : Fin 1024) : lsc i arg6 T0 x4 hw (ix2 0 k) = (Item.of x0 x1 x2 x3 x4 x5 x6 x7 x8 x9 x10 x11 s r).sc k :=
  load_at arg6.view x4 _ s.val 4096 h4 _ 0 k (by simp) (by omega)

include h2 h3 h4 in
theorem log_of (l : Fin 128) : blog i arg2 arg3 arg4 arg5 arg6 arg7 arg8 arg9 arg10 arg11 arg12 arg13 T0 x0 x1 x2 x3 x4 x5 x6 x7 x8 x9 x10 x11 hw (ix2 r l) = (Item.of x0 x1 x2 x3 x4 x5 x6 x7 x8 x9 x10 x11 s r).parts l :=
  parts_at (out_at (sum_of i arg2 arg3 arg4 arg5 arg6 arg7 arg8 arg9 T0 x0 x1 x2 x3 x4 x5 x6 x7 x8 x9 x10 x11 hw s h2 r))
    (sq_at (sum_of i arg2 arg3 arg4 arg5 arg6 arg7 arg8 arg9 T0 x0 x1 x2 x3 x4 x5 x6 x7 x8 x9 x10 x11 hw s h2 r))
    (sh_of i arg6 T0 x0 x1 x2 x3 x4 x5 x6 x7 x8 x9 x10 x11 hw s h3 r) (sc_of i arg6 T0 x0 x1 x2 x3 x4 x5 x6 x7 x8 x9 x10 x11 hw s h4 r)
    (fun k => load_whole arg10.view x8 _ 0 k) (fun k l => load_whole arg11.view x9 _ k l) (fun k l => load_whole arg12.view x10 _ k l)
    (fun k l => load_whole arg11.view x9 _ k l) (fun l => load_whole arg13.view x11 _ 0 l) l

include h2 in
theorem out12 (k : Fin 1024) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 T0 x0 x1 x2 x3 x4 x5 x6 x7 x8 x9 x10 x11 hw (ix2 r k) = (Item.of x0 x1 x2 x3 x4 x5 x6 x7 x8 x9 x10 x11 s r).out k :=
  (filled_at VO0_12 _ _ _ r k).trans
    (out_at (sum_of i arg2 arg3 arg4 arg5 arg6 arg7 arg8 arg9 T0 x0 x1 x2 x3 x4 x5 x6 x7 x8 x9 x10 x11 hw s h2 r) k)

include h2 h3 h4 in
theorem out13 (k : Fin 1024) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 T0 x0 x1 x2 x3 x4 x5 x6 x7 x8 x9 x10 x11 hw (ix2 r k) = (Item.of x0 x1 x2 x3 x4 x5 x6 x7 x8 x9 x10 x11 s r).hid k :=
  (filled_at VO0_13 _ _ _ r k).trans
    (hid_at (out_at (sum_of i arg2 arg3 arg4 arg5 arg6 arg7 arg8 arg9 T0 x0 x1 x2 x3 x4 x5 x6 x7 x8 x9 x10 x11 hw s h2 r))
      (sq_at (sum_of i arg2 arg3 arg4 arg5 arg6 arg7 arg8 arg9 T0 x0 x1 x2 x3 x4 x5 x6 x7 x8 x9 x10 x11 hw s h2 r))
      (sh_of i arg6 T0 x0 x1 x2 x3 x4 x5 x6 x7 x8 x9 x10 x11 hw s h3 r) (sc_of i arg6 T0 x0 x1 x2 x3 x4 x5 x6 x7 x8 x9 x10 x11 hw s h4 r)
      (fun k => load_whole arg10.view x8 _ 0 k) k)

include h2 h3 h4 in
theorem out14 (l : Fin 128) : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 T0 x0 x1 x2 x3 x4 x5 x6 x7 x8 x9 x10 x11 hw (ix2 r l) = idLanes (Item.of x0 x1 x2 x3 x4 x5 x6 x7 x8 x9 x10 x11 s r).parts l := by
  have hl := log_of i arg2 arg3 arg4 arg5 arg6 arg7 arg8 arg9 arg10 arg11 arg12 arg13 T0 x0 x1 x2 x3 x4 x5 x6 x7 x8 x9 x10 x11 hw s h2 h3 h4 r
  have hg := gl_at hl
  have hm := gmax_at hl
  refine (filled_at VO0_14 _ _ _ r l).trans ?_
  exact ids_at (L := (Item.of x0 x1 x2 x3 x4 x5 x6 x7 x8 x9 x10 x11 s r).parts) (v65 := bl) (bl_at r) (inside_at (bl_at r) hg hm) (ep_at hl (bl_at r) hg hm) (first_at hl (bl_at r) hg hm) l

include h2 h3 h4 in
theorem out15 (l : Fin 128) : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 T0 x0 x1 x2 x3 x4 x5 x6 x7 x8 x9 x10 x11 hw (ix2 r l) = weightLanes (Item.of x0 x1 x2 x3 x4 x5 x6 x7 x8 x9 x10 x11 s r).parts l := by
  have hl := log_of i arg2 arg3 arg4 arg5 arg6 arg7 arg8 arg9 arg10 arg11 arg12 arg13 T0 x0 x1 x2 x3 x4 x5 x6 x7 x8 x9 x10 x11 hw s h2 h3 h4 r
  have hg := gl_at hl
  have hm := gmax_at hl
  refine (filled_at VO0_15 _ _ _ r l).trans ?_
  exact weights_at (L := (Item.of x0 x1 x2 x3 x4 x5 x6 x7 x8 x9 x10 x11 s r).parts) (v65 := bl) (bl_at r) (gtop_at slt_at hg hm) (inside_at (bl_at r) hg hm) (ep_at hl (bl_at r) hg hm)
    (p1_at hl (bl_at r) hg hm) (first_at hl (bl_at r) hg hm) l
end

end Cert.Posts

end
-- ==== Proof.Ends.lean ====
module

public import proofs.«01_k».proof.Proof.Posts

/-! What the third call's pipeline leaves in its four output arrays. -/

@[expose] public section

set_option maxRecDepth 16384

noncomputable section

namespace Cert.Posts

open Cert.PostmixIdeal Cert.PostmixIdeal.Gen
open Idealize.ShloMosaic Idealize.ShloMosaic.TcCoe Idealize.ShloMosaic.Tactic
open Cert.Rows Cert.Merged Cert.Router
open Cert.Blocks (seqT)

theorem off2 : ∀ t : Fin (cfgA 0).N, k0_off2 (word (crd 0 t) (pinT_0 0)) = ![seqT t.val, 2048] := by decide +kernel
theorem off3 : ∀ t : Fin (cfgA 0).N, k0_off3 (word (crd 0 t) (pinT_0 0)) = ![seqT t.val, 3072] := by decide +kernel
theorem off4 : ∀ t : Fin (cfgA 0).N, k0_off4 (word (crd 0 t) (pinT_0 0)) = ![seqT t.val, 4096] := by decide +kernel

/-- The windows that stage a whole array. -/
theorem whole_idx : ∀ w : Fin 16, (4 ≤ w.val ∧ w.val ≤ 11) → ∀ t : Fin (cfgA 0).N, ∀ a, ((cfgA 0).win w).index t a = 0 := by decide +kernel

/-- The windows that follow the row tiles. -/
theorem row_idx : ∀ w : Fin 16, (w.val ≤ 3 ∨ 12 ≤ w.val) → ∀ t : Fin (cfgA 0).N, ∀ a, ((cfgA 0).win w).index t a = if a.val = 0 then t.val else 0 := by
  decide +kernel

theorem lt_tiles (t : Fin (cfgA 0).N) : t.val < 192 := t.isLt

variable (m : (ℓ : Loc nD τ sig) → Buf (Elt Ideal) ℓ) (ρ : Dev nD → PrngReg) (c : Dev nD)

/-- Row `r` of tile `t`. -/
def rowOf (t : Fin (cfgA 0).N) (r : Fin 256) : Fin 49152 := ⟨t.val * 256 + r.val, by have := lt_tiles t; omega⟩

theorem in0 (t : Fin (cfgA 0).N) (r : Fin 256) (k : Fin 1024) :
    iblk 0 m ρ c 0 t (ix2 r k) = m ((c : Thread nD τ).loc main_arg1) (ix2 (rowOf t r) k) := by
  have e0 : ((cfgA 0).win 0).index t 0 = t.val := row_idx 0 (by decide) t 0
  have e1 : ((cfgA 0).win 0).index t 1 = 0 := row_idx 0 (by decide) t 1
  unfold rowOf
  blk_ext [iblk, e0, e1]

theorem in1 (t : Fin (cfgA 0).N) (r : Fin 256) (k : Fin 512) :
    iblk 0 m ρ c 1 t (ix2 r k) = m ((c : Thread nD τ).loc main_arg2) (ix2 (rowOf t r) k) := by
  have e0 : ((cfgA 0).win 1).index t 0 = t.val := row_idx 1 (by decide) t 0
  have e1 : ((cfgA 0).win 1).index t 1 = 0 := row_idx 1 (by decide) t 1
  unfold rowOf
  blk_ext [iblk, e0, e1]

theorem in2 (t : Fin (cfgA 0).N) (r : Fin 256) (k : Fin 1024) :
    iblk 0 m ρ c 2 t (ix2 r k) = m ((c : Thread nD τ).loc main_arg3) (ix2 (rowOf t r) k) := by
  have e0 : ((cfgA 0).win 2).index t 0 = t.val := row_idx 2 (by decide) t 0
  have e1 : ((cfgA 0).win 2).index t 1 = 0 := row_idx 2 (by decide) t 1
  unfold rowOf
  blk_ext [iblk, e0, e1]

theorem in3 (t : Fin (cfgA 0).N) (r : Fin 256) (k : Fin 2048) :
    iblk 0 m ρ c 3 t (ix2 r k) = m ((c : Thread nD τ).loc main_arg4) (ix2 (rowOf t r) k) := by
  have e0 : ((cfgA 0).win 3).index t 0 = t.val := row_idx 3 (by decide) t 0
  have e1 : ((cfgA 0).win 3).index t 1 = 0 := row_idx 3 (by decide) t 1
  unfold rowOf
  blk_ext [iblk, e0, e1]

theorem in4 (t : Fin (cfgA 0).N) (r : Fin 16) (k : Fin 6144) :
    iblk 0 m ρ c 4 t (ix2 r k) = m ((c : Thread nD τ).loc main_arg5) (ix2 r k) := by
  have e0 : ((cfgA 0).win 4).index t 0 = 0 := whole_idx 4 (by decide) t 0
  have e1 : ((cfgA 0).win 4).index t 1 = 0 := whole_idx 4 (by decide) t 1
  blk_ext [iblk, e0, e1]

theorem in5 (t : Fin (cfgA 0).N) (r : Fin 512) (k : Fin 1024) :
    iblk 0 m ρ c 5 t (ix2 r k) = m ((c : Thread nD τ).loc main_arg6) (ix2 r k) := by
  have e0 : ((cfgA 0).win 5).index t 0 = 0 := whole_idx 5 (by decide) t 0
  have e1 : ((cfgA 0).win 5).index t 1 = 0 := whole_idx 5 (by decide) t 1
  blk_ext [iblk, e0, e1]

theorem in6 (t : Fin (cfgA 0).N) (r : Fin 1024) (k : Fin 1024) :
    iblk 0 m ρ c 6 t (ix2 r k) = m ((c : Thread nD τ).loc main_arg7) (ix2 r k) := by
  have e0 : ((cfgA 0).win 6).index t 0 = 0 := whole_idx 6 (by decide) t 0
  have e1 : ((cfgA 0).win 6).index t 1 = 0 := whole_idx 6 (by decide) t 1
  blk_ext [iblk, e0, e1]

theorem in7 (t : Fin (cfgA 0).N) (r : Fin 1024) (k : Fin 1024) :
    iblk 0 m ρ c 7 t (ix2 r k) = m ((c : Thread nD τ).loc main_arg8) (ix2 r k) := by
  have e0 : ((cfgA 0).win 7).index t 0 = 0 := whole_idx 7 (by decide) t 0
  have e1 : ((cfgA 0).win 7).index t 1 = 0 := whole_idx 7 (by decide) t 1
  blk_ext [iblk, e0, e1]

theorem in8 (t : Fin (cfgA 0).N) (r : Fin 1) (k : Fin 1024) :
    iblk 0 m ρ c 8 t (ix2 r k) = m ((c : Thread nD τ).loc main_arg9) (ix2 r k) := by
  have e0 : ((cfgA 0).win 8).index t 0 = 0 := whole_idx 8 (by decide) t 0
  have e1 : ((cfgA 0).win 8).index t 1 = 0 := whole_idx 8 (by decide) t 1
  blk_ext [iblk, e0, e1]

theorem in9 (t : Fin (cfgA 0).N) (r : Fin 1024) (k : Fin 128) :
    iblk 0 m ρ c 9 t (ix2 r k) = m ((c : Thread nD τ).loc main_arg10) (ix2 r k) := by
  have e0 : ((cfgA 0).win 9).index t 0 = 0 := whole_idx 9 (by decide) t 0
  have e1 : ((cfgA 0).win 9).index t 1 = 0 := whole_idx 9 (by decide) t 1
  blk_ext [iblk, e0, e1]

theorem in10 (t : Fin (cfgA 0).N) (r : Fin 1024) (k : Fin 128) :
    iblk 0 m ρ c 10 t (ix2 r k) = m ((c : Thread nD τ).loc main_arg11) (ix2 r k) := by
  have e0 : ((cfgA 0).win 10).index t 0 = 0 := whole_idx 10 (by decide) t 0
  have e1 : ((cfgA 0).win 10).index t 1 = 0 := whole_idx 10 (by decide) t 1
  blk_ext [iblk, e0, e1]

theorem in11 (t : Fin (cfgA 0).N) (r : Fin 1) (k : Fin 128) :
    iblk 0 m ρ c 11 t (ix2 r k) = m ((c : Thread nD τ).loc main_arg12) (ix2 r k) := by
  have e0 : ((cfgA 0).win 11).index t 0 = 0 := whole_idx 11 (by decide) t 0
  have e1 : ((cfgA 0).win 11).index t 1 = 0 := whole_idx 11 (by decide) t 1
  blk_ext [iblk, e0, e1]

/-- The item of row `R` of the call's arguments. -/
def items (R : Fin 49152) : Item := Item.of (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (seqOf R) R

theorem seq_eq (t : Fin (cfgA 0).N) (r : Fin 256) : (seqOf (rowOf t r)).val = seqT t.val := by
  have := lt_tiles t
  show (if t.val * 256 + r.val < 32768 then (t.val * 256 + r.val) / 8192 else 4 + (t.val * 256 + r.val - 32768) / 2048) = _
  unfold seqT
  split_ifs <;> omega

theorem item_eq (t : Fin (cfgA 0).N) (r : Fin 256) : Item.of (iblk 0 m ρ c 0 t) (iblk 0 m ρ c 1 t) (iblk 0 m ρ c 2 t) (iblk 0 m ρ c 3 t) (iblk 0 m ρ c 4 t) (iblk 0 m ρ c 5 t) (iblk 0 m ρ c 6 t) (iblk 0 m ρ c 7 t) (iblk 0 m ρ c 8 t) (iblk 0 m ρ c 9 t) (iblk 0 m ρ c 10 t) (iblk 0 m ρ c 11 t) (seqOf (rowOf t r)) r = items m c (rowOf t r) := by
  unfold items Item.of
  simp only [in0, in1, in2, in3, in4, in5, in6, in7, in8, in9, in10, in11]

theorem after12 (t : Fin (cfgA 0).N) (r : Fin 256) (x : Fin 1024) :
    (traj0 0 m ρ c t.val t.isLt).1 (ix2 r x) = (items m c (rowOf t r)).out x := by
  rw [traj0_eq, step0_A, ← item_eq m ρ c t r]
  dsimp only
  exact out12 c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (ms0_6 0 t) (hs0_6 0 t) (ms0_7 0 t) (hs0_7 0 t) (ms0_8 0 t) (hs0_8 0 t) (ms0_9 0 t) (hs0_9 0 t) (ms0_10 0 t) (hs0_10 0 t) (ms0_11 0 t) (hs0_11 0 t) (ms0_12 0 t) (hs0_12 0 t) (ms0_13 0 t) (hs0_13 0 t) (ms0_14 0 t) (hs0_14 0 t) (ms0_15 0 t) (hs0_15 0 t) (pinT_0 0) (iblk 0 m ρ c 0 t) (iblk 0 m ρ c 1 t) (iblk 0 m ρ c 2 t) (iblk 0 m ρ c 3 t) (iblk 0 m ρ c 4 t) (iblk 0 m ρ c 5 t) (iblk 0 m ρ c 6 t) (iblk 0 m ρ c 7 t) (iblk 0 m ρ c 8 t) (iblk 0 m ρ c 9 t) (iblk 0 m ρ c 10 t) (iblk 0 m ρ c 11 t) (hyp0_A_0 0 t) (seqOf (rowOf t r)) (by rw [seq_eq]; exact off2 t) r x

/-- The new residuals. -/
def res12 : S49152x1024.Idx → EReal := fun i => (items m c (i 0)).out (i 1)

theorem array12 : (dats 0 m ρ 0 c).arrAt 12 (cfgA 0).N = res12 m c := by
  refine (dats 0 m ρ 0 c).arrAt_eq_of_covers 12 _ (by decide +kernel) fun t hf y => ?_
  have e0 : ((cfgA 0).win 12).index t 0 = t.val := row_idx 12 (by decide) t 0
  have e1 : ((cfgA 0).win 12).index t 1 = 0 := row_idx 12 (by decide) t 1
  blk_simp
  rw [after0_12]
  obtain ⟨r, x, rfl⟩ : ∃ (r : Fin 256) (x : Fin 1024), y = ix2 r x := ⟨y 0, y 1, eq_ix2 y⟩
  have hR : (((cfgA 0).win 12).blk t).view.emb (ix2 r x) 0 = rowOf t r := Fin.ext (by
    unfold rowOf
    blk_simp [e0])
  have hX : (((cfgA 0).win 12).blk t).view.emb (ix2 r x) 1 = x := Fin.ext (by
    blk_simp [e1])
  unfold res12
  rw [hR, hX]
  exact after12 m ρ c t r x

theorem after13 (t : Fin (cfgA 0).N) (r : Fin 256) (x : Fin 1024) :
    (traj0 0 m ρ c t.val t.isLt).2.1 (ix2 r x) = (items m c (rowOf t r)).hid x := by
  rw [traj0_eq, step0_A, ← item_eq m ρ c t r]
  dsimp only
  exact out13 c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (ms0_6 0 t) (hs0_6 0 t) (ms0_7 0 t) (hs0_7 0 t) (ms0_8 0 t) (hs0_8 0 t) (ms0_9 0 t) (hs0_9 0 t) (ms0_10 0 t) (hs0_10 0 t) (ms0_11 0 t) (hs0_11 0 t) (ms0_12 0 t) (hs0_12 0 t) (ms0_13 0 t) (hs0_13 0 t) (ms0_14 0 t) (hs0_14 0 t) (ms0_15 0 t) (hs0_15 0 t) (pinT_0 0) (iblk 0 m ρ c 0 t) (iblk 0 m ρ c 1 t) (iblk 0 m ρ c 2 t) (iblk 0 m ρ c 3 t) (iblk 0 m ρ c 4 t) (iblk 0 m ρ c 5 t) (iblk 0 m ρ c 6 t) (iblk 0 m ρ c 7 t) (iblk 0 m ρ c 8 t) (iblk 0 m ρ c 9 t) (iblk 0 m ρ c 10 t) (iblk 0 m ρ c 11 t) (hyp0_A_0 0 t) (seqOf (rowOf t r)) (by rw [seq_eq]; exact off2 t) (by rw [seq_eq]; exact off3 t) (by rw [seq_eq]; exact off4 t) r x

/-- They normed and modulated. -/
def res13 : S49152x1024.Idx → EReal := fun i => (items m c (i 0)).hid (i 1)

theorem array13 : (dats 0 m ρ 0 c).arrAt 13 (cfgA 0).N = res13 m c := by
  refine (dats 0 m ρ 0 c).arrAt_eq_of_covers 13 _ (by decide +kernel) fun t hf y => ?_
  have e0 : ((cfgA 0).win 13).index t 0 = t.val := row_idx 13 (by decide) t 0
  have e1 : ((cfgA 0).win 13).index t 1 = 0 := row_idx 13 (by decide) t 1
  blk_simp
  rw [after0_13]
  obtain ⟨r, x, rfl⟩ : ∃ (r : Fin 256) (x : Fin 1024), y = ix2 r x := ⟨y 0, y 1, eq_ix2 y⟩
  have hR : (((cfgA 0).win 13).blk t).view.emb (ix2 r x) 0 = rowOf t r := Fin.ext (by
    unfold rowOf
    blk_simp [e0])
  have hX : (((cfgA 0).win 13).blk t).view.emb (ix2 r x) 1 = x := Fin.ext (by
    blk_simp [e1])
  unfold res13
  rw [hR, hX]
  exact after13 m ρ c t r x

theorem after14 (t : Fin (cfgA 0).N) (r : Fin 256) (x : Fin 128) :
    (traj0 0 m ρ c t.val t.isLt).2.2.1 (ix2 r x) = idLanes (items m c (rowOf t r)).parts x := by
  rw [traj0_eq, step0_A, ← item_eq m ρ c t r]
  dsimp only
  exact out14 c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (ms0_6 0 t) (hs0_6 0 t) (ms0_7 0 t) (hs0_7 0 t) (ms0_8 0 t) (hs0_8 0 t) (ms0_9 0 t) (hs0_9 0 t) (ms0_10 0 t) (hs0_10 0 t) (ms0_11 0 t) (hs0_11 0 t) (ms0_12 0 t) (hs0_12 0 t) (ms0_13 0 t) (hs0_13 0 t) (ms0_14 0 t) (hs0_14 0 t) (ms0_15 0 t) (hs0_15 0 t) (pinT_0 0) (iblk 0 m ρ c 0 t) (iblk 0 m ρ c 1 t) (iblk 0 m ρ c 2 t) (iblk 0 m ρ c 3 t) (iblk 0 m ρ c 4 t) (iblk 0 m ρ c 5 t) (iblk 0 m ρ c 6 t) (iblk 0 m ρ c 7 t) (iblk 0 m ρ c 8 t) (iblk 0 m ρ c 9 t) (iblk 0 m ρ c 10 t) (iblk 0 m ρ c 11 t) (hyp0_A_0 0 t) (seqOf (rowOf t r)) (by rw [seq_eq]; exact off2 t) (by rw [seq_eq]; exact off3 t) (by rw [seq_eq]; exact off4 t) r x

/-- The experts' numbers. -/
def res14 : S49152x128.Idx → BitVec 32 := fun i => idLanes (items m c (i 0)).parts (i 1)

theorem array14 : (dats 0 m ρ 0 c).arrAt 14 (cfgA 0).N = res14 m c := by
  refine (dats 0 m ρ 0 c).arrAt_eq_of_covers 14 _ (by decide +kernel) fun t hf y => ?_
  have e0 : ((cfgA 0).win 14).index t 0 = t.val := row_idx 14 (by decide) t 0
  have e1 : ((cfgA 0).win 14).index t 1 = 0 := row_idx 14 (by decide) t 1
  blk_simp
  rw [after0_14]
  obtain ⟨r, x, rfl⟩ : ∃ (r : Fin 256) (x : Fin 128), y = ix2 r x := ⟨y 0, y 1, eq_ix2 y⟩
  have hR : (((cfgA 0).win 14).blk t).view.emb (ix2 r x) 0 = rowOf t r := Fin.ext (by
    unfold rowOf
    blk_simp [e0])
  have hX : (((cfgA 0).win 14).blk t).view.emb (ix2 r x) 1 = x := Fin.ext (by
    blk_simp [e1])
  unfold res14
  rw [hR, hX]
  exact after14 m ρ c t r x

theorem after15 (t : Fin (cfgA 0).N) (r : Fin 256) (x : Fin 128) :
    (traj0 0 m ρ c t.val t.isLt).2.2.2 (ix2 r x) = weightLanes (items m c (rowOf t r)).parts x := by
  rw [traj0_eq, step0_A, ← item_eq m ρ c t r]
  dsimp only
  exact out15 c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (ms0_6 0 t) (hs0_6 0 t) (ms0_7 0 t) (hs0_7 0 t) (ms0_8 0 t) (hs0_8 0 t) (ms0_9 0 t) (hs0_9 0 t) (ms0_10 0 t) (hs0_10 0 t) (ms0_11 0 t) (hs0_11 0 t) (ms0_12 0 t) (hs0_12 0 t) (ms0_13 0 t) (hs0_13 0 t) (ms0_14 0 t) (hs0_14 0 t) (ms0_15 0 t) (hs0_15 0 t) (pinT_0 0) (iblk 0 m ρ c 0 t) (iblk 0 m ρ c 1 t) (iblk 0 m ρ c 2 t) (iblk 0 m ρ c 3 t) (iblk 0 m ρ c 4 t) (iblk 0 m ρ c 5 t) (iblk 0 m ρ c 6 t) (iblk 0 m ρ c 7 t) (iblk 0 m ρ c 8 t) (iblk 0 m ρ c 9 t) (iblk 0 m ρ c 10 t) (iblk 0 m ρ c 11 t) (hyp0_A_0 0 t) (seqOf (rowOf t r)) (by rw [seq_eq]; exact off2 t) (by rw [seq_eq]; exact off3 t) (by rw [seq_eq]; exact off4 t) r x

/-- The experts' weights. -/
def res15 : S49152x128.Idx → EReal := fun i => weightLanes (items m c (i 0)).parts (i 1)

theorem array15 : (dats 0 m ρ 0 c).arrAt 15 (cfgA 0).N = res15 m c := by
  refine (dats 0 m ρ 0 c).arrAt_eq_of_covers 15 _ (by decide +kernel) fun t hf y => ?_
  have e0 : ((cfgA 0).win 15).index t 0 = t.val := row_idx 15 (by decide) t 0
  have e1 : ((cfgA 0).win 15).index t 1 = 0 := row_idx 15 (by decide) t 1
  blk_simp
  rw [after0_15]
  obtain ⟨r, x, rfl⟩ : ∃ (r : Fin 256) (x : Fin 128), y = ix2 r x := ⟨y 0, y 1, eq_ix2 y⟩
  have hR : (((cfgA 0).win 15).blk t).view.emb (ix2 r x) 0 = rowOf t r := Fin.ext (by
    unfold rowOf
    blk_simp [e0])
  have hX : (((cfgA 0).win 15).blk t).view.emb (ix2 r x) 1 = x := Fin.ext (by
    blk_simp [e1])
  unfold res15
  rw [hR, hX]
  exact after15 m ρ c t r x

end Cert.Posts

end
-- ==== Proof.Moderate.lean ====
module

public import proofs.«01_k».proof.Defs
public import proofs.«01_k».proof.Proof.Merged
public import proofs.«01_k».proof.Proof.Tiles
public import proofs.«01_k».proof.Proof.Gen.Pre_moderate
public import proofs.«01_k».proof.Proof.Gen.Postmix.Flash.Pins
public import proofs.«01_k».proof.Proof.Gen.PostmixIdeal.Flash.Pins

/-! The third call's precondition read back: its table holds the sequence of every row tile, and what the router's
    logits are made of is of moderate size. -/

@[expose] public section

set_option maxRecDepth 16384

noncomputable section

namespace Cert.Moderate

open Idealize.ShloMosaic Idealize.ShloMosaic.TcCoe Idealize.SL.Sem
open Cert.Tiles (wseq)
open Cert.Merged (Small)

instance : Subsingleton Cert.Pre_moderate.S_.Idx := ⟨fun _ _ => funext fun a => absurd a.isLt (by simp)⟩

theorem small_of (x : EReal) (h1 : Ideal.cmp .ole x ((65536 : ℝ) : EReal) = 1#1) (h2 : Ideal.cmp .oge x ((-65536 : ℝ) : EReal) = 1#1) : Small x := by
  have l : x ≤ ((65536 : ℝ) : EReal) := by
    by_contra n
    simp [Ideal.cmp, n] at h1
  have u : ((-65536 : ℝ) : EReal) ≤ x := by
    by_contra n
    have e := decide_eq_false n
    simp only [Ideal.cmp, e] at h2
    exact absurd h2 (by decide)
  induction x with
  | bot => exact absurd u (by simp)
  | top => exact absurd l (by simp)
  | coe r => exact ⟨r, rfl, abs_le.2 ⟨EReal.coe_le_coe_iff.1 u, EReal.coe_le_coe_iff.1 l⟩⟩

theorem small_f32 (x : Ideal .f32) (h : IntOp.andi (FloatOps.cmpf .ole x (FloatOps.ofBits .f32 0x47800000#32))
    (FloatOps.cmpf .oge x (FloatOps.ofBits .f32 0xC7800000#32)) = 1#1) : Small x := by
  obtain ⟨h1, h2⟩ := IntOp.andi_eq_one.1 h
  have t : (FloatOps.ofBits .f32 0x47800000#32 : Ideal .f32) = ((65536 : ℝ) : EReal) := by
    show Ideal.ofBits .f32 0x47800000#32 = _
    simp [Ideal.ofBits, Ideal.ieee, -EReal.coe_mul]
    try norm_num
  have b : (FloatOps.ofBits .f32 0xC7800000#32 : Ideal .f32) = ((-65536 : ℝ) : EReal) := by
    show Ideal.ofBits .f32 0xC7800000#32 = _
    simp [Ideal.ofBits, Ideal.ieee, -EReal.coe_mul]
    try norm_num
  rw [t, Ideal.cmpf_def] at h1
  rw [b, Ideal.cmpf_def] at h2
  exact small_of x h1 h2

theorem small_bf16 (x : Ideal .bf16) (h : IntOp.andi (FloatOps.cmpf .ole x (FloatOps.ofBits .bf16 0x4780#16))
    (FloatOps.cmpf .oge x (FloatOps.ofBits .bf16 0xC780#16)) = 1#1) : Small x := by
  obtain ⟨h1, h2⟩ := IntOp.andi_eq_one.1 h
  have t : (FloatOps.ofBits .bf16 0x4780#16 : Ideal .bf16) = ((65536 : ℝ) : EReal) := by
    show Ideal.ofBits .bf16 0x4780#16 = _
    simp [Ideal.ofBits, Ideal.ieee, -EReal.coe_mul]
    try norm_num
  have b : (FloatOps.ofBits .bf16 0xC780#16 : Ideal .bf16) = ((-65536 : ℝ) : EReal) := by
    show Ideal.ofBits .bf16 0xC780#16 = _
    simp [Ideal.ofBits, Ideal.ieee, -EReal.coe_mul]
    try norm_num
  rw [t, Ideal.cmpf_def] at h1
  rw [b, Ideal.cmpf_def] at h2
  exact small_of x h1 h2

open Cert.Pre_moderate in
theorem words {F : FTy → Type} [FloatOps F] (a0 : IVec S192 32) (x : FVec F S49152x1024 .f32) (na : FVec F S49152x512 .bf16)
    (ml : FVec F S49152x1024 .bf16) (gt : FVec F S49152x2048 .bf16) (md : FVec F S16x6144 .f32) (wn : FVec F S512x1024 .bf16)
    (wm wo : FVec F S1024x1024 .bf16) (g : FVec F S1x1024 .f32) (rh rl : FVec F S1024x128 .bf16) (b : FVec F S1x128 .f32)
    (h : haveI := Cert.Pre_moderate.Gen.facts; Cert.Pre_moderate.fn a0 x na ml gt md wn wm wo g rh rl b = fun _ => 1#1) (n : Fin 192) :
    a0 (ix1 n) = wseq n := by
  have h1 := congrFun h (Shape.Idx.first (by decide))
  simp only [Cert.Pre_moderate.fn, Cert.Pre_moderate.fn_part1, Cert.Pre_moderate.fn_part2, Cert.Pre_moderate.fn_where] at h1
  obtain ⟨h1, -⟩ := IntOp.andi_eq_one.1 h1
  obtain ⟨h1, -⟩ := IntOp.andi_eq_one.1 h1
  obtain ⟨h1, -⟩ := IntOp.andi_eq_one.1 h1
  obtain ⟨h1, -⟩ := IntOp.andi_eq_one.1 h1
  obtain ⟨h1, -⟩ := IntOp.andi_eq_one.1 h1
  have h2 := Host.reduce_andi_all _ _ _ _ _ h1 (ix1 n)
  pointwise at h2
  exact IntOp.cmpi_eq.1 h2

open Cert.Pre_moderate in
theorem sizes (a0 : IVec S192 32) (x : FVec Ideal S49152x1024 .f32) (na : FVec Ideal S49152x512 .bf16)
    (ml : FVec Ideal S49152x1024 .bf16) (gt : FVec Ideal S49152x2048 .bf16) (md : FVec Ideal S16x6144 .f32) (wn : FVec Ideal S512x1024 .bf16)
    (wm wo : FVec Ideal S1024x1024 .bf16) (g : FVec Ideal S1x1024 .f32) (rh rl : FVec Ideal S1024x128 .bf16) (b : FVec Ideal S1x128 .f32)
    (h : haveI := Cert.Pre_moderate.Gen.facts; Cert.Pre_moderate.fn a0 x na ml gt md wn wm wo g rh rl b = fun _ => 1#1) :
    (∀ (s : Fin 12) (k : Fin 2048), Small (md (ix2 ⟨s.val, by omega⟩ ⟨3072 + k.val, by omega⟩))) ∧ (∀ i, Small (g i))
    ∧ (∀ (k : Fin 1024) (c : Fin 36), Small (rh (ix2 k ⟨c.val, by omega⟩))) ∧ (∀ (k : Fin 1024) (c : Fin 36), Small (rl (ix2 k ⟨c.val, by omega⟩)))
    ∧ (∀ c : Fin 36, Small (b (ix2 0 ⟨c.val, by omega⟩))) := by
  have h1 := congrFun h (Shape.Idx.first (by decide))
  simp only [Cert.Pre_moderate.fn, Cert.Pre_moderate.fn_part1, Cert.Pre_moderate.fn_part2, Cert.Pre_moderate.fn_where] at h1
  obtain ⟨h1, hb⟩ := IntOp.andi_eq_one.1 h1
  obtain ⟨h1, hrl⟩ := IntOp.andi_eq_one.1 h1
  obtain ⟨h1, hrh⟩ := IntOp.andi_eq_one.1 h1
  obtain ⟨h1, hg⟩ := IntOp.andi_eq_one.1 h1
  obtain ⟨-, hmd⟩ := IntOp.andi_eq_one.1 h1
  refine ⟨fun s k => ?_, fun i => small_f32 _ (Host.reduce_andi_all _ _ _ _ _ hg i), fun k c => ?_, fun k c => ?_, fun c => ?_⟩
  · have e := small_f32 _ (Host.reduce_andi_all _ _ _ _ _ hmd (ix2 s k))
    refine (congrArg Merged.Small (congrArg md ?_)).mp e
    exact funext (Fin.forall_fin_two.2 ⟨Fin.ext (Nat.zero_add _), rfl⟩)
  · have e := small_bf16 _ (Host.reduce_andi_all _ _ _ _ _ hrh (ix2 k c))
    refine (congrArg Merged.Small (congrArg rh ?_)).mp e
    exact funext (Fin.forall_fin_two.2 ⟨Fin.ext (Nat.zero_add _), Fin.ext (Nat.zero_add _)⟩)
  · have e := small_bf16 _ (Host.reduce_andi_all _ _ _ _ _ hrl (ix2 k c))
    refine (congrArg Merged.Small (congrArg rl ?_)).mp e
    exact funext (Fin.forall_fin_two.2 ⟨Fin.ext (Nat.zero_add _), Fin.ext (Nat.zero_add _)⟩)
  · have e := small_f32 _ (Host.reduce_andi_all _ _ _ _ _ hb (ix2 0 c))
    refine (congrArg Merged.Small (congrArg b ?_)).mp e
    exact funext (Fin.forall_fin_two.2 ⟨rfl, Fin.ext (Nat.zero_add _)⟩)

/-- The listed words are the computed ones (`Postmix`). -/
theorem pin_kernel : ∀ n : Fin 192, Cert.Postmix.Gen.pinT_0 0 (ix1 n) = wseq n := by decide +kernel

/-- The listed words are the computed ones (`PostmixIdeal`). -/
theorem pin_ideal : ∀ n : Fin 192, Cert.PostmixIdeal.Gen.pinT_0 0 (ix1 n) = wseq n := by decide +kernel

theorem pinned_kernel (m : (ℓ : Loc Cert.Postmix.nD Cert.Postmix.τ Cert.Postmix.sig) → Buf (Elt Bits) ℓ)
    (h : haveI := Cert.Pre_moderate.Gen.facts; Cert.Pre_Postmix m) : Cert.Postmix.Gen.Pinned 0 m := by
  refine fun c => funext fun x => ?_
  obtain ⟨n, rfl⟩ : ∃ n : Fin 192, x = ix1 n := ⟨x 0, eq_ix1 x⟩
  exact (words _ _ _ _ _ _ _ _ _ _ _ _ _ (h c) n).trans (pin_kernel n).symm

theorem pinned_ideal (m : (ℓ : Loc Cert.PostmixIdeal.nD Cert.PostmixIdeal.τ Cert.PostmixIdeal.sig) → Buf (Elt Ideal) ℓ)
    (h : haveI := Cert.Pre_moderate.Gen.facts; Cert.Pre_PostmixIdeal m) : Cert.PostmixIdeal.Gen.Pinned 0 m := by
  refine fun c => funext fun x => ?_
  obtain ⟨n, rfl⟩ : ∃ n : Fin 192, x = ix1 n := ⟨x 0, eq_ix1 x⟩
  exact (words _ _ _ _ _ _ _ _ _ _ _ _ _ (h c) n).trans (pin_ideal n).symm

end Cert.Moderate

end
-- ==== Proof.Third.lean ====
module

public import proofs.«01_k».proof.Proof.Chosen
public import proofs.«01_k».proof.Proof.Merge
public import proofs.«01_k».proof.Proof.Ends
public import proofs.«01_k».proof.Proof.Moderate
public import proofs.«01_k».proof.Defs
public import Idealize.ShloMosaic.Adequacy

/-! The third call: the kernel's four arrays are the reference's four results. -/

@[expose] public section

set_option maxRecDepth 16384

noncomputable section

namespace Cert.Merge

open Cert.MergeIdeal Cert.MergeIdeal.Gen
open Idealize.ShloMosaic Idealize.ShloMosaic.TcCoe Idealize.ShloMosaic.Tactic Idealize.ShloMosaic.StableHlo
open Cert.Rows Cert.Merged Cert.Chosen
open Cert.Router (soft groups group experts expert)

attribute [local irreducible] Cert.Choice.place

variable (m : (ℓ : Loc nD τ sig) → Buf (Elt Ideal) ℓ) (c : Dev nD)

/-- The router's logits, of the arguments. -/
def logitsOf : FVec Ideal S49152x128 .f32 := Value.res_main_v64 (launchContents m c)

/-- The groups' probabilities. -/
def groupSoft : FVec Ideal S49152x4 .f32 := Value.res_main_v76 (launchContents m c)

/-- The chosen group. -/
def groupIx : IVec S49152x1 32 := Value.res_main_indices (launchContents m c)

/-- The probabilities of its experts. -/
def expertSoft : FVec Ideal S49152x8 .f32 := Value.res_main_v92 (launchContents m c)

/-- The logits of its experts. -/
def expertLogits : FVec Ideal S49152x8 .f32 := Value.res_main_v81 (launchContents m c)

theorem groupSoft_eq : groupSoft m c = over4 (exps4 (extractStridedSlice S49152x4 ![0, 0] (logitsOf m c) slices_S49152x128_S49152x4_0_0)) := rfl

theorem expertSoft_eq : expertSoft m c = over8 (exps8 (expertLogits m c)) := rfl

theorem expertLogits_eq : expertLogits m c = ofGroup (logitsOf m c) (wrapped (groupIx m c))
    (Host.reduce IntOp.andi (within (wrapped (groupIx m c))) (constantI S_ 1 1#1) reducesTo_S49152x1x1_S49152x1_d2 h_S_) := rfl

theorem groupSoft_at (R : Fin 49152) (k : Fin 4) : groupSoft m c (ix2 R k) = soft (groups (items m c R).logits) k := by
  rw [groupSoft_eq, soft4_at]
  refine congrArg (fun f => soft f k) (funext fun j => ?_)
  pointwise
  refine Eq.trans ?_ (logitsOf_at m c R _)
  exact congrArg (fun x => logitsOf m c (ix2 R x)) (Fin.ext (by simp))

theorem groupIx_at (R : Fin 49152) : groupIx m c (ix2 R 0) = BitVec.ofNat 32 (group (items m c R).logits).val := by
  refine (topK_at (by omega) (groupSoft m c) sliceFits_S49152x4_S49152x1 R 0).2.trans ?_
  simp only [groupSoft_at]
  rfl

theorem within_one (i : S49152x1x1.Idx) : within (wrapped (groupIx m c)) i = 1#1 := by
  obtain ⟨R, x, y, rfl⟩ : ∃ R x y, i = ix3 R x y := ⟨_, _, _, eq_ix3 i⟩
  rw [Subsingleton.elim x 0, Subsingleton.elim y 0]
  exact within_at _ R _ (wrapped_at _ R _ (groupIx_at m c R))

theorem expertLogits_at (R : Fin 49152) (k : Fin 8) : expertLogits m c (ix2 R k) = experts (items m c R).logits k := by
  rw [expertLogits_eq, ofGroup_at _ _ _ R k _ (wrapped_at _ R _ (groupIx_at m c R))
    (Host.reduce_andi_one _ _ _ _ _ rfl (within_one m c))]
  exact logitsOf_at m c R _

theorem expertSoft_at (R : Fin 49152) (k : Fin 8) : expertSoft m c (ix2 R k) = soft (experts (items m c R).logits) k := by
  rw [expertSoft_eq, soft8_at]
  exact congrArg (fun f => soft f k) (funext fun j => expertLogits_at m c R j)

theorem result2 : idLanes (groupIx m c) (Host.topK S49152x2 1 (FloatOps.cmpfTotal .gt) (expertSoft m c) sliceFits_S49152x8_S49152x2).2
    = fun i => Router.ids (items m c (i 0)).logits (i 1) := by
  funext i
  obtain ⟨R, x, rfl⟩ : ∃ R x, i = ix2 R x := ⟨_, _, eq_ix2 i⟩
  rw [idLanes_at, groupIx_at]
  show _ = Router.ids (items m c R).logits x
  unfold Router.ids
  refine dite_congr rfl (fun h => congrArg _ ?_) fun _ => rfl
  refine (topK_at (by omega) (expertSoft m c) sliceFits_S49152x8_S49152x2 R ⟨x.val, h⟩).2.trans ?_
  simp only [expertSoft_at]
  rfl

theorem best_at (R : Fin 49152) (q : Fin 2) :
    (Host.topK S49152x2 1 (FloatOps.cmpfTotal .gt) (expertSoft m c) sliceFits_S49152x8_S49152x2).1 (ix2 R q)
      = soft (experts (items m c R).logits) (expert (items m c R).logits ⟨q.val, by omega⟩) := by
  refine (topK_at (by omega) (expertSoft m c) sliceFits_S49152x8_S49152x2 R q).1.trans ?_
  simp only [expertSoft_at]
  rfl

theorem first_at (R : Fin 49152) : (Host.topK S49152x1 1 (FloatOps.cmpfTotal .gt) (groupSoft m c) sliceFits_S49152x4_S49152x1).1 (ix2 R 0)
      = soft (groups (items m c R).logits) (group (items m c R).logits) := by
  refine (topK_at (by omega) (groupSoft m c) sliceFits_S49152x4_S49152x1 R 0).1.trans ?_
  simp only [groupSoft_at]
  rfl

theorem result3 : weightLanes (Host.topK S49152x1 1 (FloatOps.cmpfTotal .gt) (groupSoft m c) sliceFits_S49152x4_S49152x1).1
      (Host.topK S49152x2 1 (FloatOps.cmpfTotal .gt) (expertSoft m c) sliceFits_S49152x8_S49152x2).1
    = fun i => Router.weights (items m c (i 0)).logits (i 1) := by
  funext i
  obtain ⟨R, x, rfl⟩ : ∃ R x, i = ix2 R x := ⟨_, _, eq_ix2 i⟩
  rw [weightLanes_at, first_at]
  simp only [best_at]
  rfl

end Cert.Merge

namespace Cert.Third

open Idealize.ShloMosaic Idealize.ShloMosaic.TcCoe Idealize.SL.Sem

theorem equal : haveI := Cert.PostmixIdeal.Gen.facts; haveI := Cert.MergeIdeal.Gen.facts; haveI := Cert.Pre_moderate.Gen.facts
    Cert.algebraic_PostmixIdeal_MergeIdeal := by
  intro m g m' g' h he
  have ht : ∀ c R, Cert.Merge.items m' c R = Cert.Posts.items m c R := fun c R => by
    obtain ⟨-, e1, e2, e3, e4, e5, e6, e7, e8, e9, e10, e11, e12⟩ := he c
    unfold Cert.Merge.items Cert.Posts.items
    rw [e1, e2, e3, e4, e5, e6, e7, e8, e9, e10, e11, e12]
  have hm : ∀ c R, Cert.Merged.Moderate (Cert.Posts.items m c R) := fun c R => by
    obtain ⟨md, gg, rh, rl, b⟩ := Cert.Moderate.sizes _ _ _ _ _ _ _ _ _ _ _ _ _ (h c)
    have hs : (Cert.Rows.seqOf R).val < 12 := by
      have := R.isLt
      unfold Cert.Rows.seqOf
      split <;> dsimp only <;> omega
    refine ⟨fun k => md ⟨_, hs⟩ ⟨k.val, by omega⟩, fun k => ?_, fun k => gg _, fun k l q => rh k ⟨l.val, q⟩, fun k l q => rl k ⟨l.val, q⟩,
      fun l q => b ⟨l.val, q⟩⟩
    have e := md ⟨_, hs⟩ ⟨1024 + k.val, by omega⟩
    simp only [← Nat.add_assoc] at e
    exact e
  refine ⟨fun c => Cert.Posts.res12 m c, fun c => Cert.Posts.res13 m c, fun c => Cert.Posts.res14 m c, fun c => Cert.Posts.res15 m c, ?_, ?_⟩
  · have hp := Cert.Moderate.pinned_ideal m h
    refine (θ_run _ _ _).mono (fun r hr c => ⟨?_, ?_, ?_, ?_, hr.2 c⟩)
      (θ_run_and (Cert.PostmixIdeal.Gen.run_main 0 m g hp) (Cert.PostmixIdeal.Gen.unchanged 0 m g hp))
    · exact ((hr.1 c).1 12).trans (Cert.Posts.array12 m g c)
    · exact ((hr.1 c).1 13).trans (Cert.Posts.array13 m g c)
    · exact ((hr.1 c).1 14).trans (Cert.Posts.array14 m g c)
    · exact ((hr.1 c).1 15).trans (Cert.Posts.array15 m g c)
  · refine (θ_run _ _ _).mono (fun r hr c => ?_) (Cert.MergeIdeal.Value.run m' g')
    obtain ⟨h0, h1, h2, h3, ha⟩ := hr c
    refine ⟨?_, ?_, ?_, ?_, ha⟩
    · exact (h0.trans (Cert.Merge.result0 m' c)).trans (funext fun i => congrArg (fun a : Cert.Merged.Item => a.out (i 1)) (ht c (i 0)))
    · exact (h1.trans (Cert.Merge.result1 m' c)).trans (funext fun i => congrArg (fun a : Cert.Merged.Item => a.hid (i 1)) (ht c (i 0)))
    · refine (h2.trans (Cert.Merge.result2 m' c)).trans (funext fun i => ?_)
      exact (congrArg (fun a : Cert.Merged.Item => Cert.Router.ids a.logits (i 1)) (ht c (i 0))).trans (Cert.Merged.ids_parts (hm c (i 0)) (i 1)).symm
    · refine (h3.trans (Cert.Merge.result3 m' c)).trans (funext fun i => ?_)
      exact (congrArg (fun a : Cert.Merged.Item => Cert.Router.weights a.logits (i 1)) (ht c (i 0))).trans (Cert.Merged.weights_parts (hm c (i 0)) (i 1)).symm

end Cert.Third

end
-- ==== Proof.Spans.lean ====
module

public import proofs.«01_k».proof.Defs
public import proofs.«01_k».proof.Proof.Tiles
public import proofs.«01_k».proof.Proof.Gen.Pre_spans
public import proofs.«01_k».proof.Proof.Gen.Combine.Flash.Pins
public import proofs.«01_k».proof.Proof.Gen.CombineIdeal.Flash.Pins
public import proofs.«01_k».proof.Proof.Gen.Finish.Flash.Pins
public import proofs.«01_k».proof.Proof.Gen.FinishIdeal.Flash.Pins

/-! The precondition of the last sum's two forms read back: its table holds the sequence of every row tile. -/

@[expose] public section

set_option maxRecDepth 16384

noncomputable section

namespace Cert.Spans

open Idealize.ShloMosaic Idealize.ShloMosaic.TcCoe Idealize.SL.Sem
open Cert.Tiles (wseq)

instance : Subsingleton Cert.Pre_spans.S_.Idx := ⟨fun _ _ => funext fun a => absurd a.isLt (by simp)⟩

open Cert.Pre_spans in
theorem words {F : FTy → Type} [FloatOps F] (a0 : IVec S192 32) (x : FVec F S49152x1024 .f32) (y : FVec F S49664x2048 .f32)
    (w : FVec F S49152x128 .f32) (md : FVec F S16x6144 .f32) (g : FVec F S1x1024 .f32)
    (h : haveI := Cert.Pre_spans.Gen.facts; Cert.Pre_spans.fn a0 x y w md g = fun _ => 1#1) (n : Fin 192) :
    a0 (ix1 n) = wseq n := by
  have h1 := congrFun h (Shape.Idx.first (by decide))
  simp only [Cert.Pre_spans.fn, Cert.Pre_spans.fn_where] at h1
  have h2 := Host.reduce_andi_all _ _ _ _ _ h1 (ix1 n)
  pointwise at h2
  exact IntOp.cmpi_eq.1 h2

/-- The listed words are the computed ones (`Combine`). -/
theorem pin_kernel : ∀ n : Fin 192, Cert.Combine.Gen.pinT_0 0 (ix1 n) = wseq n := by decide +kernel

/-- The listed words are the computed ones (`CombineIdeal`). -/
theorem pin_ideal : ∀ n : Fin 192, Cert.CombineIdeal.Gen.pinT_0 0 (ix1 n) = wseq n := by decide +kernel

theorem pinned_kernel (m : (ℓ : Loc Cert.Combine.nD Cert.Combine.τ Cert.Combine.sig) → Buf (Elt Bits) ℓ)
    (h : haveI := Cert.Pre_spans.Gen.facts; Cert.Pre_Combine m) : Cert.Combine.Gen.Pinned 0 m := by
  refine fun c => funext fun x => ?_
  obtain ⟨n, rfl⟩ : ∃ n : Fin 192, x = ix1 n := ⟨x 0, eq_ix1 x⟩
  exact (words _ _ _ _ _ _ (h c) n).trans (pin_kernel n).symm

theorem pinned_ideal (m : (ℓ : Loc Cert.CombineIdeal.nD Cert.CombineIdeal.τ Cert.CombineIdeal.sig) → Buf (Elt Ideal) ℓ)
    (h : haveI := Cert.Pre_spans.Gen.facts; Cert.Pre_CombineIdeal m) : Cert.CombineIdeal.Gen.Pinned 0 m := by
  refine fun c => funext fun x => ?_
  obtain ⟨n, rfl⟩ : ∃ n : Fin 192, x = ix1 n := ⟨x 0, eq_ix1 x⟩
  exact (words _ _ _ _ _ _ (h c) n).trans (pin_ideal n).symm

/-- The listed words are the computed ones (`Finish`). -/
theorem pin_finish : ∀ n : Fin 192, Cert.Finish.Gen.pinT_0 0 (ix1 n) = wseq n := by decide +kernel

/-- The listed words are the computed ones (`FinishIdeal`). -/
theorem pin_finish_ideal : ∀ n : Fin 192, Cert.FinishIdeal.Gen.pinT_0 0 (ix1 n) = wseq n := by decide +kernel

theorem pinned_finish (m : (ℓ : Loc Cert.Finish.nD Cert.Finish.τ Cert.Finish.sig) → Buf (Elt Bits) ℓ)
    (h : haveI := Cert.Pre_spans.Gen.facts; Cert.Pre_Finish m) : Cert.Finish.Gen.Pinned 0 m := by
  refine fun c => funext fun x => ?_
  obtain ⟨n, rfl⟩ : ∃ n : Fin 192, x = ix1 n := ⟨x 0, eq_ix1 x⟩
  exact (words _ _ _ _ _ _ (h c) n).trans (pin_finish n).symm

theorem pinned_finish_ideal (m : (ℓ : Loc Cert.FinishIdeal.nD Cert.FinishIdeal.τ Cert.FinishIdeal.sig) → Buf (Elt Ideal) ℓ)
    (h : haveI := Cert.Pre_spans.Gen.facts; Cert.Pre_FinishIdeal m) : Cert.FinishIdeal.Gen.Pinned 0 m := by
  refine fun c => funext fun x => ?_
  obtain ⟨n, rfl⟩ : ∃ n : Fin 192, x = ix1 n := ⟨x 0, eq_ix1 x⟩
  exact (words _ _ _ _ _ _ (h c) n).trans (pin_finish_ideal n).symm

end Cert.Spans

end
-- ==== Proof.Totals.lean ====
module

public import proofs.«01_k».proof.Defs
public import proofs.«01_k».proof.Proof.Spans
public import proofs.«01_k».proof.Proof.Merge
public import proofs.«01_k».proof.Proof.Arrays
public import proofs.«01_k».proof.Proof.Gen.CombineIdeal.Flash
public import proofs.«01_k».proof.Proof.Gen.TotalIdeal.Run
public import Idealize.ShloMosaic.Lib.Pointwise
public import Idealize.ShloMosaic.Lib.Pipeline.ValueKit
public import Idealize.ShloMosaic.Adequacy

/-! The fourth call: a row plus its gated, weighted sum of two experts' rows, by the pipeline and by the reference. -/

@[expose] public section

set_option maxRecDepth 16384

noncomputable section

namespace Cert.Totals

open Cert.CombineIdeal Cert.CombineIdeal.Gen
open Idealize.ShloMosaic Idealize.ShloMosaic.TcCoe Idealize.ShloMosaic.Tactic
open Cert.Rows
open Cert.Blocks (filled_at load_at load_whole seqT)

/-- Element `k` of row `R` after the last sum: the row, plus the gate of sequence `s` times the weighted experts. -/
def total {A B : ℕ} (x : Shape.Idx ⟨2, ![A, 1024]⟩ → EReal) (y : Shape.Idx ⟨2, ![B, 2048]⟩ → EReal) (w : Shape.Idx ⟨2, ![A, 128]⟩ → EReal)
    (md : S16x6144.Idx → EReal) (s : Fin 16) (R : Fin A) (R' : Fin B) (k : Fin 1024) : EReal :=
  x (ix2 R k) + md (ix2 s ⟨5120 + k.val, by omega⟩)
    * (y (ix2 R' ⟨k.val, by omega⟩) * w (ix2 R 0) + y (ix2 R' ⟨1024 + k.val, by omega⟩) * w (ix2 R 1))

theorem pay_at (g : Vec Ideal S1x1024 .f32) (w : Vec Ideal S256x128 .f32) (y1 y2 x : Vec Ideal S256x1024 .f32) (r : Fin 256) (k : Fin 1024) :
    k0_pay1 (F := Ideal) g w y1 y2 x (ix2 r k)
      = x (ix2 r k) + g (ix2 0 k) * (y1 (ix2 r k) * w (ix2 r 0) + y2 (ix2 r k) * w (ix2 r 1)) := by
  pointwise [k0_pay1]

/-- The word of the table that a step reads. -/
abbrev word (i : grid0.Coords) (T0 : S192.Idx → Elt Ideal .i32) : BitVec 32 :=
  View.readAt (Elt Ideal) (tbM0_0).view (Rect.unit (s := S192) (k0_off1 i) S1.size (k0_off1_inb i)).toLoadRect T0
    (Shape.Idx.first (numel1_S1.symm ▸ Nat.one_pos))

theorem out5 (c : Dev nD) (i : grid0.Coords)
    (arg2 : Memref sig .tc .vmem S256x1024 .f32) (harg2 : arg2.IsWhole) (arg3 : Memref sig .tc .vmem S256x2048 .f32) (harg3 : arg3.IsWhole)
    (arg4 : Memref sig .tc .vmem S256x128 .f32) (harg4 : arg4.IsWhole) (arg5 : Memref sig .tc .vmem S16x6144 .f32) (harg5 : arg5.IsWhole)
    (arg6 : Memref sig .tc .vmem S1x1024 .f32) (harg6 : arg6.IsWhole) (arg7 : Memref sig .tc .vmem S256x1024 .f32) (harg7 : arg7.IsWhole)
    (T0 : S192.Idx → Elt Ideal .i32) (x0 : S256x1024.Idx → Elt Ideal .f32) (x1 : S256x2048.Idx → Elt Ideal .f32)
    (x2 : S256x128.Idx → Elt Ideal .f32) (x3 : S16x6144.Idx → Elt Ideal .f32) (x4 : S1x1024.Idx → Elt Ideal .f32)
    (hw : k0_chk1 (word i T0)) (s : Fin 16) (h2 : k0_off2 (word i T0) = ![s.val, 5120]) (r : Fin 256) (k : Fin 1024) :
    out0_A_5 c i arg2 harg2 arg3 harg3 arg4 harg4 arg5 harg5 arg6 harg6 arg7 harg7 T0 x0 x1 x2 x3 x4 hw (ix2 r k)
      = total x0 x1 x2 x3 s r r k := by
  refine (filled_at VO0_5 _ _ _ r k).trans ((pay_at _ _ _ _ _ r k).trans ?_)
  have e1 := load_at (a := 1) (b := 1024) arg5.view x3 _ s.val 5120 h2 (k0_off2_inb (word i T0) hw) 0 k (by simp) (by omega)
  have e2 := load_at (a := 256) (b := 1024) arg3.view x1 _ 0 0 rfl inb_S256x2048_S256x1024_0_0 r k (by omega) (by omega)
  have e3 := load_at (a := 256) (b := 1024) arg3.view x1 _ 0 1024 rfl inb_S256x2048_S256x1024_0_1024 r k (by omega) (by omega)
  refine congrArg₂ (· + ·) (load_whole arg2.view x0 _ r k) (congrArg₂ (· * ·) e1 (congrArg₂ (· + ·) (congrArg₂ (· * ·) ?_ ?_) (congrArg₂ (· * ·) ?_ ?_)))
  · exact e2.trans (congrArg x1 (congrArg₂ ix2 (Fin.ext (by simp)) (Fin.ext (by simp))))
  · exact load_whole arg4.view x2 _ r 0
  · exact e3.trans (congrArg x1 (congrArg₂ ix2 (Fin.ext (by simp)) (Fin.ext (by simp))))
  · exact load_whole arg4.view x2 _ r 1

theorem off2 : ∀ t : Fin (cfgA 0).N, k0_off2 (word (crd 0 t) (pinT_0 0)) = ![seqT t.val, 5120] := by decide +kernel

/-- The windows that stage a whole array. -/
theorem whole_idx : ∀ w : Fin 6, (3 ≤ w.val ∧ w.val ≤ 4) → ∀ t : Fin (cfgA 0).N, ∀ a, ((cfgA 0).win w).index t a = 0 := by decide +kernel

/-- The windows that follow the row tiles. -/
theorem row_idx : ∀ w : Fin 6, (w.val ≤ 2 ∨ 5 ≤ w.val) → ∀ t : Fin (cfgA 0).N, ∀ a, ((cfgA 0).win w).index t a = if a.val = 0 then t.val else 0 := by
  decide +kernel

theorem lt_tiles (t : Fin (cfgA 0).N) : t.val < 192 := t.isLt

variable (m : (ℓ : Loc nD τ sig) → Buf (Elt Ideal) ℓ) (ρ : Dev nD → PrngReg) (c : Dev nD)

/-- Row `r` of tile `t`. -/
def rowOf (t : Fin (cfgA 0).N) (r : Fin 256) : Fin 49152 := ⟨t.val * 256 + r.val, by have := lt_tiles t; omega⟩

/-- The same row among the experts' rows, which end in spare ones. -/
abbrev spare (R : Fin 49152) : Fin 49664 := ⟨R.val, by omega⟩

theorem in0 (t : Fin (cfgA 0).N) (r : Fin 256) (k : Fin 1024) :
    iblk 0 m ρ c 0 t (ix2 r k) = m ((c : Thread nD τ).loc main_arg1) (ix2 (rowOf t r) k) := by
  have e0 : ((cfgA 0).win 0).index t 0 = t.val := row_idx 0 (by decide) t 0
  have e1 : ((cfgA 0).win 0).index t 1 = 0 := row_idx 0 (by decide) t 1
  unfold rowOf
  blk_ext [iblk, e0, e1]

theorem in1 (t : Fin (cfgA 0).N) (r : Fin 256) (k : Fin 2048) :
    iblk 0 m ρ c 1 t (ix2 r k) = m ((c : Thread nD τ).loc main_arg2) (ix2 (spare (rowOf t r)) k) := by
  have e0 : ((cfgA 0).win 1).index t 0 = t.val := row_idx 1 (by decide) t 0
  have e1 : ((cfgA 0).win 1).index t 1 = 0 := row_idx 1 (by decide) t 1
  unfold spare rowOf
  blk_ext [iblk, e0, e1]

theorem in2 (t : Fin (cfgA 0).N) (r : Fin 256) (k : Fin 128) :
    iblk 0 m ρ c 2 t (ix2 r k) = m ((c : Thread nD τ).loc main_arg3) (ix2 (rowOf t r) k) := by
  have e0 : ((cfgA 0).win 2).index t 0 = t.val := row_idx 2 (by decide) t 0
  have e1 : ((cfgA 0).win 2).index t 1 = 0 := row_idx 2 (by decide) t 1
  unfold rowOf
  blk_ext [iblk, e0, e1]

theorem in3 (t : Fin (cfgA 0).N) (r : Fin 16) (k : Fin 6144) :
    iblk 0 m ρ c 3 t (ix2 r k) = m ((c : Thread nD τ).loc main_arg4) (ix2 r k) := by
  have e0 : ((cfgA 0).win 3).index t 0 = 0 := whole_idx 3 (by decide) t 0
  have e1 : ((cfgA 0).win 3).index t 1 = 0 := whole_idx 3 (by decide) t 1
  blk_ext [iblk, e0, e1]

theorem seq_eq (t : Fin (cfgA 0).N) (r : Fin 256) : (seqOf (rowOf t r)).val = seqT t.val := by
  have := lt_tiles t
  show (if t.val * 256 + r.val < 32768 then (t.val * 256 + r.val) / 8192 else 4 + (t.val * 256 + r.val - 32768) / 2048) = _
  unfold seqT
  split_ifs <;> omega

/-- The call's result: every row with its last sum. -/
def res5 : S49152x1024.Idx → EReal := fun i =>
  total (m ((c : Thread nD τ).loc main_arg1)) (m ((c : Thread nD τ).loc main_arg2)) (m ((c : Thread nD τ).loc main_arg3))
    (m ((c : Thread nD τ).loc main_arg4)) (seqOf (i 0)) (i 0) (spare (i 0)) (i 1)

theorem after5 (t : Fin (cfgA 0).N) (r : Fin 256) (x : Fin 1024) :
    traj0 0 m ρ c t.val t.isLt (ix2 r x) = res5 m c (ix2 (rowOf t r) x) := by
  rw [traj0_eq, step0_A]
  refine (out5 c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (pinT_0 0) (iblk 0 m ρ c 0 t) (iblk 0 m ρ c 1 t) (iblk 0 m ρ c 2 t) (iblk 0 m ρ c 3 t) (iblk 0 m ρ c 4 t) (hyp0_A_0 0 t) (seqOf (rowOf t r)) (by rw [seq_eq]; exact off2 t) r x).trans ?_
  unfold res5 total
  simp only [in0, in1, in2, in3]
  rfl

theorem array5 : (dats 0 m ρ 0 c).arrAt 5 (cfgA 0).N = res5 m c := by
  refine (dats 0 m ρ 0 c).arrAt_eq_of_covers 5 _ (by decide +kernel) fun t hf y => ?_
  have e0 : ((cfgA 0).win 5).index t 0 = t.val := row_idx 5 (by decide) t 0
  have e1 : ((cfgA 0).win 5).index t 1 = 0 := row_idx 5 (by decide) t 1
  blk_simp
  rw [after0_5]
  obtain ⟨r, x, rfl⟩ : ∃ (r : Fin 256) (x : Fin 1024), y = ix2 r x := ⟨y 0, y 1, eq_ix2 y⟩
  have hR : (((cfgA 0).win 5).blk t).view.emb (ix2 r x) = ix2 (rowOf t r) x := by
    refine (eq_ix2 _).trans (congrArg₂ ix2 (Fin.ext ?_) (Fin.ext ?_))
    · unfold rowOf
      blk_simp [e0]
    · blk_simp [e1]
  rw [hR]
  exact after5 m ρ c t r x

end Cert.Totals

namespace Cert.Fourth

open Idealize.ShloMosaic Idealize.ShloMosaic.TcCoe Idealize.ShloMosaic.StableHlo Idealize.SL.Sem
open Cert.Totals

section
open Cert.TotalIdeal Cert.TotalIdeal.Gen

/-- The last sum on the whole arrays. -/
def plain (x : FVec Ideal S49152x1024 .f32) (y : FVec Ideal S49664x2048 .f32) (w : FVec Ideal S49152x128 .f32) (md : FVec Ideal S16x6144 .f32) :
    FVec Ideal S49152x1024 .f32 :=
  addf x (mulf (Cert.Merge.part 5120 slices_S16x6144_S4x1024_0_5120 slices_S16x6144_S8x1024_4_5120 md)
    (addf (mulf (extractStridedSlice S49152x1024 ![0, 0] (extractStridedSlice S49152x2048 ![0, 0] y slices_S49664x2048_S49152x2048_0_0) slices_S49152x2048_S49152x1024_0_0)
        (broadcastInDim S49152x1024 ![0, 1] bcast_S49152x1_S49152x1024_0_1 (extractStridedSlice S49152x1 ![0, 0] w slices_S49152x128_S49152x1_0_0)))
      (mulf (extractStridedSlice S49152x1024 ![0, 1024] (extractStridedSlice S49152x2048 ![0, 0] y slices_S49664x2048_S49152x2048_0_0) slices_S49152x2048_S49152x1024_0_1024)
        (broadcastInDim S49152x1024 ![0, 1] bcast_S49152x1_S49152x1024_0_1 (extractStridedSlice S49152x1 ![0, 1] w slices_S49152x128_S49152x1_0_1)))))

theorem plain_at (x : FVec Ideal S49152x1024 .f32) (y : FVec Ideal S49664x2048 .f32) (w : FVec Ideal S49152x128 .f32) (md : FVec Ideal S16x6144 .f32)
    (R : Fin 49152) (k : Fin 1024) : plain x y w md (ix2 R k) = total x y w md (Cert.Rows.seqOf R) R (spare R) k := by
  have hp := Cert.Merge.part_at 5120 slices_S16x6144_S4x1024_0_5120 slices_S16x6144_S8x1024_4_5120 md (by decide) R k
  unfold plain
  generalize Cert.Merge.part 5120 slices_S16x6144_S4x1024_0_5120 slices_S16x6144_S8x1024_4_5120 md = p at hp ⊢
  unfold total
  rw [← hp]
  pointwise
end

theorem equal : haveI := Cert.CombineIdeal.Gen.facts; haveI := Cert.TotalIdeal.Gen.facts; haveI := Cert.Pre_spans.Gen.facts
    Cert.algebraic_CombineIdeal_TotalIdeal := by
  intro m g m' g' h he
  refine ⟨fun c => res5 m c, ?_, ?_⟩
  · have hp := Cert.Spans.pinned_ideal m h
    refine (θ_run _ _ _).mono (fun r hr c => ⟨?_, hr.2 c⟩)
      (θ_run_and (Cert.CombineIdeal.Gen.run_main 0 m g hp) (Cert.CombineIdeal.Gen.unchanged 0 m g hp))
    exact ((hr.1 c).1 5).trans (array5 m g c)
  · refine (θ_run _ _ _).mono (fun r hr c => ?_) (Cert.TotalIdeal.Value.run m' g')
    obtain ⟨h0, ha⟩ := hr c
    refine ⟨?_, ha⟩
    obtain ⟨-, e1, e2, e3, e4, -⟩ := he c
    refine h0.trans (funext fun i => ?_)
    obtain ⟨R, k, rfl⟩ : ∃ (R : Fin 49152) (k : Fin 1024), i = ix2 R k := ⟨i 0, i 1, eq_ix2 i⟩
    refine (plain_at _ _ _ _ R k).trans ?_
    rw [e1, e2, e3, e4]
    rfl

end Cert.Fourth

end
-- ==== Proof.Finals.lean ====
module

public import proofs.«01_k».proof.Defs
public import proofs.«01_k».proof.Proof.Totals
public import proofs.«01_k».proof.Proof.Gen.FinishIdeal.Flash
public import proofs.«01_k».proof.Proof.Gen.EndingIdeal.Run
public import Idealize.ShloMosaic.Lib.Pointwise
public import Idealize.ShloMosaic.Lib.Pipeline.ValueKit
public import Idealize.ShloMosaic.Adequacy

/-! The last layer's form of the fourth call: the last sum, normed, by the pipeline and by the reference. -/

@[expose] public section

set_option maxRecDepth 16384

noncomputable section

namespace Cert.Finals

open Cert.FinishIdeal Cert.FinishIdeal.Gen
open Idealize.ShloMosaic Idealize.ShloMosaic.TcCoe Idealize.ShloMosaic.Tactic
open Cert.Rows
open Cert.Totals (total spare)
open Cert.Blocks (filled_at load_at load_whole seqT)

/-- Element `k` of row `R` after the final norm. -/
def final {A B : ℕ} (x : Shape.Idx ⟨2, ![A, 1024]⟩ → EReal) (y : Shape.Idx ⟨2, ![B, 2048]⟩ → EReal) (w : Shape.Idx ⟨2, ![A, 128]⟩ → EReal)
    (md : S16x6144.Idx → EReal) (g : S1x1024.Idx → EReal) (s : Fin 16) (R : Fin A) (R' : Fin B) (k : Fin 1024) : EReal :=
  normed 0x44800000#32 (total x y w md s R R') (fun j => g (ix2 0 j)) k

theorem pay_at (g : Vec Ideal S1x1024 .f32) (w : Vec Ideal S256x128 .f32) (y1 y2 x : Vec Ideal S256x1024 .f32) (gf : Vec Ideal S1x1024 .f32) (r : Fin 256)
    (k : Fin 1024) : k0_pay1 (F := Ideal) g w y1 y2 x gf (ix2 r k)
      = normed 0x44800000#32 (fun j => x (ix2 r j) + g (ix2 0 j) * (y1 (ix2 r j) * w (ix2 r 0) + y2 (ix2 r j) * w (ix2 r 1))) (fun j => gf (ix2 0 j)) k := by
  pointwise [k0_pay1]
  rfl

/-- The word of the table that a step reads. -/
abbrev word (i : grid0.Coords) (T0 : S192.Idx → Elt Ideal .i32) : BitVec 32 :=
  View.readAt (Elt Ideal) (tbM0_0).view (Rect.unit (s := S192) (k0_off1 i) S1.size (k0_off1_inb i)).toLoadRect T0
    (Shape.Idx.first (numel1_S1.symm ▸ Nat.one_pos))

theorem out5 (c : Dev nD) (i : grid0.Coords)
    (arg2 : Memref sig .tc .vmem S256x1024 .f32) (harg2 : arg2.IsWhole) (arg3 : Memref sig .tc .vmem S256x2048 .f32) (harg3 : arg3.IsWhole)
    (arg4 : Memref sig .tc .vmem S256x128 .f32) (harg4 : arg4.IsWhole) (arg5 : Memref sig .tc .vmem S16x6144 .f32) (harg5 : arg5.IsWhole)
    (arg6 : Memref sig .tc .vmem S1x1024 .f32) (harg6 : arg6.IsWhole) (arg7 : Memref sig .tc .vmem S256x1024 .f32) (harg7 : arg7.IsWhole)
    (T0 : S192.Idx → Elt Ideal .i32) (x0 : S256x1024.Idx → Elt Ideal .f32) (x1 : S256x2048.Idx → Elt Ideal .f32)
    (x2 : S256x128.Idx → Elt Ideal .f32) (x3 : S16x6144.Idx → Elt Ideal .f32) (x4 : S1x1024.Idx → Elt Ideal .f32)
    (hw : k0_chk1 (word i T0)) (s : Fin 16) (h2 : k0_off2 (word i T0) = ![s.val, 5120]) (r : Fin 256) (k : Fin 1024) :
    out0_A_5 c i arg2 harg2 arg3 harg3 arg4 harg4 arg5 harg5 arg6 harg6 arg7 harg7 T0 x0 x1 x2 x3 x4 hw (ix2 r k)
      = final x0 x1 x2 x3 x4 s r r k := by
  refine (filled_at VO0_5 _ _ _ r k).trans ((pay_at _ _ _ _ _ _ r k).trans ?_)
  have e1 j := load_at (a := 1) (b := 1024) arg5.view x3 _ s.val 5120 h2 (k0_off2_inb (word i T0) hw) 0 j (by simp) (by omega)
  have e2 j := load_at (a := 256) (b := 1024) arg3.view x1 _ 0 0 rfl inb_S256x2048_S256x1024_0_0 r j (by omega) (by omega)
  have e3 j := load_at (a := 256) (b := 1024) arg3.view x1 _ 0 1024 rfl inb_S256x2048_S256x1024_0_1024 r j (by omega) (by omega)
  refine congrArg₂ (fun f g => normed 0x44800000#32 f g k) (funext fun j => ?_) (funext fun j => load_whole arg6.view x4 _ 0 j)
  refine congrArg₂ (· + ·) (load_whole arg2.view x0 _ r j) (congrArg₂ (· * ·) (e1 j) (congrArg₂ (· + ·) (congrArg₂ (· * ·) ?_ ?_) (congrArg₂ (· * ·) ?_ ?_)))
  · exact (e2 j).trans (congrArg x1 (congrArg₂ ix2 (Fin.ext (by simp)) (Fin.ext (by simp))))
  · exact load_whole arg4.view x2 _ r 0
  · exact (e3 j).trans (congrArg x1 (congrArg₂ ix2 (Fin.ext (by simp)) (Fin.ext (by simp))))
  · exact load_whole arg4.view x2 _ r 1

theorem off2 : ∀ t : Fin (cfgA 0).N, k0_off2 (word (crd 0 t) (pinT_0 0)) = ![seqT t.val, 5120] := by decide +kernel

/-- The windows that stage a whole array. -/
theorem whole_idx : ∀ w : Fin 6, (3 ≤ w.val ∧ w.val ≤ 4) → ∀ t : Fin (cfgA 0).N, ∀ a, ((cfgA 0).win w).index t a = 0 := by decide +kernel

/-- The windows that follow the row tiles. -/
theorem row_idx : ∀ w : Fin 6, (w.val ≤ 2 ∨ 5 ≤ w.val) → ∀ t : Fin (cfgA 0).N, ∀ a, ((cfgA 0).win w).index t a = if a.val = 0 then t.val else 0 := by
  decide +kernel

theorem lt_tiles (t : Fin (cfgA 0).N) : t.val < 192 := t.isLt

variable (m : (ℓ : Loc nD τ sig) → Buf (Elt Ideal) ℓ) (ρ : Dev nD → PrngReg) (c : Dev nD)

/-- Row `r` of tile `t`. -/
def rowOf (t : Fin (cfgA 0).N) (r : Fin 256) : Fin 49152 := ⟨t.val * 256 + r.val, by have := lt_tiles t; omega⟩

theorem in0 (t : Fin (cfgA 0).N) (r : Fin 256) (k : Fin 1024) :
    iblk 0 m ρ c 0 t (ix2 r k) = m ((c : Thread nD τ).loc main_arg1) (ix2 (rowOf t r) k) := by
  have e0 : ((cfgA 0).win 0).index t 0 = t.val := row_idx 0 (by decide) t 0
  have e1 : ((cfgA 0).win 0).index t 1 = 0 := row_idx 0 (by decide) t 1
  unfold rowOf
  blk_ext [iblk, e0, e1]

theorem in1 (t : Fin (cfgA 0).N) (r : Fin 256) (k : Fin 2048) :
    iblk 0 m ρ c 1 t (ix2 r k) = m ((c : Thread nD τ).loc main_arg2) (ix2 (spare (rowOf t r)) k) := by
  have e0 : ((cfgA 0).win 1).index t 0 = t.val := row_idx 1 (by decide) t 0
  have e1 : ((cfgA 0).win 1).index t 1 = 0 := row_idx 1 (by decide) t 1
  unfold spare rowOf
  blk_ext [iblk, e0, e1]

theorem in2 (t : Fin (cfgA 0).N) (r : Fin 256) (k : Fin 128) :
    iblk 0 m ρ c 2 t (ix2 r k) = m ((c : Thread nD τ).loc main_arg3) (ix2 (rowOf t r) k) := by
  have e0 : ((cfgA 0).win 2).index t 0 = t.val := row_idx 2 (by decide) t 0
  have e1 : ((cfgA 0).win 2).index t 1 = 0 := row_idx 2 (by decide) t 1
  unfold rowOf
  blk_ext [iblk, e0, e1]

theorem in3 (t : Fin (cfgA 0).N) (r : Fin 16) (k : Fin 6144) :
    iblk 0 m ρ c 3 t (ix2 r k) = m ((c : Thread nD τ).loc main_arg4) (ix2 r k) := by
  have e0 : ((cfgA 0).win 3).index t 0 = 0 := whole_idx 3 (by decide) t 0
  have e1 : ((cfgA 0).win 3).index t 1 = 0 := whole_idx 3 (by decide) t 1
  blk_ext [iblk, e0, e1]

theorem in4 (t : Fin (cfgA 0).N) (r : Fin 1) (k : Fin 1024) :
    iblk 0 m ρ c 4 t (ix2 r k) = m ((c : Thread nD τ).loc main_arg5) (ix2 r k) := by
  have e0 : ((cfgA 0).win 4).index t 0 = 0 := whole_idx 4 (by decide) t 0
  have e1 : ((cfgA 0).win 4).index t 1 = 0 := whole_idx 4 (by decide) t 1
  blk_ext [iblk, e0, e1]

theorem seq_eq (t : Fin (cfgA 0).N) (r : Fin 256) : (seqOf (rowOf t r)).val = seqT t.val := by
  have := lt_tiles t
  show (if t.val * 256 + r.val < 32768 then (t.val * 256 + r.val) / 8192 else 4 + (t.val * 256 + r.val - 32768) / 2048) = _
  unfold seqT
  split_ifs <;> omega

/-- The call's result: every row with its last sum, normed. -/
def res5 : S49152x1024.Idx → EReal := fun i =>
  final (m ((c : Thread nD τ).loc main_arg1)) (m ((c : Thread nD τ).loc main_arg2)) (m ((c : Thread nD τ).loc main_arg3))
    (m ((c : Thread nD τ).loc main_arg4)) (m ((c : Thread nD τ).loc main_arg5)) (seqOf (i 0)) (i 0) (spare (i 0)) (i 1)

theorem after5 (t : Fin (cfgA 0).N) (r : Fin 256) (x : Fin 1024) :
    traj0 0 m ρ c t.val t.isLt (ix2 r x) = res5 m c (ix2 (rowOf t r) x) := by
  rw [traj0_eq, step0_A]
  refine (out5 c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (pinT_0 0) (iblk 0 m ρ c 0 t) (iblk 0 m ρ c 1 t) (iblk 0 m ρ c 2 t) (iblk 0 m ρ c 3 t) (iblk 0 m ρ c 4 t) (hyp0_A_0 0 t) (seqOf (rowOf t r)) (by rw [seq_eq]; exact off2 t) r x).trans ?_
  unfold res5 final total
  simp only [in0, in1, in2, in3, in4]
  rfl

theorem array5 : (dats 0 m ρ 0 c).arrAt 5 (cfgA 0).N = res5 m c := by
  refine (dats 0 m ρ 0 c).arrAt_eq_of_covers 5 _ (by decide +kernel) fun t hf y => ?_
  have e0 : ((cfgA 0).win 5).index t 0 = t.val := row_idx 5 (by decide) t 0
  have e1 : ((cfgA 0).win 5).index t 1 = 0 := row_idx 5 (by decide) t 1
  blk_simp
  rw [after0_5]
  obtain ⟨r, x, rfl⟩ : ∃ (r : Fin 256) (x : Fin 1024), y = ix2 r x := ⟨y 0, y 1, eq_ix2 y⟩
  have hR : (((cfgA 0).win 5).blk t).view.emb (ix2 r x) = ix2 (rowOf t r) x := by
    refine (eq_ix2 _).trans (congrArg₂ ix2 (Fin.ext ?_) (Fin.ext ?_))
    · unfold rowOf
      blk_simp [e0]
    · blk_simp [e1]
  rw [hR]
  exact after5 m ρ c t r x

end Cert.Finals

namespace Cert.Fifth

open Idealize.ShloMosaic Idealize.ShloMosaic.TcCoe Idealize.ShloMosaic.StableHlo Idealize.SL.Sem
open Cert.Finals
open Cert.Totals (total spare)

section
open Cert.EndingIdeal Cert.EndingIdeal.Gen

/-- Rows, normed. -/
def norms (x : FVec Ideal S49152x1024 .f32) (g : FVec Ideal S1x1024 .f32) : FVec Ideal S49152x1024 .f32 :=
  mulf (mulf x (broadcastInDim S49152x1024 ![0, 1] bcast_S49152x1_S49152x1024_0_1 (Host.rsqrt (addf (Host.divf
      (broadcastInDim S49152x1 ![0] bcast_S49152_S49152x1_0 (Host.reduceAdd (mulf x x) (constant S_ .f32 0x00000000#32) reducesTo_S49152x1024_S49152_d1 h_S_))
      (broadcastInDim S49152x1 ![] bcast_S_S49152x1 (constant S_ .f32 0x44800000#32)))
      (broadcastInDim S49152x1 ![] bcast_S_S49152x1 (constant S_ .f32 0x358637BD#32))))))
    (broadcastInDim S49152x1024 ![0, 1] bcast_S1x1024_S49152x1024_0_1 g)

theorem norms_at (x : FVec Ideal S49152x1024 .f32) (g : FVec Ideal S1x1024 .f32) (R : Fin 49152) (k : Fin 1024) :
    norms x g (ix2 R k) = Cert.Rows.normed 0x44800000#32 (fun j => x (ix2 R j)) (fun j => g (ix2 0 j)) k := by
  pointwise [norms]
  rfl

theorem result_eq (m : (ℓ : Loc nD τ sig) → Buf (Elt Ideal) ℓ) (c : Dev nD) : Value.res_main_v32 m c
    = norms (Cert.Fourth.plain (m ((c : Thread nD τ).loc main_arg1)) (m ((c : Thread nD τ).loc main_arg2)) (m ((c : Thread nD τ).loc main_arg3))
      (m ((c : Thread nD τ).loc main_arg4))) (m ((c : Thread nD τ).loc main_arg5)) := rfl

theorem result (m : (ℓ : Loc nD τ sig) → Buf (Elt Ideal) ℓ) (c : Dev nD) : Value.res_main_v32 m c = fun i =>
    final (m ((c : Thread nD τ).loc main_arg1)) (m ((c : Thread nD τ).loc main_arg2)) (m ((c : Thread nD τ).loc main_arg3))
      (m ((c : Thread nD τ).loc main_arg4)) (m ((c : Thread nD τ).loc main_arg5)) (Cert.Rows.seqOf (i 0)) (i 0) (spare (i 0)) (i 1) := by
  rw [result_eq]
  funext i
  obtain ⟨R, k, rfl⟩ : ∃ (R : Fin 49152) (k : Fin 1024), i = ix2 R k := ⟨i 0, i 1, eq_ix2 i⟩
  rw [norms_at]
  exact congrArg (fun f => Cert.Rows.normed 0x44800000#32 f _ k) (funext fun j => Cert.Fourth.plain_at _ _ _ _ R j)
end

theorem equal : haveI := Cert.FinishIdeal.Gen.facts; haveI := Cert.EndingIdeal.Gen.facts; haveI := Cert.Pre_spans.Gen.facts
    Cert.algebraic_FinishIdeal_EndingIdeal := by
  intro m g m' g' h he
  refine ⟨fun c => res5 m c, ?_, ?_⟩
  · have hp := Cert.Spans.pinned_finish_ideal m h
    refine (θ_run _ _ _).mono (fun r hr c => ⟨?_, hr.2 c⟩)
      (θ_run_and (Cert.FinishIdeal.Gen.run_main 0 m g hp) (Cert.FinishIdeal.Gen.unchanged 0 m g hp))
    exact ((hr.1 c).1 5).trans (array5 m g c)
  · refine (θ_run _ _ _).mono (fun r hr c => ?_) (Cert.EndingIdeal.Value.run m' g')
    obtain ⟨h0, ha⟩ := hr c
    refine ⟨?_, ha⟩
    obtain ⟨-, e1, e2, e3, e4, e5⟩ := he c
    refine (h0.trans (result m' c)).trans ?_
    rw [e1, e2, e3, e4, e5]
    rfl

end Cert.Fifth

end
-- ==== Proof.Modulations.lean ====
module

public import proofs.«01_k».proof.Defs
public import proofs.«01_k».proof.Proof.Gen.ModulationIdeal.Frame
public import proofs.«01_k».proof.Proof.Gen.LinearIdeal.Run
public import Idealize.ShloMosaic.Lib.Pointwise
public import Idealize.ShloMosaic.Lib.Pipeline.ValueKit
public import Idealize.ShloMosaic.Lib.Pipeline.Value
public import Idealize.ShloMosaic.Adequacy

/-! The modulation: every layer's linear map of every sequence's gated condition, by the pipeline and by the reference. -/

@[expose] public section

set_option maxRecDepth 16384

noncomputable section

namespace Cert.Modulations

open Cert.ModulationIdeal Cert.ModulationIdeal.Gen
open Idealize.ShloMosaic Idealize.ShloMosaic.TcCoe Idealize.ShloMosaic.Tactic

/-- Column `k` of layer `l`'s modulation of sequence `s`. -/
def line {L N : ℕ} (x : S16x1024.Idx → EReal) (w : Shape.Idx ⟨3, ![L, 1024, N]⟩ → EReal) (b : Shape.Idx ⟨3, ![L, 1, N]⟩ → EReal)
    (l : Fin L) (s : Fin 16) (k : Fin N) : EReal :=
  (∑ j : Fin 1024, x (ix2 s j) * Ideal.logistic (x (ix2 s j)) * w (ix3 l j k)) + b (ix3 l 0 k)

theorem pay_at (x : Vec Ideal S16x1024 .f32) (w : Vec Ideal S1x1024x1536 .f32) (b : Vec Ideal S1x1x1536 .f32) (s : Fin 16) (k : Fin 1536) :
    k0_pay1 (F := Ideal) x w b (ix3 0 s k) = line x w b 0 s k := by
  pointwise [k0_pay1]
  rfl

theorem hz2 : (![0, 0] : Fin 2 → Nat) = fun _ => 0 := funext fun a => by fin_cases a <;> rfl
theorem hz3 : (![0, 0, 0] : Fin 3 → Nat) = fun _ => 0 := funext fun a => by fin_cases a <;> rfl

theorem out3 (x : Vec Ideal S16x1024 .f32) (w : Vec Ideal S1x1024x1536 .f32) (b : Vec Ideal S1x1x1536 .f32) :
    out0_3 x w b = k0_pay1 x w b := by
  unfold out0_3
  rw [View.canon_unit_zero hz3, View.ld_unit_zero hz2, View.ld_unit_zero hz3, View.ld_unit_zero hz3]

/-- The window of the conditions stages the whole array. -/
theorem idx0 : ∀ t : Fin cfg0.N, ∀ a, (cfg0.win 0).index t a = 0 := by decide +kernel

/-- The others step through the layers and, within a layer, through four blocks of columns. -/
theorem idx1 : ∀ t : Fin cfg0.N, ∀ a, (cfg0.win 1).index t a = ![t.val / 4, 0, t.val % 4] a := by decide +kernel
theorem idx2 : ∀ t : Fin cfg0.N, ∀ a, (cfg0.win 2).index t a = ![t.val / 4, 0, t.val % 4] a := by decide +kernel
theorem idx3 : ∀ t : Fin cfg0.N, ∀ a, (cfg0.win 3).index t a = ![t.val / 4, 0, t.val % 4] a := by decide +kernel

theorem lt_steps (t : Fin cfg0.N) : t.val < 16 := t.isLt

variable (m : (ℓ : Loc nD τ sig) → Buf (Elt Ideal) ℓ) (ρ : Dev nD → PrngReg) (c : Dev nD)

/-- The layer of step `t`, and column `k` of its block. -/
def layer (t : Fin cfg0.N) : Fin 4 := ⟨t.val / 4, by have := lt_steps t; omega⟩
def col (t : Fin cfg0.N) (k : Fin 1536) : Fin 6144 := ⟨t.val % 4 * 1536 + k.val, by omega⟩

theorem in0 (t : Fin cfg0.N) (s : Fin 16) (k : Fin 1024) : iblk m c 0 t (ix2 s k) = m ((c : Thread nD τ).loc main_arg0) (ix2 s k) := by
  have e0 : (cfg0.win 0).index t 0 = 0 := idx0 t 0
  have e1 : (cfg0.win 0).index t 1 = 0 := idx0 t 1
  blk_ext [iblk, e0, e1]

theorem in1 (t : Fin cfg0.N) (j : Fin 1024) (k : Fin 1536) :
    iblk m c 1 t (ix3 0 j k) = m ((c : Thread nD τ).loc main_arg1) (ix3 (layer t) j (col t k)) := by
  have e0 : (cfg0.win 1).index t 0 = t.val / 4 := idx1 t 0
  have e1 : (cfg0.win 1).index t 1 = 0 := idx1 t 1
  have e2 : (cfg0.win 1).index t 2 = t.val % 4 := idx1 t 2
  unfold layer col
  blk_ext [iblk, e0, e1, e2]

theorem in2 (t : Fin cfg0.N) (k : Fin 1536) :
    iblk m c 2 t (ix3 0 0 k) = m ((c : Thread nD τ).loc main_arg2) (ix3 (layer t) 0 (col t k)) := by
  have e0 : (cfg0.win 2).index t 0 = t.val / 4 := idx2 t 0
  have e1 : (cfg0.win 2).index t 1 = 0 := idx2 t 1
  have e2 : (cfg0.win 2).index t 2 = t.val % 4 := idx2 t 2
  unfold layer col
  blk_ext [iblk, e0, e1, e2]

/-- The call's result. -/
def res3 : S4x16x6144.Idx → EReal := fun i =>
  line (m ((c : Thread nD τ).loc main_arg0)) (m ((c : Thread nD τ).loc main_arg1)) (m ((c : Thread nD τ).loc main_arg2)) (i 0) (i 1) (i 2)

theorem step3 (t : Fin cfg0.N) (s : Fin 16) (k : Fin 1536) :
    (dats m 0 c).after 3 t (ix3 0 s k) = res3 m c (ix3 (layer t) s (col t k)) := by
  rw [after0_3, out3]
  refine (pay_at _ _ _ s k).trans ?_
  unfold res3 line
  simp only [in0, in1, in2]
  rfl

theorem array3 : (dats m 0 c).arrAt 3 cfg0.N = res3 m c := by
  refine (dats m 0 c).arrAt_eq_of_covers 3 _ (by decide +kernel) fun t hf y => ?_
  have e0 : (cfg0.win 3).index t 0 = t.val / 4 := idx3 t 0
  have e1 : (cfg0.win 3).index t 1 = 0 := idx3 t 1
  have e2 : (cfg0.win 3).index t 2 = t.val % 4 := idx3 t 2
  blk_simp
  obtain ⟨u, s, k, rfl⟩ : ∃ (u : Fin 1) (s : Fin 16) (k : Fin 1536), y = ix3 u s k := ⟨y 0, y 1, y 2, eq_ix3 y⟩
  obtain rfl := Subsingleton.elim u 0
  have h0 : ((cfg0.win 3).blk t).view.emb (ix3 0 s k) 0 = layer t := Fin.ext (by
    unfold layer
    blk_simp [e0]
    rfl)
  have h1 : ((cfg0.win 3).blk t).view.emb (ix3 0 s k) 1 = s := Fin.ext (by
    blk_simp [e1])
  have h2 : ((cfg0.win 3).blk t).view.emb (ix3 0 s k) 2 = col t k := Fin.ext (by
    unfold col
    blk_simp [e2])
  unfold res3
  rw [h0, h1, h2]
  exact step3 m c t s k

end Cert.Modulations

namespace Cert.Sixth

open Idealize.ShloMosaic Idealize.ShloMosaic.TcCoe Idealize.ShloMosaic.StableHlo Idealize.SL.Sem
open Cert.Modulations

section
open Cert.LinearIdeal Cert.LinearIdeal.Gen

/-- The linear maps on the whole arrays. -/
def plain (x : FVec Ideal S16x1024 .f32) (w : FVec Ideal S4x1024x6144 .f32) (b : FVec Ideal S4x1x6144 .f32) : FVec Ideal S4x16x6144 .f32 :=
  addf (transpose S4x16x6144 [0, 2, 1] (Host.dotGeneral dot_S4x1024x6144_S16x1024_S4x6144x16_1_1_02_0_n_n none w
      (mulf x (Host.divf (broadcastInDim S16x1024 ![] bcast_S_S16x1024 (constant S_ .f32 0x3F800000#32))
        (addf (broadcastInDim S16x1024 ![] bcast_S_S16x1024 (constant S_ .f32 0x3F800000#32)) (Host.exp (Host.negf x))))))
      transposes_S4x6144x16_S4x16x6144_0_2_1)
    (broadcastInDim S4x16x6144 ![0, 1, 2] bcast_S4x1x6144_S4x16x6144_0_1_2 b)

theorem plain_at (x : FVec Ideal S16x1024 .f32) (w : FVec Ideal S4x1024x6144 .f32) (b : FVec Ideal S4x1x6144 .f32) (l : Fin 4) (s : Fin 16)
    (k : Fin 6144) : plain x w b (ix3 l s k) = line x w b l s k := by
  pointwise [plain]
  unfold line
  refine congrArg (· + b (ix3 l 0 k)) (Finset.sum_congr rfl fun j _ => ?_)
  rw [mul_comm]
  rfl
end

theorem equal : haveI := Cert.ModulationIdeal.Gen.facts; haveI := Cert.LinearIdeal.Gen.facts
    Cert.algebraic_ModulationIdeal_LinearIdeal := by
  intro m g m' g' _ he
  refine ⟨fun c => res3 m c, ?_, ?_⟩
  · refine (θ_run _ _ _).mono (fun r hr c => ⟨?_, hr.2 c⟩)
      (θ_run_and (Cert.ModulationIdeal.Gen.run_main m g) (Cert.ModulationIdeal.Gen.unchanged m g))
    exact ((hr.1 c).1 3).trans (array3 m c)
  · refine (θ_run _ _ _).mono (fun r hr c => ?_) (Cert.LinearIdeal.Value.run m' g')
    obtain ⟨h0, ha⟩ := hr c
    refine ⟨?_, ha⟩
    obtain ⟨e0, e1, e2⟩ := he c
    refine h0.trans (funext fun i => ?_)
    obtain ⟨l, s, k, rfl⟩ : ∃ (l : Fin 4) (s : Fin 16) (k : Fin 6144), i = ix3 l s k := ⟨i 0, i 1, i 2, eq_ix3 i⟩
    refine (plain_at _ _ _ l s k).trans ?_
    rw [e0, e1, e2]
    rfl

end Cert.Sixth

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_tables
public import proofs.«01_k».proof.Proof.Gen.Pre_prepared
public import proofs.«01_k».proof.Proof.Gen.Premix
public import proofs.«01_k».proof.Proof.Gen.Premix.Skeleton
public import proofs.«01_k».proof.Proof.Gen.Premix.Launch
public import proofs.«01_k».proof.Proof.PremixRun
public import proofs.«01_k».proof.Proof.Gen.PremixIdeal
public import proofs.«01_k».proof.Proof.Gen.PremixIdeal.Skeleton
public import proofs.«01_k».proof.Proof.Gen.PremixIdeal.Launch
public import proofs.«01_k».proof.Proof.PremixIdealRun
public import proofs.«01_k».proof.Proof.Gen.ProjectionsIdeal
public import proofs.«01_k».proof.Proof.Gen.ProjectionsIdeal.Run
public import proofs.«01_k».proof.Proof.Gen.Pre_tiles
public import proofs.«01_k».proof.Proof.Gen.Postmix
public import proofs.«01_k».proof.Proof.Gen.Postmix.Skeleton
public import proofs.«01_k».proof.Proof.Gen.Postmix.Launch
public import proofs.«01_k».proof.Proof.PostmixRun
public import proofs.«01_k».proof.Proof.Gen.PostmixIdeal
public import proofs.«01_k».proof.Proof.Gen.PostmixIdeal.Skeleton
public import proofs.«01_k».proof.Proof.Gen.PostmixIdeal.Launch
public import proofs.«01_k».proof.Proof.PostmixIdealRun
public import proofs.«01_k».proof.Proof.Gen.MergeIdeal
public import proofs.«01_k».proof.Proof.Gen.MergeIdeal.Run
public import proofs.«01_k».proof.Proof.Gen.Pre_moderate
public import proofs.«01_k».proof.Proof.Gen.Combine
public import proofs.«01_k».proof.Proof.Gen.Combine.Skeleton
public import proofs.«01_k».proof.Proof.Gen.Combine.Launch
public import proofs.«01_k».proof.Proof.Gen.Combine.Flash
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Flash
public import proofs.«01_k».proof.Proof.Gen.TotalIdeal
public import proofs.«01_k».proof.Proof.Gen.TotalIdeal.Run
public import proofs.«01_k».proof.Proof.Gen.Pre_spans
public import proofs.«01_k».proof.Proof.Gen.Finish
public import proofs.«01_k».proof.Proof.Gen.Finish.Skeleton
public import proofs.«01_k».proof.Proof.Gen.Finish.Launch
public import proofs.«01_k».proof.Proof.Gen.Finish.Flash
public import proofs.«01_k».proof.Proof.Gen.FinishIdeal
public import proofs.«01_k».proof.Proof.Gen.FinishIdeal.Skeleton
public import proofs.«01_k».proof.Proof.Gen.FinishIdeal.Launch
public import proofs.«01_k».proof.Proof.Gen.FinishIdeal.Flash
public import proofs.«01_k».proof.Proof.Gen.Modulation
public import proofs.«01_k».proof.Proof.Gen.Modulation.Skeleton
public import proofs.«01_k».proof.Proof.Gen.Modulation.Launch
public import proofs.«01_k».proof.Proof.Gen.Modulation.Frame
public import proofs.«01_k».proof.Proof.Gen.ModulationIdeal
public import proofs.«01_k».proof.Proof.Gen.ModulationIdeal.Skeleton
public import proofs.«01_k».proof.Proof.Gen.ModulationIdeal.Launch
public import proofs.«01_k».proof.Proof.Gen.ModulationIdeal.Frame
public import proofs.«01_k».proof.Proof.Gen.EndingIdeal
public import proofs.«01_k».proof.Proof.Gen.EndingIdeal.Run
public import proofs.«01_k».proof.Proof.Gen.LinearIdeal
public import proofs.«01_k».proof.Proof.Gen.LinearIdeal.Run
public import proofs.«01_k».proof.Proof.Tables
public import proofs.«01_k».proof.Proof.Whole
public import proofs.«01_k».proof.Proof.Tiles
public import proofs.«01_k».proof.Proof.Both
public import proofs.«01_k».proof.Proof.Third
public import proofs.«01_k».proof.Proof.Spans
public import proofs.«01_k».proof.Proof.Totals
public import proofs.«01_k».proof.Proof.Finals
public import proofs.«01_k».proof.Proof.Modulations
public import Idealize.ShloMosaic.Adequacy
public import Idealize.ShloMosaic.Init

@[expose] public section

noncomputable section

namespace Cert.Proof

open Idealize.ShloMosaic Idealize.SL.Sem Cert.Kernel

/-- The reference ends with its arguments unchanged and no counter raised. -/
theorem reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ fun r =>
      (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0) ∧
        r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1) ∧
        r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2) ∧
        r.2.mem ((c.tc : Thread Cert.ReferenceIdeal.nD Cert.ReferenceIdeal.τ).loc Cert.ReferenceIdeal.main_arg3)
          = m ((c.tc : Thread Cert.ReferenceIdeal.nD Cert.ReferenceIdeal.τ).loc Cert.ReferenceIdeal.main_arg3) ∧
        r.2.mem ((c.tc : Thread Cert.ReferenceIdeal.nD Cert.ReferenceIdeal.τ).loc Cert.ReferenceIdeal.main_arg4)
          = m ((c.tc : Thread Cert.ReferenceIdeal.nD Cert.ReferenceIdeal.τ).loc Cert.ReferenceIdeal.main_arg4) ∧
        r.2.mem ((c.tc : Thread Cert.ReferenceIdeal.nD Cert.ReferenceIdeal.τ).loc Cert.ReferenceIdeal.main_arg5)
          = m ((c.tc : Thread Cert.ReferenceIdeal.nD Cert.ReferenceIdeal.τ).loc Cert.ReferenceIdeal.main_arg5) ∧
        r.2.mem ((c.tc : Thread Cert.ReferenceIdeal.nD Cert.ReferenceIdeal.τ).loc Cert.ReferenceIdeal.main_arg6)
          = m ((c.tc : Thread Cert.ReferenceIdeal.nD Cert.ReferenceIdeal.τ).loc Cert.ReferenceIdeal.main_arg6))
      ∧ r.2.sem = fun _ => 0 :=
  (θ_run Cert.ReferenceIdeal.defs _ _).mono
    (fun r h => ⟨fun c => (h c).2, sem_eq_zero_of_no_sems (by decide) r.2⟩) (Cert.ReferenceIdeal.Value.run m g)

/-- The second call's reference does too. -/
theorem projections (m : (ℓ : Loc Cert.ProjectionsIdeal.nD Cert.ProjectionsIdeal.τ Cert.ProjectionsIdeal.sig) → Buf (Elt Ideal) ℓ)
    (g : Dev Cert.ProjectionsIdeal.nD → PrngReg) :
    θ_run (Cert.ProjectionsIdeal.defs (F := Ideal)) (onTc (τ := Cert.ProjectionsIdeal.τ) (Cert.ProjectionsIdeal.main (F := Ideal))) ⟨m, fun _ => 0, g⟩ fun r =>
      (∀ c : Dev Cert.ProjectionsIdeal.nD,
        r.2.mem ((c.tc : Thread Cert.ProjectionsIdeal.nD Cert.ProjectionsIdeal.τ).loc Cert.ProjectionsIdeal.main_arg0)
          = m ((c.tc : Thread Cert.ProjectionsIdeal.nD Cert.ProjectionsIdeal.τ).loc Cert.ProjectionsIdeal.main_arg0) ∧
        r.2.mem ((c.tc : Thread Cert.ProjectionsIdeal.nD Cert.ProjectionsIdeal.τ).loc Cert.ProjectionsIdeal.main_arg1)
          = m ((c.tc : Thread Cert.ProjectionsIdeal.nD Cert.ProjectionsIdeal.τ).loc Cert.ProjectionsIdeal.main_arg1) ∧
        r.2.mem ((c.tc : Thread Cert.ProjectionsIdeal.nD Cert.ProjectionsIdeal.τ).loc Cert.ProjectionsIdeal.main_arg2)
          = m ((c.tc : Thread Cert.ProjectionsIdeal.nD Cert.ProjectionsIdeal.τ).loc Cert.ProjectionsIdeal.main_arg2) ∧
        r.2.mem ((c.tc : Thread Cert.ProjectionsIdeal.nD Cert.ProjectionsIdeal.τ).loc Cert.ProjectionsIdeal.main_arg3)
          = m ((c.tc : Thread Cert.ProjectionsIdeal.nD Cert.ProjectionsIdeal.τ).loc Cert.ProjectionsIdeal.main_arg3) ∧
        r.2.mem ((c.tc : Thread Cert.ProjectionsIdeal.nD Cert.ProjectionsIdeal.τ).loc Cert.ProjectionsIdeal.main_arg4)
          = m ((c.tc : Thread Cert.ProjectionsIdeal.nD Cert.ProjectionsIdeal.τ).loc Cert.ProjectionsIdeal.main_arg4) ∧
        r.2.mem ((c.tc : Thread Cert.ProjectionsIdeal.nD Cert.ProjectionsIdeal.τ).loc Cert.ProjectionsIdeal.main_arg5)
          = m ((c.tc : Thread Cert.ProjectionsIdeal.nD Cert.ProjectionsIdeal.τ).loc Cert.ProjectionsIdeal.main_arg5) ∧
        r.2.mem ((c.tc : Thread Cert.ProjectionsIdeal.nD Cert.ProjectionsIdeal.τ).loc Cert.ProjectionsIdeal.main_arg6)
          = m ((c.tc : Thread Cert.ProjectionsIdeal.nD Cert.ProjectionsIdeal.τ).loc Cert.ProjectionsIdeal.main_arg6) ∧
        r.2.mem ((c.tc : Thread Cert.ProjectionsIdeal.nD Cert.ProjectionsIdeal.τ).loc Cert.ProjectionsIdeal.main_arg7)
          = m ((c.tc : Thread Cert.ProjectionsIdeal.nD Cert.ProjectionsIdeal.τ).loc Cert.ProjectionsIdeal.main_arg7) ∧
        r.2.mem ((c.tc : Thread Cert.ProjectionsIdeal.nD Cert.ProjectionsIdeal.τ).loc Cert.ProjectionsIdeal.main_arg8)
          = m ((c.tc : Thread Cert.ProjectionsIdeal.nD Cert.ProjectionsIdeal.τ).loc Cert.ProjectionsIdeal.main_arg8) ∧
        r.2.mem ((c.tc : Thread Cert.ProjectionsIdeal.nD Cert.ProjectionsIdeal.τ).loc Cert.ProjectionsIdeal.main_arg9)
          = m ((c.tc : Thread Cert.ProjectionsIdeal.nD Cert.ProjectionsIdeal.τ).loc Cert.ProjectionsIdeal.main_arg9) ∧
        r.2.mem ((c.tc : Thread Cert.ProjectionsIdeal.nD Cert.ProjectionsIdeal.τ).loc Cert.ProjectionsIdeal.main_arg10)
          = m ((c.tc : Thread Cert.ProjectionsIdeal.nD Cert.ProjectionsIdeal.τ).loc Cert.ProjectionsIdeal.main_arg10) ∧
        r.2.mem ((c.tc : Thread Cert.ProjectionsIdeal.nD Cert.ProjectionsIdeal.τ).loc Cert.ProjectionsIdeal.main_arg11)
          = m ((c.tc : Thread Cert.ProjectionsIdeal.nD Cert.ProjectionsIdeal.τ).loc Cert.ProjectionsIdeal.main_arg11) ∧
        r.2.mem ((c.tc : Thread Cert.ProjectionsIdeal.nD Cert.ProjectionsIdeal.τ).loc Cert.ProjectionsIdeal.main_arg12)
          = m ((c.tc : Thread Cert.ProjectionsIdeal.nD Cert.ProjectionsIdeal.τ).loc Cert.ProjectionsIdeal.main_arg12))
      ∧ r.2.sem = fun _ => 0 :=
  (θ_run Cert.ProjectionsIdeal.defs _ _).mono
    (fun r h => ⟨fun c => (h c).2.2.2.2.2.2.2, sem_eq_zero_of_no_sems (by decide) r.2⟩) (Cert.ProjectionsIdeal.Value.run m g)

/-- And the third call's reference does too. -/
theorem merge (m : (ℓ : Loc Cert.MergeIdeal.nD Cert.MergeIdeal.τ Cert.MergeIdeal.sig) → Buf (Elt Ideal) ℓ)
    (g : Dev Cert.MergeIdeal.nD → PrngReg) :
    θ_run (Cert.MergeIdeal.defs (F := Ideal)) (onTc (τ := Cert.MergeIdeal.τ) (Cert.MergeIdeal.main (F := Ideal))) ⟨m, fun _ => 0, g⟩ fun r =>
      (∀ c : Dev Cert.MergeIdeal.nD,
        r.2.mem ((c.tc : Thread Cert.MergeIdeal.nD Cert.MergeIdeal.τ).loc Cert.MergeIdeal.main_arg0)
          = m ((c.tc : Thread Cert.MergeIdeal.nD Cert.MergeIdeal.τ).loc Cert.MergeIdeal.main_arg0) ∧
        r.2.mem ((c.tc : Thread Cert.MergeIdeal.nD Cert.MergeIdeal.τ).loc Cert.MergeIdeal.main_arg1)
          = m ((c.tc : Thread Cert.MergeIdeal.nD Cert.MergeIdeal.τ).loc Cert.MergeIdeal.main_arg1) ∧
        r.2.mem ((c.tc : Thread Cert.MergeIdeal.nD Cert.MergeIdeal.τ).loc Cert.MergeIdeal.main_arg2)
          = m ((c.tc : Thread Cert.MergeIdeal.nD Cert.MergeIdeal.τ).loc Cert.MergeIdeal.main_arg2) ∧
        r.2.mem ((c.tc : Thread Cert.MergeIdeal.nD Cert.MergeIdeal.τ).loc Cert.MergeIdeal.main_arg3)
          = m ((c.tc : Thread Cert.MergeIdeal.nD Cert.MergeIdeal.τ).loc Cert.MergeIdeal.main_arg3) ∧
        r.2.mem ((c.tc : Thread Cert.MergeIdeal.nD Cert.MergeIdeal.τ).loc Cert.MergeIdeal.main_arg4)
          = m ((c.tc : Thread Cert.MergeIdeal.nD Cert.MergeIdeal.τ).loc Cert.MergeIdeal.main_arg4) ∧
        r.2.mem ((c.tc : Thread Cert.MergeIdeal.nD Cert.MergeIdeal.τ).loc Cert.MergeIdeal.main_arg5)
          = m ((c.tc : Thread Cert.MergeIdeal.nD Cert.MergeIdeal.τ).loc Cert.MergeIdeal.main_arg5) ∧
        r.2.mem ((c.tc : Thread Cert.MergeIdeal.nD Cert.MergeIdeal.τ).loc Cert.MergeIdeal.main_arg6)
          = m ((c.tc : Thread Cert.MergeIdeal.nD Cert.MergeIdeal.τ).loc Cert.MergeIdeal.main_arg6) ∧
        r.2.mem ((c.tc : Thread Cert.MergeIdeal.nD Cert.MergeIdeal.τ).loc Cert.MergeIdeal.main_arg7)
          = m ((c.tc : Thread Cert.MergeIdeal.nD Cert.MergeIdeal.τ).loc Cert.MergeIdeal.main_arg7) ∧
        r.2.mem ((c.tc : Thread Cert.MergeIdeal.nD Cert.MergeIdeal.τ).loc Cert.MergeIdeal.main_arg8)
          = m ((c.tc : Thread Cert.MergeIdeal.nD Cert.MergeIdeal.τ).loc Cert.MergeIdeal.main_arg8) ∧
        r.2.mem ((c.tc : Thread Cert.MergeIdeal.nD Cert.MergeIdeal.τ).loc Cert.MergeIdeal.main_arg9)
          = m ((c.tc : Thread Cert.MergeIdeal.nD Cert.MergeIdeal.τ).loc Cert.MergeIdeal.main_arg9) ∧
        r.2.mem ((c.tc : Thread Cert.MergeIdeal.nD Cert.MergeIdeal.τ).loc Cert.MergeIdeal.main_arg10)
          = m ((c.tc : Thread Cert.MergeIdeal.nD Cert.MergeIdeal.τ).loc Cert.MergeIdeal.main_arg10) ∧
        r.2.mem ((c.tc : Thread Cert.MergeIdeal.nD Cert.MergeIdeal.τ).loc Cert.MergeIdeal.main_arg11)
          = m ((c.tc : Thread Cert.MergeIdeal.nD Cert.MergeIdeal.τ).loc Cert.MergeIdeal.main_arg11) ∧
        r.2.mem ((c.tc : Thread Cert.MergeIdeal.nD Cert.MergeIdeal.τ).loc Cert.MergeIdeal.main_arg12)
          = m ((c.tc : Thread Cert.MergeIdeal.nD Cert.MergeIdeal.τ).loc Cert.MergeIdeal.main_arg12))
      ∧ r.2.sem = fun _ => 0 :=
  (θ_run Cert.MergeIdeal.defs _ _).mono
    (fun r h => ⟨fun c => (h c).2.2.2.2, sem_eq_zero_of_no_sems (by decide) r.2⟩) (Cert.MergeIdeal.Value.run m g)

theorem total (m : (ℓ : Loc Cert.TotalIdeal.nD Cert.TotalIdeal.τ Cert.TotalIdeal.sig) → Buf (Elt Ideal) ℓ)
    (g : Dev Cert.TotalIdeal.nD → PrngReg) :
    θ_run (Cert.TotalIdeal.defs (F := Ideal)) (onTc (τ := Cert.TotalIdeal.τ) (Cert.TotalIdeal.main (F := Ideal))) ⟨m, fun _ => 0, g⟩ fun r =>
      (∀ c : Dev Cert.TotalIdeal.nD,
        r.2.mem ((c.tc : Thread Cert.TotalIdeal.nD Cert.TotalIdeal.τ).loc Cert.TotalIdeal.main_arg0)
          = m ((c.tc : Thread Cert.TotalIdeal.nD Cert.TotalIdeal.τ).loc Cert.TotalIdeal.main_arg0) ∧
        r.2.mem ((c.tc : Thread Cert.TotalIdeal.nD Cert.TotalIdeal.τ).loc Cert.TotalIdeal.main_arg1)
          = m ((c.tc : Thread Cert.TotalIdeal.nD Cert.TotalIdeal.τ).loc Cert.TotalIdeal.main_arg1) ∧
        r.2.mem ((c.tc : Thread Cert.TotalIdeal.nD Cert.TotalIdeal.τ).loc Cert.TotalIdeal.main_arg2)
          = m ((c.tc : Thread Cert.TotalIdeal.nD Cert.TotalIdeal.τ).loc Cert.TotalIdeal.main_arg2) ∧
        r.2.mem ((c.tc : Thread Cert.TotalIdeal.nD Cert.TotalIdeal.τ).loc Cert.TotalIdeal.main_arg3)
          = m ((c.tc : Thread Cert.TotalIdeal.nD Cert.TotalIdeal.τ).loc Cert.TotalIdeal.main_arg3) ∧
        r.2.mem ((c.tc : Thread Cert.TotalIdeal.nD Cert.TotalIdeal.τ).loc Cert.TotalIdeal.main_arg4)
          = m ((c.tc : Thread Cert.TotalIdeal.nD Cert.TotalIdeal.τ).loc Cert.TotalIdeal.main_arg4) ∧
        r.2.mem ((c.tc : Thread Cert.TotalIdeal.nD Cert.TotalIdeal.τ).loc Cert.TotalIdeal.main_arg5)
          = m ((c.tc : Thread Cert.TotalIdeal.nD Cert.TotalIdeal.τ).loc Cert.TotalIdeal.main_arg5))
      ∧ r.2.sem = fun _ => 0 :=
  (θ_run Cert.TotalIdeal.defs _ _).mono
    (fun r h => ⟨fun c => (h c).2, sem_eq_zero_of_no_sems (by decide) r.2⟩) (Cert.TotalIdeal.Value.run m g)

theorem ending (m : (ℓ : Loc Cert.EndingIdeal.nD Cert.EndingIdeal.τ Cert.EndingIdeal.sig) → Buf (Elt Ideal) ℓ)
    (g : Dev Cert.EndingIdeal.nD → PrngReg) :
    θ_run (Cert.EndingIdeal.defs (F := Ideal)) (onTc (τ := Cert.EndingIdeal.τ) (Cert.EndingIdeal.main (F := Ideal))) ⟨m, fun _ => 0, g⟩ fun r =>
      (∀ c : Dev Cert.EndingIdeal.nD,
        r.2.mem ((c.tc : Thread Cert.EndingIdeal.nD Cert.EndingIdeal.τ).loc Cert.EndingIdeal.main_arg0)
          = m ((c.tc : Thread Cert.EndingIdeal.nD Cert.EndingIdeal.τ).loc Cert.EndingIdeal.main_arg0) ∧
        r.2.mem ((c.tc : Thread Cert.EndingIdeal.nD Cert.EndingIdeal.τ).loc Cert.EndingIdeal.main_arg1)
          = m ((c.tc : Thread Cert.EndingIdeal.nD Cert.EndingIdeal.τ).loc Cert.EndingIdeal.main_arg1) ∧
        r.2.mem ((c.tc : Thread Cert.EndingIdeal.nD Cert.EndingIdeal.τ).loc Cert.EndingIdeal.main_arg2)
          = m ((c.tc : Thread Cert.EndingIdeal.nD Cert.EndingIdeal.τ).loc Cert.EndingIdeal.main_arg2) ∧
        r.2.mem ((c.tc : Thread Cert.EndingIdeal.nD Cert.EndingIdeal.τ).loc Cert.EndingIdeal.main_arg3)
          = m ((c.tc : Thread Cert.EndingIdeal.nD Cert.EndingIdeal.τ).loc Cert.EndingIdeal.main_arg3) ∧
        r.2.mem ((c.tc : Thread Cert.EndingIdeal.nD Cert.EndingIdeal.τ).loc Cert.EndingIdeal.main_arg4)
          = m ((c.tc : Thread Cert.EndingIdeal.nD Cert.EndingIdeal.τ).loc Cert.EndingIdeal.main_arg4) ∧
        r.2.mem ((c.tc : Thread Cert.EndingIdeal.nD Cert.EndingIdeal.τ).loc Cert.EndingIdeal.main_arg5)
          = m ((c.tc : Thread Cert.EndingIdeal.nD Cert.EndingIdeal.τ).loc Cert.EndingIdeal.main_arg5))
      ∧ r.2.sem = fun _ => 0 :=
  (θ_run Cert.EndingIdeal.defs _ _).mono
    (fun r h => ⟨fun c => (h c).2, sem_eq_zero_of_no_sems (by decide) r.2⟩) (Cert.EndingIdeal.Value.run m g)

theorem linear (m : (ℓ : Loc Cert.LinearIdeal.nD Cert.LinearIdeal.τ Cert.LinearIdeal.sig) → Buf (Elt Ideal) ℓ)
    (g : Dev Cert.LinearIdeal.nD → PrngReg) :
    θ_run (Cert.LinearIdeal.defs (F := Ideal)) (onTc (τ := Cert.LinearIdeal.τ) (Cert.LinearIdeal.main (F := Ideal))) ⟨m, fun _ => 0, g⟩ fun r =>
      (∀ c : Dev Cert.LinearIdeal.nD,
        r.2.mem ((c.tc : Thread Cert.LinearIdeal.nD Cert.LinearIdeal.τ).loc Cert.LinearIdeal.main_arg0)
          = m ((c.tc : Thread Cert.LinearIdeal.nD Cert.LinearIdeal.τ).loc Cert.LinearIdeal.main_arg0) ∧
        r.2.mem ((c.tc : Thread Cert.LinearIdeal.nD Cert.LinearIdeal.τ).loc Cert.LinearIdeal.main_arg1)
          = m ((c.tc : Thread Cert.LinearIdeal.nD Cert.LinearIdeal.τ).loc Cert.LinearIdeal.main_arg1) ∧
        r.2.mem ((c.tc : Thread Cert.LinearIdeal.nD Cert.LinearIdeal.τ).loc Cert.LinearIdeal.main_arg2)
          = m ((c.tc : Thread Cert.LinearIdeal.nD Cert.LinearIdeal.τ).loc Cert.LinearIdeal.main_arg2))
      ∧ r.2.sem = fun _ => 0 :=
  (θ_run Cert.LinearIdeal.defs _ _).mono
    (fun r h => ⟨fun c => (h c).2, sem_eq_zero_of_no_sems (by decide) r.2⟩) (Cert.LinearIdeal.Value.run m g)

theorem claim : Cert.Claim :=
  ⟨Cert.Kernel.Gen.facts, Cert.KernelIdeal.Gen.facts, Cert.ReferenceIdeal.Gen.facts,
    Cert.Premix.Gen.facts, Cert.PremixIdeal.Gen.facts, Cert.ProjectionsIdeal.Gen.facts,
    Cert.Postmix.Gen.facts, Cert.PostmixIdeal.Gen.facts, Cert.MergeIdeal.Gen.facts,
    Cert.Combine.Gen.facts, Cert.CombineIdeal.Gen.facts, Cert.TotalIdeal.Gen.facts,
    Cert.Finish.Gen.facts, Cert.FinishIdeal.Gen.facts, Cert.EndingIdeal.Gen.facts,
    Cert.Modulation.Gen.facts, Cert.ModulationIdeal.Gen.facts, Cert.LinearIdeal.Gen.facts,
    Cert.Pre_tables.Gen.facts, Cert.Pre_prepared.Gen.facts, Cert.Pre_tiles.Gen.facts, Cert.Pre_moderate.Gen.facts, Cert.Pre_spans.Gen.facts,
    fun m g h => Cert.Kernel.Gen.frame 0 m g (Cert.Tables.pinned_kernel m h),
    fun m g h => Cert.KernelIdeal.Gen.frame 0 m g (Cert.Tables.pinned_ideal m h),
    fun m g h => Cert.KernelIdeal.Gen.frame 0 m g (Cert.Tables.pinned_prepared m h),
    fun m g _ => reference m g, fun m g _ => reference m g,
    fun m g h => Cert.Premix.Gen.frame 0 m g (Cert.Tiles.pinned_kernel m h),
    fun m g h => Cert.PremixIdeal.Gen.frame 0 m g (Cert.Tiles.pinned_ideal m h),
    fun m g _ => projections m g, fun m g _ => projections m g,
    fun m g h => Cert.Postmix.Gen.frame 0 m g (Cert.Moderate.pinned_kernel m h),
    fun m g h => Cert.PostmixIdeal.Gen.frame 0 m g (Cert.Moderate.pinned_ideal m h),
    fun m g _ => merge m g, fun m g _ => merge m g,
    fun m g h => Cert.Combine.Gen.frame 0 m g (Cert.Spans.pinned_kernel m h),
    fun m g h => Cert.CombineIdeal.Gen.frame 0 m g (Cert.Spans.pinned_ideal m h),
    fun m g _ => total m g, fun m g _ => total m g,
    fun m g h => Cert.Finish.Gen.frame 0 m g (Cert.Spans.pinned_finish m h),
    fun m g h => Cert.FinishIdeal.Gen.frame 0 m g (Cert.Spans.pinned_finish_ideal m h),
    fun m g _ => ending m g, fun m g _ => ending m g,
    fun m g _ => Cert.Modulation.Gen.frame m g,
    fun m g _ => Cert.ModulationIdeal.Gen.frame m g,
    fun m g _ => linear m g,
    trivial, Cert.Whole.equal,
    IdealRules.named_const.statement Cert.PremixIdeal.κ "qscale" .f32 0x3E16C740#32 (((Real.sqrt 96)⁻¹ * (Real.log 2)⁻¹ : ℝ) : EReal) rfl,
    Cert.Both.equal, trivial, Cert.Third.equal, trivial, Cert.Fourth.equal, trivial, Cert.Fifth.equal,
    trivial, Cert.Sixth.equal⟩

end Cert.Proof

end
